-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S16 : Shape := ⟨1, ![16]⟩
abbrev S_ : Shape := ⟨0, ![]⟩
abbrev S4096x2048 : Shape := ⟨2, ![4096, 2048]⟩
abbrev S4x256x1024 : Shape := ⟨3, ![4, 256, 1024]⟩
abbrev S2x256x1024 : Shape := ⟨3, ![2, 256, 1024]⟩
abbrev S16x256x1024 : Shape := ⟨3, ![16, 256, 1024]⟩
abbrev S15x2 : Shape := ⟨2, ![15, 2]⟩
abbrev S256x256 : Shape := ⟨2, ![256, 256]⟩
abbrev S256x1024 : Shape := ⟨2, ![256, 1024]⟩
abbrev S1x256x1024 : Shape := ⟨3, ![1, 256, 1024]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 76
  | .vmem => 9
  | .smem => 4
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i1⟩
  | .hbm, ⟨34, _⟩ => ⟨S_, .i1⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i1⟩
  | .hbm, ⟨60, _⟩ => ⟨S_, .i1⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S1, .i32⟩
  | .hbm, ⟨74, _⟩ => ⟨S1, .f32⟩
  | .hbm, ⟨75, _⟩ => ⟨S4096x2048, .f32⟩
  | .local _ .vmem, ⟨0, _⟩ => ⟨S4096x256, .i8⟩
  | .local _ .vmem, ⟨1, _⟩ => ⟨S256x2048, .i8⟩
  | .local _ .vmem, ⟨2, _⟩ => ⟨S4096x2048, .f32⟩
  | .local _ .vmem, ⟨3, _⟩ => ⟨S4x256x1024, .bf16⟩
  | .local _ .vmem, ⟨4, _⟩ => ⟨S4x256x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S16x256x1024, .bf16⟩
  | .local _ .vmem, ⟨8, _⟩ => ⟨S16x256x1024, .bf16⟩
  | .local _ .smem, ⟨0, _⟩ => ⟨S1, .f32⟩
  | .local _ .smem, ⟨1, _⟩ => ⟨S1, .i32⟩
  | .local _ .smem, ⟨2, _⟩ => ⟨S1, .i32⟩
  | .local _ .smem, ⟨3, _⟩ => ⟨S1, .i32⟩
  | _, _ => ⟨S4096x256, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 3 → Bool
  | ⟨0, _⟩ => true
  | ⟨1, _⟩ => true
  | ⟨2, _⟩ => false
  | _ => false

abbrev dmaSemScoped : Fin 247 → Bool
  | ⟨i, _⟩ => dmaSemScopedAt i

abbrev sig : RefSig :=
  (ofTc nBuf bufTy 3 247 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_c_10 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v18 : Ref sig .tc := ⟨.hbm, 63, rfl⟩
abbrev main_c_11 : Ref sig .tc := ⟨.hbm, 64, rfl⟩
abbrev main_v19 : Ref sig .tc := ⟨.hbm, 65, rfl⟩
abbrev main_c_12 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 2

abbrev nD : Nat := 16
abbrev τ : Topo := Topo.v7x

variable {F : FTy → Type} [FloatOps F]

abbrev grid0 : Pipeline.Grid := .none

def k0_dev1 (v2 : BitVec 32) : Nat :=
  let c0_i32 : BitVec 32 := 0#32
  let c1_i32_2 : BitVec 32 := 1#32
  let v4 : BitVec 32 := Scalar.muli v2 c1_i32_2
  let v5 : BitVec 32 := Scalar.addi c0_i32 v4
  v5.toNat

def k0_dev2 (v1 : BitVec 32) : Nat :=
  let c0_i32_5 : BitVec 32 := 0#32
  let c1_i32_4 : BitVec 32 := 1#32
  let v6 : BitVec 32 := Scalar.muli v1 c1_i32_4
  let v7 : BitVec 32 := Scalar.addi c0_i32_5 v6
  v7.toNat

def k0_off1 (v0 : BitVec 32) : Fin 2 → Nat :=
  let c256_i32 : BitVec 32 := 256#32
  let v8 : BitVec 32 := Scalar.muli v0 c256_i32
  let v9 : Index := Scalar.indexCast v8
  let c0_6 : Index := 0#32
  ![v9.toNat, 0]

def k0_off2 (v0 : BitVec 32) : Fin 3 → Nat :=
  let v17 : Index := Scalar.indexCast v0
  let c0_9 : Index := 0#32
  let c0_10 : Index := 0#32
  ![v17.toNat, 0, 0]
def k0_off3 (v0 : BitVec 32) : Fin 3 → Nat :=
  let c0_i32_22 : BitVec 32 := 0#32
  let c0_i32_23 : BitVec 32 := 0#32
  ![v0.toNat, 0, 0]
def k0_dev3 (v1 : BitVec 32) : Nat :=
  let c0_i32_19 : BitVec 32 := 0#32
  let c1_i32_18 : BitVec 32 := 1#32
  let v26 : BitVec 32 := Scalar.muli v1 c1_i32_18
  let v27 : BitVec 32 := Scalar.addi c0_i32_19 v26
  v27.toNat
def k0_off4 (v0 : BitVec 32) : Fin 3 → Nat :=
  let c128_i32_32 : BitVec 32 := 128#32
  let c0_i32_33 : BitVec 32 := 0#32
  ![v0.toNat, 128, 0]
def k0_dev4 (v1 : BitVec 32) : Nat :=
  let c0_i32_30 : BitVec 32 := 0#32
  let c1_i32_29 : BitVec 32 := 1#32
  let v36 : BitVec 32 := Scalar.muli v1 c1_i32_29
  let v37 : BitVec 32 := Scalar.addi c0_i32_30 v36
  v37.toNat
def k0_dev5 (v2 : BitVec 32) : Nat :=
  let c0_i32_40 : BitVec 32 := 0#32
  let c1_i32_39 : BitVec 32 := 1#32
  let v46 : BitVec 32 := Scalar.muli v2 c1_i32_39
  let v47 : BitVec 32 := Scalar.addi c0_i32_40 v46
  v47.toNat
def k0_dev6 (v2 : BitVec 32) : Nat :=
  let c0_i32_51 : BitVec 32 := 0#32
  let c1_i32_50 : BitVec 32 := 1#32
  let v56 : BitVec 32 := Scalar.muli v2 c1_i32_50
  let v57 : BitVec 32 := Scalar.addi c0_i32_51 v56
  v57.toNat
def k0_off5 (v0 : BitVec 32) (c_m1_i32 : BitVec 32) : Fin 2 → Nat :=
  let v66 : BitVec 32 := Scalar.addi v0 c_m1_i32
  let c16_i32 : BitVec 32 := 16#32
  let v67 : BitVec 32 := Scalar.addi v66 c16_i32
  let c16_i32_56 : BitVec 32 := 16#32
  let c0_i32_57 : BitVec 32 := 0#32
  let v68 : BitVec 1 := Scalar.cmpi .eq c16_i32_56 c0_i32_57
  let c1_i32_58 : BitVec 32 := 1#32
  let v69 : BitVec 32 := Scalar.select v68 c1_i32_58 c16_i32_56
  let v70 : BitVec 32 := Scalar.remsi v67 v69
  let c0_i32_60 : BitVec 32 := 0#32
  let v72 : BitVec 1 := Scalar.cmpi .slt v70 c0_i32_60
  let c0_i32_61 : BitVec 32 := 0#32
  let v73 : BitVec 1 := Scalar.cmpi .slt v69 c0_i32_61
  let v74 : BitVec 1 := Scalar.xori v72 v73
  let c0_i32_59 : BitVec 32 := 0#32
  let v71 : BitVec 1 := Scalar.cmpi .ne v70 c0_i32_59
  let v75 : BitVec 1 := Scalar.andi v74 v71
  let v76 : BitVec 32 := Scalar.addi v70 v69
  let v77 : BitVec 32 := Scalar.select v75 v76 v70
  let c256_i32_62 : BitVec 32 := 256#32
  let v78 : BitVec 32 := Scalar.muli v77 c256_i32_62
  let v79 : Index := Scalar.indexCast v78
  let c0_63 : Index := 0#32
  ![v79.toNat, 0]
def k0_off5_at (r : Fin 15) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 11 then
      if r.val < 9 then
        if r.val < 8 then
          4#32
        else
          4294967291#32
      else
        if r.val < 10 then
          5#32
        else
          4294967290#32
    else
      if r.val < 13 then
        if r.val < 12 then
          6#32
        else
          4294967289#32
      else
        if r.val < 14 then
          7#32
        else
          4294967288#32
def k0_off6 (v0 : BitVec 32) (c_m1_i32 : BitVec 32) : Fin 3 → Nat :=
  let v66 : BitVec 32 := Scalar.addi v0 c_m1_i32
  let c16_i32 : BitVec 32 := 16#32
  let v67 : BitVec 32 := Scalar.addi v66 c16_i32
  let c16_i32_56 : BitVec 32 := 16#32
  let c0_i32_57 : BitVec 32 := 0#32
  let v68 : BitVec 1 := Scalar.cmpi .eq c16_i32_56 c0_i32_57
  let c1_i32_58 : BitVec 32 := 1#32
  let v69 : BitVec 32 := Scalar.select v68 c1_i32_58 c16_i32_56
  let v70 : BitVec 32 := Scalar.remsi v67 v69
  let c0_i32_60 : BitVec 32 := 0#32
  let v72 : BitVec 1 := Scalar.cmpi .slt v70 c0_i32_60
  let c0_i32_61 : BitVec 32 := 0#32
  let v73 : BitVec 1 := Scalar.cmpi .slt v69 c0_i32_61
  let v74 : BitVec 1 := Scalar.xori v72 v73
  let c0_i32_59 : BitVec 32 := 0#32
  let v71 : BitVec 1 := Scalar.cmpi .ne v70 c0_i32_59
  let v75 : BitVec 1 := Scalar.andi v74 v71
  let v76 : BitVec 32 := Scalar.addi v70 v69
  let v77 : BitVec 32 := Scalar.select v75 v76 v70
  let v87 : Index := Scalar.indexCast v77
  let c0_67 : Index := 0#32
  let c0_68 : Index := 0#32
  ![v87.toNat, 0, 0]
def k0_off6_at (r : Fin 15) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 11 then
      if r.val < 9 then
        if r.val < 8 then
          4#32
        else
          4294967291#32
      else
        if r.val < 10 then
          5#32
        else
          4294967290#32
    else
      if r.val < 13 then
        if r.val < 12 then
          6#32
        else
          4294967289#32
      else
        if r.val < 14 then
          7#32
        else
          4294967288#32
def k0_off7 (v0 : BitVec 32) (c_m1_i32_308 : BitVec 32) : Fin 3 → Nat :=
  let v524 : BitVec 32 := Scalar.addi v0 c_m1_i32_308
  let c32_i32 : BitVec 32 := 32#32
  let v525 : BitVec 32 := Scalar.addi v524 c32_i32
  let c16_i32_309 : BitVec 32 := 16#32
  let c0_i32_310 : BitVec 32 := 0#32
  let v526 : BitVec 1 := Scalar.cmpi .eq c16_i32_309 c0_i32_310
  let c1_i32_311 : BitVec 32 := 1#32
  let v527 : BitVec 32 := Scalar.select v526 c1_i32_311 c16_i32_309
  let v528 : BitVec 32 := Scalar.remsi v525 v527
  let c0_i32_313 : BitVec 32 := 0#32
  let v530 : BitVec 1 := Scalar.cmpi .slt v528 c0_i32_313
  let c0_i32_314 : BitVec 32 := 0#32
  let v531 : BitVec 1 := Scalar.cmpi .slt v527 c0_i32_314
  let v532 : BitVec 1 := Scalar.xori v530 v531
  let c0_i32_312 : BitVec 32 := 0#32
  let v529 : BitVec 1 := Scalar.cmpi .ne v528 c0_i32_312
  let v533 : BitVec 1 := Scalar.andi v532 v529
  let v534 : BitVec 32 := Scalar.addi v528 v527
  let v535 : BitVec 32 := Scalar.select v533 v534 v528
  let v536 : Index := Scalar.indexCast v535
  let c0_315 : Index := 0#32
  let c0_316 : Index := 0#32
  ![v536.toNat, 0, 0]
def k0_off7_at (r : Fin 30) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 22 then
      if r.val < 18 then
        if r.val < 16 then
          8#32
        else
          if r.val < 17 then
            4294967287#32
          else
            9#32
      else
        if r.val < 20 then
          if r.val < 19 then
            4294967286#32
          else
            10#32
        else
          if r.val < 21 then
            4294967285#32
          else
            11#32
    else
      if r.val < 26 then
        if r.val < 24 then
          if r.val < 23 then
            4294967284#32
          else
            12#32
        else
          if r.val < 25 then
            4294967283#32
          else
            13#32
      else
        if r.val < 28 then
          if r.val < 27 then
            4294967282#32
          else
            14#32
        else
          if r.val < 29 then
            4294967281#32
          else
            15#32
def k0_dev7 (v1 : BitVec 32) : Nat :=
  let c0_i32_329 : BitVec 32 := 0#32
  let c1_i32_328 : BitVec 32 := 1#32
  let v548 : BitVec 32 := Scalar.muli v1 c1_i32_328
  let v549 : BitVec 32 := Scalar.addi c0_i32_329 v548
  v549.toNat
def k0_dev8 (v2 : BitVec 32) : Nat :=
  let c0_i32_368 : BitVec 32 := 0#32
  let c1_i32_367 : BitVec 32 := 1#32
  let v590 : BitVec 32 := Scalar.muli v2 c1_i32_367
  let v591 : BitVec 32 := Scalar.addi c0_i32_368 v590
  v591.toNat
def k0_off8 (v0 : BitVec 32) (c_m1_i32_384 : BitVec 32) : Fin 3 → Nat :=
  let v608 : BitVec 32 := Scalar.addi v0 c_m1_i32_384
  let c32_i32_385 : BitVec 32 := 32#32
  let v609 : BitVec 32 := Scalar.addi v608 c32_i32_385
  let c16_i32_386 : BitVec 32 := 16#32
  let c0_i32_387 : BitVec 32 := 0#32
  let v610 : BitVec 1 := Scalar.cmpi .eq c16_i32_386 c0_i32_387
  let c1_i32_388 : BitVec 32 := 1#32
  let v611 : BitVec 32 := Scalar.select v610 c1_i32_388 c16_i32_386
  let v612 : BitVec 32 := Scalar.remsi v609 v611
  let c0_i32_390 : BitVec 32 := 0#32
  let v614 : BitVec 1 := Scalar.cmpi .slt v612 c0_i32_390
  let c0_i32_391 : BitVec 32 := 0#32
  let v615 : BitVec 1 := Scalar.cmpi .slt v611 c0_i32_391
  let v616 : BitVec 1 := Scalar.xori v614 v615
  let c0_i32_389 : BitVec 32 := 0#32
  let v613 : BitVec 1 := Scalar.cmpi .ne v612 c0_i32_389
  let v617 : BitVec 1 := Scalar.andi v616 v613
  let v618 : BitVec 32 := Scalar.addi v612 v611
  let v619 : BitVec 32 := Scalar.select v617 v618 v612
  let v620 : Index := Scalar.indexCast v619
  let c128 : Index := 128#32
  let c0_392 : Index := 0#32
  ![v620.toNat, 128, 0]
def k0_off8_at (r : Fin 30) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 22 then
      if r.val < 18 then
        if r.val < 16 then
          8#32
        else
          if r.val < 17 then
            4294967287#32
          else
            9#32
      else
        if r.val < 20 then
          if r.val < 19 then
            4294967286#32
          else
            10#32
        else
          if r.val < 21 then
            4294967285#32
          else
            11#32
    else
      if r.val < 26 then
        if r.val < 24 then
          if r.val < 23 then
            4294967284#32
          else
            12#32
        else
          if r.val < 25 then
            4294967283#32
          else
            13#32
      else
        if r.val < 28 then
          if r.val < 27 then
            4294967282#32
          else
            14#32
        else
          if r.val < 29 then
            4294967281#32
          else
            15#32
def k0_dev9 (v1 : BitVec 32) : Nat :=
  let c0_i32_406 : BitVec 32 := 0#32
  let c1_i32_405 : BitVec 32 := 1#32
  let v632 : BitVec 32 := Scalar.muli v1 c1_i32_405
  let v633 : BitVec 32 := Scalar.addi c0_i32_406 v632
  v633.toNat
def k0_dev10 (v2 : BitVec 32) : Nat :=
  let c0_i32_445 : BitVec 32 := 0#32
  let c1_i32_444 : BitVec 32 := 1#32
  let v674 : BitVec 32 := Scalar.muli v2 c1_i32_444
  let v675 : BitVec 32 := Scalar.addi c0_i32_445 v674
  v675.toNat
def k0_dev11 (v2 : BitVec 32) : Nat :=
  let c0_i32_452 : BitVec 32 := 0#32
  let c1_i32_451 : BitVec 32 := 1#32
  let v684 : BitVec 32 := Scalar.muli v2 c1_i32_451
  let v685 : BitVec 32 := Scalar.addi c0_i32_452 v684
  v685.toNat
def k0_dev12 (v1 : BitVec 32) : Nat :=
  let c0_i32_455 : BitVec 32 := 0#32
  let c1_i32_454 : BitVec 32 := 1#32
  let v686 : BitVec 32 := Scalar.muli v1 c1_i32_454
  let v687 : BitVec 32 := Scalar.addi c0_i32_455 v686
  v687.toNat
def k0_dev13 (v1 : BitVec 32) : Nat :=
  let c0_i32_501 : BitVec 32 := 0#32
  let c1_i32_500 : BitVec 32 := 1#32
  let v726 : BitVec 32 := Scalar.muli v1 c1_i32_500
  let v727 : BitVec 32 := Scalar.addi c0_i32_501 v726
  v727.toNat
def k0_dev14 (v2 : BitVec 32) : Nat :=
  let c0_i32_551 : BitVec 32 := 0#32
  let c1_i32_550 : BitVec 32 := 1#32
  let v774 : BitVec 32 := Scalar.muli v2 c1_i32_550
  let v775 : BitVec 32 := Scalar.addi c0_i32_551 v774
  v775.toNat
def k0_dev15 (v1 : BitVec 32) : Nat :=
  let c0_i32_601 : BitVec 32 := 0#32
  let c1_i32_600 : BitVec 32 := 1#32
  let v822 : BitVec 32 := Scalar.muli v1 c1_i32_600
  let v823 : BitVec 32 := Scalar.addi c0_i32_601 v822
  v823.toNat
def k0_dev16 (v2 : BitVec 32) : Nat :=
  let c0_i32_651 : BitVec 32 := 0#32
  let c1_i32_650 : BitVec 32 := 1#32
  let v870 : BitVec 32 := Scalar.muli v2 c1_i32_650
  let v871 : BitVec 32 := Scalar.addi c0_i32_651 v870
  v871.toNat
def k0_dev17 (v2 : BitVec 32) : Nat :=
  let c0_i32_658 : BitVec 32 := 0#32
  let c1_i32_657 : BitVec 32 := 1#32
  let v880 : BitVec 32 := Scalar.muli v2 c1_i32_657
  let v881 : BitVec 32 := Scalar.addi c0_i32_658 v880
  v881.toNat
def k0_dev18 (v1 : BitVec 32) : Nat :=
  let c0_i32_661 : BitVec 32 := 0#32
  let c1_i32_660 : BitVec 32 := 1#32
  let v882 : BitVec 32 := Scalar.muli v1 c1_i32_660
  let v883 : BitVec 32 := Scalar.addi c0_i32_661 v882
  v883.toNat
def k0_dev19 (v1 : BitVec 32) : Nat :=
  let c0_i32_707 : BitVec 32 := 0#32
  let c1_i32_706 : BitVec 32 := 1#32
  let v922 : BitVec 32 := Scalar.muli v1 c1_i32_706
  let v923 : BitVec 32 := Scalar.addi c0_i32_707 v922
  v923.toNat
def k0_dev20 (v2 : BitVec 32) : Nat :=
  let c0_i32_758 : BitVec 32 := 0#32
  let c1_i32_757 : BitVec 32 := 1#32
  let v970 : BitVec 32 := Scalar.muli v2 c1_i32_757
  let v971 : BitVec 32 := Scalar.addi c0_i32_758 v970
  v971.toNat
def k0_dev21 (v1 : BitVec 32) : Nat :=
  let c0_i32_809 : BitVec 32 := 0#32
  let c1_i32_808 : BitVec 32 := 1#32
  let v1018 : BitVec 32 := Scalar.muli v1 c1_i32_808
  let v1019 : BitVec 32 := Scalar.addi c0_i32_809 v1018
  v1019.toNat
def k0_dev22 (v2 : BitVec 32) : Nat :=
  let c0_i32_860 : BitVec 32 := 0#32
  let c1_i32_859 : BitVec 32 := 1#32
  let v1066 : BitVec 32 := Scalar.muli v2 c1_i32_859
  let v1067 : BitVec 32 := Scalar.addi c0_i32_860 v1066
  v1067.toNat
def k0_dev23 (v2 : BitVec 32) : Nat :=
  let c0_i32_867 : BitVec 32 := 0#32
  let c1_i32_866 : BitVec 32 := 1#32
  let v1076 : BitVec 32 := Scalar.muli v2 c1_i32_866
  let v1077 : BitVec 32 := Scalar.addi c0_i32_867 v1076
  v1077.toNat
def k0_dev24 (v1 : BitVec 32) : Nat :=
  let c0_i32_870 : BitVec 32 := 0#32
  let c1_i32_869 : BitVec 32 := 1#32
  let v1078 : BitVec 32 := Scalar.muli v1 c1_i32_869
  let v1079 : BitVec 32 := Scalar.addi c0_i32_870 v1078
  v1079.toNat
def k0_dev25 (v1 : BitVec 32) : Nat :=
  let c0_i32_918 : BitVec 32 := 0#32
  let c1_i32_917 : BitVec 32 := 1#32
  let v1118 : BitVec 32 := Scalar.muli v1 c1_i32_917
  let v1119 : BitVec 32 := Scalar.addi c0_i32_918 v1118
  v1119.toNat
def k0_dev26 (v2 : BitVec 32) : Nat :=
  let c0_i32_971 : BitVec 32 := 0#32
  let c1_i32_970 : BitVec 32 := 1#32
  let v1166 : BitVec 32 := Scalar.muli v2 c1_i32_970
  let v1167 : BitVec 32 := Scalar.addi c0_i32_971 v1166
  v1167.toNat
def k0_dev27 (v1 : BitVec 32) : Nat :=
  let c0_i32_1022 : BitVec 32 := 0#32
  let c1_i32_1021 : BitVec 32 := 1#32
  let v1214 : BitVec 32 := Scalar.muli v1 c1_i32_1021
  let v1215 : BitVec 32 := Scalar.addi c0_i32_1022 v1214
  v1215.toNat
def k0_dev28 (v2 : BitVec 32) : Nat :=
  let c0_i32_1073 : BitVec 32 := 0#32
  let c1_i32_1072 : BitVec 32 := 1#32
  let v1262 : BitVec 32 := Scalar.muli v2 c1_i32_1072
  let v1263 : BitVec 32 := Scalar.addi c0_i32_1073 v1262
  v1263.toNat
def k0_dev29 (v2 : BitVec 32) : Nat :=
  let c0_i32_1080 : BitVec 32 := 0#32
  let c1_i32_1079 : BitVec 32 := 1#32
  let v1272 : BitVec 32 := Scalar.muli v2 c1_i32_1079
  let v1273 : BitVec 32 := Scalar.addi c0_i32_1080 v1272
  v1273.toNat
def k0_dev30 (v1 : BitVec 32) : Nat :=
  let c0_i32_1083 : BitVec 32 := 0#32
  let c1_i32_1082 : BitVec 32 := 1#32
  let v1274 : BitVec 32 := Scalar.muli v1 c1_i32_1082
  let v1275 : BitVec 32 := Scalar.addi c0_i32_1083 v1274
  v1275.toNat
def k0_dev31 (v1 : BitVec 32) : Nat :=
  let c0_i32_1132 : BitVec 32 := 0#32
  let c1_i32_1131 : BitVec 32 := 1#32
  let v1314 : BitVec 32 := Scalar.muli v1 c1_i32_1131
  let v1315 : BitVec 32 := Scalar.addi c0_i32_1132 v1314
  v1315.toNat
def k0_dev32 (v2 : BitVec 32) : Nat :=
  let c0_i32_1185 : BitVec 32 := 0#32
  let c1_i32_1184 : BitVec 32 := 1#32
  let v1362 : BitVec 32 := Scalar.muli v2 c1_i32_1184
  let v1363 : BitVec 32 := Scalar.addi c0_i32_1185 v1362
  v1363.toNat
def k0_dev33 (v1 : BitVec 32) : Nat :=
  let c0_i32_1236 : BitVec 32 := 0#32
  let c1_i32_1235 : BitVec 32 := 1#32
  let v1410 : BitVec 32 := Scalar.muli v1 c1_i32_1235
  let v1411 : BitVec 32 := Scalar.addi c0_i32_1236 v1410
  v1411.toNat
def k0_dev34 (v2 : BitVec 32) : Nat :=
  let c0_i32_1287 : BitVec 32 := 0#32
  let c1_i32_1286 : BitVec 32 := 1#32
  let v1458 : BitVec 32 := Scalar.muli v2 c1_i32_1286
  let v1459 : BitVec 32 := Scalar.addi c0_i32_1287 v1458
  v1459.toNat
def k0_dev35 (v2 : BitVec 32) : Nat :=
  let c0_i32_1294 : BitVec 32 := 0#32
  let c1_i32_1293 : BitVec 32 := 1#32
  let v1468 : BitVec 32 := Scalar.muli v2 c1_i32_1293
  let v1469 : BitVec 32 := Scalar.addi c0_i32_1294 v1468
  v1469.toNat
def k0_dev36 (v1 : BitVec 32) : Nat :=
  let c0_i32_1297 : BitVec 32 := 0#32
  let c1_i32_1296 : BitVec 32 := 1#32
  let v1470 : BitVec 32 := Scalar.muli v1 c1_i32_1296
  let v1471 : BitVec 32 := Scalar.addi c0_i32_1297 v1470
  v1471.toNat
def k0_dev37 (v1 : BitVec 32) : Nat :=
  let c0_i32_1346 : BitVec 32 := 0#32
  let c1_i32_1345 : BitVec 32 := 1#32
  let v1510 : BitVec 32 := Scalar.muli v1 c1_i32_1345
  let v1511 : BitVec 32 := Scalar.addi c0_i32_1346 v1510
  v1511.toNat
def k0_dev38 (v2 : BitVec 32) : Nat :=
  let c0_i32_1399 : BitVec 32 := 0#32
  let c1_i32_1398 : BitVec 32 := 1#32
  let v1558 : BitVec 32 := Scalar.muli v2 c1_i32_1398
  let v1559 : BitVec 32 := Scalar.addi c0_i32_1399 v1558
  v1559.toNat
def k0_dev39 (v1 : BitVec 32) : Nat :=
  let c0_i32_1450 : BitVec 32 := 0#32
  let c1_i32_1449 : BitVec 32 := 1#32
  let v1606 : BitVec 32 := Scalar.muli v1 c1_i32_1449
  let v1607 : BitVec 32 := Scalar.addi c0_i32_1450 v1606
  v1607.toNat
def k0_dev40 (v2 : BitVec 32) : Nat :=
  let c0_i32_1501 : BitVec 32 := 0#32
  let c1_i32_1500 : BitVec 32 := 1#32
  let v1654 : BitVec 32 := Scalar.muli v2 c1_i32_1500
  let v1655 : BitVec 32 := Scalar.addi c0_i32_1501 v1654
  v1655.toNat
def k0_dev41 (v2 : BitVec 32) : Nat :=
  let c0_i32_1508 : BitVec 32 := 0#32
  let c1_i32_1507 : BitVec 32 := 1#32
  let v1664 : BitVec 32 := Scalar.muli v2 c1_i32_1507
  let v1665 : BitVec 32 := Scalar.addi c0_i32_1508 v1664
  v1665.toNat
def k0_dev42 (v1 : BitVec 32) : Nat :=
  let c0_i32_1511 : BitVec 32 := 0#32
  let c1_i32_1510 : BitVec 32 := 1#32
  let v1666 : BitVec 32 := Scalar.muli v1 c1_i32_1510
  let v1667 : BitVec 32 := Scalar.addi c0_i32_1511 v1666
  v1667.toNat
def k0_dev43 (v1 : BitVec 32) : Nat :=
  let c0_i32_1560 : BitVec 32 := 0#32
  let c1_i32_1559 : BitVec 32 := 1#32
  let v1706 : BitVec 32 := Scalar.muli v1 c1_i32_1559
  let v1707 : BitVec 32 := Scalar.addi c0_i32_1560 v1706
  v1707.toNat
def k0_dev44 (v2 : BitVec 32) : Nat :=
  let c0_i32_1613 : BitVec 32 := 0#32
  let c1_i32_1612 : BitVec 32 := 1#32
  let v1754 : BitVec 32 := Scalar.muli v2 c1_i32_1612
  let v1755 : BitVec 32 := Scalar.addi c0_i32_1613 v1754
  v1755.toNat
def k0_dev45 (v1 : BitVec 32) : Nat :=
  let c0_i32_1664 : BitVec 32 := 0#32
  let c1_i32_1663 : BitVec 32 := 1#32
  let v1802 : BitVec 32 := Scalar.muli v1 c1_i32_1663
  let v1803 : BitVec 32 := Scalar.addi c0_i32_1664 v1802
  v1803.toNat
def k0_dev46 (v2 : BitVec 32) : Nat :=
  let c0_i32_1715 : BitVec 32 := 0#32
  let c1_i32_1714 : BitVec 32 := 1#32
  let v1850 : BitVec 32 := Scalar.muli v2 c1_i32_1714
  let v1851 : BitVec 32 := Scalar.addi c0_i32_1715 v1850
  v1851.toNat
def k0_dev47 (v2 : BitVec 32) : Nat :=
  let c0_i32_1722 : BitVec 32 := 0#32
  let c1_i32_1721 : BitVec 32 := 1#32
  let v1860 : BitVec 32 := Scalar.muli v2 c1_i32_1721
  let v1861 : BitVec 32 := Scalar.addi c0_i32_1722 v1860
  v1861.toNat
def k0_dev48 (v1 : BitVec 32) : Nat :=
  let c0_i32_1725 : BitVec 32 := 0#32
  let c1_i32_1724 : BitVec 32 := 1#32
  let v1862 : BitVec 32 := Scalar.muli v1 c1_i32_1724
  let v1863 : BitVec 32 := Scalar.addi c0_i32_1725 v1862
  v1863.toNat
def k0_dev49 (v1 : BitVec 32) : Nat :=
  let c0_i32_1773 : BitVec 32 := 0#32
  let c1_i32_1772 : BitVec 32 := 1#32
  let v1902 : BitVec 32 := Scalar.muli v1 c1_i32_1772
  let v1903 : BitVec 32 := Scalar.addi c0_i32_1773 v1902
  v1903.toNat
def k0_dev50 (v2 : BitVec 32) : Nat :=
  let c0_i32_1826 : BitVec 32 := 0#32
  let c1_i32_1825 : BitVec 32 := 1#32
  let v1950 : BitVec 32 := Scalar.muli v2 c1_i32_1825
  let v1951 : BitVec 32 := Scalar.addi c0_i32_1826 v1950
  v1951.toNat
def k0_dev51 (v1 : BitVec 32) : Nat :=
  let c0_i32_1877 : BitVec 32 := 0#32
  let c1_i32_1876 : BitVec 32 := 1#32
  let v1998 : BitVec 32 := Scalar.muli v1 c1_i32_1876
  let v1999 : BitVec 32 := Scalar.addi c0_i32_1877 v1998
  v1999.toNat
def k0_dev52 (v2 : BitVec 32) : Nat :=
  let c0_i32_1928 : BitVec 32 := 0#32
  let c1_i32_1927 : BitVec 32 := 1#32
  let v2046 : BitVec 32 := Scalar.muli v2 c1_i32_1927
  let v2047 : BitVec 32 := Scalar.addi c0_i32_1928 v2046
  v2047.toNat
def k0_dev53 (v2 : BitVec 32) : Nat :=
  let c0_i32_1935 : BitVec 32 := 0#32
  let c1_i32_1934 : BitVec 32 := 1#32
  let v2056 : BitVec 32 := Scalar.muli v2 c1_i32_1934
  let v2057 : BitVec 32 := Scalar.addi c0_i32_1935 v2056
  v2057.toNat
def k0_dev54 (v1 : BitVec 32) : Nat :=
  let c0_i32_1938 : BitVec 32 := 0#32
  let c1_i32_1937 : BitVec 32 := 1#32
  let v2058 : BitVec 32 := Scalar.muli v1 c1_i32_1937
  let v2059 : BitVec 32 := Scalar.addi c0_i32_1938 v2058
  v2059.toNat
def k0_dev55 (v1 : BitVec 32) : Nat :=
  let c0_i32_1985 : BitVec 32 := 0#32
  let c1_i32_1984 : BitVec 32 := 1#32
  let v2098 : BitVec 32 := Scalar.muli v1 c1_i32_1984
  let v2099 : BitVec 32 := Scalar.addi c0_i32_1985 v2098
  v2099.toNat
def k0_dev56 (v2 : BitVec 32) : Nat :=
  let c0_i32_2038 : BitVec 32 := 0#32
  let c1_i32_2037 : BitVec 32 := 1#32
  let v2146 : BitVec 32 := Scalar.muli v2 c1_i32_2037
  let v2147 : BitVec 32 := Scalar.addi c0_i32_2038 v2146
  v2147.toNat
def k0_dev57 (v1 : BitVec 32) : Nat :=
  let c0_i32_2089 : BitVec 32 := 0#32
  let c1_i32_2088 : BitVec 32 := 1#32
  let v2194 : BitVec 32 := Scalar.muli v1 c1_i32_2088
  let v2195 : BitVec 32 := Scalar.addi c0_i32_2089 v2194
  v2195.toNat
def k0_dev58 (v2 : BitVec 32) : Nat :=
  let c0_i32_2140 : BitVec 32 := 0#32
  let c1_i32_2139 : BitVec 32 := 1#32
  let v2242 : BitVec 32 := Scalar.muli v2 c1_i32_2139
  let v2243 : BitVec 32 := Scalar.addi c0_i32_2140 v2242
  v2243.toNat
def k0_dev59 (v2 : BitVec 32) : Nat :=
  let c0_i32_2147 : BitVec 32 := 0#32
  let c1_i32_2146 : BitVec 32 := 1#32
  let v2252 : BitVec 32 := Scalar.muli v2 c1_i32_2146
  let v2253 : BitVec 32 := Scalar.addi c0_i32_2147 v2252
  v2253.toNat
def k0_dev60 (v1 : BitVec 32) : Nat :=
  let c0_i32_2150 : BitVec 32 := 0#32
  let c1_i32_2149 : BitVec 32 := 1#32
  let v2254 : BitVec 32 := Scalar.muli v1 c1_i32_2149
  let v2255 : BitVec 32 := Scalar.addi c0_i32_2150 v2254
  v2255.toNat
def k0_dev61 (v1 : BitVec 32) : Nat :=
  let c0_i32_2197 : BitVec 32 := 0#32
  let c1_i32_2196 : BitVec 32 := 1#32
  let v2294 : BitVec 32 := Scalar.muli v1 c1_i32_2196
  let v2295 : BitVec 32 := Scalar.addi c0_i32_2197 v2294
  v2295.toNat
def k0_dev62 (v2 : BitVec 32) : Nat :=
  let c0_i32_2250 : BitVec 32 := 0#32
  let c1_i32_2249 : BitVec 32 := 1#32
  let v2342 : BitVec 32 := Scalar.muli v2 c1_i32_2249
  let v2343 : BitVec 32 := Scalar.addi c0_i32_2250 v2342
  v2343.toNat
def k0_dev63 (v1 : BitVec 32) : Nat :=
  let c0_i32_2301 : BitVec 32 := 0#32
  let c1_i32_2300 : BitVec 32 := 1#32
  let v2390 : BitVec 32 := Scalar.muli v1 c1_i32_2300
  let v2391 : BitVec 32 := Scalar.addi c0_i32_2301 v2390
  v2391.toNat
def k0_dev64 (v2 : BitVec 32) : Nat :=
  let c0_i32_2352 : BitVec 32 := 0#32
  let c1_i32_2351 : BitVec 32 := 1#32
  let v2438 : BitVec 32 := Scalar.muli v2 c1_i32_2351
  let v2439 : BitVec 32 := Scalar.addi c0_i32_2352 v2438
  v2439.toNat
def k0_dev65 (v2 : BitVec 32) : Nat :=
  let c0_i32_2359 : BitVec 32 := 0#32
  let c1_i32_2358 : BitVec 32 := 1#32
  let v2448 : BitVec 32 := Scalar.muli v2 c1_i32_2358
  let v2449 : BitVec 32 := Scalar.addi c0_i32_2359 v2448
  v2449.toNat
def k0_dev66 (v1 : BitVec 32) : Nat :=
  let c0_i32_2362 : BitVec 32 := 0#32
  let c1_i32_2361 : BitVec 32 := 1#32
  let v2450 : BitVec 32 := Scalar.muli v1 c1_i32_2361
  let v2451 : BitVec 32 := Scalar.addi c0_i32_2362 v2450
  v2451.toNat
def k0_dev67 (v1 : BitVec 32) : Nat :=
  let c0_i32_2409 : BitVec 32 := 0#32
  let c1_i32_2408 : BitVec 32 := 1#32
  let v2490 : BitVec 32 := Scalar.muli v1 c1_i32_2408
  let v2491 : BitVec 32 := Scalar.addi c0_i32_2409 v2490
  v2491.toNat
def k0_dev68 (v2 : BitVec 32) : Nat :=
  let c0_i32_2462 : BitVec 32 := 0#32
  let c1_i32_2461 : BitVec 32 := 1#32
  let v2538 : BitVec 32 := Scalar.muli v2 c1_i32_2461
  let v2539 : BitVec 32 := Scalar.addi c0_i32_2462 v2538
  v2539.toNat
def k0_dev69 (v1 : BitVec 32) : Nat :=
  let c0_i32_2513 : BitVec 32 := 0#32
  let c1_i32_2512 : BitVec 32 := 1#32
  let v2586 : BitVec 32 := Scalar.muli v1 c1_i32_2512
  let v2587 : BitVec 32 := Scalar.addi c0_i32_2513 v2586
  v2587.toNat
def k0_dev70 (v2 : BitVec 32) : Nat :=
  let c0_i32_2564 : BitVec 32 := 0#32
  let c1_i32_2563 : BitVec 32 := 1#32
  let v2634 : BitVec 32 := Scalar.muli v2 c1_i32_2563
  let v2635 : BitVec 32 := Scalar.addi c0_i32_2564 v2634
  v2635.toNat
def k0_dev71 (v2 : BitVec 32) : Nat :=
  let c0_i32_2571 : BitVec 32 := 0#32
  let c1_i32_2570 : BitVec 32 := 1#32
  let v2644 : BitVec 32 := Scalar.muli v2 c1_i32_2570
  let v2645 : BitVec 32 := Scalar.addi c0_i32_2571 v2644
  v2645.toNat
def k0_dev72 (v1 : BitVec 32) : Nat :=
  let c0_i32_2574 : BitVec 32 := 0#32
  let c1_i32_2573 : BitVec 32 := 1#32
  let v2646 : BitVec 32 := Scalar.muli v1 c1_i32_2573
  let v2647 : BitVec 32 := Scalar.addi c0_i32_2574 v2646
  v2647.toNat
def k0_dev73 (v1 : BitVec 32) : Nat :=
  let c0_i32_2621 : BitVec 32 := 0#32
  let c1_i32_2620 : BitVec 32 := 1#32
  let v2686 : BitVec 32 := Scalar.muli v1 c1_i32_2620
  let v2687 : BitVec 32 := Scalar.addi c0_i32_2621 v2686
  v2687.toNat
def k0_dev74 (v2 : BitVec 32) : Nat :=
  let c0_i32_2674 : BitVec 32 := 0#32
  let c1_i32_2673 : BitVec 32 := 1#32
  let v2734 : BitVec 32 := Scalar.muli v2 c1_i32_2673
  let v2735 : BitVec 32 := Scalar.addi c0_i32_2674 v2734
  v2735.toNat
def k0_dev75 (v1 : BitVec 32) : Nat :=
  let c0_i32_2725 : BitVec 32 := 0#32
  let c1_i32_2724 : BitVec 32 := 1#32
  let v2782 : BitVec 32 := Scalar.muli v1 c1_i32_2724
  let v2783 : BitVec 32 := Scalar.addi c0_i32_2725 v2782
  v2783.toNat
def k0_dev76 (v2 : BitVec 32) : Nat :=
  let c0_i32_2776 : BitVec 32 := 0#32
  let c1_i32_2775 : BitVec 32 := 1#32
  let v2830 : BitVec 32 := Scalar.muli v2 c1_i32_2775
  let v2831 : BitVec 32 := Scalar.addi c0_i32_2776 v2830
  v2831.toNat
def k0_dev77 (v1 : BitVec 32) : Nat :=
  let c0_i32_2827 : BitVec 32 := 0#32
  let c1_i32_2826 : BitVec 32 := 1#32
  let v2878 : BitVec 32 := Scalar.muli v1 c1_i32_2826
  let v2879 : BitVec 32 := Scalar.addi c0_i32_2827 v2878
  v2879.toNat
def k0_dev78 (v2 : BitVec 32) : Nat :=
  let c0_i32_2880 : BitVec 32 := 0#32
  let c1_i32_2879 : BitVec 32 := 1#32
  let v2926 : BitVec 32 := Scalar.muli v2 c1_i32_2879
  let v2927 : BitVec 32 := Scalar.addi c0_i32_2880 v2926
  v2927.toNat
def k0_dev79 (v1 : BitVec 32) : Nat :=
  let c0_i32_2931 : BitVec 32 := 0#32
  let c1_i32_2930 : BitVec 32 := 1#32
  let v2974 : BitVec 32 := Scalar.muli v1 c1_i32_2930
  let v2975 : BitVec 32 := Scalar.addi c0_i32_2931 v2974
  v2975.toNat
def k0_dev80 (v2 : BitVec 32) : Nat :=
  let c0_i32_2982 : BitVec 32 := 0#32
  let c1_i32_2981 : BitVec 32 := 1#32
  let v3022 : BitVec 32 := Scalar.muli v2 c1_i32_2981
  let v3023 : BitVec 32 := Scalar.addi c0_i32_2982 v3022
  v3023.toNat
def k0_dev81 (v1 : BitVec 32) : Nat :=
  let c0_i32_3033 : BitVec 32 := 0#32
  let c1_i32_3032 : BitVec 32 := 1#32
  let v3070 : BitVec 32 := Scalar.muli v1 c1_i32_3032
  let v3071 : BitVec 32 := Scalar.addi c0_i32_3033 v3070
  v3071.toNat
def k0_dev82 (v2 : BitVec 32) : Nat :=
  let c0_i32_3086 : BitVec 32 := 0#32
  let c1_i32_3085 : BitVec 32 := 1#32
  let v3118 : BitVec 32 := Scalar.muli v2 c1_i32_3085
  let v3119 : BitVec 32 := Scalar.addi c0_i32_3086 v3118
  v3119.toNat
def k0_dev83 (v1 : BitVec 32) : Nat :=
  let c0_i32_3137 : BitVec 32 := 0#32
  let c1_i32_3136 : BitVec 32 := 1#32
  let v3166 : BitVec 32 := Scalar.muli v1 c1_i32_3136
  let v3167 : BitVec 32 := Scalar.addi c0_i32_3137 v3166
  v3167.toNat
def k0_dev84 (v2 : BitVec 32) : Nat :=
  let c0_i32_3188 : BitVec 32 := 0#32
  let c1_i32_3187 : BitVec 32 := 1#32
  let v3214 : BitVec 32 := Scalar.muli v2 c1_i32_3187
  let v3215 : BitVec 32 := Scalar.addi c0_i32_3188 v3214
  v3215.toNat
def k0_off9 (v0 : BitVec 32) (c0_i32_3220 : BitVec 32) : Fin 2 → Nat :=
  let c_m15_i32 : BitVec 32 := 4294967281#32
  let v3232 : BitVec 32 := Scalar.addi v0 c_m15_i32
  let c32_i32_3205 : BitVec 32 := 32#32
  let v3233 : BitVec 32 := Scalar.addi v3232 c32_i32_3205
  let c16_i32_3206 : BitVec 32 := 16#32
  let c0_i32_3207 : BitVec 32 := 0#32
  let v3234 : BitVec 1 := Scalar.cmpi .eq c16_i32_3206 c0_i32_3207
  let c1_i32_3208 : BitVec 32 := 1#32
  let v3235 : BitVec 32 := Scalar.select v3234 c1_i32_3208 c16_i32_3206
  let v3236 : BitVec 32 := Scalar.remsi v3233 v3235
  let c0_i32_3210 : BitVec 32 := 0#32
  let v3238 : BitVec 1 := Scalar.cmpi .slt v3236 c0_i32_3210
  let c0_i32_3211 : BitVec 32 := 0#32
  let v3239 : BitVec 1 := Scalar.cmpi .slt v3235 c0_i32_3211
  let v3240 : BitVec 1 := Scalar.xori v3238 v3239
  let c0_i32_3209 : BitVec 32 := 0#32
  let v3237 : BitVec 1 := Scalar.cmpi .ne v3236 c0_i32_3209
  let v3241 : BitVec 1 := Scalar.andi v3240 v3237
  let v3242 : BitVec 32 := Scalar.addi v3236 v3235
  let v3243 : BitVec 32 := Scalar.select v3241 v3242 v3236
  let c256_i32_3219 : BitVec 32 := 256#32
  let v3257 : BitVec 32 := Scalar.muli v3243 c256_i32_3219
  let v3258 : BitVec 32 := Scalar.addi v3257 c0_i32_3220
  let v3259 : Index := Scalar.indexCast v3258
  let c0_3221 : Index := 0#32
  ![v3259.toNat, 0]
def k0_off10 (v0 : BitVec 32) (c0_i32_3251 : BitVec 32) : Fin 2 → Nat :=
  let c15_i32 : BitVec 32 := 15#32
  let v3274 : BitVec 32 := Scalar.addi v0 c15_i32
  let c32_i32_3236 : BitVec 32 := 32#32
  let v3275 : BitVec 32 := Scalar.addi v3274 c32_i32_3236
  let c16_i32_3237 : BitVec 32 := 16#32
  let c0_i32_3238 : BitVec 32 := 0#32
  let v3276 : BitVec 1 := Scalar.cmpi .eq c16_i32_3237 c0_i32_3238
  let c1_i32_3239 : BitVec 32 := 1#32
  let v3277 : BitVec 32 := Scalar.select v3276 c1_i32_3239 c16_i32_3237
  let v3278 : BitVec 32 := Scalar.remsi v3275 v3277
  let c0_i32_3241 : BitVec 32 := 0#32
  let v3280 : BitVec 1 := Scalar.cmpi .slt v3278 c0_i32_3241
  let c0_i32_3242 : BitVec 32 := 0#32
  let v3281 : BitVec 1 := Scalar.cmpi .slt v3277 c0_i32_3242
  let v3282 : BitVec 1 := Scalar.xori v3280 v3281
  let c0_i32_3240 : BitVec 32 := 0#32
  let v3279 : BitVec 1 := Scalar.cmpi .ne v3278 c0_i32_3240
  let v3283 : BitVec 1 := Scalar.andi v3282 v3279
  let v3284 : BitVec 32 := Scalar.addi v3278 v3277
  let v3285 : BitVec 32 := Scalar.select v3283 v3284 v3278
  let c256_i32_3250 : BitVec 32 := 256#32
  let v3299 : BitVec 32 := Scalar.muli v3285 c256_i32_3250
  let v3300 : BitVec 32 := Scalar.addi v3299 c0_i32_3251
  let v3301 : Index := Scalar.indexCast v3300
  let c1024 : Index := 1024#32
  ![v3301.toNat, 1024]
def k0_dev85 (v2 : BitVec 32) : Nat :=
  let c0_i32_3408 : BitVec 32 := 0#32
  let c1_i32_3407 : BitVec 32 := 1#32
  let v3440 : BitVec 32 := Scalar.muli v2 c1_i32_3407
  let v3441 : BitVec 32 := Scalar.addi c0_i32_3408 v3440
  v3441.toNat
def k0_dev86 (v1 : BitVec 32) : Nat :=
  let c0_i32_3411 : BitVec 32 := 0#32
  let c1_i32_3410 : BitVec 32 := 1#32
  let v3442 : BitVec 32 := Scalar.muli v1 c1_i32_3410
  let v3443 : BitVec 32 := Scalar.addi c0_i32_3411 v3442
  v3443.toNat
def k0_off11 (v0 : BitVec 32) (c_m1_i32_3412 : BitVec 32) (c0_i32_3413 : BitVec 32) : Fin 3 → Nat :=
  let v3444 : BitVec 32 := Scalar.subi v0 c_m1_i32_3412
  let v3445 : BitVec 32 := Scalar.addi v3444 c0_i32_3413
  let c32_i32_3414 : BitVec 32 := 32#32
  let v3446 : BitVec 32 := Scalar.addi v3445 c32_i32_3414
  let c16_i32_3415 : BitVec 32 := 16#32
  let c0_i32_3416 : BitVec 32 := 0#32
  let v3447 : BitVec 1 := Scalar.cmpi .eq c16_i32_3415 c0_i32_3416
  let c1_i32_3417 : BitVec 32 := 1#32
  let v3448 : BitVec 32 := Scalar.select v3447 c1_i32_3417 c16_i32_3415
  let v3449 : BitVec 32 := Scalar.remsi v3446 v3448
  let c0_i32_3419 : BitVec 32 := 0#32
  let v3451 : BitVec 1 := Scalar.cmpi .slt v3449 c0_i32_3419
  let c0_i32_3420 : BitVec 32 := 0#32
  let v3452 : BitVec 1 := Scalar.cmpi .slt v3448 c0_i32_3420
  let v3453 : BitVec 1 := Scalar.xori v3451 v3452
  let c0_i32_3418 : BitVec 32 := 0#32
  let v3450 : BitVec 1 := Scalar.cmpi .ne v3449 c0_i32_3418
  let v3454 : BitVec 1 := Scalar.andi v3453 v3450
  let v3455 : BitVec 32 := Scalar.addi v3449 v3448
  let v3456 : BitVec 32 := Scalar.select v3454 v3455 v3449
  let c0_i32_3427 : BitVec 32 := 0#32
  let c0_i32_3428 : BitVec 32 := 0#32
  ![v3456.toNat, 0, 0]
def k0_off11_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev87 (v1 : BitVec 32) : Nat :=
  let c0_i32_3426 : BitVec 32 := 0#32
  let c1_i32_3425 : BitVec 32 := 1#32
  let v3457 : BitVec 32 := Scalar.muli v1 c1_i32_3425
  let v3458 : BitVec 32 := Scalar.addi c0_i32_3426 v3457
  v3458.toNat
def k0_off12 (v0 : BitVec 32) (c_m1_i32_3431 : BitVec 32) (c0_i32_3432 : BitVec 32) : Fin 3 → Nat :=
  let v3467 : BitVec 32 := Scalar.subi v0 c_m1_i32_3431
  let v3468 : BitVec 32 := Scalar.addi v3467 c0_i32_3432
  let c32_i32_3433 : BitVec 32 := 32#32
  let v3469 : BitVec 32 := Scalar.addi v3468 c32_i32_3433
  let c16_i32_3434 : BitVec 32 := 16#32
  let c0_i32_3435 : BitVec 32 := 0#32
  let v3470 : BitVec 1 := Scalar.cmpi .eq c16_i32_3434 c0_i32_3435
  let c1_i32_3436 : BitVec 32 := 1#32
  let v3471 : BitVec 32 := Scalar.select v3470 c1_i32_3436 c16_i32_3434
  let v3472 : BitVec 32 := Scalar.remsi v3469 v3471
  let c0_i32_3438 : BitVec 32 := 0#32
  let v3474 : BitVec 1 := Scalar.cmpi .slt v3472 c0_i32_3438
  let c0_i32_3439 : BitVec 32 := 0#32
  let v3475 : BitVec 1 := Scalar.cmpi .slt v3471 c0_i32_3439
  let v3476 : BitVec 1 := Scalar.xori v3474 v3475
  let c0_i32_3437 : BitVec 32 := 0#32
  let v3473 : BitVec 1 := Scalar.cmpi .ne v3472 c0_i32_3437
  let v3477 : BitVec 1 := Scalar.andi v3476 v3473
  let v3478 : BitVec 32 := Scalar.addi v3472 v3471
  let v3479 : BitVec 32 := Scalar.select v3477 v3478 v3472
  let c128_i32_3446 : BitVec 32 := 128#32
  let c0_i32_3447 : BitVec 32 := 0#32
  ![v3479.toNat, 128, 0]
def k0_off12_at (r : Fin 30) : BitVec 32 × BitVec 32 :=
  if r.val < 15 then
    if r.val < 7 then
      if r.val < 3 then
        if r.val < 1 then
          (4294967295#32, 0#32)
        else
          if r.val < 2 then
            (1#32, 0#32)
          else
            (4294967295#32, 4294967295#32)
      else
        if r.val < 5 then
          if r.val < 4 then
            (1#32, 1#32)
          else
            (4294967295#32, 4294967294#32)
        else
          if r.val < 6 then
            (1#32, 2#32)
          else
            (4294967295#32, 4294967293#32)
    else
      if r.val < 11 then
        if r.val < 9 then
          if r.val < 8 then
            (1#32, 3#32)
          else
            (4294967295#32, 4294967292#32)
        else
          if r.val < 10 then
            (1#32, 4#32)
          else
            (4294967295#32, 4294967291#32)
      else
        if r.val < 13 then
          if r.val < 12 then
            (1#32, 5#32)
          else
            (4294967295#32, 4294967290#32)
        else
          if r.val < 14 then
            (1#32, 6#32)
          else
            (4294967295#32, 4294967289#32)
  else
    if r.val < 22 then
      if r.val < 18 then
        if r.val < 16 then
          (1#32, 7#32)
        else
          if r.val < 17 then
            (4294967295#32, 4294967288#32)
          else
            (1#32, 8#32)
      else
        if r.val < 20 then
          if r.val < 19 then
            (4294967295#32, 4294967287#32)
          else
            (1#32, 9#32)
        else
          if r.val < 21 then
            (4294967295#32, 4294967286#32)
          else
            (1#32, 10#32)
    else
      if r.val < 26 then
        if r.val < 24 then
          if r.val < 23 then
            (4294967295#32, 4294967285#32)
          else
            (1#32, 11#32)
        else
          if r.val < 25 then
            (4294967295#32, 4294967284#32)
          else
            (1#32, 12#32)
      else
        if r.val < 28 then
          if r.val < 27 then
            (4294967295#32, 4294967283#32)
          else
            (1#32, 13#32)
        else
          if r.val < 29 then
            (4294967295#32, 4294967282#32)
          else
            (1#32, 14#32)
def k0_dev88 (v1 : BitVec 32) : Nat :=
  let c0_i32_3445 : BitVec 32 := 0#32
  let c1_i32_3444 : BitVec 32 := 1#32
  let v3480 : BitVec 32 := Scalar.muli v1 c1_i32_3444
  let v3481 : BitVec 32 := Scalar.addi c0_i32_3445 v3480
  v3481.toNat
def k0_dev89 (v2 : BitVec 32) : Nat :=
  let c0_i32_3464 : BitVec 32 := 0#32
  let c1_i32_3463 : BitVec 32 := 1#32
  let v3503 : BitVec 32 := Scalar.muli v2 c1_i32_3463
  let v3504 : BitVec 32 := Scalar.addi c0_i32_3464 v3503
  v3504.toNat
def k0_dev90 (v2 : BitVec 32) : Nat :=
  let c0_i32_3483 : BitVec 32 := 0#32
  let c1_i32_3482 : BitVec 32 := 1#32
  let v3526 : BitVec 32 := Scalar.muli v2 c1_i32_3482
  let v3527 : BitVec 32 := Scalar.addi c0_i32_3483 v3526
  v3527.toNat
def k0_dev91 (v1 : BitVec 32) : Nat :=
  let c0_i32_3521 : BitVec 32 := 0#32
  let c1_i32_3520 : BitVec 32 := 1#32
  let v3570 : BitVec 32 := Scalar.muli v1 c1_i32_3520
  let v3571 : BitVec 32 := Scalar.addi c0_i32_3521 v3570
  v3571.toNat
def k0_off13 (v0 : BitVec 32) (c_m1_i32_3498 : BitVec 32) (c_m1_i32_3499 : BitVec 32) : Fin 3 → Nat :=
  let v3544 : BitVec 32 := Scalar.subi v0 c_m1_i32_3498
  let v3545 : BitVec 32 := Scalar.addi v3544 c_m1_i32_3499
  let c32_i32_3500 : BitVec 32 := 32#32
  let v3546 : BitVec 32 := Scalar.addi v3545 c32_i32_3500
  let c16_i32_3501 : BitVec 32 := 16#32
  let c0_i32_3502 : BitVec 32 := 0#32
  let v3547 : BitVec 1 := Scalar.cmpi .eq c16_i32_3501 c0_i32_3502
  let c1_i32_3503 : BitVec 32 := 1#32
  let v3548 : BitVec 32 := Scalar.select v3547 c1_i32_3503 c16_i32_3501
  let v3549 : BitVec 32 := Scalar.remsi v3546 v3548
  let c0_i32_3505 : BitVec 32 := 0#32
  let v3551 : BitVec 1 := Scalar.cmpi .slt v3549 c0_i32_3505
  let c0_i32_3506 : BitVec 32 := 0#32
  let v3552 : BitVec 1 := Scalar.cmpi .slt v3548 c0_i32_3506
  let v3553 : BitVec 1 := Scalar.xori v3551 v3552
  let c0_i32_3504 : BitVec 32 := 0#32
  let v3550 : BitVec 1 := Scalar.cmpi .ne v3549 c0_i32_3504
  let v3554 : BitVec 1 := Scalar.andi v3553 v3550
  let v3555 : BitVec 32 := Scalar.addi v3549 v3548
  let v3556 : BitVec 32 := Scalar.select v3554 v3555 v3549
  let v3580 : Index := Scalar.indexCast v3556
  let c0_3526 : Index := 0#32
  let c0_3527 : Index := 0#32
  ![v3580.toNat, 0, 0]
def k0_off13_at (r : Fin 30) : BitVec 32 × BitVec 32 :=
  if r.val < 15 then
    if r.val < 7 then
      if r.val < 3 then
        if r.val < 1 then
          (4294967295#32, 4294967295#32)
        else
          if r.val < 2 then
            (1#32, 1#32)
          else
            (4294967295#32, 4294967294#32)
      else
        if r.val < 5 then
          if r.val < 4 then
            (1#32, 2#32)
          else
            (4294967295#32, 4294967293#32)
        else
          if r.val < 6 then
            (1#32, 3#32)
          else
            (4294967295#32, 4294967292#32)
    else
      if r.val < 11 then
        if r.val < 9 then
          if r.val < 8 then
            (1#32, 4#32)
          else
            (4294967295#32, 4294967291#32)
        else
          if r.val < 10 then
            (1#32, 5#32)
          else
            (4294967295#32, 4294967290#32)
      else
        if r.val < 13 then
          if r.val < 12 then
            (1#32, 6#32)
          else
            (4294967295#32, 4294967289#32)
        else
          if r.val < 14 then
            (1#32, 7#32)
          else
            (4294967295#32, 4294967288#32)
  else
    if r.val < 22 then
      if r.val < 18 then
        if r.val < 16 then
          (1#32, 8#32)
        else
          if r.val < 17 then
            (4294967295#32, 4294967287#32)
          else
            (1#32, 9#32)
      else
        if r.val < 20 then
          if r.val < 19 then
            (4294967295#32, 4294967286#32)
          else
            (1#32, 10#32)
        else
          if r.val < 21 then
            (4294967295#32, 4294967285#32)
          else
            (1#32, 11#32)
    else
      if r.val < 26 then
        if r.val < 24 then
          if r.val < 23 then
            (4294967295#32, 4294967284#32)
          else
            (1#32, 12#32)
        else
          if r.val < 25 then
            (4294967295#32, 4294967283#32)
          else
            (1#32, 13#32)
      else
        if r.val < 28 then
          if r.val < 27 then
            (4294967295#32, 4294967282#32)
          else
            (1#32, 14#32)
        else
          if r.val < 29 then
            (4294967295#32, 4294967281#32)
          else
            (1#32, 15#32)
def k0_off14 (v0 : BitVec 32) (c_m1_i32_3499 : BitVec 32) (c0_i32_3529 : BitVec 32) : Fin 2 → Nat :=
  let c_m1_i32_3498 : BitVec 32 := 4294967295#32
  let v3544 : BitVec 32 := Scalar.subi v0 c_m1_i32_3498
  let v3545 : BitVec 32 := Scalar.addi v3544 c_m1_i32_3499
  let c32_i32_3500 : BitVec 32 := 32#32
  let v3546 : BitVec 32 := Scalar.addi v3545 c32_i32_3500
  let c16_i32_3501 : BitVec 32 := 16#32
  let c0_i32_3502 : BitVec 32 := 0#32
  let v3547 : BitVec 1 := Scalar.cmpi .eq c16_i32_3501 c0_i32_3502
  let c1_i32_3503 : BitVec 32 := 1#32
  let v3548 : BitVec 32 := Scalar.select v3547 c1_i32_3503 c16_i32_3501
  let v3549 : BitVec 32 := Scalar.remsi v3546 v3548
  let c0_i32_3505 : BitVec 32 := 0#32
  let v3551 : BitVec 1 := Scalar.cmpi .slt v3549 c0_i32_3505
  let c0_i32_3506 : BitVec 32 := 0#32
  let v3552 : BitVec 1 := Scalar.cmpi .slt v3548 c0_i32_3506
  let v3553 : BitVec 1 := Scalar.xori v3551 v3552
  let c0_i32_3504 : BitVec 32 := 0#32
  let v3550 : BitVec 1 := Scalar.cmpi .ne v3549 c0_i32_3504
  let v3554 : BitVec 1 := Scalar.andi v3553 v3550
  let v3555 : BitVec 32 := Scalar.addi v3549 v3548
  let v3556 : BitVec 32 := Scalar.select v3554 v3555 v3549
  let c256_i32_3528 : BitVec 32 := 256#32
  let v3584 : BitVec 32 := Scalar.muli v3556 c256_i32_3528
  let v3585 : BitVec 32 := Scalar.addi v3584 c0_i32_3529
  let v3586 : Index := Scalar.indexCast v3585
  let c0_3530 : Index := 0#32
  ![v3586.toNat, 0]
def k0_dev92 (v2 : BitVec 32) : Nat :=
  let c0_i32_3564 : BitVec 32 := 0#32
  let c1_i32_3563 : BitVec 32 := 1#32
  let v3622 : BitVec 32 := Scalar.muli v2 c1_i32_3563
  let v3623 : BitVec 32 := Scalar.addi c0_i32_3564 v3622
  v3623.toNat
def k0_off15 (v0 : BitVec 32) (c1_i32_3542 : BitVec 32) (c0_i32_3572 : BitVec 32) : Fin 2 → Nat :=
  let c1_i32_3541 : BitVec 32 := 1#32
  let v3596 : BitVec 32 := Scalar.subi v0 c1_i32_3541
  let v3597 : BitVec 32 := Scalar.addi v3596 c1_i32_3542
  let c32_i32_3543 : BitVec 32 := 32#32
  let v3598 : BitVec 32 := Scalar.addi v3597 c32_i32_3543
  let c16_i32_3544 : BitVec 32 := 16#32
  let c0_i32_3545 : BitVec 32 := 0#32
  let v3599 : BitVec 1 := Scalar.cmpi .eq c16_i32_3544 c0_i32_3545
  let c1_i32_3546 : BitVec 32 := 1#32
  let v3600 : BitVec 32 := Scalar.select v3599 c1_i32_3546 c16_i32_3544
  let v3601 : BitVec 32 := Scalar.remsi v3598 v3600
  let c0_i32_3548 : BitVec 32 := 0#32
  let v3603 : BitVec 1 := Scalar.cmpi .slt v3601 c0_i32_3548
  let c0_i32_3549 : BitVec 32 := 0#32
  let v3604 : BitVec 1 := Scalar.cmpi .slt v3600 c0_i32_3549
  let v3605 : BitVec 1 := Scalar.xori v3603 v3604
  let c0_i32_3547 : BitVec 32 := 0#32
  let v3602 : BitVec 1 := Scalar.cmpi .ne v3601 c0_i32_3547
  let v3606 : BitVec 1 := Scalar.andi v3605 v3602
  let v3607 : BitVec 32 := Scalar.addi v3601 v3600
  let v3608 : BitVec 32 := Scalar.select v3606 v3607 v3601
  let c256_i32_3571 : BitVec 32 := 256#32
  let v3636 : BitVec 32 := Scalar.muli v3608 c256_i32_3571
  let v3637 : BitVec 32 := Scalar.addi v3636 c0_i32_3572
  let v3638 : Index := Scalar.indexCast v3637
  let c1024_3573 : Index := 1024#32
  ![v3638.toNat, 1024]
def k0_dev93 (v1 : BitVec 32) : Nat :=
  let c0_i32_3607 : BitVec 32 := 0#32
  let c1_i32_3606 : BitVec 32 := 1#32
  let v3674 : BitVec 32 := Scalar.muli v1 c1_i32_3606
  let v3675 : BitVec 32 := Scalar.addi c0_i32_3607 v3674
  v3675.toNat
def k0_off16 (v0 : BitVec 32) (c_m1_i32_3584 : BitVec 32) (c_m1_i32_3585 : BitVec 32) : Fin 3 → Nat :=
  let v3648 : BitVec 32 := Scalar.subi v0 c_m1_i32_3584
  let v3649 : BitVec 32 := Scalar.addi v3648 c_m1_i32_3585
  let c32_i32_3586 : BitVec 32 := 32#32
  let v3650 : BitVec 32 := Scalar.addi v3649 c32_i32_3586
  let c16_i32_3587 : BitVec 32 := 16#32
  let c0_i32_3588 : BitVec 32 := 0#32
  let v3651 : BitVec 1 := Scalar.cmpi .eq c16_i32_3587 c0_i32_3588
  let c1_i32_3589 : BitVec 32 := 1#32
  let v3652 : BitVec 32 := Scalar.select v3651 c1_i32_3589 c16_i32_3587
  let v3653 : BitVec 32 := Scalar.remsi v3650 v3652
  let c0_i32_3591 : BitVec 32 := 0#32
  let v3655 : BitVec 1 := Scalar.cmpi .slt v3653 c0_i32_3591
  let c0_i32_3592 : BitVec 32 := 0#32
  let v3656 : BitVec 1 := Scalar.cmpi .slt v3652 c0_i32_3592
  let v3657 : BitVec 1 := Scalar.xori v3655 v3656
  let c0_i32_3590 : BitVec 32 := 0#32
  let v3654 : BitVec 1 := Scalar.cmpi .ne v3653 c0_i32_3590
  let v3658 : BitVec 1 := Scalar.andi v3657 v3654
  let v3659 : BitVec 32 := Scalar.addi v3653 v3652
  let v3660 : BitVec 32 := Scalar.select v3658 v3659 v3653
  let v3684 : Index := Scalar.indexCast v3660
  let c128_3612 : Index := 128#32
  let c0_3613 : Index := 0#32
  ![v3684.toNat, 128, 0]
def k0_off16_at (r : Fin 30) : BitVec 32 × BitVec 32 :=
  if r.val < 15 then
    if r.val < 7 then
      if r.val < 3 then
        if r.val < 1 then
          (4294967295#32, 4294967295#32)
        else
          if r.val < 2 then
            (1#32, 1#32)
          else
            (4294967295#32, 4294967294#32)
      else
        if r.val < 5 then
          if r.val < 4 then
            (1#32, 2#32)
          else
            (4294967295#32, 4294967293#32)
        else
          if r.val < 6 then
            (1#32, 3#32)
          else
            (4294967295#32, 4294967292#32)
    else
      if r.val < 11 then
        if r.val < 9 then
          if r.val < 8 then
            (1#32, 4#32)
          else
            (4294967295#32, 4294967291#32)
        else
          if r.val < 10 then
            (1#32, 5#32)
          else
            (4294967295#32, 4294967290#32)
      else
        if r.val < 13 then
          if r.val < 12 then
            (1#32, 6#32)
          else
            (4294967295#32, 4294967289#32)
        else
          if r.val < 14 then
            (1#32, 7#32)
          else
            (4294967295#32, 4294967288#32)
  else
    if r.val < 22 then
      if r.val < 18 then
        if r.val < 16 then
          (1#32, 8#32)
        else
          if r.val < 17 then
            (4294967295#32, 4294967287#32)
          else
            (1#32, 9#32)
      else
        if r.val < 20 then
          if r.val < 19 then
            (4294967295#32, 4294967286#32)
          else
            (1#32, 10#32)
        else
          if r.val < 21 then
            (4294967295#32, 4294967285#32)
          else
            (1#32, 11#32)
    else
      if r.val < 26 then
        if r.val < 24 then
          if r.val < 23 then
            (4294967295#32, 4294967284#32)
          else
            (1#32, 12#32)
        else
          if r.val < 25 then
            (4294967295#32, 4294967283#32)
          else
            (1#32, 13#32)
      else
        if r.val < 28 then
          if r.val < 27 then
            (4294967295#32, 4294967282#32)
          else
            (1#32, 14#32)
        else
          if r.val < 29 then
            (4294967295#32, 4294967281#32)
          else
            (1#32, 15#32)

def k0_chk3 (v0 : BitVec 32) : Prop :=
  (∀ a, (k0_off1 v0) a + S256x256.size a ≤ S4096x256.size a) ∧
  (∀ a, (k0_off2 v0) a + S1x256x1024.size a ≤ S16x256x1024.size a) ∧
  (∀ (hinb : ∀ a, (k0_off2 v0) a + S1x256x1024.size a ≤ S16x256x1024.size a), (Rect.unit (s := S16x256x1024) (k0_off2 v0) S1x256x1024.size hinb).PackedRows (EltTy.packing .bf16)) ∧
  (∀ a, (k0_off3 v0) a + S1x128x1024.size a ≤ S16x256x1024.size a) ∧
  (∀ (hinb : ∀ a, (k0_off3 v0) a + S1x128x1024.size a ≤ S16x256x1024.size a), (Rect.unit (s := S16x256x1024) (k0_off3 v0) S1x128x1024.size hinb).WholeWords (EltTy.packing .bf16)) ∧
  (∀ a, (k0_off4 v0) a + S1x128x1024.size a ≤ S16x256x1024.size a) ∧
  (∀ (hinb : ∀ a, (k0_off4 v0) a + S1x128x1024.size a ≤ S16x256x1024.size a), (Rect.unit (s := S16x256x1024) (k0_off4 v0) S1x128x1024.size hinb).WholeWords (EltTy.packing .bf16)) ∧
  (∀ (r : Fin 15), ∀ a, (k0_off5 v0 (k0_off5_at r)) a + S256x256.size a ≤ S4096x256.size a) ∧
  (∀ (r : Fin 15), ∀ a, (k0_off6 v0 (k0_off6_at r)) a + S1x256x1024.size a ≤ S16x256x1024.size a) ∧
  (∀ (r : Fin 15), ∀ (hinb : ∀ a, (k0_off6 v0 (k0_off6_at r)) a + S1x256x1024.size a ≤ S16x256x1024.size a), (Rect.unit (s := S16x256x1024) (k0_off6 v0 (k0_off6_at r)) S1x256x1024.size hinb).PackedRows (EltTy.packing .bf16)) ∧
  (∀ (r : Fin 30), ∀ a, (k0_off7 v0 (k0_off7_at r)) a + S1x128x1024.size a ≤ S16x256x1024.size a) ∧
  (∀ (r : Fin 30), ∀ a, (k0_off8 v0 (k0_off8_at r)) a + S1x128x1024.size a ≤ S16x256x1024.size a) ∧
  (∀ (r : Fin 2), ∀ a, (k0_off9 v0 (BitVec.ofNat 32 (128 * r.val))) a + S128x1024.size a ≤ S4096x2048.size a) ∧
  (∀ (r : Fin 30), ∀ (hinb : ∀ a, (k0_off7 v0 (k0_off7_at r)) a + S1x128x1024.size a ≤ S16x256x1024.size a), (Rect.unit (s := S16x256x1024) (k0_off7 v0 (k0_off7_at r)) S1x128x1024.size hinb).PackedRows (EltTy.packing .bf16)) ∧
  (∀ (r : Fin 2), ∀ a, (k0_off10 v0 (BitVec.ofNat 32 (128 * r.val))) a + S128x1024.size a ≤ S4096x2048.size a) ∧
  (∀ (r : Fin 30), ∀ (hinb : ∀ a, (k0_off8 v0 (k0_off8_at r)) a + S1x128x1024.size a ≤ S16x256x1024.size a), (Rect.unit (s := S16x256x1024) (k0_off8 v0 (k0_off8_at r)) S1x128x1024.size hinb).PackedRows (EltTy.packing .bf16)) ∧
  (∀ (r : Fin 30), ∀ a, (k0_off11 v0 (k0_off11_at r).1 (k0_off11_at r).2) a + S1x128x1024.size a ≤ S16x256x1024.size a) ∧
  (∀ (r : Fin 30), ∀ (hinb : ∀ a, (k0_off11 v0 (k0_off11_at r).1 (k0_off11_at r).2) a + S1x128x1024.size a ≤ S16x256x1024.size a), (Rect.unit (s := S16x256x1024) (k0_off11 v0 (k0_off11_at r).1 (k0_off11_at r).2) S1x128x1024.size hinb).WholeWords (EltTy.packing .bf16)) ∧
  (∀ (r : Fin 30), ∀ a, (k0_off12 v0 (k0_off12_at r).1 (k0_off12_at r).2) a + S1x128x1024.size a ≤ S16x256x1024.size a) ∧
  (∀ (r : Fin 30), ∀ (hinb : ∀ a, (k0_off12 v0 (k0_off12_at r).1 (k0_off12_at r).2) a + S1x128x1024.size a ≤ S16x256x1024.size a), (Rect.unit (s := S16x256x1024) (k0_off12 v0 (k0_off12_at r).1 (k0_off12_at r).2) S1x128x1024.size hinb).WholeWords (EltTy.packing .bf16)) ∧
  (∀ (r : Fin 30), ∀ a, (k0_off13 v0 (k0_off13_at r).1 (k0_off13_at r).2) a + S1x128x1024.size a ≤ S16x256x1024.size a) ∧
  (∀ (r₁ : Fin 15) (r₂ : Fin 2), ∀ a, (k0_off14 v0 (BitVec.ofNat 32 (4294967281 + r₁.val)) (BitVec.ofNat 32 (128 * r₂.val))) a + S128x1024.size a ≤ S4096x2048.size a) ∧
  (∀ (r₁ : Fin 15) (r₂ : Fin 2), ∀ a, (k0_off15 v0 (BitVec.ofNat 32 (1 + r₁.val)) (BitVec.ofNat 32 (128 * r₂.val))) a + S128x1024.size a ≤ S4096x2048.size a) ∧
  (∀ (r : Fin 30), ∀ a, (k0_off16 v0 (k0_off16_at r).1 (k0_off16_at r).2) a + S1x128x1024.size a ≤ S16x256x1024.size a)
theorem k0_off1_inb : ∀ (v0 : BitVec 32) (k0_hw3 : k0_chk3 v0), ∀ a, (k0_off1 v0) a + S256x256.size a ≤ S4096x256.size a := fun v0 k0_hw3 => k0_hw3.1
theorem k0_off2_inb : ∀ (v0 : BitVec 32) (k0_hw3 : k0_chk3 v0), ∀ a, (k0_off2 v0) a + S1x256x1024.size a ≤ S16x256x1024.size a := fun v0 k0_hw3 => k0_hw3.2.1
theorem k0_off2_packedbf16 : ∀ (v0 : BitVec 32) (k0_hw3 : k0_chk3 v0), (Rect.unit (s := S16x256x1024) (k0_off2 v0) S1x256x1024.size (k0_off2_inb v0 k0_hw3)).PackedRows (EltTy.packing .bf16) := fun v0 k0_hw3 => k0_hw3.2.2.1 (k0_off2_inb v0 k0_hw3)
theorem k0_off3_inb : ∀ (v0 : BitVec 32) (k0_hw3 : k0_chk3 v0), ∀ a, (k0_off3 v0) a + S1x128x1024.size a ≤ S16x256x1024.size a := fun v0 k0_hw3 => k0_hw3.2.2.2.1
theorem k0_off3_wordsbf16 : ∀ (v0 : BitVec 32) (k0_hw3 : k0_chk3 v0), (Rect.unit (s := S16x256x1024) (k0_off3 v0) S1x128x1024.size (k0_off3_inb v0 k0_hw3)).WholeWords (EltTy.packing .bf16) := fun v0 k0_hw3 => k0_hw3.2.2.2.2.1 (k0_off3_inb v0 k0_hw3)
theorem k0_off4_inb : ∀ (v0 : BitVec 32) (k0_hw3 : k0_chk3 v0), ∀ a, (k0_off4 v0) a + S1x128x1024.size a ≤ S16x256x1024.size a := fun v0 k0_hw3 => k0_hw3.2.2.2.2.2.1
theorem k0_off4_wordsbf16 : ∀ (v0 : BitVec 32) (k0_hw3 : k0_chk3 v0), (Rect.unit (s := S16x256x1024) (k0_off4 v0) S1x128x1024.size (k0_off4_inb v0 k0_hw3)).WholeWords (EltTy.packing .bf16) := fun v0 k0_hw3 => k0_hw3.2.2.2.2.2.2.1 (k0_off4_inb v0 k0_hw3)
theorem k0_off5_inb : ∀ (v0 : BitVec 32) (k0_hw3 : k0_chk3 v0), ∀ (r : Fin 15), ∀ a, (k0_off5 v0 (k0_off5_at r)) a + S256x256.size a ≤ S4096x256.size a := fun v0 k0_hw3 r => k0_hw3.2.2.2.2.2.2.2.1 r
theorem k0_off6_inb : ∀ (v0 : BitVec 32) (k0_hw3 : k0_chk3 v0), ∀ (r : Fin 15), ∀ a, (k0_off6 v0 (k0_off6_at r)) a + S1x256x1024.size a ≤ S16x256x1024.size a := fun v0 k0_hw3 r => k0_hw3.2.2.2.2.2.2.2.2.1 r
theorem k0_off6_packedbf16 : ∀ (v0 : BitVec 32) (k0_hw3 : k0_chk3 v0), ∀ (r : Fin 15), (Rect.unit (s := S16x256x1024) (k0_off6 v0 (k0_off6_at r)) S1x256x1024.size (k0_off6_inb v0 k0_hw3 r)).PackedRows (EltTy.packing .bf16) := fun v0 k0_hw3 r => k0_hw3.2.2.2.2.2.2.2.2.2.1 r (k0_off6_inb v0 k0_hw3 r)
theorem k0_off7_inb : ∀ (v0 : BitVec 32) (k0_hw3 : k0_chk3 v0), ∀ (r : Fin 30), ∀ a, (k0_off7 v0 (k0_off7_at r)) a + S1x128x1024.size a ≤ S16x256x1024.size a := fun v0 k0_hw3 r => k0_hw3.2.2.2.2.2.2.2.2.2.2.1 r
theorem k0_off8_inb : ∀ (v0 : BitVec 32) (k0_hw3 : k0_chk3 v0), ∀ (r : Fin 30), ∀ a, (k0_off8 v0 (k0_off8_at r)) a + S1x128x1024.size a ≤ S16x256x1024.size a := fun v0 k0_hw3 r => k0_hw3.2.2.2.2.2.2.2.2.2.2.2.1 r
theorem k0_off9_inb : ∀ (v0 : BitVec 32) (k0_hw3 : k0_chk3 v0), ∀ (r : Fin 2), ∀ a, (k0_off9 v0 (BitVec.ofNat 32 (128 * r.val))) a + S128x1024.size a ≤ S4096x2048.size a := fun v0 k0_hw3 r => k0_hw3.2.2.2.2.2.2.2.2.2.2.2.2.1 r
theorem k0_off7_packedbf16 : ∀ (v0 : BitVec 32) (k0_hw3 : k0_chk3 v0), ∀ (r : Fin 30), (Rect.unit (s := S16x256x1024) (k0_off7 v0 (k0_off7_at r)) S1x128x1024.size (k0_off7_inb v0 k0_hw3 r)).PackedRows (EltTy.packing .bf16) := fun v0 k0_hw3 r => k0_hw3.2.2.2.2.2.2.2.2.2.2.2.2.2.1 r (k0_off7_inb v0 k0_hw3 r)
theorem k0_off10_inb : ∀ (v0 : BitVec 32) (k0_hw3 : k0_chk3 v0), ∀ (r : Fin 2), ∀ a, (k0_off10 v0 (BitVec.ofNat 32 (128 * r.val))) a + S128x1024.size a ≤ S4096x2048.size a := fun v0 k0_hw3 r => k0_hw3.2.2.2.2.2.2.2.2.2.2.2.2.2.2.1 r
theorem k0_off8_packedbf16 : ∀ (v0 : BitVec 32) (k0_hw3 : k0_chk3 v0), ∀ (r : Fin 30), (Rect.unit (s := S16x256x1024) (k0_off8 v0 (k0_off8_at r)) S1x128x1024.size (k0_off8_inb v0 k0_hw3 r)).PackedRows (EltTy.packing .bf16) := fun v0 k0_hw3 r => k0_hw3.2.2.2.2.2.2.2.2.2.2.2.2.2.2.2.1 r (k0_off8_inb v0 k0_hw3 r)
theorem k0_off11_inb : ∀ (v0 : BitVec 32) (k0_hw3 : k0_chk3 v0), ∀ (r : Fin 30), ∀ a, (k0_off11 v0 (k0_off11_at r).1 (k0_off11_at r).2) a + S1x128x1024.size a ≤ S16x256x1024.size a := fun v0 k0_hw3 r => k0_hw3.2.2.2.2.2.2.2.2.2.2.2.2.2.2.2.2.1 r
theorem k0_off11_wordsbf16 : ∀ (v0 : BitVec 32) (k0_hw3 : k0_chk3 v0), ∀ (r : Fin 30), (Rect.unit (s := S16x256x1024) (k0_off11 v0 (k0_off11_at r).1 (k0_off11_at r).2) S1x128x1024.size (k0_off11_inb v0 k0_hw3 r)).WholeWords (EltTy.packing .bf16) := fun v0 k0_hw3 r => k0_hw3.2.2.2.2.2.2.2.2.2.2.2.2.2.2.2.2.2.1 r (k0_off11_inb v0 k0_hw3 r)
theorem k0_off12_inb : ∀ (v0 : BitVec 32) (k0_hw3 : k0_chk3 v0), ∀ (r : Fin 30), ∀ a, (k0_off12 v0 (k0_off12_at r).1 (k0_off12_at r).2) a + S1x128x1024.size a ≤ S16x256x1024.size a := fun v0 k0_hw3 r => k0_hw3.2.2.2.2.2.2.2.2.2.2.2.2.2.2.2.2.2.2.1 r
theorem k0_off12_wordsbf16 : ∀ (v0 : BitVec 32) (k0_hw3 : k0_chk3 v0), ∀ (r : Fin 30), (Rect.unit (s := S16x256x1024) (k0_off12 v0 (k0_off12_at r).1 (k0_off12_at r).2) S1x128x1024.size (k0_off12_inb v0 k0_hw3 r)).WholeWords (EltTy.packing .bf16) := fun v0 k0_hw3 r => k0_hw3.2.2.2.2.2.2.2.2.2.2.2.2.2.2.2.2.2.2.2.1 r (k0_off12_inb v0 k0_hw3 r)
theorem k0_off13_inb : ∀ (v0 : BitVec 32) (k0_hw3 : k0_chk3 v0), ∀ (r : Fin 30), ∀ a, (k0_off13 v0 (k0_off13_at r).1 (k0_off13_at r).2) a + S1x128x1024.size a ≤ S16x256x1024.size a := fun v0 k0_hw3 r => k0_hw3.2.2.2.2.2.2.2.2.2.2.2.2.2.2.2.2.2.2.2.2.1 r
theorem k0_off14_inb : ∀ (v0 : BitVec 32) (k0_hw3 : k0_chk3 v0), ∀ (r₁ : Fin 15) (r₂ : Fin 2), ∀ a, (k0_off14 v0 (BitVec.ofNat 32 (4294967281 + r₁.val)) (BitVec.ofNat 32 (128 * r₂.val))) a + S128x1024.size a ≤ S4096x2048.size a := fun v0 k0_hw3 r₁ r₂ => k0_hw3.2.2.2.2.2.2.2.2.2.2.2.2.2.2.2.2.2.2.2.2.2.1 r₁ r₂
theorem k0_off15_inb : ∀ (v0 : BitVec 32) (k0_hw3 : k0_chk3 v0), ∀ (r₁ : Fin 15) (r₂ : Fin 2), ∀ a, (k0_off15 v0 (BitVec.ofNat 32 (1 + r₁.val)) (BitVec.ofNat 32 (128 * r₂.val))) a + S128x1024.size a ≤ S4096x2048.size a := fun v0 k0_hw3 r₁ r₂ => k0_hw3.2.2.2.2.2.2.2.2.2.2.2.2.2.2.2.2.2.2.2.2.2.2.1 r₁ r₂
theorem k0_off16_inb : ∀ (v0 : BitVec 32) (k0_hw3 : k0_chk3 v0), ∀ (r : Fin 30), ∀ a, (k0_off16 v0 (k0_off16_at r).1 (k0_off16_at r).2) a + S1x128x1024.size a ≤ S16x256x1024.size a := fun v0 k0_hw3 r => k0_hw3.2.2.2.2.2.2.2.2.2.2.2.2.2.2.2.2.2.2.2.2.2.2.2 r

def k0_dev94 (v2 : BitVec 32) : Nat :=
  let c0_i32_3650 : BitVec 32 := 0#32
  let c1_i32_3649 : BitVec 32 := 1#32
  let v3726 : BitVec 32 := Scalar.muli v2 c1_i32_3649
  let v3727 : BitVec 32 := Scalar.addi c0_i32_3650 v3726
  v3727.toNat
def k0_dev95 (v1 : BitVec 32) : Nat :=
  let c0_i32_3693 : BitVec 32 := 0#32
  let c1_i32_3692 : BitVec 32 := 1#32
  let v3778 : BitVec 32 := Scalar.muli v1 c1_i32_3692
  let v3779 : BitVec 32 := Scalar.addi c0_i32_3693 v3778
  v3779.toNat
def k0_dev96 (v2 : BitVec 32) : Nat :=
  let c0_i32_3736 : BitVec 32 := 0#32
  let c1_i32_3735 : BitVec 32 := 1#32
  let v3830 : BitVec 32 := Scalar.muli v2 c1_i32_3735
  let v3831 : BitVec 32 := Scalar.addi c0_i32_3736 v3830
  v3831.toNat
def k0_dev97 (v1 : BitVec 32) : Nat :=
  let c0_i32_3779 : BitVec 32 := 0#32
  let c1_i32_3778 : BitVec 32 := 1#32
  let v3882 : BitVec 32 := Scalar.muli v1 c1_i32_3778
  let v3883 : BitVec 32 := Scalar.addi c0_i32_3779 v3882
  v3883.toNat
def k0_dev98 (v2 : BitVec 32) : Nat :=
  let c0_i32_3822 : BitVec 32 := 0#32
  let c1_i32_3821 : BitVec 32 := 1#32
  let v3934 : BitVec 32 := Scalar.muli v2 c1_i32_3821
  let v3935 : BitVec 32 := Scalar.addi c0_i32_3822 v3934
  v3935.toNat
def k0_dev99 (v1 : BitVec 32) : Nat :=
  let c0_i32_3865 : BitVec 32 := 0#32
  let c1_i32_3864 : BitVec 32 := 1#32
  let v3986 : BitVec 32 := Scalar.muli v1 c1_i32_3864
  let v3987 : BitVec 32 := Scalar.addi c0_i32_3865 v3986
  v3987.toNat
def k0_dev100 (v2 : BitVec 32) : Nat :=
  let c0_i32_3908 : BitVec 32 := 0#32
  let c1_i32_3907 : BitVec 32 := 1#32
  let v4038 : BitVec 32 := Scalar.muli v2 c1_i32_3907
  let v4039 : BitVec 32 := Scalar.addi c0_i32_3908 v4038
  v4039.toNat
def k0_dev101 (v1 : BitVec 32) : Nat :=
  let c0_i32_3951 : BitVec 32 := 0#32
  let c1_i32_3950 : BitVec 32 := 1#32
  let v4090 : BitVec 32 := Scalar.muli v1 c1_i32_3950
  let v4091 : BitVec 32 := Scalar.addi c0_i32_3951 v4090
  v4091.toNat
def k0_dev102 (v2 : BitVec 32) : Nat :=
  let c0_i32_3994 : BitVec 32 := 0#32
  let c1_i32_3993 : BitVec 32 := 1#32
  let v4142 : BitVec 32 := Scalar.muli v2 c1_i32_3993
  let v4143 : BitVec 32 := Scalar.addi c0_i32_3994 v4142
  v4143.toNat
def k0_dev103 (v1 : BitVec 32) : Nat :=
  let c0_i32_4037 : BitVec 32 := 0#32
  let c1_i32_4036 : BitVec 32 := 1#32
  let v4194 : BitVec 32 := Scalar.muli v1 c1_i32_4036
  let v4195 : BitVec 32 := Scalar.addi c0_i32_4037 v4194
  v4195.toNat
def k0_dev104 (v2 : BitVec 32) : Nat :=
  let c0_i32_4080 : BitVec 32 := 0#32
  let c1_i32_4079 : BitVec 32 := 1#32
  let v4246 : BitVec 32 := Scalar.muli v2 c1_i32_4079
  let v4247 : BitVec 32 := Scalar.addi c0_i32_4080 v4246
  v4247.toNat
def k0_dev105 (v1 : BitVec 32) : Nat :=
  let c0_i32_4123 : BitVec 32 := 0#32
  let c1_i32_4122 : BitVec 32 := 1#32
  let v4298 : BitVec 32 := Scalar.muli v1 c1_i32_4122
  let v4299 : BitVec 32 := Scalar.addi c0_i32_4123 v4298
  v4299.toNat
def k0_dev106 (v2 : BitVec 32) : Nat :=
  let c0_i32_4166 : BitVec 32 := 0#32
  let c1_i32_4165 : BitVec 32 := 1#32
  let v4350 : BitVec 32 := Scalar.muli v2 c1_i32_4165
  let v4351 : BitVec 32 := Scalar.addi c0_i32_4166 v4350
  v4351.toNat
def k0_dev107 (v1 : BitVec 32) : Nat :=
  let c0_i32_4209 : BitVec 32 := 0#32
  let c1_i32_4208 : BitVec 32 := 1#32
  let v4402 : BitVec 32 := Scalar.muli v1 c1_i32_4208
  let v4403 : BitVec 32 := Scalar.addi c0_i32_4209 v4402
  v4403.toNat
def k0_dev108 (v2 : BitVec 32) : Nat :=
  let c0_i32_4252 : BitVec 32 := 0#32
  let c1_i32_4251 : BitVec 32 := 1#32
  let v4454 : BitVec 32 := Scalar.muli v2 c1_i32_4251
  let v4455 : BitVec 32 := Scalar.addi c0_i32_4252 v4454
  v4455.toNat
def k0_dev109 (v1 : BitVec 32) : Nat :=
  let c0_i32_4295 : BitVec 32 := 0#32
  let c1_i32_4294 : BitVec 32 := 1#32
  let v4506 : BitVec 32 := Scalar.muli v1 c1_i32_4294
  let v4507 : BitVec 32 := Scalar.addi c0_i32_4295 v4506
  v4507.toNat
def k0_dev110 (v2 : BitVec 32) : Nat :=
  let c0_i32_4338 : BitVec 32 := 0#32
  let c1_i32_4337 : BitVec 32 := 1#32
  let v4558 : BitVec 32 := Scalar.muli v2 c1_i32_4337
  let v4559 : BitVec 32 := Scalar.addi c0_i32_4338 v4558
  v4559.toNat
def k0_dev111 (v1 : BitVec 32) : Nat :=
  let c0_i32_4381 : BitVec 32 := 0#32
  let c1_i32_4380 : BitVec 32 := 1#32
  let v4610 : BitVec 32 := Scalar.muli v1 c1_i32_4380
  let v4611 : BitVec 32 := Scalar.addi c0_i32_4381 v4610
  v4611.toNat
def k0_dev112 (v2 : BitVec 32) : Nat :=
  let c0_i32_4424 : BitVec 32 := 0#32
  let c1_i32_4423 : BitVec 32 := 1#32
  let v4662 : BitVec 32 := Scalar.muli v2 c1_i32_4423
  let v4663 : BitVec 32 := Scalar.addi c0_i32_4424 v4662
  v4663.toNat
def k0_dev113 (v1 : BitVec 32) : Nat :=
  let c0_i32_4467 : BitVec 32 := 0#32
  let c1_i32_4466 : BitVec 32 := 1#32
  let v4714 : BitVec 32 := Scalar.muli v1 c1_i32_4466
  let v4715 : BitVec 32 := Scalar.addi c0_i32_4467 v4714
  v4715.toNat
def k0_dev114 (v2 : BitVec 32) : Nat :=
  let c0_i32_4510 : BitVec 32 := 0#32
  let c1_i32_4509 : BitVec 32 := 1#32
  let v4766 : BitVec 32 := Scalar.muli v2 c1_i32_4509
  let v4767 : BitVec 32 := Scalar.addi c0_i32_4510 v4766
  v4767.toNat
def k0_dev115 (v1 : BitVec 32) : Nat :=
  let c0_i32_4553 : BitVec 32 := 0#32
  let c1_i32_4552 : BitVec 32 := 1#32
  let v4818 : BitVec 32 := Scalar.muli v1 c1_i32_4552
  let v4819 : BitVec 32 := Scalar.addi c0_i32_4553 v4818
  v4819.toNat
def k0_dev116 (v2 : BitVec 32) : Nat :=
  let c0_i32_4596 : BitVec 32 := 0#32
  let c1_i32_4595 : BitVec 32 := 1#32
  let v4870 : BitVec 32 := Scalar.muli v2 c1_i32_4595
  let v4871 : BitVec 32 := Scalar.addi c0_i32_4596 v4870
  v4871.toNat
def k0_dev117 (v1 : BitVec 32) : Nat :=
  let c0_i32_4639 : BitVec 32 := 0#32
  let c1_i32_4638 : BitVec 32 := 1#32
  let v4922 : BitVec 32 := Scalar.muli v1 c1_i32_4638
  let v4923 : BitVec 32 := Scalar.addi c0_i32_4639 v4922
  v4923.toNat
def k0_dev118 (v2 : BitVec 32) : Nat :=
  let c0_i32_4682 : BitVec 32 := 0#32
  let c1_i32_4681 : BitVec 32 := 1#32
  let v4974 : BitVec 32 := Scalar.muli v2 c1_i32_4681
  let v4975 : BitVec 32 := Scalar.addi c0_i32_4682 v4974
  v4975.toNat
def k0_dev119 (v1 : BitVec 32) : Nat :=
  let c0_i32_4727 : BitVec 32 := 0#32
  let c1_i32_4726 : BitVec 32 := 1#32
  let v5026 : BitVec 32 := Scalar.muli v1 c1_i32_4726
  let v5027 : BitVec 32 := Scalar.addi c0_i32_4727 v5026
  v5027.toNat
def k0_dev120 (v2 : BitVec 32) : Nat :=
  let c0_i32_4772 : BitVec 32 := 0#32
  let c1_i32_4771 : BitVec 32 := 1#32
  let v5078 : BitVec 32 := Scalar.muli v2 c1_i32_4771
  let v5079 : BitVec 32 := Scalar.addi c0_i32_4772 v5078
  v5079.toNat
def k0_dev121 (v1 : BitVec 32) : Nat :=
  let c0_i32_4815 : BitVec 32 := 0#32
  let c1_i32_4814 : BitVec 32 := 1#32
  let v5130 : BitVec 32 := Scalar.muli v1 c1_i32_4814
  let v5131 : BitVec 32 := Scalar.addi c0_i32_4815 v5130
  v5131.toNat
def k0_dev122 (v2 : BitVec 32) : Nat :=
  let c0_i32_4858 : BitVec 32 := 0#32
  let c1_i32_4857 : BitVec 32 := 1#32
  let v5182 : BitVec 32 := Scalar.muli v2 c1_i32_4857
  let v5183 : BitVec 32 := Scalar.addi c0_i32_4858 v5182
  v5183.toNat
def k0_dev123 (v1 : BitVec 32) : Nat :=
  let c0_i32_4903 : BitVec 32 := 0#32
  let c1_i32_4902 : BitVec 32 := 1#32
  let v5234 : BitVec 32 := Scalar.muli v1 c1_i32_4902
  let v5235 : BitVec 32 := Scalar.addi c0_i32_4903 v5234
  v5235.toNat
def k0_dev124 (v2 : BitVec 32) : Nat :=
  let c0_i32_4948 : BitVec 32 := 0#32
  let c1_i32_4947 : BitVec 32 := 1#32
  let v5286 : BitVec 32 := Scalar.muli v2 c1_i32_4947
  let v5287 : BitVec 32 := Scalar.addi c0_i32_4948 v5286
  v5287.toNat
def k0_dev125 (v1 : BitVec 32) : Nat :=
  let c0_i32_4991 : BitVec 32 := 0#32
  let c1_i32_4990 : BitVec 32 := 1#32
  let v5338 : BitVec 32 := Scalar.muli v1 c1_i32_4990
  let v5339 : BitVec 32 := Scalar.addi c0_i32_4991 v5338
  v5339.toNat
def k0_dev126 (v2 : BitVec 32) : Nat :=
  let c0_i32_5034 : BitVec 32 := 0#32
  let c1_i32_5033 : BitVec 32 := 1#32
  let v5390 : BitVec 32 := Scalar.muli v2 c1_i32_5033
  let v5391 : BitVec 32 := Scalar.addi c0_i32_5034 v5390
  v5391.toNat
def k0_dev127 (v1 : BitVec 32) : Nat :=
  let c0_i32_5079 : BitVec 32 := 0#32
  let c1_i32_5078 : BitVec 32 := 1#32
  let v5442 : BitVec 32 := Scalar.muli v1 c1_i32_5078
  let v5443 : BitVec 32 := Scalar.addi c0_i32_5079 v5442
  v5443.toNat
def k0_dev128 (v2 : BitVec 32) : Nat :=
  let c0_i32_5124 : BitVec 32 := 0#32
  let c1_i32_5123 : BitVec 32 := 1#32
  let v5494 : BitVec 32 := Scalar.muli v2 c1_i32_5123
  let v5495 : BitVec 32 := Scalar.addi c0_i32_5124 v5494
  v5495.toNat
def k0_dev129 (v1 : BitVec 32) : Nat :=
  let c0_i32_5167 : BitVec 32 := 0#32
  let c1_i32_5166 : BitVec 32 := 1#32
  let v5546 : BitVec 32 := Scalar.muli v1 c1_i32_5166
  let v5547 : BitVec 32 := Scalar.addi c0_i32_5167 v5546
  v5547.toNat
def k0_dev130 (v2 : BitVec 32) : Nat :=
  let c0_i32_5210 : BitVec 32 := 0#32
  let c1_i32_5209 : BitVec 32 := 1#32
  let v5598 : BitVec 32 := Scalar.muli v2 c1_i32_5209
  let v5599 : BitVec 32 := Scalar.addi c0_i32_5210 v5598
  v5599.toNat
def k0_dev131 (v1 : BitVec 32) : Nat :=
  let c0_i32_5255 : BitVec 32 := 0#32
  let c1_i32_5254 : BitVec 32 := 1#32
  let v5650 : BitVec 32 := Scalar.muli v1 c1_i32_5254
  let v5651 : BitVec 32 := Scalar.addi c0_i32_5255 v5650
  v5651.toNat
def k0_dev132 (v2 : BitVec 32) : Nat :=
  let c0_i32_5300 : BitVec 32 := 0#32
  let c1_i32_5299 : BitVec 32 := 1#32
  let v5702 : BitVec 32 := Scalar.muli v2 c1_i32_5299
  let v5703 : BitVec 32 := Scalar.addi c0_i32_5300 v5702
  v5703.toNat
def k0_dev133 (v1 : BitVec 32) : Nat :=
  let c0_i32_5343 : BitVec 32 := 0#32
  let c1_i32_5342 : BitVec 32 := 1#32
  let v5754 : BitVec 32 := Scalar.muli v1 c1_i32_5342
  let v5755 : BitVec 32 := Scalar.addi c0_i32_5343 v5754
  v5755.toNat
def k0_dev134 (v2 : BitVec 32) : Nat :=
  let c0_i32_5386 : BitVec 32 := 0#32
  let c1_i32_5385 : BitVec 32 := 1#32
  let v5806 : BitVec 32 := Scalar.muli v2 c1_i32_5385
  let v5807 : BitVec 32 := Scalar.addi c0_i32_5386 v5806
  v5807.toNat
def k0_dev135 (v1 : BitVec 32) : Nat :=
  let c0_i32_5431 : BitVec 32 := 0#32
  let c1_i32_5430 : BitVec 32 := 1#32
  let v5858 : BitVec 32 := Scalar.muli v1 c1_i32_5430
  let v5859 : BitVec 32 := Scalar.addi c0_i32_5431 v5858
  v5859.toNat
def k0_dev136 (v2 : BitVec 32) : Nat :=
  let c0_i32_5476 : BitVec 32 := 0#32
  let c1_i32_5475 : BitVec 32 := 1#32
  let v5910 : BitVec 32 := Scalar.muli v2 c1_i32_5475
  let v5911 : BitVec 32 := Scalar.addi c0_i32_5476 v5910
  v5911.toNat
def k0_dev137 (v1 : BitVec 32) : Nat :=
  let c0_i32_5519 : BitVec 32 := 0#32
  let c1_i32_5518 : BitVec 32 := 1#32
  let v5962 : BitVec 32 := Scalar.muli v1 c1_i32_5518
  let v5963 : BitVec 32 := Scalar.addi c0_i32_5519 v5962
  v5963.toNat
def k0_dev138 (v2 : BitVec 32) : Nat :=
  let c0_i32_5562 : BitVec 32 := 0#32
  let c1_i32_5561 : BitVec 32 := 1#32
  let v6014 : BitVec 32 := Scalar.muli v2 c1_i32_5561
  let v6015 : BitVec 32 := Scalar.addi c0_i32_5562 v6014
  v6015.toNat
def k0_dev139 (v1 : BitVec 32) : Nat :=
  let c0_i32_5607 : BitVec 32 := 0#32
  let c1_i32_5606 : BitVec 32 := 1#32
  let v6066 : BitVec 32 := Scalar.muli v1 c1_i32_5606
  let v6067 : BitVec 32 := Scalar.addi c0_i32_5607 v6066
  v6067.toNat
def k0_dev140 (v2 : BitVec 32) : Nat :=
  let c0_i32_5652 : BitVec 32 := 0#32
  let c1_i32_5651 : BitVec 32 := 1#32
  let v6118 : BitVec 32 := Scalar.muli v2 c1_i32_5651
  let v6119 : BitVec 32 := Scalar.addi c0_i32_5652 v6118
  v6119.toNat
def k0_dev141 (v1 : BitVec 32) : Nat :=
  let c0_i32_5695 : BitVec 32 := 0#32
  let c1_i32_5694 : BitVec 32 := 1#32
  let v6170 : BitVec 32 := Scalar.muli v1 c1_i32_5694
  let v6171 : BitVec 32 := Scalar.addi c0_i32_5695 v6170
  v6171.toNat
def k0_dev142 (v2 : BitVec 32) : Nat :=
  let c0_i32_5738 : BitVec 32 := 0#32
  let c1_i32_5737 : BitVec 32 := 1#32
  let v6222 : BitVec 32 := Scalar.muli v2 c1_i32_5737
  let v6223 : BitVec 32 := Scalar.addi c0_i32_5738 v6222
  v6223.toNat
def k0_dev143 (v1 : BitVec 32) : Nat :=
  let c0_i32_5783 : BitVec 32 := 0#32
  let c1_i32_5782 : BitVec 32 := 1#32
  let v6274 : BitVec 32 := Scalar.muli v1 c1_i32_5782
  let v6275 : BitVec 32 := Scalar.addi c0_i32_5783 v6274
  v6275.toNat
def k0_dev144 (v2 : BitVec 32) : Nat :=
  let c0_i32_5828 : BitVec 32 := 0#32
  let c1_i32_5827 : BitVec 32 := 1#32
  let v6326 : BitVec 32 := Scalar.muli v2 c1_i32_5827
  let v6327 : BitVec 32 := Scalar.addi c0_i32_5828 v6326
  v6327.toNat
def k0_dev145 (v1 : BitVec 32) : Nat :=
  let c0_i32_5871 : BitVec 32 := 0#32
  let c1_i32_5870 : BitVec 32 := 1#32
  let v6378 : BitVec 32 := Scalar.muli v1 c1_i32_5870
  let v6379 : BitVec 32 := Scalar.addi c0_i32_5871 v6378
  v6379.toNat

def k0_chk2_0 (v1 : BitVec 32) : Prop :=
  ((k0_dev2 v1) < nD) ∧
  ((k0_dev3 v1) < nD) ∧
  ((k0_dev4 v1) < nD) ∧
  ((k0_dev7 v1) < nD) ∧
  ((k0_dev9 v1) < nD) ∧
  ((k0_dev12 v1) < nD) ∧
  ((k0_dev13 v1) < nD) ∧
  ((k0_dev15 v1) < nD) ∧
  ((k0_dev18 v1) < nD) ∧
  ((k0_dev19 v1) < nD) ∧
  ((k0_dev21 v1) < nD) ∧
  ((k0_dev24 v1) < nD) ∧
  ((k0_dev25 v1) < nD) ∧
  ((k0_dev27 v1) < nD) ∧
  ((k0_dev30 v1) < nD) ∧
  ((k0_dev31 v1) < nD) ∧
  ((k0_dev33 v1) < nD) ∧
  ((k0_dev36 v1) < nD) ∧
  ((k0_dev37 v1) < nD) ∧
  ((k0_dev39 v1) < nD) ∧
  ((k0_dev42 v1) < nD) ∧
  ((k0_dev43 v1) < nD) ∧
  ((k0_dev45 v1) < nD) ∧
  ((k0_dev48 v1) < nD) ∧
  ((k0_dev49 v1) < nD) ∧
  ((k0_dev51 v1) < nD) ∧
  ((k0_dev54 v1) < nD) ∧
  ((k0_dev55 v1) < nD) ∧
  ((k0_dev57 v1) < nD) ∧
  ((k0_dev60 v1) < nD) ∧
  ((k0_dev61 v1) < nD) ∧
  ((k0_dev63 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev86 v1) < nD) ∧
  ((k0_dev87 v1) < nD) ∧
  ((k0_dev88 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD) ∧
  ((k0_dev123 v1) < nD) ∧
  ((k0_dev125 v1) < nD) ∧
  ((k0_dev127 v1) < nD)
def k0_chk2_2 (v1 : BitVec 32) : Prop :=
  ((k0_dev129 v1) < nD) ∧
  ((k0_dev131 v1) < nD) ∧
  ((k0_dev133 v1) < nD) ∧
  ((k0_dev135 v1) < nD) ∧
  ((k0_dev137 v1) < nD) ∧
  ((k0_dev139 v1) < nD) ∧
  ((k0_dev141 v1) < nD) ∧
  ((k0_dev143 v1) < nD) ∧
  ((k0_dev145 v1) < nD)
def k0_chk2 (v1 : BitVec 32) : Prop :=
  k0_chk2_0 v1 ∧
  k0_chk2_1 v1 ∧
  k0_chk2_2 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev73_lt : ∀ (v1 : BitVec 32) (k0_hw2 : k0_chk2 v1), (k0_dev73 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1
theorem k0_dev131_lt : ∀ (v1 : BitVec 32) (k0_hw2 : k0_chk2 v1), (k0_dev131 v1) < nD := fun v1 k0_hw2 => k0_hw2.2.2.2.1
theorem k0_dev133_lt : ∀ (v1 : BitVec 32) (k0_hw2 : k0_chk2 v1), (k0_dev133 v1) < nD := fun v1 k0_hw2 => k0_hw2.2.2.2.2.1
theorem k0_dev135_lt : ∀ (v1 : BitVec 32) (k0_hw2 : k0_chk2 v1), (k0_dev135 v1) < nD := fun v1 k0_hw2 => k0_hw2.2.2.2.2.2.1
theorem k0_dev137_lt : ∀ (v1 : BitVec 32) (k0_hw2 : k0_chk2 v1), (k0_dev137 v1) < nD := fun v1 k0_hw2 => k0_hw2.2.2.2.2.2.2.1
theorem k0_dev139_lt : ∀ (v1 : BitVec 32) (k0_hw2 : k0_chk2 v1), (k0_dev139 v1) < nD := fun v1 k0_hw2 => k0_hw2.2.2.2.2.2.2.2.1
theorem k0_dev141_lt : ∀ (v1 : BitVec 32) (k0_hw2 : k0_chk2 v1), (k0_dev141 v1) < nD := fun v1 k0_hw2 => k0_hw2.2.2.2.2.2.2.2.2.1
theorem k0_dev143_lt : ∀ (v1 : BitVec 32) (k0_hw2 : k0_chk2 v1), (k0_dev143 v1) < nD := fun v1 k0_hw2 => k0_hw2.2.2.2.2.2.2.2.2.2.1
theorem k0_dev145_lt : ∀ (v1 : BitVec 32) (k0_hw2 : k0_chk2 v1), (k0_dev145 v1) < nD := fun v1 k0_hw2 => k0_hw2.2.2.2.2.2.2.2.2.2.2

def k0_dev146 (v2 : BitVec 32) : Nat :=
  let c0_i32_5914 : BitVec 32 := 0#32
  let c1_i32_5913 : BitVec 32 := 1#32
  let v6430 : BitVec 32 := Scalar.muli v2 c1_i32_5913
  let v6431 : BitVec 32 := Scalar.addi c0_i32_5914 v6430
  v6431.toNat

def k0_chk1_0 (v2 : BitVec 32) : Prop :=
  ((k0_dev1 v2) < nD) ∧
  ((k0_dev5 v2) < nD) ∧
  ((k0_dev6 v2) < nD) ∧
  ((k0_dev8 v2) < nD) ∧
  ((k0_dev10 v2) < nD) ∧
  ((k0_dev11 v2) < nD) ∧
  ((k0_dev14 v2) < nD) ∧
  ((k0_dev16 v2) < nD) ∧
  ((k0_dev17 v2) < nD) ∧
  ((k0_dev20 v2) < nD) ∧
  ((k0_dev22 v2) < nD) ∧
  ((k0_dev23 v2) < nD) ∧
  ((k0_dev26 v2) < nD) ∧
  ((k0_dev28 v2) < nD) ∧
  ((k0_dev29 v2) < nD) ∧
  ((k0_dev32 v2) < nD) ∧
  ((k0_dev34 v2) < nD) ∧
  ((k0_dev35 v2) < nD) ∧
  ((k0_dev38 v2) < nD) ∧
  ((k0_dev40 v2) < nD) ∧
  ((k0_dev41 v2) < nD) ∧
  ((k0_dev44 v2) < nD) ∧
  ((k0_dev46 v2) < nD) ∧
  ((k0_dev47 v2) < nD) ∧
  ((k0_dev50 v2) < nD) ∧
  ((k0_dev52 v2) < nD) ∧
  ((k0_dev53 v2) < nD) ∧
  ((k0_dev56 v2) < nD) ∧
  ((k0_dev58 v2) < nD) ∧
  ((k0_dev59 v2) < nD) ∧
  ((k0_dev62 v2) < nD) ∧
  ((k0_dev64 v2) < nD)
def k0_chk1_1 (v2 : BitVec 32) : Prop :=
  ((k0_dev65 v2) < nD) ∧
  ((k0_dev68 v2) < nD) ∧
  ((k0_dev70 v2) < nD) ∧
  ((k0_dev71 v2) < nD) ∧
  ((k0_dev74 v2) < nD) ∧
  ((k0_dev76 v2) < nD) ∧
  ((k0_dev78 v2) < nD) ∧
  ((k0_dev80 v2) < nD) ∧
  ((k0_dev82 v2) < nD) ∧
  ((k0_dev84 v2) < nD) ∧
  ((k0_dev85 v2) < nD) ∧
  ((k0_dev89 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD) ∧
  ((k0_dev114 v2) < nD) ∧
  ((k0_dev116 v2) < nD) ∧
  ((k0_dev118 v2) < nD) ∧
  ((k0_dev120 v2) < nD) ∧
  ((k0_dev122 v2) < nD) ∧
  ((k0_dev124 v2) < nD) ∧
  ((k0_dev126 v2) < nD) ∧
  ((k0_dev128 v2) < nD)
def k0_chk1_2 (v2 : BitVec 32) : Prop :=
  ((k0_dev130 v2) < nD) ∧
  ((k0_dev132 v2) < nD) ∧
  ((k0_dev134 v2) < nD) ∧
  ((k0_dev136 v2) < nD) ∧
  ((k0_dev138 v2) < nD) ∧
  ((k0_dev140 v2) < nD) ∧
  ((k0_dev142 v2) < nD) ∧
  ((k0_dev144 v2) < nD) ∧
  ((k0_dev146 v2) < nD)
def k0_chk1 (v2 : BitVec 32) : Prop :=
  k0_chk1_0 v2 ∧
  k0_chk1_1 v2 ∧
  k0_chk1_2 v2
theorem k0_dev1_lt : ∀ (v2 : BitVec 32) (k0_hw1 : k0_chk1 v2), (k0_dev1 v2) < nD := fun v2 k0_hw1 => k0_hw1.1.1
theorem k0_dev5_lt : ∀ (v2 : BitVec 32) (k0_hw1 : k0_chk1 v2), (k0_dev5 v2) < nD := fun v2 k0_hw1 => k0_hw1.1.2.1
theorem k0_dev6_lt : ∀ (v2 : BitVec 32) (k0_hw1 : k0_chk1 v2), (k0_dev6 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev11_lt : ∀ (v2 : BitVec 32) (k0_hw1 : k0_chk1 v2), (k0_dev11 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev17_lt : ∀ (v2 : BitVec 32) (k0_hw1 : k0_chk1 v2), (k0_dev17 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev22_lt : ∀ (v2 : BitVec 32) (k0_hw1 : k0_chk1 v2), (k0_dev22 v2) < nD := fun v2 k0_hw1 => k0_hw1.1.2.2.2.2.2.2.2.2.2.2.1
theorem k0_dev23_lt : ∀ (v2 : BitVec 32) (k0_hw1 : k0_chk1 v2), (k0_dev23 v2) < nD := fun v2 k0_hw1 => k0_hw1.1.2.2.2.2.2.2.2.2.2.2.2.1
theorem k0_dev26_lt : ∀ (v2 : BitVec 32) (k0_hw1 : k0_chk1 v2), (k0_dev26 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev29_lt : ∀ (v2 : BitVec 32) (k0_hw1 : k0_chk1 v2), (k0_dev29 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev35_lt : ∀ (v2 : BitVec 32) (k0_hw1 : k0_chk1 v2), (k0_dev35 v2) < nD := fun v2 k0_hw1 => k0_hw1.1.2.2.2.2.2.2.2.2.2.2.2.2.2.2.2.2.2.1
theorem k0_dev38_lt : ∀ (v2 : BitVec 32) (k0_hw1 : k0_chk1 v2), (k0_dev38 v2) < nD := fun v2 k0_hw1 => k0_hw1.1.2.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev47_lt : ∀ (v2 : BitVec 32) (k0_hw1 : k0_chk1 v2), (k0_dev47 v2) < nD := fun v2 k0_hw1 => k0_hw1.1.2.2.2.2.2.2.2.2.2.2.2.2.2.2.2.2.2.2.2.2.2.2.2.1
theorem k0_dev50_lt : ∀ (v2 : BitVec 32) (k0_hw1 : k0_chk1 v2), (k0_dev50 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev53_lt : ∀ (v2 : BitVec 32) (k0_hw1 : k0_chk1 v2), (k0_dev53 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev58_lt : ∀ (v2 : BitVec 32) (k0_hw1 : k0_chk1 v2), (k0_dev58 v2) < nD := fun v2 k0_hw1 => k0_hw1.1.2.2.2.2.2.2.2.2.2.2.2.2.2.2.2.2.2.2.2.2.2.2.2.2.2.2.2.2.1
theorem k0_dev59_lt : ∀ (v2 : BitVec 32) (k0_hw1 : k0_chk1 v2), (k0_dev59 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev65_lt : ∀ (v2 : BitVec 32) (k0_hw1 : k0_chk1 v2), (k0_dev65 v2) < nD := fun v2 k0_hw1 => k0_hw1.2.1.1
theorem k0_dev68_lt : ∀ (v2 : BitVec 32) (k0_hw1 : k0_chk1 v2), (k0_dev68 v2) < nD := fun v2 k0_hw1 => k0_hw1.2.1.2.1
theorem k0_dev70_lt : ∀ (v2 : BitVec 32) (k0_hw1 : k0_chk1 v2), (k0_dev70 v2) < nD := fun v2 k0_hw1 => k0_hw1.2.1.2.2.1
theorem k0_dev71_lt : ∀ (v2 : BitVec 32) (k0_hw1 : k0_chk1 v2), (k0_dev71 v2) < nD := fun v2 k0_hw1 => k0_hw1.2.1.2.2.2.1
theorem k0_dev74_lt : ∀ (v2 : BitVec 32) (k0_hw1 : k0_chk1 v2), (k0_dev74 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev78_lt : ∀ (v2 : BitVec 32) (k0_hw1 : k0_chk1 v2), (k0_dev78 v2) < nD := fun v2 k0_hw1 => k0_hw1.2.1.2.2.2.2.2.2.1
theorem k0_dev80_lt : ∀ (v2 : BitVec 32) (k0_hw1 : k0_chk1 v2), (k0_dev80 v2) < nD := fun v2 k0_hw1 => k0_hw1.2.1.2.2.2.2.2.2.2.1
theorem k0_dev82_lt : ∀ (v2 : BitVec 32) (k0_hw1 : k0_chk1 v2), (k0_dev82 v2) < nD := fun v2 k0_hw1 => k0_hw1.2.1.2.2.2.2.2.2.2.2.1
theorem k0_dev84_lt : ∀ (v2 : BitVec 32) (k0_hw1 : k0_chk1 v2), (k0_dev84 v2) < nD := fun v2 k0_hw1 => k0_hw1.2.1.2.2.2.2.2.2.2.2.2.1
theorem k0_dev85_lt : ∀ (v2 : BitVec 32) (k0_hw1 : k0_chk1 v2), (k0_dev85 v2) < nD := fun v2 k0_hw1 => k0_hw1.2.1.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.1
theorem k0_dev90_lt : ∀ (v2 : BitVec 32) (k0_hw1 : k0_chk1 v2), (k0_dev90 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev94_lt : ∀ (v2 : BitVec 32) (k0_hw1 : k0_chk1 v2), (k0_dev94 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev98_lt : ∀ (v2 : BitVec 32) (k0_hw1 : k0_chk1 v2), (k0_dev98 v2) < nD := fun v2 k0_hw1 => k0_hw1.2.1.2.2.2.2.2.2.2.2.2.2.2.2.2.2.2.2.1
theorem k0_dev100_lt : ∀ (v2 : BitVec 32) (k0_hw1 : k0_chk1 v2), (k0_dev100 v2) < nD := fun v2 k0_hw1 => k0_hw1.2.1.2.2.2.2.2.2.2.2.2.2.2.2.2.2.2.2.2.1
theorem k0_dev102_lt : ∀ (v2 : BitVec 32) (k0_hw1 : k0_chk1 v2), (k0_dev102 v2) < nD := fun v2 k0_hw1 => k0_hw1.2.1.2.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.2.1
theorem k0_dev106_lt : ∀ (v2 : BitVec 32) (k0_hw1 : k0_chk1 v2), (k0_dev106 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev110_lt : ∀ (v2 : BitVec 32) (k0_hw1 : k0_chk1 v2), (k0_dev110 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.1.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.1.2.2.2.2.2.2.2.2.2.2.2.2.2.2.2.2.2.2.2.2.2.2.2.2.2.1
theorem k0_dev118_lt : ∀ (v2 : BitVec 32) (k0_hw1 : k0_chk1 v2), (k0_dev118 v2) < nD := fun v2 k0_hw1 => k0_hw1.2.1.2.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.1.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.1.2.2.2.2.2.2.2.2.2.2.2.2.2.2.2.2.2.2.2.2.2.2.2.2.2.2.2.2.1
theorem k0_dev124_lt : ∀ (v2 : BitVec 32) (k0_hw1 : k0_chk1 v2), (k0_dev124 v2) < nD := fun v2 k0_hw1 => k0_hw1.2.1.2.2.2.2.2.2.2.2.2.2.2.2.2.2.2.2.2.2.2.2.2.2.2.2.2.2.2.2.2.1
theorem k0_dev126_lt : ∀ (v2 : BitVec 32) (k0_hw1 : k0_chk1 v2), (k0_dev126 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev130_lt : ∀ (v2 : BitVec 32) (k0_hw1 : k0_chk1 v2), (k0_dev130 v2) < nD := fun v2 k0_hw1 => k0_hw1.2.2.1
theorem k0_dev132_lt : ∀ (v2 : BitVec 32) (k0_hw1 : k0_chk1 v2), (k0_dev132 v2) < nD := fun v2 k0_hw1 => k0_hw1.2.2.2.1
theorem k0_dev134_lt : ∀ (v2 : BitVec 32) (k0_hw1 : k0_chk1 v2), (k0_dev134 v2) < nD := fun v2 k0_hw1 => k0_hw1.2.2.2.2.1
theorem k0_dev136_lt : ∀ (v2 : BitVec 32) (k0_hw1 : k0_chk1 v2), (k0_dev136 v2) < nD := fun v2 k0_hw1 => k0_hw1.2.2.2.2.2.1
theorem k0_dev138_lt : ∀ (v2 : BitVec 32) (k0_hw1 : k0_chk1 v2), (k0_dev138 v2) < nD := fun v2 k0_hw1 => k0_hw1.2.2.2.2.2.2.1
theorem k0_dev140_lt : ∀ (v2 : BitVec 32) (k0_hw1 : k0_chk1 v2), (k0_dev140 v2) < nD := fun v2 k0_hw1 => k0_hw1.2.2.2.2.2.2.2.1
theorem k0_dev142_lt : ∀ (v2 : BitVec 32) (k0_hw1 : k0_chk1 v2), (k0_dev142 v2) < nD := fun v2 k0_hw1 => k0_hw1.2.2.2.2.2.2.2.2.1
theorem k0_dev144_lt : ∀ (v2 : BitVec 32) (k0_hw1 : k0_chk1 v2), (k0_dev144 v2) < nD := fun v2 k0_hw1 => k0_hw1.2.2.2.2.2.2.2.2.2.1
theorem k0_dev146_lt : ∀ (v2 : BitVec 32) (k0_hw1 : k0_chk1 v2), (k0_dev146 v2) < nD := fun v2 k0_hw1 => k0_hw1.2.2.2.2.2.2.2.2.2.2

abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.K.Ops.lean ====
module

public import proofs.«01_k».proof.Proof.K.Step

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig ℕ (Elt F) ℕ UU ℕ

/-! The body's operations on segments, as triples. -/

/-- The time of a copy, by the array of its semaphore. -/
def tmK (k : Fin 4) (d : Fin 2) (s : ℕ) (g : Fin 2) : ℕ :=
  match k with
  | 0 => 0
  | 1 => (Ev.rs d (Fin.ofNat 15 s) g).tm
  | 2 => 0
  | 3 => (Ev.ag d (Fin.ofNat 15 s) g).tm

theorem tm_rs (d : Fin 2) (s : ℕ) (g : Fin 2) (hs : s + 1 < 15) : (Ev.rs d (Fin.ofNat 15 (s + 1)) g).tm = 10 * (s + 1) + 2 * g.val + d.val := by
  show (if (s + 1) % 15 = 0 then 3 + 2 * d.val + g.val else 10 * ((s + 1) % 15) + 2 * g.val + d.val) = _
  rw [Nat.mod_eq_of_lt hs, if_neg (Nat.succ_ne_zero s)]
theorem tm_ag (d : Fin 2) (s : ℕ) (g : Fin 2) (hs : s + 1 < 15) : (Ev.ag d (Fin.ofNat 15 (s + 1)) g).tm = 150 + 10 * (s + 1) + 2 * g.val + d.val := by
  show (if (s + 1) % 15 = 0 then 152 + 2 * d.val + g.val else 150 + 10 * ((s + 1) % 15) + 2 * g.val + d.val) = _
  rw [Nat.mod_eq_of_lt hs, if_neg (Nat.succ_ne_zero s)]
theorem tm_rs0 (d g : Fin 2) : (Ev.rs d (Fin.ofNat 15 0) g).tm = 3 + 2 * d.val + g.val := rfl
theorem tm_ag0 (d g : Fin 2) : (Ev.ag d (Fin.ofNat 15 0) g).tm = 152 + 2 * d.val + g.val := rfl
theorem tm_rs_le (d : Fin 2) (s : ℕ) (g : Fin 2) (hs : s < 15) : (Ev.rs d (Fin.ofNat 15 s) g).tm < 10 * (s + 1) := by
  rcases s with _ | s
  · rw [tm_rs0]; omega
  · rw [tm_rs d s g hs]; omega
theorem tm_ag_le (d : Fin 2) (s : ℕ) (g : Fin 2) (hs : s < 15) : (Ev.ag d (Fin.ofNat 15 s) g).tm < 150 + 10 * (s + 1) := by
  rcases s with _ | s
  · rw [tm_ag0]; omega
  · rw [tm_ag d s g hs]; omega

/-- A copy semaphore's cell. -/
abbrev dcell (c : Dev nD) (k : Fin 4) (d : Fin 2) (s : ℕ) (g : Fin 2) : GSem nD τ sig := cell c (.dma (dm k d s g))
/-- A copy cell that will be waited on. -/
def pnd (c : Dev nD) (k : Fin 4) (d g : Fin 2) (s : ℕ) : sProp 𝕄 :=
  iprop(cred (tallyAt (dcell c k d s g) (tmK k d s g) NB) ∗ atPos ER (dcell c k d s g) 0 ∅ 0)
/-- A send cell before its copy. -/
def fre (c : Dev nD) (k : Fin 4) (d g : Fin 2) (s : ℕ) : sProp 𝕄 :=
  iprop(dutyTok ER (dcell c k d s g) 0 0 ∗ atPos ER (dcell c k d s g) 0 ∅ 0)
/-- A copy cell done with. -/
def cls (c : Dev nD) (k : Fin 4) (d g : Fin 2) (s : ℕ) : sProp 𝕄 := semVal (dcell c k d s g) 0

variable (K : GSem nD τ sig → ℕ)

theorem tr_wait (c : Dev nD) (k : Fin 4) (d : Fin 2) (s : ℕ) (g : Fin 2) (hs : s < 15)
    (sm : DmaSem sig) (hsm : sm = dm k d s g) (n : ℕ) (hn : tmK k d s g < n) (hn' : tmK k d s g < 300)
    (src dst : Memref sig .tc .vmem S128x1024 .bf16) (h1 : src.view.WordExact) (h2 : dst.view.WordExact) (hN : dst.view.dmaCredit = NB) :
    Tr c (Ctx2 K c) iprop(pnd c k d g s ∗ paying n c) (waitP sm src dst h1 h2 : Pr F PUnit)
      fun _ => iprop(dmPay c k d s g ∗ cls c k d g s ∗ paying n c) := by
  refine Tr.pre ?_ (tr_dmaWait K c (Ctx2 K c) (ctx2_ctx K c) k d s g hs sm hsm n (tmK k d s g) hn hn' src dst h1 h2 hN)
  unfold pnd
  iintro ⟨⟨H1, H2⟩, H3⟩
  isplitl [H1]; · iexact H1
  isplitl [H2] <;> iassumption

theorem agV_eq (d : Fin 2) (c : Dev nD) {o : Fin 3 → ℕ} (h) {k : Fin 16} {g : Fin 2} (e : o = agO k g) : agV (dirT d c) o h = agSg d k g := by subst e; rfl
theorem txS_add2 (d : Fin 2) (j : ℕ) (g : Fin 2) : txS d (j + 2) g = txS d j g := by
  have : Fin.ofNat 2 (j + 2) = Fin.ofNat 2 j := Fin.ext (by show (j + 2) % 2 = j % 2; omega)
  exact congrArg (fun i : Fin 2 => ((txM d).slice (Rect.unit (s := S2x256x1024) ![i.val, 128 * g.val, 0] S1x128x1024.size (tx_inb i g)) (fun _ => rfl)).squeeze
    S128x1024 squeezes_S1x128x1024_S128x1024) this
theorem rxS_add4 (d : Fin 2) (j : ℕ) (g : Fin 2) : rxS d (j + 4) g = rxS d j g := by
  have : Fin.ofNat 4 (j + 4) = Fin.ofNat 4 j := Fin.ext (by show (j + 4) % 4 = j % 4; omega)
  exact congrArg (fun i : Fin 4 => ((rxM d).slice (Rect.unit (s := S4x256x1024) ![i.val, 128 * g.val, 0] S1x128x1024.size (rx_inb i g)) (fun _ => rfl)).squeeze
    S128x1024 squeezes_S1x128x1024_S128x1024) this

theorem nb_rx (d : Fin 2) (j : ℕ) (g : Fin 2) : (rxS d j g).view.dmaCredit = NB := NB_eq _ rfl
theorem nb_tx (d : Fin 2) (j : ℕ) (g : Fin 2) : (txS d j g).view.dmaCredit = NB := NB_eq _ rfl
theorem nb_ag (d : Fin 2) (c : Dev nD) (o : Fin 3 → ℕ) (h) : (agV (dirT d c) o h).view.dmaCredit = NB := NB_eq _ rfl

/-- A load of a segment. -/
theorem tr_loadSeg {t u : Shape} {e : EltTy} {cs : CoreSpace} (c : Dev nD) (C : sProp 𝕄) (M : Memref sig .tc cs t e) (r : Rect t) (hr : ∀ a, r.stride a = 1)
    (hq : r.shape.Squeezes u) (hl : M.view.LoadsAt r.toLoadRect) (q : PosShare TreeShare) :
    Tr c C (holdM c ((M.slice r hr).squeeze u hq) ((M.slice r hr).squeeze u hq).view.set q) (Prog.lift (.load M r.toLoadRect hl))
      fun _ => holdM c ((M.slice r hr).squeeze u hq) ((M.slice r hr).squeeze u hq).view.set q :=
  tr_load c C M r hl ((M.slice r hr).squeeze u hq).view.set q (by rw [set_seg])

/-- A store of a segment. -/
theorem tr_storeSeg {t u : Shape} {e : EltTy} {cs : CoreSpace} (c : Dev nD) (C : sProp 𝕄) (M : Memref sig .tc cs t e) (r : Rect t) (hr : ∀ a, r.stride a = 1)
    (hq : r.shape.Squeezes u) (v : r.shape.Idx → Elt F e)
    (hx : (M.access r).Stores Finset.univ) (hm : (Finset.univ : Finset r.shape.Idx) = Finset.univ ∨ ∀ a, r.stride a = 1) :
    Tr c C (holdM c ((M.slice r hr).squeeze u hq) ((M.slice r hr).squeeze u hq).view.set fullShare) (Prog.lift (.store M r v Finset.univ hx hm))
      fun _ => holdM c ((M.slice r hr).squeeze u hq) ((M.slice r hr).squeeze u hq).view.set fullShare :=
  tr_store c C M r v hx hm ((M.slice r hr).squeeze u hq).view.set (by rw [set_seg])

theorem tr_ldAg (c : Dev nD) (C : sProp 𝕄) (d : Fin 2) {o : Fin 3 → ℕ} (h) {k : Fin 16} {g : Fin 2} (e : o = agO k g)
    (hl : (agM d).view.LoadsAt (Rect.unit (s := S16x256x1024) o S1x128x1024.size h).toLoadRect) (q : PosShare TreeShare) :
    Tr c C (segQ c (agSg d k g) q)
      (Prog.lift (.load (agM d) (Rect.unit (s := S16x256x1024) o S1x128x1024.size h).toLoadRect hl) : Pr F _)
      fun _ => segQ c (agSg d k g) q := by
  subst e; exact tr_loadSeg c C (agM d) _ (fun _ => rfl) squeezes_S1x128x1024_S128x1024 hl q

theorem tr_ldRx (c : Dev nD) (C : sProp 𝕄) (d : Fin 2) (s : ℕ) (g : Fin 2) :
    Tr c C (segA c (rxS d s g)) (ldRx (dirT d c) s g : Pr F _) fun _ => segA c (rxS d s g) :=
  tr_loadSeg c C (rxM d) _ (fun _ => rfl) squeezes_S1x128x1024_S128x1024 _ fullShare

theorem tr_stTx (c : Dev nD) (C : sProp 𝕄) [BI.Persistent C] (d : Fin 2) (s : ℕ) (g : Fin 2) (v : FVec F S1x128x1024 .bf16) :
    Tr c C (segA c (txS d s g)) (stTx (dirT d c) s g v) fun _ => segA c (txS d s g) :=
  Tr.bind (tr_loadSeg c C (txM d) _ (fun _ => rfl) squeezes_S1x128x1024_S128x1024 _ fullShare) fun _ =>
    tr_storeSeg c C (txM d) _ (fun _ => rfl) squeezes_S1x128x1024_S128x1024 _ _ _

/-- The elements of a whole buffer. -/
abbrev whQ {sp : Space} {t : Shape} {e : EltTy} (c : Dev nD) (M : Memref sig .tc sp t e) (q : PosShare TreeShare) : sProp 𝕄 := holdM c M M.view.set q

theorem tr_ldAny {t : Shape} {e : EltTy} {cs : CoreSpace} (c : Dev nD) (C : sProp 𝕄) (M : Memref sig .tc cs t e) (r : Rect t) (hl : M.view.LoadsAt r.toLoadRect) (q : PosShare TreeShare) :
    Tr c C (whQ c M q) (Prog.lift (.load M r.toLoadRect hl)) fun _ => whQ c M q :=
  tr_load c C M r hl _ q (View.setOn_subset_set _ _)
theorem tr_stAny {t : Shape} {e : EltTy} {cs : CoreSpace} (c : Dev nD) (C : sProp 𝕄) (M : Memref sig .tc cs t e) (r : Rect t) (v : r.shape.Idx → Elt F e)
    (hx : (M.access r).Stores Finset.univ) (hm : (Finset.univ : Finset r.shape.Idx) = Finset.univ ∨ ∀ a, r.stride a = 1) :
    Tr c C (whQ c M fullShare) (Prog.lift (.store M r v Finset.univ hx hm)) fun _ => whQ c M fullShare :=
  tr_store c C M r v hx hm _ (View.setOn_subset_set _ _)

theorem opt_true {p : Pr F PUnit} {b : Bool} (h : b = true) : opt b p = p := by subst h; rfl
theorem opt_false {p : Pr F PUnit} {b : Bool} (h : b = false) : opt b p = pure ⟨⟩ := by subst h; rfl

end Cert.Kernel.Ring

end
-- ==== Proof.K.Gather.lean ====
module

public import proofs.«01_k».proof.Proof.K.Reduce

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig ℕ (Elt F) ℕ UU ℕ

/-! The end of the reduce phase, and the gather phase. -/

variable (K : GSem nD τ sig → ℕ)

/-- A lane whose reduce phase is over, its sends still to be waited for. -/
def rsFin (c : Dev nD) (d g : Fin 2) : sProp 𝕄 :=
  iprop(bigSep (Finset.range 15) (cls c 1 d g) ∗ segA c (agSg d (hop d (posT c) 15) g) ∗ bigSep (Finset.Ico 11 15) fun i => segA c (rxS d i g))

/-- A share of a segment in two halves. -/
theorem seg_halve (c : Dev nD) (V : Memref sig .tc .vmem S128x1024 .bf16) : (segA c V : sProp 𝕄) ⊢ iprop(segQ c V hs ∗ segQ c V hs') := by
  unfold segA segQ holdM
  iintro ⟨%f, H⟩
  ihave H2 := (pointsTo_share (PosShare.mem_left_op_right fullShare)).1 $$ H
  icases H2 with ⟨H1, H2⟩
  isplitl [H1]; · iexists f; iexact H1
  iexists f; iexact H2

theorem seg_join (c : Dev nD) (V : Memref sig .tc .vmem S128x1024 .bf16) : (iprop(segQ c V hs ∗ segQ c V hs') : sProp 𝕄) ⊢ segA c V := by
  unfold segA segQ holdM
  iintro ⟨⟨%f, H1⟩, ⟨%f', H2⟩⟩
  ihave %h := (pointsTo_agree) $$ [H1 H2]
  · isplitl [H1]; · iexact H1
    iexact H2
  iexists f
  iapply (pointsTo_share (PosShare.mem_left_op_right fullShare)).2
  isplitl [H1]; · iexact H1
  rw [pointsTo_congr (f := f) (g := f') (fun i hi => (h i (Finset.mem_inter.mpr ⟨hi, hi⟩)).1)]
  iexact H2

section
variable (c : Dev nD) (G : Geo) (hG : GeoOk G c)
  (S : Memref sig .tc .smem S1 .f32) (O : Memref sig .tc .vmem S4096x2048 .f32) (q : PosShare TreeShare)

include hG in
theorem tr_rsLast (d g : Fin 2) :
    Tr c (Ctx2 K c) iprop(rsSt c d g 14 ∗ whQ c O fullShare ∗ whQ c S q ∗ paying 150 c) (rsLast G S O (dirT d c) d g : Pr F PUnit)
      fun _ => iprop(rsFin c d g ∗ txSt c d g 14 ∗ freed (upT d c) (1 - d) 12 g ∗ whQ c O fullShare ∗ whQ c S q ∗ paying 150 c) := by
  have e := hG.rin ⟨14, by omega⟩ d g
  unfold Tr rsLast rsSt rsFin
  rw [show Finset.Ico 14 15 = {14} from rfl, bigSep_singleton, bigSep_singleton, bs_range 14, bs_Ico_last (show 11 ≤ 14 by omega)]
  iintro ⟨#HC, ⟨H1, H2, -, H3, H4, H5⟩, HO, HS, Hp⟩
  rw [wp_bind]
  iapply (Tr.use (tr_rsW K c G d 14 g (by omega) 150 (by omega))) $$ [H1 Hp]
  · isplitr; · iexact HC
    isplitl [H1] <;> iassumption
  iintro %_ ⟨Hrx, Hup, Hcl, Hp⟩
  rw [wp_bind]
  iapply (Tr.use (tr_ldAg c (Ctx2 K c) d (G.rin_inb (row 14 d) g) e _ fullShare)) $$ [H4]
  · isplitr; · iexact HC
    iexact H4
  iintro %va H4
  rw [wp_bind]
  iapply (Tr.use (tr_ldRx c (Ctx2 K c) d 14 g)) $$ [Hrx]
  · isplitr; · iexact HC
    iexact Hrx
  iintro %vb Hrx
  rw [wp_bind]
  iapply (Tr.use (tr_smem c (Ctx2 K c) S _ _ _ q)) $$ [HS]
  · isplitr; · iexact HC
    iexact HS
  iintro %vc HS
  rw [wp_bind]
  iapply (Tr.use (tr_ldAny c (Ctx2 K c) O _ _ fullShare)) $$ [HO]
  · isplitr; · iexact HC
    iexact HO
  iintro %_ HO
  rw [wp_bind]
  iapply (Tr.use (tr_stAny c (Ctx2 K c) O _ _ _ _)) $$ [HO]
  · isplitr; · iexact HC
    iexact HO
  iintro %_ HO
  rw [wp_bind]
  iapply (Tr.use (tr_ldAg c (Ctx2 K c) d (G.rin_inb (row 14 d) g) e _ fullShare)) $$ [H4]
  · isplitr; · iexact HC
    iexact H4
  iintro %_ H4
  rw [← agV_eq d c (G.rin_inb (row 14 d) g) e]
  iapply (Tr.use (tr_storeSeg c (Ctx2 K c) (agM d) _ (fun _ => rfl) squeezes_S1x128x1024_S128x1024 _ _ _)) $$ [H4]
  · isplitr; · iexact HC
    iexact H4
  iintro %_ H4
  isplitl [H2 H4 H5 Hcl Hrx]
  · isplitl [H2 Hcl]; · isplitl [Hcl] <;> iassumption
    isplitl [H4]; · iexact H4
    isplitl [Hrx] <;> iassumption
  isplitl [H3]; · iexact H3
  isplitl [Hup]
  · ihave Hup := (show (ride (upT d c) d 14 g : sProp 𝕄) ⊢ freed (upT d c) (1 - d) 12 g from BI.Entails.refl _) $$ Hup
    iexact Hup
  isplitl [HO]; · iexact HO
  isplitl [HS] <;> iassumption

/-- A lane's sends of the reduce phase done with. -/
def rsEndSt (c : Dev nD) (d g : Fin 2) : sProp 𝕄 :=
  iprop(bigSep (Finset.range 15) (cls c 0 d g) ∗ segA c (txS d 13 g) ∗ segA c (txS d 14 g))

theorem tr_rsEnd1 (d g : Fin 2) {β : Type} (k : Pr F β) (R : β → sProp 𝕄) (X : sProp 𝕄)
    (hk : Tr c (Ctx2 K c) iprop(rsEndSt c d g ∗ X ∗ paying 150 c) k R) :
    Tr c (Ctx2 K c) iprop(txSt c d g 14 ∗ X ∗ paying 150 c) (rsS G (dirT d c) 13 g >>= fun _ => rsS G (dirT d c) 14 g >>= fun _ => k) R := by
  unfold Tr txSt rsEndSt at *
  rw [show Finset.Ico (14 - 1) (14 + 1) = {13, 14} from rfl, bs_pair (by decide), wp_bind]
  iintro ⟨#HC, ⟨⟨H1, H2⟩, H3, -⟩, HX, Hp⟩
  iapply (Tr.use (tr_rsS K c G d 13 g (by omega) 150 (by omega))) $$ [H1 Hp]
  · isplitr; · iexact HC
    isplitl [H1] <;> iassumption
  iintro %_ ⟨Ht, Hc, Hp⟩
  rw [wp_bind]
  iapply (Tr.use (tr_rsS K c G d 14 g (by omega) 150 (by omega))) $$ [H2 Hp]
  · isplitr; · iexact HC
    isplitl [H2] <;> iassumption
  iintro %_ ⟨Ht', Hc', Hp⟩
  iapply hk
  isplitr; · iexact HC
  isplitr [HX Hp]
  · rw [bs_range 14, bs_range 13]
    simp only [rssPay]
    isplitl [H3 Hc Hc']
    · isplitl [Hc']; · iexact Hc'
      isplitl [Hc]; · iexact Hc
      iexact H3
    isplitl [Ht] <;> iassumption
  isplitl [HX] <;> iassumption

theorem tr_rsEnd (d : Fin 2) :
    Tr c (Ctx2 K c) iprop(txSt c d 0 14 ∗ txSt c d 1 14 ∗ paying 150 c) (rsEnd G (dirT d c) : Pr F PUnit)
      fun _ => iprop(rsEndSt c d 0 ∗ rsEndSt c d 1 ∗ paying 150 c) := by
  unfold rsEnd
  refine tr_rsEnd1 (F := F) K c G d 0 _ _ (txSt c d 1 14) (Tr.pre (P' := iprop(txSt c d 1 14 ∗ rsEndSt c d 0 ∗ paying 150 c)) ?_ ?_)
  · iintro ⟨H1, H2, H3⟩
    isplitl [H2]; · iexact H2
    isplitl [H1] <;> iassumption
  · have := tr_rsEnd1 (F := F) K c G d 1 (pure ⟨⟩ : Pr F PUnit) (fun _ => iprop(rsEndSt c d 0 ∗ rsEndSt c d 1 ∗ paying 150 c)) (rsEndSt c d 0) (Tr.ret _ (by
      iintro ⟨H1, H2, H3⟩
      isplitl [H2]; · iexact H2
      isplitl [H1] <;> iassumption))
    exact this

/-! ## Gather -/

/-- A lane before iteration `s` of the gather phase. -/
def agSt (c : Dev nD) (d g : Fin 2) (s : ℕ) : sProp 𝕄 :=
  iprop(bigSep (Finset.Ico s 15) (pnd c 3 d g) ∗ bigSep (Finset.range s) (cls c 3 d g) ∗ bigSep (Finset.Ico (s + 1) 15) (fre c 2 d g)
    ∗ bigSep (Finset.range (s + 1)) (pnd c 2 d g) ∗ bigSep (Finset.range s) fun i => segQ c (agSg d (hop d (posT c) i) g) hs')

include hG in
theorem tr_agS (d g : Fin 2) (s : ℕ) (hs' : s < 15) (n : ℕ) (hn : n = (Ev.ag d (Fin.ofNat 15 s) g).tm) :
    Tr c (Ctx2 K c) iprop(fre c 2 d g s ∗ segQ c (agSg d (hop d (posT c) (15 + s)) g) hs ∗ segA (peerT d c) (agSg d (hop d (posT c) (15 + s)) g) ∗ rideAg c d s g ∗ paying n c)
      (agS G (dirT d c) d s g : Pr F PUnit)
      fun _ => iprop(pnd c 2 d g s ∗ paying (n + 1) c) := by
  subst hn
  have e : G.snd (row s d) g = agO (hop d (posT c) (15 + s)) g := hG.snd ⟨s, hs'⟩ d g
  have hm : (Fin.ofNat 15 s).val = s := Nat.mod_eq_of_lt hs'
  have hpe : hop d (posT (peerT d c)) s = hop d (posT c) (15 + s) := by rw [pos_peer, hop_hop]
  have hsend := tr_send (F := F) K c (Ctx2 K c) (BI.Entails.refl _) 2 3 d s g hs' (Ev.ag d (Fin.ofNat 15 s) g)
    (by show SemLoc.dma (dm 3 d (Fin.ofNat 15 s).val g) = _; rw [hm]) rfl rfl rfl _ _ (semAt_ags d c s g) (semAt_agr d c s g)
    (agV (dirT d c) (G.snd (row s d) g) (G.snd_inb _ g)) (agV (dirT d c) (G.snd (row s d) g) (G.snd_inb _ g)) (agV_we _ _ _ (G.snd_ww _ g)) (agV_we _ _ _ (G.snd_ww _ g))
    (nb_ag d c _ _) hs (rideAg c d s g)
    (by rw [agV_eq d c _ e]; exact BI.Entails.refl _)
    (by rw [agV_eq d c _ e]; show _ ⊢ agrPay _ _ _ _; unfold agrPay; rw [up_peer, hpe])
  rw [← agV_eq d c (G.snd_inb (row s d) g) e]
  unfold Tr agS fre pnd
  iintro ⟨#HC, ⟨Hd, Hat⟩, H1, H2, H3, Hp⟩
  iapply (Tr.use hsend) $$ [Hd H1 H2 H3 Hp]
  · isplitr; · iexact HC
    isplitl [Hp]; · iexact Hp
    isplitl [H1]; · iexact H1
    isplitl [H2]; · iexact H2
    isplitl [H3]; · iexact H3
    iexact Hd
  iintro %_ ⟨Hp, Hcr⟩
  isplitl [Hcr Hat]
  · isplitl [Hcr]; · iexact Hcr
    iexact Hat
  iexact Hp

theorem tr_agWr (d g : Fin 2) (s : ℕ) (hs : s < 15) (n : ℕ) (hn : 150 + 10 * (s + 1) ≤ n) :
    Tr c (Ctx2 K c) iprop(pnd c 3 d g s ∗ paying n c) (agW G (dirT d c).agr (dirT d c) d s g : Pr F PUnit)
      fun _ => iprop(agrPay c d s g ∗ cls c 3 d g s ∗ paying n c) := by
  have ht := tm_ag_le d s g hs
  exact tr_wait K c 3 d s g hs _ (semAt_agr d c s g) n (by show (Ev.ag d (Fin.ofNat 15 s) g).tm < n; omega) (by show (Ev.ag d (Fin.ofNat 15 s) g).tm < 300; omega) _ _ _ _ (nb_ag d c _ _)
theorem tr_agWs (d g : Fin 2) (s : ℕ) (hs : s < 15) (n : ℕ) (hn : 0 < n) :
    Tr c (Ctx2 K c) iprop(pnd c 2 d g s ∗ paying n c) (agW G (dirT d c).ags (dirT d c) d s g : Pr F PUnit)
      fun _ => iprop(agsPay c d s g ∗ cls c 2 d g s ∗ paying n c) :=
  tr_wait K c 2 d s g hs _ (semAt_ags d c s g) n hn (show (0 : ℕ) < 300 by decide) _ _ _ _ (nb_ag d c _ _)

include hG in
theorem tr_agOut (d g : Fin 2) (s : ℕ) (hs : s < 15) (q : PosShare TreeShare) :
    Tr c (Ctx2 K c) iprop(segQ c (agSg d (hop d (posT c) s) g) q ∗ whQ c O fullShare) (agOut G O (dirT d c) d s g : Pr F PUnit)
      fun _ => iprop(segQ c (agSg d (hop d (posT c) s) g) q ∗ whQ c O fullShare) := by
  have e := hG.ld ⟨s, hs⟩ d g
  unfold Tr agOut
  iintro ⟨#HC, H4, HO⟩
  rw [wp_bind]
  iapply (Tr.use (tr_ldAg c (Ctx2 K c) d (G.ld_inb (row s d) g) e _ q)) $$ [H4]
  · isplitr; · iexact HC
    iexact H4
  iintro %va H4
  rw [wp_bind]
  iapply (Tr.use (tr_ldAny c (Ctx2 K c) O _ _ fullShare)) $$ [HO]
  · isplitr; · iexact HC
    iexact HO
  iintro %_ HO
  iapply (Tr.use (tr_stAny c (Ctx2 K c) O _ _ _ _)) $$ [HO]
  · isplitr; · iexact HC
    iexact HO
  iintro %_ HO
  isplitl [H4] <;> iassumption

theorem tr_crOpt2 (d : Fin 2) (s : ℕ) (g : Fin 2) (hs : s < 14) (n : ℕ) (hn : 150 + 10 * (s + 1) ≤ n) :
    Tr c (Ctx2 K c) iprop(crLane c d g (11 + (s - 7)) ∗ paying n c) (opt (Nat.ble g.val 0 && Nat.ble 7 s) (semWaitWord (dirT d c).credit.sem 1#32) : Pr F PUnit)
      fun _ => iprop(crLane c d g (11 + (s + 1 - 7)) ∗ paying n c) := by
  unfold crLane
  by_cases h0 : g.val = 0
  · rw [if_pos h0, if_pos h0]
    by_cases h3 : 7 ≤ s
    · rw [opt_true (by rw [h0, Bool.and_eq_true]; exact ⟨rfl, Nat.ble_eq.mpr h3⟩), show 11 + (s + 1 - 7) = 11 + (s - 7) + 1 by omega]
      refine tr_credit K c (Ctx2 K c) (ctx2_ctx K c) d (11 + (s - 7)) n (by omega) ?_ ?_ _ (credit_sem d c)
      · unfold crIx; rw [if_neg (by omega)]; omega
      · unfold crIx; rw [if_neg (by omega)]; omega
    · rw [opt_false (by rw [Bool.and_eq_false_iff]; right; rw [← Bool.not_eq_true, Nat.ble_eq]; exact h3), show s + 1 - 7 = s - 7 by omega]
      exact Tr.ret _ (BI.Entails.refl _)
  · rw [if_neg h0, if_neg h0, opt_false (by rw [Bool.and_eq_false_iff]; left; rw [← Bool.not_eq_true, Nat.ble_eq]; omega)]
    exact Tr.ret _ (BI.Entails.refl _)

include hG in
/-- One gather step of a lane. -/
theorem tr_agLane (d : Fin 2) (s : ℕ) (g : Fin 2) (hs : s < 14) (n : ℕ) (hn : n = 150 + 10 * (s + 1) + 2 * g.val + d.val) :
    Tr c (Ctx2 K c) iprop(agSt c d g s ∗ frAg (peerT d c) d s g ∗ crLane c d g (11 + (s - 7)) ∗ whQ c O fullShare ∗ paying n c)
      (agStep G O (dirT d c) d s g : Pr F PUnit)
      fun _ => iprop(agSt c d g (s + 1) ∗ rideAg (upT d c) d s g ∗ crLane c d g (11 + (s + 1 - 7)) ∗ whQ c O fullShare ∗ paying (n + 1) c) := by
  have hpe : hop d (posT (peerT d c)) (s + 1) = hop d (posT c) (15 + (s + 1)) := by rw [pos_peer, hop_hop]
  have hh : hop d (posT c) (15 + (s + 1)) = hop d (posT c) s := by rw [show 15 + (s + 1) = 16 + s by omega, hop_add16]
  unfold Tr agStep agSt frAg
  rw [bs_Ico (show s < 15 by omega) (pnd c 3 d g), bs_Ico (show s + 1 < 15 by omega) (fre c 2 d g), hpe]
  iintro ⟨#HC, ⟨⟨H1, H2⟩, H3, ⟨H4, H5⟩, H6, H7⟩, Hdst, Hcr, HO, Hp⟩
  rw [wp_bind]
  iapply (Tr.use (tr_agWr K c G d g s (by omega) n (by omega))) $$ [H1 Hp]
  · isplitr; · iexact HC
    isplitl [H1] <;> iassumption
  iintro %_ ⟨Hpay, Hcl, Hp⟩
  unfold agrPay
  icases Hpay with ⟨Hsg, Hup⟩
  ihave Hsg' := (seg_halve c _) $$ Hsg
  icases Hsg' with ⟨Ha, Hb⟩
  rw [wp_bind]
  iapply (Tr.use (tr_crOpt2 K c d s g hs n (by omega))) $$ [Hcr Hp]
  · isplitr; · iexact HC
    isplitl [Hcr] <;> iassumption
  iintro %_ ⟨Hcr, Hp⟩
  rw [wp_bind]
  iapply (Tr.use (tr_agS K c G hG d g (s + 1) (by omega) n (by rw [tm_ag d s g (by omega)]; exact hn))) $$ [H4 Ha Hdst Hp]
  · isplitr; · iexact HC
    isplitl [H4]; · iexact H4
    isplitl [Ha]; · rw [hh]; iexact Ha
    isplitl [Hdst]; · iexact Hdst
    isplitr; · simp only [rideAg]; iempintro
    iexact Hp
  iintro %_ ⟨Hpn, Hp⟩
  iapply (Tr.use (tr_agOut K c G hG O d g s (by omega) hs')) $$ [Hb HO]
  · isplitr; · iexact HC
    isplitl [Hb] <;> iassumption
  iintro %_ ⟨Hb, HO⟩
  isplitl [H2 H3 H5 H6 H7 Hcl Hpn Hb]
  · isplitl [H2]; · iexact H2
    isplitl [H3 Hcl]; · rw [bs_range s (cls c 3 d g)]; isplitl [Hcl] <;> iassumption
    isplitl [H5]; · iexact H5
    isplitl [H6 Hpn]; · rw [bs_range (s + 1) (pnd c 2 d g)]; isplitl [Hpn] <;> iassumption
    rw [bs_range s]; isplitl [Hb] <;> iassumption
  isplitl [Hup]; · iexact Hup
  isplitl [Hcr]; · iexact Hcr
  isplitl [HO] <;> iassumption

end

end Cert.Kernel.Ring

end
-- ==== Proof.K.Begin.lean ====
module

public import proofs.«01_k».proof.Proof.K.Split

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig ℕ (Elt F) ℕ UU ℕ

/-! The beginning of the body: the meeting at the barrier, the products, the first copies. -/

variable (K : GSem nD τ sig → ℕ)

/-! ### Rows of assertions -/

theorem bs_erase {T : Type} [DecidableEq T] {S : Finset T} {i : T} (h : i ∈ S) (f : T → sProp 𝕄) : bigSep S f = iprop(f i ∗ bigSep (S.erase i) f) := bigSep_erase h
theorem bs_two (f : Fin 2 → sProp 𝕄) : bigSep Finset.univ f = iprop(f 0 ∗ f 1) := BI.bigSep_fin_two f
theorem bs_fin (n : ℕ) (f : ℕ → sProp 𝕄) : (bigSep (Finset.univ : Finset (Fin n)) fun i => f i.val) = bigSep (Finset.range n) f := by
  have h : Finset.range n = (Finset.univ : Finset (Fin n)).map Fin.valEmbedding := by
    ext x; simp only [Finset.mem_range, Finset.mem_map, Finset.mem_univ, true_and, Fin.valEmbedding_apply]
    exact ⟨fun h => ⟨⟨x, h⟩, rfl⟩, fun ⟨a, ha⟩ => ha ▸ a.isLt⟩
  rw [h, BI.bigSep_map]; rfl
theorem bs_shift (m n : ℕ) (f : ℕ → sProp 𝕄) : bigSep (Finset.Ico (m + 1) (n + 1)) f = bigSep (Finset.Ico m n) fun i => f (i + 1) := by
  have h : Finset.Ico (m + 1) (n + 1) = (Finset.Ico m n).image (· + 1) := by
    ext x; simp only [Finset.mem_Ico, Finset.mem_image]
    exact ⟨fun h => ⟨x - 1, by omega, by omega⟩, by rintro ⟨y, h, rfl⟩; omega⟩
  rw [h, BI.bigSep_image_of_injOn (fun a _ b _ h => Nat.succ_injective h)]
theorem bs_zip {T : Type} (S : Finset T) (f g : T → sProp 𝕄) : (bigSep S fun i => iprop(f i ∗ g i)) = iprop(bigSep S f ∗ bigSep S g) := bigSep_sep' _ _ _

theorem hop_image : ∀ (d : Fin 2) (p : Fin 16), (Finset.range 16).image (hop d p) = Finset.univ := by decide +kernel
theorem hop_inj (d : Fin 2) (p : Fin 16) : Set.InjOn (hop d p) (Finset.range 16 : Finset ℕ) := by
  apply Finset.injOn_of_card_image_eq
  rw [hop_image]; rfl
theorem bs_hop (d : Fin 2) (p : Fin 16) (f : Fin 16 → sProp 𝕄) : bigSep Finset.univ f = bigSep (Finset.range 16) fun i => f (hop d p i) := by
  rw [← hop_image d p, BI.bigSep_image_of_injOn (hop_inj d p)]
/-- The own chunk first. -/
theorem bs_own (d : Fin 2) (p : Fin 16) (f : Fin 16 → sProp 𝕄) : bigSep Finset.univ f = iprop(f p ∗ bigSep (Finset.range 15) fun i => f (hop d p (i + 1))) := by
  rw [bs_hop d p, Finset.range_eq_Ico, bs_Ico (show 0 < 16 by omega), bs_shift 0 15, hop_zero, ← Finset.range_eq_Ico]

/-! ### The buffers at the start -/

/-- The receive slots of a direction. -/
def rxOwn (c : Dev nD) (d : Fin 2) : sProp 𝕄 := bigSep (Finset.range 4) fun j => bigSep (Finset.univ : Finset (Fin 2)) fun g => segA c (rxS d j g)

theorem rx_open' (c : Dev nD) (d : Fin 2) : (whQ c (rxM d) fullShare : sProp 𝕄) ⊢ rxOwn c d := by
  refine BIBase.Entails.trans (rx_open c d) ?_
  unfold rxOwn
  rw [bigSep_univ_prod, ← bs_fin 4 fun j => bigSep (Finset.univ : Finset (Fin 2)) fun g => segA c (rxS d j g)]

theorem tx_open' (c : Dev nD) (d : Fin 2) : (whQ c (txM d) fullShare : sProp 𝕄)
    ⊢ iprop((bigSep (Finset.Ico 1 3) fun i => segA c (txS d i 0)) ∗ bigSep (Finset.Ico 1 3) fun i => segA c (txS d i 1)) := by
  refine BIBase.Entails.trans (tx_open c d) ?_
  rw [bigSep_univ_prod, bs_two, bs_two, bs_two, show Finset.Ico 1 3 = {1, 2} from rfl, bs_pair (by decide), bs_pair (by decide), txS_add2 d 0, txS_add2 d 0]
  iintro ⟨⟨H1, H2⟩, H3, H4⟩
  isplitl [H1 H3]
  · isplitl [H3]; · iexact H3
    iexact H1
  isplitl [H4]; · iexact H4
  iexact H2

/-- The chunks other than the own. -/
def chRest (c : Dev nD) (d : Fin 2) : sProp 𝕄 := bigSep (Finset.range 15) fun i => chunkA c d (hop d (posT c) (i + 1))

theorem ag_open' (c : Dev nD) (d : Fin 2) : (whQ c (agM d) fullShare : sProp 𝕄) ⊢ iprop(chunkA c d (posT c) ∗ chRest c d) := by
  refine BIBase.Entails.trans (ag_open c d) ?_
  rw [bs_own d (posT c)]; exact BI.Entails.refl _

theorem chRest_split (c : Dev nD) (d : Fin 2) : (chRest c d : sProp 𝕄)
    ⊢ iprop((bigSep (Finset.range 15) fun i => segA c (agSg d (hop d (posT c) (i + 1)) 0)) ∗ bigSep (Finset.range 15) fun i => segA c (agSg d (hop d (posT c) (i + 1)) 1)) := by
  unfold chRest
  rw [← bs_zip]
  exact bigSep_mono fun i _ => chunk_split c d _

section
variable (c : Dev nD) (G : Geo) (hG : GeoOk G c)

/-! ### The barrier -/

/-- What is known before the barrier. -/
def Ctx1 (c : Dev nD) : sProp 𝕄 := iprop(Ctx K ∗ reachedAll c)
instance ctx1_persistent : BI.Persistent (Ctx1 K c : sProp 𝕄) := by unfold Ctx1; infer_instance
theorem ctx1_ctx : (Ctx1 K c : sProp 𝕄) ⊢ Ctx K := by unfold Ctx1; iintro ⟨#H, -⟩; iexact H

theorem tr_up {α : Type} {P : sProp 𝕄} {p : Pr F α} {Q : α → sProp 𝕄} (h : Tr c (Ctx2 K c) P p Q) :
    Tr c (Ctx1 K c) iprop(reachedAll (peerT 0 c) ∗ reachedAll (peerT 1 c) ∗ P) p Q := by
  refine BIBase.Entails.trans ?_ h
  unfold Ctx1 Ctx2
  iintro ⟨⟨#H1, #H2⟩, #H3, #H4, H5⟩
  isplitr
  · isplitr; · iexact H1
    isplitr; · iexact H2
    isplitr; · iexact H3
    iexact H4
  iexact H5

theorem tr_barSig (d : Fin 2) (n : ℕ) (hn : n = (Ev.bar d).tm) :
    Tr c (Ctx1 K c) iprop(paying n c ∗ rxOwn c d)
      (semSignalWord (dirT d c).up (SemArray.scalar (sig.barrier 0 rfl) : Sems sig S_).sem 1#32 : Pr F PUnit) fun _ => paying (n + 1) c := by
  subst hn
  rw [bar_sem]
  unfold Tr
  iintro ⟨#HC, Hp, Hrx⟩
  have hs := tr_signal K c (Ctx1 (F := F) K c) (ctx1_ctx K c) (Ev.bar d) barS rfl (BIBase.Entails.trans (ctx1_ctx K c) (ctx_bar K (upT d c))) 1#32 (by show _ = ((1 : ℕ) : ℤ); decide)
  unfold Tr at hs
  iapply hs
  isplitr; · iexact HC
  isplitl [Hp]; · iexact Hp
  rw [show (Ev.bar d).dev c = upT d c from rfl, show (Ev.bar d).duty = d.val from rfl, payload_bar]
  unfold barPay rxOwn
  rw [peer_up]
  isplitl [Hrx]; · iexact Hrx
  unfold Ctx1
  icases HC with ⟨-, #H⟩
  iexact H

/-- The own barrier cell at the start. -/
def barSt (c : Dev nD) : sProp 𝕄 :=
  iprop(atPos ER (cell c (.reg barS)) 0 ∅ 0 ∗ cred (tallyAt (cell c (.reg barS)) 1 1) ∗ cred (tallyAt (cell c (.reg barS)) 2 1))

theorem tr_barWait : Tr c (Ctx1 K c) iprop(barSt c ∗ paying 3 c)
    (semWaitWord (SemArray.scalar (sig.barrier 0 rfl) : Sems sig S_).sem 2#32 : Pr F PUnit)
    fun _ => iprop(barPay c 0 ∗ barPay c 1 ∗ semVal (cell c (.reg barS)) 0 ∗ paying 3 c) := by
  rw [bar_sem]
  unfold Tr semWaitWord barSt paying
  rw [show (2#32 : BitVec 32).toInt = ((2 : ℕ) : ℤ) from by decide]
  iintro ⟨#HC, ⟨Hat, Hc1, Hc2⟩, ⟨%W, HO⟩, Hrest⟩
  ihave #HI := ((ctx1_ctx K c).trans (ctx_reg K c barS)) $$ HC
  ihave Hcr := (cred_add _ _).2 $$ [Hc1 Hc2]
  · isplitl [Hc1]; · iexact Hc1
    iexact Hc2
  iapply (Rounds.wp_wait_rest 𝒱₀ ER (Rd (F := F)) (c : Thread nD τ) none (κ := K (cell c (.reg barS)))
      (wpE_semWait_eq 𝒱₀ (c : Thread nD τ) none Set.univ) (Set.mem_univ _) (cr := Finsupp.single 1 1 + Finsupp.single 2 1)
      {(SemLoc.reg barS, 1), (SemLoc.reg barS, 2)} (O := oweF 3 c) (W := W) (R := 0) (m := 0) (T := ∅)
      ((Nat.zero_add _).trans (expect_bar c).symm)
      (by rw [Util.total_add, Util.total_single, Util.total_single])
      (by
        intro x hx
        obtain ⟨i, hi, rfl⟩ := Finset.mem_image.mp hx
        have := Finsupp.support_add hi
        rcases Finset.mem_union.mp this with h | h <;> have := Finsupp.support_single_subset h <;> simp only [Finset.mem_singleton] at this <;> subst this
        · exact Finset.mem_insert_self _ _
        · exact Finset.mem_insert_of_mem (Finset.mem_singleton_self _))) $$ [Hcr HO Hat]
  · isplitr; · iexact HI
    isplitl [Hcr]; · unfold tallyAt; rw [tallyOn_add]; iexact Hcr
    isplitl [HO]; · iexact HO
    isplitr
    · iapply (BIBase.Entails.trans (ctx1_ctx K c) (ctx_may K 3 c {(SemLoc.reg barS, 1), (SemLoc.reg barS, 2)} (fun p hp => by
        rcases Finset.mem_insert.mp hp with rfl | hp
        · exact ⟨by decide, by decide⟩
        · rw [Finset.mem_singleton.mp hp]; exact ⟨by decide, by decide⟩))); iexact HC
    iexact Hat
  rw [wp_ret, Finset.sdiff_empty, duties_bar, bs_pair (by decide)]
  iintro ⟨HO, Hat, -, Hp0, Hp1⟩
  imod (tr_close (K (cell c (.reg barS))) c (.reg barS)) $$ [Hat] with Hv
  · isplitr; · iexact HI
    iexact Hat
  imodintro
  isplitl [Hp0]; · iapply (Entails.of_eq (show (Rd (F := F)).payload (cell c (.reg barS)) 0 0 = barPay c 0 from payload_bar c 0 0)); iexact Hp0
  isplitl [Hp1]; · iapply (Entails.of_eq (show (Rd (F := F)).payload (cell c (.reg barS)) 0 1 = barPay c 1 from payload_bar c 1 0)); iexact Hp1
  isplitl [Hv]; · iexact Hv
  isplitl [HO]; · iexists _; iexact HO
  iexact Hrest

/-! ### The products -/

variable (X : Memref sig .tc .vmem S4096x256 .i8) (W : Memref sig .tc .vmem S256x2048 .i8)

theorem tr_chunk (C : sProp 𝕄) [BI.Persistent C] (d : Fin 2) (k : Fin 16) {o : Fin 3 → ℕ} (h hp) (e : o = chO k) (v : FVec F S1x256x1024 .bf16) :
    Tr c C (chunkA c d k) (storeChunk (agM d) (agM_whole d) o h hp v) fun _ => chunkA c d k := by
  subst e
  exact Tr.bind (tr_load c C (agM d) _ _ _ fullShare (Finset.Subset.refl _)) fun _ =>
    tr_store c C (agM d) _ _ _ _ _ (Finset.Subset.refl _)

theorem tr_gemm (C : sProp 𝕄) [BI.Persistent C] (k : Fin 16) (ox hx) {o : Fin 3 → ℕ} (h hp) (e : o = chO k) (qx qw : PosShare TreeShare) :
    Tr c C iprop(whQ c X qx ∗ whQ c W qw ∗ chunkA c 0 k ∗ chunkA c 1 k) (gemmP X W (dirT 0 c) (dirT 1 c) ox hx o h hp : Pr F PUnit)
      fun _ => iprop(whQ c X qx ∗ whQ c W qw ∗ chunkA c 0 k ∗ chunkA c 1 k) := by
  unfold gemmP Tr
  iintro ⟨#HC, HX, HW, H0, H1⟩
  rw [wp_bind]
  iapply (Tr.use (tr_ldAny c C X _ _ qx)) $$ [HX]
  · isplitr; · iexact HC
    iexact HX
  iintro %vx HX
  rw [wp_bind]
  iapply (Tr.use (tr_ldAny c C W _ _ qw)) $$ [HW]
  · isplitr; · iexact HC
    iexact HW
  iintro %vw HW
  rw [wp_bind]
  iapply (Tr.use (tr_chunk c C 0 k h hp e _)) $$ [H0]
  · isplitr; · iexact HC
    iexact H0
  iintro %_ H0
  iapply (Tr.use (tr_chunk c C 1 k h hp e _)) $$ [H1]
  · isplitr; · iexact HC
    iexact H1
  iintro %_ H1
  isplitl [HX]; · iexact HX
  isplitl [HW]; · iexact HW
  isplitl [H0] <;> iassumption

theorem gk_mem : ∀ (p : Fin 16) (k : Fin 15) (d : Fin 2), ∃ i ∈ Finset.range 15, gkT p k.val = hop d p (i + 1) := by decide +kernel

include hG in
theorem tr_gemms (C : sProp 𝕄) [BI.Persistent C] (qx qw : PosShare TreeShare) :
    Tr c C iprop(whQ c X qx ∗ whQ c W qw ∗ chRest c 0 ∗ chRest c 1)
      (loop (fun k => gemmP X W (dirT 0 c) (dirT 1 c) (G.xk (Fin.ofNat 15 k)) (G.xk_inb _) (G.ck (Fin.ofNat 15 k)) (G.ck_inb _) (G.ck_pk _)) 0 15 : Pr F PUnit)
      fun _ => iprop(whQ c X qx ∗ whQ c W qw ∗ chRest c 0 ∗ chRest c 1) := by
  refine Tr.loop (fun _ => iprop(whQ c X qx ∗ whQ c W qw ∗ chRest c 0 ∗ chRest c 1)) _ 0 15 fun k _ _ => ?_
  obtain ⟨i, hi, ei⟩ := gk_mem (posT c) (Fin.ofNat 15 k) 0
  obtain ⟨j, hj, ej⟩ := gk_mem (posT c) (Fin.ofNat 15 k) 1
  unfold chRest
  rw [bs_erase hi, bs_erase hj, ← ei, ← ej]
  unfold Tr
  iintro ⟨#HC, HX, HW, ⟨H0, H1⟩, H2, H3⟩
  iapply (Tr.use (tr_gemm c X W C (gkT (posT c) (Fin.ofNat 15 k).val) _ _ _ _ (hG.ck _) qx qw)) $$ [HX HW H0 H2]
  · isplitr; · iexact HC
    isplitl [HX]; · iexact HX
    isplitl [HW]; · iexact HW
    isplitl [H0] <;> iassumption
  iintro %_ ⟨HX, HW, H0, H2⟩
  isplitl [HX]; · iexact HX
  isplitl [HW]; · iexact HW
  isplitl [H0 H1]; · isplitl [H0] <;> iassumption
  isplitl [H2] <;> iassumption

/-! ### The first copies -/

include hG in
theorem tr_rs0 (d g : Fin 2) (n : ℕ) (hn : n = 3 + 2 * d.val + g.val) :
    Tr c (Ctx2 K c) iprop(fre c 0 d g 0 ∗ segA c (agSg d (posT c) g) ∗ segA (peerT d c) (rxS d 0 g) ∗ paying n c)
      (rs0 G (dirT d c) g : Pr F PUnit) fun _ => iprop(pnd c 0 d g 0 ∗ paying (n + 1) c) := by
  subst hn
  have e := hG.own g
  have hsend := tr_send (F := F) K c (Ctx2 K c) (BI.Entails.refl _) 0 1 d 0 g (by omega) (Ev.rs d (Fin.ofNat 15 0) g)
    rfl rfl rfl rfl _ _ (semAt_rss d c 0 g) (semAt_rsr d c 0 g)
    (agV (dirT d c) (G.own g) (G.own_inb g)) (rxV (dirT d c) 0 g) (agV_we _ _ _ (G.own_ww g)) (rxV_we _ _ _)
    (nb_rx d 0 g) fullShare iprop(emp)
    (by rw [agV_eq d c _ e]; exact BI.Entails.refl _)
    (by show _ ⊢ rsrPay _ _ _ _; unfold rsrPay ride; exact BI.Entails.refl _)
  rw [← agV_eq d c (G.own_inb g) e]
  unfold Tr rs0 fre pnd
  iintro ⟨#HC, ⟨Hd, Hat⟩, H1, H2, Hp⟩
  iapply (Tr.use hsend) $$ [Hd H1 H2 Hp]
  · isplitr; · iexact HC
    isplitl [Hp]; · iexact Hp
    isplitl [H1]; · iexact H1
    isplitl [H2]; · iexact H2
    isplitr; · iempintro
    iexact Hd
  iintro %_ ⟨Hp, Hcr⟩
  isplitl [Hcr Hat]
  · isplitl [Hcr]; · iexact Hcr
    iexact Hat
  iexact Hp

end

end Cert.Kernel.Ring

end
-- ==== Proof.K.Enter.lean ====
module

public import proofs.«01_k».proof.Proof.K.Fund

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig ℕ (Elt F) ℕ UU ℕ

/-! The body between the launch's resources and the ones the pipeline gives and takes. -/

section Enter
variable (K : GSem nD τ sig → ℕ) (c : Dev nD)
variable (A0 : Memref sig .tc .vmem S4096x256 .i8) (h0 : A0.IsWhole) (A1 : Memref sig .tc .vmem S256x2048 .i8) (h1 : A1.IsWhole)
  (A2 : Memref sig .tc .smem S1 .f32) (h2 : A2.IsWhole) (A3 : Memref sig .tc .smem S1 .i32) (h3 : A3.IsWhole)
  (A4 : Memref sig .tc .smem S1 .i32) (h4 : A4.IsWhole) (A5 : Memref sig .tc .smem S1 .i32) (h5 : A5.IsWhole)
  (A6 : Memref sig .tc .vmem S4096x2048 .f32) (h6 : A6.IsWhole)
  (X0 : S4096x256.Idx → Elt F .i8) (X1 : S256x2048.Idx → Elt F .i8) (X2 : S1.Idx → Elt F .f32)
  (X3 X4 X5 : S1.Idx → Elt F .i32)

/-! ### A buffer lent by half -/

theorem owns_lend {sp : Space} {S : Shape} {e : EltTy} (M : Memref sig .tc sp S e) (X : S.Idx → Elt F e) :
    (owns (c : Thread nD τ) M fullShare X : sProp 𝕄) ⊢ iprop(owns (c : Thread nD τ) M hs' X ∗ whQ c M hs) := by
  unfold owns whQ holdM
  iintro ⟨%f, %hf, H⟩
  ihave H2 := (pointsTo_share (PosShare.mem_left_op_right fullShare)).1 $$ H
  icases H2 with ⟨H1, H2⟩
  isplitl [H2]
  · iexists f
    isplitr; · ipureintro; exact hf
    iexact H2
  iexists f; iexact H1

theorem owns_back {sp : Space} {S : Shape} {e : EltTy} (M : Memref sig .tc sp S e) (X : S.Idx → Elt F e) :
    (iprop(owns (c : Thread nD τ) M hs' X ∗ whQ c M hs) : sProp 𝕄) ⊢ owns (c : Thread nD τ) M fullShare X := by
  unfold owns whQ holdM
  iintro ⟨⟨%f, %hf, H2⟩, %f', H1⟩
  ihave %h := (pointsTo_agree) $$ [H1 H2]
  · isplitl [H1]; · iexact H1
    iexact H2
  iexists f
  isplitr; · ipureintro; exact hf
  iapply (pointsTo_share (PosShare.mem_left_op_right fullShare)).2
  isplitl [H1]
  · iapply (Entails.of_eq (pointsTo_congr (fun i hi => (h i (Finset.mem_inter.mpr ⟨hi, hi⟩)).1)))
    iexact H1
  · iexact H2

/-! ### The scratch buffers and the counters -/

def scratch : sProp 𝕄 :=
  iprop(whQ c (rxM 0) fullShare ∗ whQ c (rxM 1) fullShare ∗ whQ c (txM 0) fullShare ∗ whQ c (txM 1) fullShare
    ∗ whQ c (agM 0) fullShare ∗ whQ c (agM 1) fullShare)

theorem dirs_close : (iprop((dirZ c 0 ∗ dirZ c 1) ∗ (semVal (cell c (.reg (crS 0))) 0 ∗ semVal (cell c (.reg (crS 1))) 0)) : sProp 𝕄)
    ⊢ iprop(scratch c ∗ bigSep Finset.univ fun k : OIx => semVal (cell c (osem k)) 0) := by
  have e : (bigSep Finset.univ fun k : OIx => semVal (cell c (osem k)) 0 : sProp 𝕄)
      = iprop(((bigSep Finset.univ fun g : Fin 2 => bigSep Finset.univ fun k : Fin 4 => bigSep (Finset.range 15) (cls c k 0 g))
        ∗ (bigSep Finset.univ fun g : Fin 2 => bigSep Finset.univ fun k : Fin 4 => bigSep (Finset.range 15) (cls c k 1 g)))
        ∗ (semVal (cell c (.reg (crS 0))) 0 ∗ semVal (cell c (.reg (crS 1))) 0)) := by
    have e1 : (bigSep Finset.univ fun k : OIx => semVal (cell c (osem k)) 0 : sProp 𝕄)
        = iprop((bigSep Finset.univ fun x : Fin 4 × Fin 2 × Fin 15 × Fin 2 => semVal (dcell c x.1 x.2.1 x.2.2.1.val x.2.2.2) 0)
          ∗ bigSep Finset.univ fun d : Fin 2 => semVal (cell c (.reg (crS d))) 0) := BI.bigSep_univ_sum _
    rw [e1, bs_two, bigSep_univ_prod]
    have e2 : ∀ k : Fin 4, (bigSep Finset.univ fun b : Fin 2 × Fin 15 × Fin 2 => semVal (dcell c (k, b).1 (k, b).2.1 (k, b).2.2.1.val (k, b).2.2.2) 0 : sProp 𝕄)
        = bigSep Finset.univ fun d : Fin 2 => bigSep Finset.univ fun g : Fin 2 => bigSep (Finset.range 15) (cls c k d g) := fun k =>
      rows_dsg fun d s g => (semVal (dcell c k d s g) 0 : sProp 𝕄)
    rw [bigSep_congr fun k _ => e2 k, BI.bigSep_univ_comm, bs_two,
      BI.bigSep_univ_comm fun (k : Fin 4) (g : Fin 2) => bigSep (Finset.range 15) (cls c k 0 g),
      BI.bigSep_univ_comm fun (k : Fin 4) (g : Fin 2) => bigSep (Finset.range 15) (cls c k 1 g)]
  rw [e]
  unfold scratch dirZ
  iintro ⟨⟨⟨Z0, a0, r0, t0⟩, ⟨Z1, a1, r1, t1⟩⟩, S⟩
  isplitr [Z0 Z1 S]
  · isplitl [r0]; · iexact r0
    isplitl [r1]; · iexact r1
    isplitl [t0]; · iexact t0
    isplitl [t1]; · iexact t1
    isplitl [a0]; · iexact a0
    iexact a1
  isplitr [S]
  · isplitl [Z0]; · iexact Z0
    iexact Z1
  iexact S

/-- The scratch buffers and the launch share, as the body wants them. -/
theorem dirs_open : (iprop(scratch c ∗ entry c ∗ ∃ A, owes (c : Thread nD τ) (oweF 1 c) A) : sProp 𝕄)
    ⊢ iprop(paying 1 c ∗ barSt c ∗ (rxOwn c 0 ∗ rxOwn c 1) ∗ (dirB c 0 ∗ dirB c 1) ∗ lanesH c) := by
  unfold scratch entry paying dirB lanesH
  rw [lanes4_eq, lanes4_eq]
  iintro ⟨⟨r0, r1, t0, t1, a0, a1⟩, ⟨Ht, Hb, ⟨B0, B1⟩, ⟨⟨H0, H1⟩, ⟨H2, H3⟩⟩, ⟨c0, c1⟩⟩, HO⟩
  ihave r0 := (rx_open' c 0) $$ r0
  ihave r1 := (rx_open' c 1) $$ r1
  ihave t0 := (tx_open' c 0) $$ t0
  ihave t1 := (tx_open' c 1) $$ t1
  ihave a0 := (ag_open' c 0) $$ a0
  ihave a1 := (ag_open' c 1) $$ a1
  icases t0 with ⟨t00, t01⟩
  icases t1 with ⟨t10, t11⟩
  isplitl [HO Ht]
  · isplitl [HO]; · iexact HO
    iexact Ht
  isplitl [Hb]; · iexact Hb
  isplitl [r0 r1]
  · isplitl [r0]; · iexact r0
    iexact r1
  isplitr [H0 H1 H2 H3]
  · isplitl [B0 a0 t00 t01 c0]
    · isplitl [B0]; · iexact B0
      isplitl [a0]; · iexact a0
      isplitl [t00]; · iexact t00
      isplitl [t01]; · iexact t01
      iexact c0
    · isplitl [B1]; · iexact B1
      isplitl [a1]; · iexact a1
      isplitl [t10]; · iexact t10
      isplitl [t11]; · iexact t11
      iexact c1
  isplitl [H0]; · iexact H0
  isplitl [H1]; · iexact H1
  isplitl [H2]; · iexact H2
  iexact H3

/-! ### The body -/

/-- The seven windows' buffers. -/
def wins : sProp 𝕄 :=
  iprop(owns (c : Thread nD τ) A0 fullShare X0 ∗ owns (c : Thread nD τ) A1 fullShare X1 ∗ owns (c : Thread nD τ) A2 fullShare X2
    ∗ owns (c : Thread nD τ) A3 fullShare X3 ∗ owns (c : Thread nD τ) A4 fullShare X4 ∗ owns (c : Thread nD τ) A5 fullShare X5
    ∗ ∃ X, owns (c : Thread nD τ) A6 fullShare X)

theorem out_open : (iprop(∃ X, owns (c : Thread nD τ) A6 fullShare X) : sProp 𝕄) ⊢ whQ c A6 fullShare := by
  unfold owns whQ holdM
  iintro ⟨%X, %f, -, H⟩
  iexists f; iexact H
theorem out_close : (whQ c A6 fullShare : sProp 𝕄) ⊢ iprop(∃ X, owns (c : Thread nD τ) A6 fullShare X) := by
  unfold owns whQ holdM
  iintro ⟨%f, H⟩
  iexists (A6.view.read (Elt F) f)
  iexists f
  isplitr; · ipureintro; rfl
  iexact H

theorem body_enter (e3 : ∀ i, X3 i = posW c) (e4 : ∀ i, X4 i = devW (peerT 0 c)) (e5 : ∀ i, X5 i = devW (peerT 1 c)) :
    Tr c (Ctx1 K c) iprop(wins c A0 A1 A2 A3 A4 A5 A6 X0 X1 X2 X3 X4 X5 ∗ scratch c ∗ entry c ∗ ∃ A, owes (c : Thread nD τ) (oweF 1 c) A)
      (cc0_body A0 h0 A1 h1 A2 h2 A3 h3 A4 h4 A5 h5 A6 h6 (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10 cc0_scratch11 cc0_scratch12
        cc0_scratch13 cc0_scratch14 cc0_scratch15 : Pr F PUnit)
      fun _ => iprop(wins c A0 A1 A2 A3 A4 A5 A6 X0 X1 X2 X3 X4 X5 ∗ scratch c ∗ (bigSep Finset.univ fun k : OIx => semVal (cell c (osem k)) 0)
        ∗ semVal (cell c (.reg barS)) 0 ∗ ∃ A, owes (c : Thread nD τ) 0 A) := by
  rw [body_eq]
  have h := body_run K c A0 h0 A1 h1 A2 h2 A3 h3 A4 h4 A5 h5 A6 h6 X3 X4 X5 e3 e4 e5
  refine Tr.pre ?_ (Tr.post ?_ (Tr.keep iprop(owns (c : Thread nD τ) A0 hs' X0 ∗ owns (c : Thread nD τ) A1 hs' X1 ∗ owns (c : Thread nD τ) A2 hs' X2) h))
  · unfold wins ringPre
    iintro ⟨⟨W0, W1, W2, W3, W4, W5, W6⟩, H⟩
    ihave W0 := (owns_lend c A0 X0) $$ W0
    ihave W1 := (owns_lend c A1 X1) $$ W1
    ihave W2 := (owns_lend c A2 X2) $$ W2
    icases W0 with ⟨W0, L0⟩
    icases W1 with ⟨W1, L1⟩
    icases W2 with ⟨W2, L2⟩
    ihave W6 := (out_open c A6) $$ W6
    ihave H := (dirs_open c) $$ H
    icases H with ⟨Hp, Hb, Hr, Hd, Hl⟩
    isplitr [W0 W1 W2]
    · isplitl [W3]; · iexact W3
      isplitl [W4]; · iexact W4
      isplitl [W5]; · iexact W5
      isplitl [Hp]; · iexact Hp
      isplitl [Hb]; · iexact Hb
      isplitl [Hr]; · iexact Hr
      isplitl [Hd]; · iexact Hd
      isplitl [Hl]; · iexact Hl
      isplitl [L0]; · iexact L0
      isplitl [L1]; · iexact L1
      isplitl [L2]; · iexact L2
      iexact W6
    isplitl [W0]; · iexact W0
    isplitl [W1]; · iexact W1
    iexact W2
  · intro _
    unfold wins ringPost
    iintro ⟨⟨⟨W3, W4, W5⟩, Hz, ⟨Hb, Hc0, Hc1⟩, ⟨L0, L1, L2, W6⟩, HO⟩, W0, W1, W2⟩
    ihave W0 := (owns_back c A0 X0) $$ [W0 L0]
    · isplitl [W0] <;> iassumption
    ihave W1 := (owns_back c A1 X1) $$ [W1 L1]
    · isplitl [W1] <;> iassumption
    ihave W2 := (owns_back c A2 X2) $$ [W2 L2]
    · isplitl [W2] <;> iassumption
    ihave W6 := (out_close c A6) $$ W6
    ihave Hz := (dirs_close c) $$ [Hz Hc0 Hc1]
    · isplitl [Hz]; · iexact Hz
      isplitl [Hc0]; · iexact Hc0
      iexact Hc1
    icases Hz with ⟨Hs, Hk⟩
    isplitr [Hs Hk Hb HO]
    · isplitl [W0]; · iexact W0
      isplitl [W1]; · iexact W1
      isplitl [W2]; · iexact W2
      isplitl [W3]; · iexact W3
      isplitl [W4]; · iexact W4
      isplitl [W5]; · iexact W5
      iexact W6
    isplitl [Hs]; · iexact Hs
    isplitl [Hk]; · iexact Hk
    isplitl [Hb]; · iexact Hb
    iexact HO

end Enter

end Cert.Kernel.Ring

end
-- ==== Proof.K.Launch.lean ====
module

public import proofs.«01_k».proof.Proof.K.Enter
public import proofs.«01_k».proof.Proof.K.Words
public import proofs.«01_k».proof.Proof.Gen.Kernel.Points
public import Idealize.ShloMosaic.Lib.Pipeline.RegionTalk

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig ℕ (Elt F) ℕ UU ℕ

/-! The kernel call: what the pipeline finds and leaves, and the record of the call. -/

open Idealize.ShloMosaic.Pipeline (Dat BodyObligation)

variable (m : (ℓ : Loc nD τ sig) → Buf (Elt F) ℓ)

/-- What enters the body beside its buffers. -/
def Xk (c : Dev nD) : sProp 𝕄 := iprop(∃ K, Ctx1 K c ∗ entry c)
/-- What it leaves. -/
def Yk (c : Dev nD) : sProp 𝕄 := semVal (cell c (.reg barS)) 0
abbrev prng (c : Dev nD) : sProp 𝕄 := iprop(∃ r, prngReg c r)

def dat (c : Dev nD) : Dat τ (Elt F) ℕ ℕ UU ℕ cfg0 c where
  A w := V5 m c (Proc.devRef .tc (Pipeline.arrRef spec0 w))
  after w t := (cfg0.win w).fill (cfg0.grid.coords t) (Dat.unnamed w t) (((cfg0.win w).blk t).view.read (Elt F) (V5 m c (Proc.devRef .tc (Pipeline.arrRef spec0 w))))
  Φ t := if t.val = 0 then iprop(Xk c ∗ scratch c ∗ prng c)
    else iprop(Yk c ∗ (bigSep Finset.univ fun k : OIx => semVal (cell c (osem k)) 0) ∗ scratch c ∗ prng c)
  q _ := fullShare
  owed t := if t.val = 0 then oweF 1 c else 0

def pdats : (p : Fin 1) → (c : Dev nD) → Dat τ (Elt F) ℕ ℕ UU ℕ (Pipeline.pin (pcfgs (F := F)) adm p) c := fun p c => dat m c

/-- The result's window only is left at some contents. -/
def fgt (_ : Fin 1) (w : Fin 7) : Bool := decide (w = 6)

theorem owes_in (c : Dev nD) (t : Fin (cfg0.N + 1)) (O : CellTallies nD τ sig ℕ) (h : (dat m c).owed t = O) :
    (iprop(∃ W, owes (c : Thread nD τ) O W) : sProp 𝕄) ⊢ (dat m c).owesAt 0 t := by
  unfold Dat.owesAt Pipeline.owesWithin Dat.bound
  rw [h]
  iintro ⟨%W, H⟩
  iexists W
  isplitr
  · ipureintro; exact fun _ _ => Or.inl trivial
  · iexact H
theorem owes_out (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin
  rw [h]
  iintro ⟨%W, -, H⟩
  iexists W
  iexact H

theorem scratch_eq (c : Dev nD) : (Pipeline.scopedRest (Ix := ℕ) (Name := ℕ) (U := UU) (Lvl := ℕ) (Val := Elt F) spec0 c : sProp 𝕄) = scratch c := by
  rw [scopedRest0_eq]
  have h : ∀ b : Ref sig .tc, (Memref.whole b).view.set = Finset.univ := fun b => View.set_whole b
  unfold scratch whQ holdM rxM txM agM
  simp only [h]

theorem before_0 (c : Dev nD) (d) : (dat m c).before 0 t0_0 d = (dat m c).after 0 t0_0 := by
  unfold Dat.before; rw [if_pos (fetch0_0 _)]; rfl
theorem before_1 (c : Dev nD) (d) : (dat m c).before 1 t0_0 d = (dat m c).after 1 t0_0 := by
  unfold Dat.before; rw [if_pos (fetch0_1 _)]; rfl
theorem before_2 (c : Dev nD) (d) : (dat m c).before 2 t0_0 d = (dat m c).after 2 t0_0 := by
  unfold Dat.before; rw [if_pos (fetch0_2 _)]; rfl
theorem before_3 (c : Dev nD) (d) : (dat m c).before 3 t0_0 d = (dat m c).after 3 t0_0 := by
  unfold Dat.before; rw [if_pos (fetch0_3 _)]; rfl
theorem before_4 (c : Dev nD) (d) : (dat m c).before 4 t0_0 d = (dat m c).after 4 t0_0 := by
  unfold Dat.before; rw [if_pos (fetch0_4 _)]; rfl
theorem before_5 (c : Dev nD) (d) : (dat m c).before 5 t0_0 d = (dat m c).after 5 t0_0 := by
  unfold Dat.before; rw [if_pos (fetch0_5 _)]; rfl

/-! ### The three words -/

theorem word_read_3 (A : S1.Idx → Elt F .i32) (x : Elt F .i32) (h : ∀ i, A i = x) (d : S1.Idx → Elt F .i32) (i : S1.Idx) :
    (cfg0.win 3).fill (cfg0.grid.coords t0_0) d (((cfg0.win 3).blk t0_0).view.read (Elt F) A) i = x := by
  show ((cfg0.win 3).blk t0_0).view.read (Elt F) A i = x
  rw [View.read_apply]
  exact eq_of_heq ((cast_heq _ _).trans (heq_of_eq (h _)))

theorem staged_3 (c : Dev nD) (i : S1.Idx) : ((dat m c).after 3 t0_0 : S1.Idx → Elt F .i32) i = posW c :=
  word_read_3 (V5 m c main_v24) _ (word_pos m c) (Dat.unnamed (Val := Elt F) (cfg := cfg0) 3 t0_0) i

theorem word_read_4 (A : S1.Idx → Elt F .i32) (x : Elt F .i32) (h : ∀ i, A i = x) (d : S1.Idx → Elt F .i32) (i : S1.Idx) :
    (cfg0.win 4).fill (cfg0.grid.coords t0_0) d (((cfg0.win 4).blk t0_0).view.read (Elt F) A) i = x := by
  show ((cfg0.win 4).blk t0_0).view.read (Elt F) A i = x
  rw [View.read_apply]
  exact eq_of_heq ((cast_heq _ _).trans (heq_of_eq (h _)))

theorem staged_4 (c : Dev nD) (i : S1.Idx) : ((dat m c).after 4 t0_0 : S1.Idx → Elt F .i32) i = devW (peerT 0 c) :=
  word_read_4 (V5 m c main_v25) _ (word_right m c) (Dat.unnamed (Val := Elt F) (cfg := cfg0) 4 t0_0) i

theorem word_read_5 (A : S1.Idx → Elt F .i32) (x : Elt F .i32) (h : ∀ i, A i = x) (d : S1.Idx → Elt F .i32) (i : S1.Idx) :
    (cfg0.win 5).fill (cfg0.grid.coords t0_0) d (((cfg0.win 5).blk t0_0).view.read (Elt F) A) i = x := by
  show ((cfg0.win 5).blk t0_0).view.read (Elt F) A i = x
  rw [View.read_apply]
  exact eq_of_heq ((cast_heq _ _).trans (heq_of_eq (h _)))

theorem staged_5 (c : Dev nD) (i : S1.Idx) : ((dat m c).after 5 t0_0 : S1.Idx → Elt F .i32) i = devW (peerT 1 c) :=
  word_read_5 (V5 m c main_v26) _ (word_left m c) (Dat.unnamed (Val := Elt F) (cfg := cfg0) 5 t0_0) i

/-! ### The body at its one point -/

abbrev pts (c : Dev nD) : sProp 𝕄 :=
  wins c (st0_0 t0_0) (st0_1 t0_0) (st0_2 t0_0) (st0_3 t0_0) (st0_4 t0_0) (st0_5 t0_0) (st0_6 t0_0)
    ((dat m c).after 0 t0_0) ((dat m c).after 1 t0_0) ((dat m c).after 2 t0_0) ((dat m c).after 3 t0_0) ((dat m c).after 4 t0_0) ((dat m c).after 5 t0_0)

def preB (c : Dev nD) : sProp 𝕄 := iprop((Xk c ∗ scratch c ∗ prng c) ∗ (∃ A, owes (c : Thread nD τ) (oweF 1 c) A) ∗ pts m c)
def postB (c : Dev nD) : sProp 𝕄 := iprop((Yk c ∗ (bigSep Finset.univ fun k : OIx => semVal (cell c (osem k)) 0) ∗ scratch c ∗ prng c) ∗ (∃ A, owes (c : Thread nD τ) 0 A) ∗ pts m c)

theorem body_at (c : Dev nD) : preB m c ⊢ wp frame (wpE (defs₀ (F := F)) 𝒱₀ (c : Thread nD τ) none) Set.univ (bodyAt0 t0_0 : Pr F PUnit) fun _ => postB m c := by
  unfold preB Xk
  iintro ⟨⟨⟨%K, #HC, HE⟩, HS, HP⟩, HO, HW⟩
  have h := (body_enter K c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0)
    (st0_6 t0_0) (hstage0_6 0) ((dat m c).after 0 t0_0) ((dat m c).after 1 t0_0) ((dat m c).after 2 t0_0) ((dat m c).after 3 t0_0) ((dat m c).after 4 t0_0) ((dat m c).after 5 t0_0)
    (staged_3 m c) (staged_4 m c) (staged_5 m c)).keep (prng c)
  have h' := h.post (Q' := fun _ => postB m c) (fun _ => by
    unfold postB Yk
    iintro ⟨⟨HW, HS, Hv, Hb, HO⟩, HP⟩
    isplitl [HS Hv Hb HP]
    · isplitl [Hb]; · iexact Hb
      isplitl [Hv]; · iexact Hv
      isplitl [HS] <;> iassumption
    isplitl [HO] <;> iassumption)
  unfold Tr at h'
  iapply h'
  isplitr; · iexact HC
  isplitr [HP]
  · isplitl [HW]; · iexact HW
    isplitl [HS]; · iexact HS
    isplitl [HE]; · iexact HE
    iexact HO
  · iexact HP

theorem body_call (t : Fin cfg0.N) : (defs₀ (F := F)) .tc cfg0.body (cfg0.bodyArgs t (cfg0.slots t)) = bodyAt0 t := rfl

theorem body_wp (c : Dev nD) {α : Type} (e : α = PUnit) (q : Pr F α) (hq : HEq q (bodyAt0 t0_0 : Pr F PUnit)) {A' B' : sProp 𝕄} (h1 : A' ⊢ preB m c) (h2 : postB m c ⊢ B') :
    A' ⊢ wp frame (wpE (defs₀ (F := F)) 𝒱₀ (c : Thread nD τ) none) Set.univ q fun _ => B' := by
  subst e
  cases hq
  exact BIBase.Entails.trans h1 (BIBase.Entails.trans (body_at m c) (wp_mono frame (wpE (defs₀ (F := F)) 𝒱₀ (c : Thread nD τ) none) Set.univ fun _ => h2))

theorem body0 (c : Dev nD) : BodyObligation (dat m c) (defs₀ (F := F)) 𝒱₀ 0 Set.univ (fgt 0) := fun t => by
  obtain rfl := fin_N0 t
  rw [bigSep_W0, bigSep_W0]
  refine body_wp m c ?e _ ?hq ?h1 ?h2
  case e => rfl
  case hq => exact heq_of_eq (body_call t0_0)
  case h1 =>
    unfold preB
    dsimp only [fgt]
    simp only [before_0 m c, before_1 m c, before_2 m c, before_3 m c, before_4 m c, before_5 m c, Fin.reduceEq, decide_false, decide_true]
    unfold pts wins
    show iprop((Xk c ∗ scratch c ∗ prng c) ∗ _) ⊢ _
    iintro ⟨HX, HO, ⟨%_, W0⟩, ⟨%_, W1⟩, ⟨%_, W2⟩, ⟨%_, W3⟩, ⟨%_, W4⟩, ⟨%_, W5⟩, W6⟩
    isplitl [HX]; · iexact HX
    isplitl [HO]; · iapply (owes_out m c (t0_0 : Fin cfg0.N).castSucc (oweF 1 c) rfl); iexact HO
    isplitl [W0]; · iexact W0
    isplitl [W1]; · iexact W1
    isplitl [W2]; · iexact W2
    isplitl [W3]; · iexact W3
    isplitl [W4]; · iexact W4
    isplitl [W5]; · iexact W5
    iexact W6
  case h2 =>
    unfold postB
    dsimp only [fgt]
    simp only [Fin.reduceEq, decide_false, decide_true]
    unfold pts wins
    show _ ⊢ iprop((Yk c ∗ (bigSep Finset.univ fun k : OIx => semVal (cell c (osem k)) 0) ∗ scratch c ∗ prng c) ∗ _)
    iintro ⟨HX, HO, W0, W1, W2, W3, W4, W5, W6⟩
    isplitl [HX]; · iexact HX
    isplitl [HO]; · iapply (owes_in m c (t0_0 : Fin cfg0.N).succ 0 rfl); iexact HO
    isplitl [W0]; · iexact W0
    isplitl [W1]; · iexact W1
    isplitl [W2]; · iexact W2
    isplitl [W3]; · iexact W3
    isplitl [W4]; · iexact W4
    isplitl [W5]; · iexact W5
    iexact W6

theorem ho0 : Pipeline.OwnSemFacts spec0 osem where
  isScoped := by decide +kernel
  inj := by decide +kernel
  disj := by decide +kernel

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then oweF 1 c else 0 := rfl
  rw [e] at h
  split at h
  · obtain ⟨_, hi, h0, hg⟩ := oweF_pos h
    refine ⟨?_, h0⟩
    unfold L
    rw [if_pos hg]
    exact Finset.mem_range.mpr hi
  · exact absurd h (Nat.lt_irrefl 0)

/-- What the launch leaves a device for the call. -/
def Tk (c : Dev nD) : sProp 𝕄 :=
  iprop(∃ K : GSem nD τ sig → ℕ, (bigSep Finset.univ fun x : Dev nD × CIx => cellInv ER (Rd (F := F)) (K (cell x.1 (smOf x.2))) (cell x.1 (smOf x.2)))
    ∗ (bigSep Finset.univ fun c : Dev nD => reached ER (cell c (.reg barS)) 0) ∗ share c
    ∗ bigSep Finset.univ fun e : Ev => cred (tallyAt (cell c e.sem) e.tm e.amt))

theorem own_eq (c : Dev nD) : (Pipeline.ownSems0 osem c : sProp 𝕄) = bigSep Finset.univ fun k : OIx => semVal (cell c (osem k)) 0 := rfl

theorem open_call (c : Dev nD) : (iprop(Tk c ∗ Pipeline.ownSems0 osem c ∗ levAts L lv) : sProp 𝕄) ⊢ iprop(|={Set.univ}=> Xk c) := by
  rw [own_eq]
  unfold Tk Xk
  iintro ⟨⟨%K, HI, HR, HS, HC⟩, Hv, HL⟩
  imod (open_share K c) $$ [HI HR HS HC Hv HL] with H
  · isplitl [HI HR HL]
    · unfold Ctx
      isplitl [HI]; · iexact HI
      isplitl [HR] <;> iassumption
    isplitl [HS]; · iexact HS
    isplitl [HC]; · iexact HC
    iexact Hv
  imodintro
  iexists K
  iexact H

theorem call_in (c : Dev nD) : (iprop(Pipeline.scopedRest (Pipeline.pin (pcfgs (F := F)) adm 0).spec c ∗ (∃ r, prngReg c r)
    ∗ StableHlo.held (c.tc : Thread nD τ) ∅ (V5 m c) ∗ Xk c) : sProp 𝕄) ⊢ (pdats m 0 c).Φ 0 := by
  show _ ⊢ iprop(Xk c ∗ scratch c ∗ prng c)
  rw [show (Pipeline.scopedRest (Pipeline.pin (pcfgs (F := F)) adm 0).spec c : sProp 𝕄) = scratch c from scratch_eq c]
  iintro ⟨Hs, Hp, -, HX⟩
  isplitl [HX]; · iexact HX
  isplitl [Hs] <;> iassumption

theorem call_out (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r)
      ∗ (∃ W' : Valuation τ sig (Elt F), ⌜True⌝ ∗ StableHlo.held (c.tc : Thread nD τ) ∅ W') ∗ Pipeline.ownSems0 osem c ∗ Yk c) : sProp 𝕄) := by
  show iprop(Yk c ∗ (bigSep Finset.univ fun k : OIx => semVal (cell c (osem k)) 0) ∗ scratch c ∗ prng c) ⊢ _
  rw [show (Pipeline.scopedRest (Pipeline.pin (pcfgs (F := F)) adm 0).spec c : sProp 𝕄) = scratch c from scratch_eq c, own_eq]
  iintro ⟨HY, Hv, Hs, Hp⟩
  isplitl [Hs]; · iexact Hs
  isplitl [Hp]; · iexact Hp
  isplitr
  · iexists (V5 m c)
    isplitr; · ipureintro; trivial
    unfold StableHlo.held
    rw [BI.bigSep_empty]
    iempintro
  isplitl [Hv]; · iexact Hv
  iexact HY

/-- The unscoped buffers that are no window's array. -/
abbrev Sr : Finset (DevRef τ sig) := Pipeline.ucRefs τ sig \ Pipeline.arrRefs (τ := τ) (pcfgs (F := F) 0).spec

set_option backward.isDefEq.respectTransparency.types false in
set_option maxRecDepth 1024 in
def reg0 : Pipeline.RDat.RegionSeg (pcfgs (F := F)) adm (Pipeline.toRsF (pcfgs (F := F)) adm (pdats m) fgt) 0 defs₀ 𝒱₀ L lv 0 :=
  Pipeline.RDat.RegionSeg.ofTalkF (pcfgs (F := F)) adm (pdats m) 0 defs₀ 𝒱₀ L lv 0 fgt osem ho0 ∅ (Sr (F := F)) (Finset.empty_subset _) kit0 rfl
    (fun c => (body0 m c).loose) (fun _ => 0) (oweF 1) (fun c => (zero_add _).symm) (fun _ => rfl) (fun _ => rfl) (fun _ _ => ite_self _)
    (V5 m) (fun _ _ => True) Tk Yk Xk Yk open_call (call_in m) (call_out m) (fun c => by iintro H; imodintro; iexact H)
    (fun _ => 0) ⟨fun c w s => by rw [L_tc]; exact Finset.mem_range.mpr (by decide), fun _ _ _ => Nat.le_refl 0, cut m⟩ (fun _ => iprop(emp)) (fun _ _ => rfl)

end Cert.Kernel.Ring

end
-- ==== Proof.Ki.Program.lean ====
module

public import proofs.«01_k».proof.Proof.Gen.KernelIdeal.Skeleton

@[expose] public section

noncomputable section

namespace Cert.KernelIdeal.Ring

open Idealize.ShloMosaic Idealize.SL.Sem
open Cert.KernelIdeal Cert.KernelIdeal.Gen

variable {F : FTy → Type} [FloatOps F]

/-! The kernel body, written again as two loops over ring steps. One iteration treats the two directions
and the two row segments alike, so each fragment below is stated once, for a direction bundle `Dir`, a
segment and a step. -/

/-- A program of the kernel's core. -/
abbrev Pr (F : FTy → Type) [FloatOps F] (α : Type) : Type 1 := Prog (TpuEff nD τ sig (Elt F) Λ₀ .tc) α

/-- `f k`, `f (k + 1)`, …, `n` of them, one after the other. -/
def loop (f : ℕ → Pr F PUnit) : ℕ → ℕ → Pr F PUnit
  | _, 0 => pure ⟨⟩
  | k, n + 1 => f k >>= fun _ => loop f (k + 1) n

/-- What one direction of the ring works with. -/
structure Dir where
  /-- The receive slots. -/
  rx : Memref sig .tc .vmem S4x256x1024 .bf16
  hrx : rx.IsWhole
  /-- The two transmit buffers. -/
  tx : Memref sig .tc .vmem S2x256x1024 .bf16
  htx : tx.IsWhole
  /-- The chunks of this direction's columns. -/
  ag : Memref sig .tc .vmem S16x256x1024 .bf16
  hag : ag.IsWhole
  rss : DmaSems sig S15x2
  rsr : DmaSems sig S15x2
  ags : DmaSems sig S15x2
  agr : DmaSems sig S15x2
  credit : Sems sig S_
  /-- The device this direction sends to. -/
  peer : Dev nD
  /-- The device this direction receives from. -/
  up : Dev nD

/-- The offsets at which the body addresses its buffers, with the facts the operations ask of them. -/
structure Geo where
  x0 : Fin 2 → ℕ
  x0_inb : ∀ a, x0 a + S256x256.size a ≤ S4096x256.size a
  c0 : Fin 3 → ℕ
  c0_inb : ∀ a, c0 a + S1x256x1024.size a ≤ S16x256x1024.size a
  c0_pk : (Rect.unit (s := S16x256x1024) c0 S1x256x1024.size c0_inb).PackedRows (EltTy.packing .bf16)
  xk : Fin 15 → Fin 2 → ℕ
  xk_inb : ∀ k a, xk k a + S256x256.size a ≤ S4096x256.size a
  ck : Fin 15 → Fin 3 → ℕ
  ck_inb : ∀ k a, ck k a + S1x256x1024.size a ≤ S16x256x1024.size a
  ck_pk : ∀ k, (Rect.unit (s := S16x256x1024) (ck k) S1x256x1024.size (ck_inb k)).PackedRows (EltTy.packing .bf16)
  own : Fin 2 → Fin 3 → ℕ
  own_inb : ∀ g a, own g a + S1x128x1024.size a ≤ S16x256x1024.size a
  own_ww : ∀ g, (Rect.unit (s := S16x256x1024) (own g) S1x128x1024.size (own_inb g)).WholeWords (EltTy.packing .bf16)
  rin : Fin 30 → Fin 2 → Fin 3 → ℕ
  rin_inb : ∀ r g a, rin r g a + S1x128x1024.size a ≤ S16x256x1024.size a
  rin_pk : ∀ r g, (Rect.unit (s := S16x256x1024) (rin r g) S1x128x1024.size (rin_inb r g)).PackedRows (EltTy.packing .bf16)
  fin : Fin 2 → Fin 2 → Fin 2 → ℕ
  fin_inb : ∀ d g a, fin d g a + S128x1024.size a ≤ S4096x2048.size a
  snd : Fin 30 → Fin 2 → Fin 3 → ℕ
  snd_inb : ∀ r g a, snd r g a + S1x128x1024.size a ≤ S16x256x1024.size a
  snd_ww : ∀ r g, (Rect.unit (s := S16x256x1024) (snd r g) S1x128x1024.size (snd_inb r g)).WholeWords (EltTy.packing .bf16)
  ld : Fin 30 → Fin 2 → Fin 3 → ℕ
  ld_inb : ∀ r g a, ld r g a + S1x128x1024.size a ≤ S16x256x1024.size a
  out : Fin 15 → Fin 2 → Fin 2 → Fin 2 → ℕ
  out_inb : ∀ s d g a, out s d g a + S128x1024.size a ≤ S4096x2048.size a

/-- The row of an offset table a step and a direction name: the steps in order, the directions within. -/
def row (s : ℕ) (d : Fin 2) : Fin 30 := Fin.ofNat 30 (2 * s + d.val)

theorem rx_inb (j : Fin 4) (g : Fin 2) : ∀ a, (![j.val, 128 * g.val, 0] : Fin 3 → ℕ) a + S1x128x1024.size a ≤ S4x256x1024.size a := by
  revert j g; decide

theorem tx_inb (j : Fin 2) (g : Fin 2) : ∀ a, (![j.val, 128 * g.val, 0] : Fin 3 → ℕ) a + S1x128x1024.size a ≤ S2x256x1024.size a := by
  revert j g; decide

theorem sem_inb (s : Fin 15) (g : Fin 2) : ∀ a, (![s.val, g.val] : Fin 2 → ℕ) a + S1x1.size a ≤ S15x2.size a := by
  revert s g; decide

/-- The semaphore of an array that belongs to a step and a segment. -/
def semAt (A : DmaSems sig S15x2) (s : ℕ) (g : Fin 2) : DmaSem sig :=
  ((A.slice (Rect.unit (s := S15x2) ![(Fin.ofNat 15 s).val, g.val] S1x1.size (sem_inb _ _))).squeeze S_ squeezes_S1x1_S_).sem

/-- A segment of a receive slot. -/
def rxV (D : Dir) (j : ℕ) (g : Fin 2) : Memref sig .tc .vmem S128x1024 .bf16 :=
  (D.rx.slice (Rect.unit (s := S4x256x1024) ![(Fin.ofNat 4 j).val, 128 * g.val, 0] S1x128x1024.size (rx_inb _ _)) (fun _ => rfl)).squeeze
    S128x1024 squeezes_S1x128x1024_S128x1024

/-- A segment of a transmit buffer. -/
def txV (D : Dir) (j : ℕ) (g : Fin 2) : Memref sig .tc .vmem S128x1024 .bf16 :=
  (D.tx.slice (Rect.unit (s := S2x256x1024) ![(Fin.ofNat 2 j).val, 128 * g.val, 0] S1x128x1024.size (tx_inb _ _)) (fun _ => rfl)).squeeze
    S128x1024 squeezes_S1x128x1024_S128x1024

/-- A segment of a chunk. -/
def agV (D : Dir) (o : Fin 3 → ℕ) (h : ∀ a, o a + S1x128x1024.size a ≤ S16x256x1024.size a) : Memref sig .tc .vmem S128x1024 .bf16 :=
  (D.ag.slice (Rect.unit (s := S16x256x1024) o S1x128x1024.size h) (fun _ => rfl)).squeeze S128x1024 squeezes_S1x128x1024_S128x1024

theorem rx_ww (j : Fin 4) (g : Fin 2) :
    (Rect.unit (s := S4x256x1024) ![j.val, 128 * g.val, 0] S1x128x1024.size (rx_inb j g)).WholeWords (EltTy.packing .bf16) := by
  match j, g with
  | 0, 0 => exact wordsbf16_S4x256x1024_S1x128x1024_0_0_0
  | 0, 1 => exact wordsbf16_S4x256x1024_S1x128x1024_0_128_0
  | 1, 0 => exact wordsbf16_S4x256x1024_S1x128x1024_1_0_0
  | 1, 1 => exact wordsbf16_S4x256x1024_S1x128x1024_1_128_0
  | 2, 0 => exact wordsbf16_S4x256x1024_S1x128x1024_2_0_0
  | 2, 1 => exact wordsbf16_S4x256x1024_S1x128x1024_2_128_0
  | 3, 0 => exact wordsbf16_S4x256x1024_S1x128x1024_3_0_0
  | 3, 1 => exact wordsbf16_S4x256x1024_S1x128x1024_3_128_0

theorem tx_ww (j : Fin 2) (g : Fin 2) :
    (Rect.unit (s := S2x256x1024) ![j.val, 128 * g.val, 0] S1x128x1024.size (tx_inb j g)).WholeWords (EltTy.packing .bf16) := by
  match j, g with
  | 0, 0 => exact wordsbf16_S2x256x1024_S1x128x1024_0_0_0
  | 0, 1 => exact wordsbf16_S2x256x1024_S1x128x1024_0_128_0
  | 1, 0 => exact wordsbf16_S2x256x1024_S1x128x1024_1_0_0
  | 1, 1 => exact wordsbf16_S2x256x1024_S1x128x1024_1_128_0

theorem tx_pk (j : Fin 2) (g : Fin 2) :
    (Rect.unit (s := S2x256x1024) ![j.val, 128 * g.val, 0] S1x128x1024.size (tx_inb j g)).PackedRows (EltTy.packing .bf16) := by
  match j, g with
  | 0, 0 => exact packedbf16_S2x256x1024_S1x128x1024_0_0_0
  | 0, 1 => exact packedbf16_S2x256x1024_S1x128x1024_0_128_0
  | 1, 0 => exact packedbf16_S2x256x1024_S1x128x1024_1_0_0
  | 1, 1 => exact packedbf16_S2x256x1024_S1x128x1024_1_128_0

/-- The sum of a chunk's segment and what a receive slot brought, rounded to the transmit type. -/
def accP (a b : Vec F S1x128x1024 .bf16) : FVec F S1x128x1024 .bf16 := k0_pay53 a b
/-- The finished rows: the sum scaled and cut off at zero. -/
def finP (a b : Vec F S1x128x1024 .bf16) (c : Elt F .f32) : FVec F S128x1024 .f32 := k0_pay125 a b c
/-- The finished rows as the gather phase sends them. -/
def finB (a b : Vec F S1x128x1024 .bf16) (c : Elt F .f32) : FVec F S1x128x1024 .bf16 := k0_pay126 a b c
/-- A gathered segment, widened. -/
def outP (a : Vec F S1x128x1024 .bf16) : FVec F S128x1024 .f32 := k0_pay135 a

/-- Start a remote copy of one segment. -/
def sendP (src dst : Memref sig .tc .vmem S128x1024 .bf16) (hs : src.view.WordExact) (hd : dst.view.WordExact) (p : Dev nD)
    (sS sR : DmaSem sig) : Pr F PUnit :=
  Prog.lift (.enqueueDma src (.remote (Dev.tc p) dst (.dma sS)) (.dma sR) hs hd ⟨⟨rfl, Or.inl rfl⟩, trivial⟩)

/-- Wait for one segment's bytes. -/
def waitP (s : DmaSem sig) (src dst : Memref sig .tc .vmem S128x1024 .bf16) (hs : src.view.WordExact) (hd : dst.view.WordExact) :
    Pr F PUnit :=
  Prog.lift (.waitDma2 s src dst hs hd)

theorem rxV_we (D : Dir) (j : ℕ) (g : Fin 2) : (rxV D j g).view.WordExact :=
  (D.hrx.wordExact_slice rfl _ (rx_ww _ g)).reshape _ _
theorem txV_we (D : Dir) (j : ℕ) (g : Fin 2) : (txV D j g).view.WordExact :=
  (D.htx.wordExact_slice rfl _ (tx_ww _ g)).reshape _ _
theorem agV_we (D : Dir) (o : Fin 3 → ℕ) (h : ∀ a, o a + S1x128x1024.size a ≤ S16x256x1024.size a)
    (hw : (Rect.unit (s := S16x256x1024) o S1x128x1024.size h).WholeWords (EltTy.packing .bf16)) : (agV D o h).view.WordExact :=
  (D.hag.wordExact_slice rfl _ hw).reshape _ _

/-- Store the two column halves of one product chunk. -/
def storeChunk (M : Memref sig .tc .vmem S16x256x1024 .bf16) (hM : M.IsWhole) (o : Fin 3 → ℕ)
    (h : ∀ a, o a + S1x256x1024.size a ≤ S16x256x1024.size a)
    (hp : (Rect.unit (s := S16x256x1024) o S1x256x1024.size h).PackedRows (EltTy.packing .bf16)) (v : FVec F S1x256x1024 .bf16) : Pr F PUnit := do
  let _ ← Prog.lift (.load M (Rect.unit (s := S16x256x1024) o S1x256x1024.size h).toLoadRect (View.loadsAt_vmem h_S1x256x1024))
  Prog.lift (.store M (Rect.unit (s := S16x256x1024) o S1x256x1024.size h) v Finset.univ
    (View.stores_vmem h_S1x256x1024 (hM.storeExact_slice rfl _ hp) (fun _ => rfl)) (.inl rfl))

/-- One product chunk: rows `ox` of the first operand, stored at `oc` of both directions' chunk arrays. -/
def gemmP (X : Memref sig .tc .vmem S4096x256 .i8) (W : Memref sig .tc .vmem S256x2048 .i8) (D E : Dir)
    (ox : Fin 2 → ℕ) (hx : ∀ a, ox a + S256x256.size a ≤ S4096x256.size a)
    (o : Fin 3 → ℕ) (h : ∀ a, o a + S1x256x1024.size a ≤ S16x256x1024.size a)
    (hp : (Rect.unit (s := S16x256x1024) o S1x256x1024.size h).PackedRows (EltTy.packing .bf16)) : Pr F PUnit := do
  let x ← Prog.lift (.load X (Rect.unit (s := S4096x256) ox S256x256.size hx).toLoadRect (View.loadsAt_vmem h_S256x256))
  let w ← Prog.lift (.load W (Rect.unit (s := S256x2048) ![0, 0] S256x2048.size inb_S256x2048_S256x2048_0_0).toLoadRect (View.loadsAt_vmem h_S256x2048))
  storeChunk D.ag D.hag o h hp (k0_pay2 x w)
  storeChunk E.ag E.hag o h hp (k0_pay3 x w)

/-- The reduce phase's first send: the own chunk's segment. -/
def rs0 (G : Geo) (D : Dir) (g : Fin 2) : Pr F PUnit :=
  sendP (agV D (G.own g) (G.own_inb g)) (rxV D 0 g) (agV_we D _ _ (G.own_ww g)) (rxV_we D 0 g) D.peer (semAt D.rss 0 g) (semAt D.rsr 0 g)

/-- The wait for what the reduce phase's step `s` brings. -/
def rsW (G : Geo) (D : Dir) (s : ℕ) (g : Fin 2) : Pr F PUnit :=
  match s with
  | 0 => waitP (semAt D.rsr 0 g) (agV D (G.own g) (G.own_inb g)) (rxV D 0 g) (agV_we D _ _ (G.own_ww g)) (rxV_we D 0 g)
  | s + 1 => waitP (semAt D.rsr (s + 1) g) (txV D (s + 1) g) (rxV D (s + 1) g) (txV_we D _ g) (rxV_we D _ g)

/-- The wait for the reduce phase's own send of step `s` to have left. -/
def rsS (G : Geo) (D : Dir) (s : ℕ) (g : Fin 2) : Pr F PUnit :=
  match s with
  | 0 => waitP (semAt D.rss 0 g) (rxV D 0 g) (agV D (G.own g) (G.own_inb g)) (rxV_we D 0 g) (agV_we D _ _ (G.own_ww g))
  | s + 1 => waitP (semAt D.rss (s + 1) g) (rxV D (s + 1) g) (txV D (s + 1) g) (rxV_we D _ g) (txV_we D _ g)

/-- The two loads of a reduce step. -/
def ldIn (G : Geo) (D : Dir) (d : Fin 2) (s : ℕ) (g : Fin 2) : Pr F (Vec F S1x128x1024 .bf16) :=
  Prog.lift (.load D.ag (Rect.unit (s := S16x256x1024) (G.rin (row s d) g) S1x128x1024.size (G.rin_inb _ g)).toLoadRect (View.loadsAt_vmem h_S1x128x1024))
def ldRx (D : Dir) (s : ℕ) (g : Fin 2) : Pr F (Vec F S1x128x1024 .bf16) :=
  Prog.lift (.load D.rx (Rect.unit (s := S4x256x1024) ![(Fin.ofNat 4 s).val, 128 * g.val, 0] S1x128x1024.size (rx_inb _ _)).toLoadRect (View.loadsAt_vmem h_S1x128x1024))

/-- The transmit buffer of step `s` takes the sum. -/
def stTx (D : Dir) (s : ℕ) (g : Fin 2) (v : FVec F S1x128x1024 .bf16) : Pr F PUnit := do
  let _ ← Prog.lift (.load D.tx (Rect.unit (s := S2x256x1024) ![(Fin.ofNat 2 s).val, 128 * g.val, 0] S1x128x1024.size (tx_inb _ _)).toLoadRect (View.loadsAt_vmem h_S1x128x1024))
  Prog.lift (.store D.tx (Rect.unit (s := S2x256x1024) ![(Fin.ofNat 2 s).val, 128 * g.val, 0] S1x128x1024.size (tx_inb _ _)) v Finset.univ
    (View.stores_vmem h_S1x128x1024 (D.htx.storeExact_slice rfl _ (tx_pk _ g)) (fun _ => rfl)) (.inl rfl))

/-- A program run where a flag is set. -/
def opt (b : Bool) (p : Pr F PUnit) : Pr F PUnit := match b with | true => p | false => pure ⟨⟩

/-- A reduce step below the last: what came in is added to the own chunk and sent on. -/
def rsStep (G : Geo) (D : Dir) (d : Fin 2) (s : ℕ) (g : Fin 2) : Pr F PUnit := do
  rsW G D s g
  opt (Nat.ble g.val 0 && Nat.ble 3 s) (semWaitWord D.credit.sem 1#32)
  opt (Nat.ble 1 s) (rsS G D (s - 1) g)
  let a ← ldIn G D d s g
  let b ← ldRx D s g
  stTx D (s + 1) g (accP a b)
  sendP (txV D (s + 1) g) (rxV D (s + 1) g) (txV_we D _ g) (rxV_we D _ g) D.peer (semAt D.rss (s + 1) g) (semAt D.rsr (s + 1) g)

/-- The last reduce step: the finished rows. -/
def rsLast (G : Geo) (S : Memref sig .tc .smem S1 .f32) (O : Memref sig .tc .vmem S4096x2048 .f32) (D : Dir) (d : Fin 2) (g : Fin 2) : Pr F PUnit := do
  rsW G D 14 g
  let a ← ldIn G D d 14 g
  let b ← ldRx D 14 g
  let c ← smemLoad S (Rect.unit (s := S1) ![0] S1.size inb_S1_S1_0) numel1_S1 rfl
  let _ ← Prog.lift (.load O (Rect.unit (s := S4096x2048) (G.fin d g) S128x1024.size (G.fin_inb d g)).toLoadRect (View.loadsAt_vmem h_S128x1024))
  Prog.lift (.store O (Rect.unit (s := S4096x2048) (G.fin d g) S128x1024.size (G.fin_inb d g)) (finP a b c) Finset.univ (View.stores_vmem_bits_univ h_S128x1024 rfl) (.inl rfl))
  let _ ← ldIn G D d 14 g
  Prog.lift (.store D.ag (Rect.unit (s := S16x256x1024) (G.rin (row 14 d) g) S1x128x1024.size (G.rin_inb _ g)) (finB a b c) Finset.univ
    (View.stores_vmem h_S1x128x1024 (D.hag.storeExact_slice rfl _ (G.rin_pk _ g)) (fun _ => rfl)) (.inl rfl))

/-- One iteration of the reduce phase. -/
def rsIter (G : Geo) (D E : Dir) (s : ℕ) : Pr F PUnit := do
  rsStep G D 0 s 0
  rsStep G E 1 s 0
  rsStep G D 0 s 1
  rsStep G E 1 s 1
  opt (Nat.ble s 10) do
    semSignalWord D.up D.credit.sem 1#32
    semSignalWord E.up E.credit.sem 1#32

/-- The gather phase's send of step `s`. -/
def agS (G : Geo) (D : Dir) (d : Fin 2) (s : ℕ) (g : Fin 2) : Pr F PUnit :=
  sendP (agV D (G.snd (row s d) g) (G.snd_inb _ g)) (agV D (G.snd (row s d) g) (G.snd_inb _ g)) (agV_we D _ _ (G.snd_ww _ g)) (agV_we D _ _ (G.snd_ww _ g))
    D.peer (semAt D.ags s g) (semAt D.agr s g)

/-- The gather phase's waits of step `s`, on either array of semaphores. -/
def agW (G : Geo) (A : DmaSems sig S15x2) (D : Dir) (d : Fin 2) (s : ℕ) (g : Fin 2) : Pr F PUnit :=
  waitP (semAt A s g) (agV D (G.snd (row s d) g) (G.snd_inb _ g)) (agV D (G.snd (row s d) g) (G.snd_inb _ g)) (agV_we D _ _ (G.snd_ww _ g)) (agV_we D _ _ (G.snd_ww _ g))

/-- The gathered segment of step `s` goes to the result. -/
def agOut (G : Geo) (O : Memref sig .tc .vmem S4096x2048 .f32) (D : Dir) (d : Fin 2) (s : ℕ) (g : Fin 2) : Pr F PUnit := do
  let a ← Prog.lift (.load D.ag (Rect.unit (s := S16x256x1024) (G.ld (row s d) g) S1x128x1024.size (G.ld_inb _ g)).toLoadRect (View.loadsAt_vmem h_S1x128x1024))
  let _ ← Prog.lift (.load O (Rect.unit (s := S4096x2048) (G.out (Fin.ofNat 15 s) d g) S128x1024.size (G.out_inb _ d g)).toLoadRect (View.loadsAt_vmem h_S128x1024))
  Prog.lift (.store O (Rect.unit (s := S4096x2048) (G.out (Fin.ofNat 15 s) d g) S128x1024.size (G.out_inb _ d g)) (outP a) Finset.univ (View.stores_vmem_bits_univ h_S128x1024 rfl) (.inl rfl))

/-- A gather step. -/
def agStep (G : Geo) (O : Memref sig .tc .vmem S4096x2048 .f32) (D : Dir) (d : Fin 2) (s : ℕ) (g : Fin 2) : Pr F PUnit := do
  agW G D.agr D d s g
  opt (Nat.ble g.val 0 && Nat.ble 7 s) (semWaitWord D.credit.sem 1#32)
  agS G D d (s + 1) g
  agOut G O D d s g

/-- One iteration of the gather phase. -/
def agIter (G : Geo) (O : Memref sig .tc .vmem S4096x2048 .f32) (D E : Dir) (s : ℕ) : Pr F PUnit := do
  agStep G O D 0 s 0
  agStep G O E 1 s 0
  agStep G O D 0 s 1
  agStep G O E 1 s 1

/-- The last iteration of the gather phase. -/
def agLast (G : Geo) (O : Memref sig .tc .vmem S4096x2048 .f32) (D : Dir) (d : Fin 2) (g : Fin 2) : Pr F PUnit := do
  agW G D.agr D d 14 g
  agOut G O D d 14 g

/-- The waits that close the reduce phase's sends of one direction. -/
def rsEnd (G : Geo) (D : Dir) : Pr F PUnit := do
  rsS G D 13 0
  rsS G D 14 0
  rsS G D 13 1
  rsS G D 14 1

/-- The body once the device knows its place in the ring. -/
def ringP (G : Geo) (X : Memref sig .tc .vmem S4096x256 .i8) (W : Memref sig .tc .vmem S256x2048 .i8)
    (S : Memref sig .tc .smem S1 .f32) (O : Memref sig .tc .vmem S4096x2048 .f32) (D E : Dir) : Pr F PUnit := do
  semSignalWord D.up (SemArray.scalar (sig.barrier 0 rfl) : Sems sig S_).sem 1#32
  semSignalWord E.up (SemArray.scalar (sig.barrier 0 rfl) : Sems sig S_).sem 1#32
  semWaitWord (SemArray.scalar (sig.barrier 0 rfl) : Sems sig S_).sem 2#32
  gemmP X W D E G.x0 G.x0_inb G.c0 G.c0_inb G.c0_pk
  rs0 G D 0
  rs0 G D 1
  rs0 G E 0
  rs0 G E 1
  loop (fun k => gemmP X W D E (G.xk (Fin.ofNat 15 k)) (G.xk_inb _) (G.ck (Fin.ofNat 15 k)) (G.ck_inb _) (G.ck_pk _)) 0 15
  loop (rsIter G D E) 0 14
  rsLast G S O D 0 0
  rsLast G S O E 1 0
  rsLast G S O D 0 1
  rsLast G S O E 1 1
  rsEnd G D
  rsEnd G E
  semSignalWord D.up D.credit.sem 7#32
  semSignalWord E.up E.credit.sem 7#32
  agS G D 0 0 0
  agS G D 0 0 1
  agS G E 1 0 0
  agS G E 1 0 1
  loop (agIter G O D E) 0 14
  agLast G O D 0 0
  agLast G O E 1 0
  agLast G O D 0 1
  agLast G O E 1 1
  loop (fun s => do agW G D.ags D 0 s 0; agW G D.ags D 0 s 1) 0 15
  loop (fun s => do agW G E.ags E 1 s 0; agW G E.ags E 1 s 1) 0 15

/-- The printed offsets, at the position the device reads. -/
def geoAt (v0 : BitVec 32) (hw : k0_chk3 v0) : Geo where
  x0 := k0_off1 v0
  x0_inb := k0_off1_inb v0 hw
  c0 := k0_off2 v0
  c0_inb := k0_off2_inb v0 hw
  c0_pk := k0_off2_packedbf16 v0 hw
  xk k := k0_off5 v0 (k0_off5_at k)
  xk_inb := k0_off5_inb v0 hw
  ck k := k0_off6 v0 (k0_off6_at k)
  ck_inb := k0_off6_inb v0 hw
  ck_pk := k0_off6_packedbf16 v0 hw
  own g := match g with | 0 => k0_off3 v0 | 1 => k0_off4 v0
  own_inb g := match g with | 0 => k0_off3_inb v0 hw | 1 => k0_off4_inb v0 hw
  own_ww g := match g with | 0 => k0_off3_wordsbf16 v0 hw | 1 => k0_off4_wordsbf16 v0 hw
  rin r g := match g with | 0 => k0_off7 v0 (k0_off7_at r) | 1 => k0_off8 v0 (k0_off8_at r)
  rin_inb r g := match g with | 0 => k0_off7_inb v0 hw r | 1 => k0_off8_inb v0 hw r
  rin_pk r g := match g with | 0 => k0_off7_packedbf16 v0 hw r | 1 => k0_off8_packedbf16 v0 hw r
  fin d g := match d with | 0 => k0_off9 v0 (BitVec.ofNat 32 (128 * g.val)) | 1 => k0_off10 v0 (BitVec.ofNat 32 (128 * g.val))
  fin_inb d g := match d with | 0 => k0_off9_inb v0 hw g | 1 => k0_off10_inb v0 hw g
  snd r g := match g with | 0 => k0_off11 v0 (k0_off11_at r).1 (k0_off11_at r).2 | 1 => k0_off12 v0 (k0_off12_at r).1 (k0_off12_at r).2
  snd_inb r g := match g with | 0 => k0_off11_inb v0 hw r | 1 => k0_off12_inb v0 hw r
  snd_ww r g := match g with | 0 => k0_off11_wordsbf16 v0 hw r | 1 => k0_off12_wordsbf16 v0 hw r
  ld r g := match g with | 0 => k0_off13 v0 (k0_off13_at r).1 (k0_off13_at r).2 | 1 => k0_off16 v0 (k0_off16_at r).1 (k0_off16_at r).2
  ld_inb r g := match g with | 0 => k0_off13_inb v0 hw r | 1 => k0_off16_inb v0 hw r
  out s d g := match d with
    | 0 => k0_off14 v0 (BitVec.ofNat 32 (4294967281 + (14 - s.val))) (BitVec.ofNat 32 (128 * g.val))
    | 1 => k0_off15 v0 (BitVec.ofNat 32 (1 + s.val)) (BitVec.ofNat 32 (128 * g.val))
  out_inb s d g := match d with
    | 0 => k0_off14_inb v0 hw ⟨14 - s.val, by omega⟩ g
    | 1 => k0_off15_inb v0 hw s g

end Cert.KernelIdeal.Ring

end
-- ==== Proof.Ki.Place.lean ====
module

public import proofs.«01_k».proof.Proof.Ki.Program

@[expose] public section

noncomputable section

namespace Cert.KernelIdeal.Ring

open Idealize.ShloMosaic Idealize.SL.Sem
open Cert.KernelIdeal Cert.KernelIdeal.Gen

variable {F : FTy → Type} [FloatOps F]

/-! The places of the devices in the ring, and the printed offsets at them. -/

/-- The device at a place of the ring. -/
def ringT : Fin 16 → Dev nD := ![0, 1, 5, 4, 8, 9, 13, 12, 15, 14, 10, 11, 7, 6, 2, 3]
/-- The place of a device. -/
def posT : Dev nD → Fin 16 := ![0, 1, 14, 15, 3, 2, 13, 12, 4, 5, 10, 11, 7, 6, 9, 8]

/-- `k` places upstream of `p` in a direction. -/
def hop (d : Fin 2) (p : Fin 16) (k : ℕ) : Fin 16 := if d = 0 then p - Fin.ofNat 16 k else p + Fin.ofNat 16 k

/-- The device a direction sends to. -/
def peerT (d : Fin 2) (c : Dev nD) : Dev nD := ringT (hop d (posT c) 15)
/-- The device a direction receives from. -/
def upT (d : Fin 2) (c : Dev nD) : Dev nD := ringT (hop d (posT c) 1)

theorem up_peer : ∀ (d : Fin 2) (c : Dev nD), upT d (peerT d c) = c := by decide
theorem peer_up : ∀ (d : Fin 2) (c : Dev nD), peerT d (upT d c) = c := by decide
theorem peer_flip : ∀ (d : Fin 2) (c : Dev nD), peerT (1 - d) c = upT d c := by decide
theorem up_flip : ∀ (d : Fin 2) (c : Dev nD), upT (1 - d) c = peerT d c := by decide
theorem pos_up : ∀ (d : Fin 2) (c : Dev nD), posT (upT d c) = hop d (posT c) 1 := by decide
theorem pos_peer : ∀ (d : Fin 2) (c : Dev nD), posT (peerT d c) = hop d (posT c) 15 := by decide

theorem hop_hop (d : Fin 2) (p : Fin 16) (j k : ℕ) : hop d (hop d p j) k = hop d p (j + k) := by
  have h : Fin.ofNat 16 (j + k) = Fin.ofNat 16 j + Fin.ofNat 16 k := by
    apply Fin.ext; simp [Fin.val_add, Fin.ofNat]
  unfold hop; rw [h]; split <;> omega
theorem hop_add16 (d : Fin 2) (p : Fin 16) (k : ℕ) : hop d p (16 + k) = hop d p k := by
  have h : Fin.ofNat 16 (16 + k) = Fin.ofNat 16 k := by apply Fin.ext; simp [Fin.ofNat]
  unfold hop; rw [h]
theorem hop_zero (d : Fin 2) (p : Fin 16) : hop d p 0 = p := by revert d p; decide

/-- The buffers of the two directions. -/
def rxM (d : Fin 2) : Memref sig .tc .vmem S4x256x1024 .bf16 := match d with | 0 => Memref.whole cc0_scratch0 | 1 => Memref.whole cc0_scratch1
def txM (d : Fin 2) : Memref sig .tc .vmem S2x256x1024 .bf16 := match d with | 0 => Memref.whole cc0_scratch2 | 1 => Memref.whole cc0_scratch3
def agM (d : Fin 2) : Memref sig .tc .vmem S16x256x1024 .bf16 := match d with | 0 => Memref.whole cc0_scratch4 | 1 => Memref.whole cc0_scratch5
theorem rxM_whole (d : Fin 2) : (rxM d).IsWhole := match d with | 0 => Memref.isWhole_whole _ | 1 => Memref.isWhole_whole _
theorem txM_whole (d : Fin 2) : (txM d).IsWhole := match d with | 0 => Memref.isWhole_whole _ | 1 => Memref.isWhole_whole _
theorem agM_whole (d : Fin 2) : (agM d).IsWhole := match d with | 0 => Memref.isWhole_whole _ | 1 => Memref.isWhole_whole _

/-- The two directions, as bundles of the scratch arguments. -/
def dirT (d : Fin 2) (c : Dev nD) : Dir where
  rx := rxM d
  hrx := rxM_whole d
  tx := txM d
  htx := txM_whole d
  ag := agM d
  hag := agM_whole d
  rss := match d with | 0 => cc0_scratch6 | 1 => cc0_scratch8
  rsr := match d with | 0 => cc0_scratch7 | 1 => cc0_scratch9
  ags := match d with | 0 => cc0_scratch10 | 1 => cc0_scratch12
  agr := match d with | 0 => cc0_scratch11 | 1 => cc0_scratch13
  credit := match d with | 0 => cc0_scratch14 | 1 => cc0_scratch15
  peer := peerT d c
  up := upT d c

/-- The copy semaphores: kind 0 the reduce phase's sends, 1 its arrivals, 2 the gather phase's sends, 3 its arrivals. -/
def dm (k : Fin 4) (d : Fin 2) (s : ℕ) (g : Fin 2) : DmaSem sig :=
  ⟨7 + 30 * (4 * (k.val / 2) + 2 * d.val + k.val % 2) + 2 * (s % 15) + g.val, by
    show _ < 247
    have := k.isLt; have := d.isLt; have := g.isLt; have : s % 15 < 15 := Nat.mod_lt _ (by decide)
    omega⟩

theorem semAt_mod (A : DmaSems sig S15x2) (s : ℕ) (g : Fin 2) : semAt A (Fin.ofNat 15 s).val g = semAt A s g := by
  have h : Fin.ofNat 15 (Fin.ofNat 15 s).val = Fin.ofNat 15 s := Fin.ext (Nat.mod_mod _ _)
  exact congrArg (fun j : Fin 15 => ((A.slice (Rect.unit (s := S15x2) ![j.val, g.val] S1x1.size (sem_inb j g))).squeeze S_ squeezes_S1x1_S_).sem) h
theorem dm_mod (k : Fin 4) (d : Fin 2) (s : ℕ) (g : Fin 2) : dm k d (Fin.ofNat 15 s).val g = dm k d s g :=
  Fin.ext (by show 7 + _ + 2 * (s % 15 % 15) + _ = 7 + _ + 2 * (s % 15) + _; rw [Nat.mod_mod])
theorem semAt_rss (d : Fin 2) (c : Dev nD) (s : ℕ) (g : Fin 2) : semAt (dirT d c).rss s g = dm 0 d s g := by
  have h : ∀ (d : Fin 2) (s : Fin 15) (g : Fin 2), semAt (dirT d 0).rss s.val g = dm 0 d s.val g := by decide +kernel
  have e : (dirT d c).rss = (dirT d 0).rss := match d with | 0 => rfl | 1 => rfl
  rw [e, ← semAt_mod, ← dm_mod]; exact h d _ g
theorem semAt_rsr (d : Fin 2) (c : Dev nD) (s : ℕ) (g : Fin 2) : semAt (dirT d c).rsr s g = dm 1 d s g := by
  have h : ∀ (d : Fin 2) (s : Fin 15) (g : Fin 2), semAt (dirT d 0).rsr s.val g = dm 1 d s.val g := by decide +kernel
  have e : (dirT d c).rsr = (dirT d 0).rsr := match d with | 0 => rfl | 1 => rfl
  rw [e, ← semAt_mod, ← dm_mod]; exact h d _ g
theorem semAt_ags (d : Fin 2) (c : Dev nD) (s : ℕ) (g : Fin 2) : semAt (dirT d c).ags s g = dm 2 d s g := by
  have h : ∀ (d : Fin 2) (s : Fin 15) (g : Fin 2), semAt (dirT d 0).ags s.val g = dm 2 d s.val g := by decide +kernel
  have e : (dirT d c).ags = (dirT d 0).ags := match d with | 0 => rfl | 1 => rfl
  rw [e, ← semAt_mod, ← dm_mod]; exact h d _ g
theorem semAt_agr (d : Fin 2) (c : Dev nD) (s : ℕ) (g : Fin 2) : semAt (dirT d c).agr s g = dm 3 d s g := by
  have h : ∀ (d : Fin 2) (s : Fin 15) (g : Fin 2), semAt (dirT d 0).agr s.val g = dm 3 d s.val g := by decide +kernel
  have e : (dirT d c).agr = (dirT d 0).agr := match d with | 0 => rfl | 1 => rfl
  rw [e, ← semAt_mod, ← dm_mod]; exact h d _ g

/-- The credit semaphore of a direction. -/
def crS (d : Fin 2) : Sem sig := match d with | 0 => 0 | 1 => 1
/-- The barrier semaphore. -/
def barS : Sem sig := 2
theorem credit_sem (d : Fin 2) (c : Dev nD) : (dirT d c).credit.sem = crS d := by
  match d with
  | 0 => exact (show SemArray.sem (dirT 0 0).credit = crS 0 by decide)
  | 1 => exact (show SemArray.sem (dirT 1 0).credit = crS 1 by decide)
theorem bar_sem : (SemArray.scalar (sig.barrier 0 rfl) : Sems sig S_).sem = barS := by decide

/-- Segment `g` of chunk `k`. -/
def agO (k : Fin 16) (g : Fin 2) : Fin 3 → ℕ := ![k.val, 128 * g.val, 0]
theorem agO_inb (k : Fin 16) (g : Fin 2) : ∀ a, agO k g a + S1x128x1024.size a ≤ S16x256x1024.size a := by
  revert k g; decide

/-- The word a place is read as. -/
def posW (c : Dev nD) : BitVec 32 := BitVec.ofNat 32 (posT c).val
/-- The word a device is read as. -/
def devW (c : Dev nD) : BitVec 32 := BitVec.ofNat 32 c.val

/-- The chunk the product loop's `k`-th trip makes. -/
def gkT (p : Fin 16) (k : ℕ) : Fin 16 := hop (Fin.ofNat 2 k) p (k / 2 + 1)

/-- The offsets a device uses, in closed form. -/
structure GeoOk (G : Geo) (c : Dev nD) : Prop where
  x0 : G.x0 = ![256 * (posT c).val, 0]
  c0 : G.c0 = ![(posT c).val, 0, 0]
  xk : ∀ k, G.xk k = ![256 * (gkT (posT c) k.val).val, 0]
  ck : ∀ k, G.ck k = ![(gkT (posT c) k.val).val, 0, 0]
  own : ∀ g, G.own g = agO (posT c) g
  rin : ∀ (s : Fin 15) d g, G.rin (row s.val d) g = agO (hop d (posT c) (s.val + 1)) g
  fin : ∀ d g, G.fin d g = ![256 * (hop d (posT c) 15).val + 128 * g.val, 1024 * d.val]
  snd : ∀ (s : Fin 15) d g, G.snd (row s.val d) g = agO (hop d (posT c) (15 + s.val)) g
  ld : ∀ (s : Fin 15) d g, G.ld (row s.val d) g = agO (hop d (posT c) s.val) g
  out : ∀ (s : Fin 15) d g, G.out s d g = ![256 * (hop d (posT c) s.val).val + 128 * g.val, 1024 * d.val]

theorem geo_ok (c : Dev nD) (hw : k0_chk3 (posW c)) : GeoOk (geoAt (posW c) hw) c where
  x0 := by show k0_off1 (posW c) = _; clear hw; revert c; decide +kernel
  c0 := by show k0_off2 (posW c) = _; clear hw; revert c; decide +kernel
  xk k := by show k0_off5 (posW c) (k0_off5_at k) = _; clear hw; revert c k; decide +kernel
  ck k := by show k0_off6 (posW c) (k0_off6_at k) = _; clear hw; revert c k; decide +kernel
  own g := by
    match g with
    | 0 => show k0_off3 (posW c) = _; clear hw; revert c; decide +kernel
    | 1 => show k0_off4 (posW c) = _; clear hw; revert c; decide +kernel
  rin s d g := by
    match g with
    | 0 => show k0_off7 (posW c) (k0_off7_at (row s.val d)) = _; clear hw; revert c s d; decide +kernel
    | 1 => show k0_off8 (posW c) (k0_off8_at (row s.val d)) = _; clear hw; revert c s d; decide +kernel
  fin d g := by
    match d with
    | 0 => show k0_off9 (posW c) (BitVec.ofNat 32 (128 * g.val)) = _; clear hw; revert c g; decide +kernel
    | 1 => show k0_off10 (posW c) (BitVec.ofNat 32 (128 * g.val)) = _; clear hw; revert c g; decide +kernel
  snd s d g := by
    match g with
    | 0 => show k0_off11 (posW c) (k0_off11_at (row s.val d)).1 (k0_off11_at (row s.val d)).2 = _; clear hw; revert c s d; decide +kernel
    | 1 => show k0_off12 (posW c) (k0_off12_at (row s.val d)).1 (k0_off12_at (row s.val d)).2 = _; clear hw; revert c s d; decide +kernel
  ld s d g := by
    match g with
    | 0 => show k0_off13 (posW c) (k0_off13_at (row s.val d)).1 (k0_off13_at (row s.val d)).2 = _; clear hw; revert c s d; decide +kernel
    | 1 => show k0_off16 (posW c) (k0_off16_at (row s.val d)).1 (k0_off16_at (row s.val d)).2 = _; clear hw; revert c s d; decide +kernel
  out s d g := by
    match d with
    | 0 => show k0_off14 (posW c) (BitVec.ofNat 32 (4294967281 + (14 - s.val))) (BitVec.ofNat 32 (128 * g.val)) = _; clear hw; revert c s g; decide +kernel
    | 1 => show k0_off15 (posW c) (BitVec.ofNat 32 (1 + s.val)) (BitVec.ofNat 32 (128 * g.val)) = _; clear hw; revert c s g; decide +kernel

theorem chk3_pos (c : Dev nD) : k0_chk3 (posW c) := by revert c; decide +kernel
theorem chk2_dev (c : Dev nD) : k0_chk2 (devW c) := by revert c; decide +kernel
theorem chk1_dev (c : Dev nD) : k0_chk1 (devW c) := by revert c; decide +kernel
theorem dev1_eq (c : Dev nD) (h) : (⟨k0_dev1 (devW c), h⟩ : Dev nD) = c := Fin.ext (by
  show k0_dev1 (devW c) = c.val; clear h; revert c; decide +kernel)
theorem dev2_eq (c : Dev nD) (h) : (⟨k0_dev2 (devW c), h⟩ : Dev nD) = c := Fin.ext (by
  show k0_dev2 (devW c) = c.val; clear h; revert c; decide +kernel)
theorem dev3_eq (c : Dev nD) (h) : (⟨k0_dev3 (devW c), h⟩ : Dev nD) = c := Fin.ext (by
  show k0_dev3 (devW c) = c.val; clear h; revert c; decide +kernel)

end Cert.KernelIdeal.Ring

end
-- ==== Proof.Ki.Vals.lean ====
module

public import proofs.«01_k».proof.Proof.Ki.Place

@[expose] public section

noncomputable section

namespace Cert.KernelIdeal.Ring

open Idealize.ShloMosaic Idealize.ShloMosaic.TcCoe
open Cert.KernelIdeal Cert.KernelIdeal.Gen

/-! What the ring computes, as functions of what the devices are given. -/

/-- What the devices are given: the rows of the first operand, the columns' weights, the scale. -/
class Vals (F : FTy → Type) where
  x : Dev nD → S4096x256.Idx → Elt F .i8
  w : Dev nD → S256x2048.Idx → Elt F .i8
  sc : Dev nD → Elt F .f32

variable {F : FTy → Type} [FloatOps F]

/-- A segment's values. -/
abbrev Sg (F : FTy → Type) : Type := S128x1024.Idx → Elt F .bf16

/-- A segment with its leading axis, and without. -/
def up (v : Sg F) : Vec F S1x128x1024 .bf16 := fun j => v (Shape.reshapeEquiv shapeCasts_S128x1024_S1x128x1024 j)
def dn (v : Vec F S1x128x1024 .bf16) : Sg F := fun j => v (Shape.reshapeEquiv (squeezes_S1x128x1024_S128x1024).numel_eq j)
theorem up_dn (v : Vec F S1x128x1024 .bf16) : up (F := F) (dn v) = v := by
  funext j; unfold dn up
  exact congrArg v ((Shape.reshapeEquiv_reshapeEquiv _ _ _).trans (Shape.reshapeEquiv_self _ _))

/-- Where a segment's elements lie in the chunk array. -/
def segIx (k : Fin 16) (g : Fin 2) (j : S128x1024.Idx) : S16x256x1024.Idx :=
  (Rect.unit (s := S16x256x1024) (agO k g) S1x128x1024.size (agO_inb k g)).emb (Shape.reshapeEquiv (squeezes_S1x128x1024_S128x1024).numel_eq j)

/-- Where the elements of a row block of the first operand lie. -/
theorem xrow_inb (k : Fin 16) : ∀ a, (![256 * k.val, 0] : Fin 2 → ℕ) a + S256x256.size a ≤ S4096x256.size a := by revert k; decide
def xrow (k : Fin 16) : S256x256.Idx → S4096x256.Idx := (Rect.unit (s := S4096x256) ![256 * k.val, 0] S256x256.size (xrow_inb k)).emb

section
variable [Vals F]

/-- A product's half, as it is stored. -/
def prodV (c : Dev nD) (d : Fin 2) (k : Fin 16) : FVec F S1x256x1024 .bf16 :=
  match d with
  | 0 => k0_pay2 (fun j => Vals.x c (xrow k j)) (Vals.w c)
  | 1 => k0_pay3 (fun j => Vals.x c (xrow k j)) (Vals.w c)
/-- The chunk array of a direction once the products are made. -/
def chunkV (c : Dev nD) (d : Fin 2) (i : S16x256x1024.Idx) : Elt F .bf16 :=
  prodV (F := F) c d ⟨(i 0).val, (i 0).isLt⟩ fun a => match a with | 0 => ⟨0, by decide⟩ | 1 => i 1 | 2 => i 2
/-- A device's own share of a segment. -/
def part (c : Dev nD) (d : Fin 2) (k : Fin 16) (g : Fin 2) : Sg F := fun j => chunkV (F := F) c d (segIx k g j)

/-- What the reduce phase's step `s` brings to a device. -/
def rsv (d g : Fin 2) : ℕ → Dev nD → Sg F
  | 0, c => part (upT d c) d (posT (upT d c)) g
  | s + 1, c => dn (accP (up (part (upT d c) d (hop d (posT (upT d c)) (s + 1)) g)) (up (rsv d g s (upT d c))))

/-- The finished segment of a device. -/
def finV (d g : Fin 2) (c : Dev nD) : FVec F S128x1024 .f32 := finP (up (part c d (hop d (posT c) 15) g)) (up (rsv d g 14 c)) (Vals.sc c)
def finBV (d g : Fin 2) (c : Dev nD) : Sg F := dn (finB (up (part c d (hop d (posT c) 15) g)) (up (rsv d g 14 c)) (Vals.sc c))

/-- What the gather phase sends at step `s`. -/
def agv (d g : Fin 2) : ℕ → Dev nD → Sg F
  | 0, c => finBV d g c
  | s + 1, c => agv d g s (upT d c)

/-- The window of the result that is written at turn `j`. -/
def outV (d g : Fin 2) (j : ℕ) (c : Dev nD) : S128x1024.Idx → Elt F .f32 :=
  match j with
  | 0 => finV (F := F) d g c
  | s + 1 => outP (up (agv (F := F) d g (s + 1) c))

/-- The direction, segment and turn of an element of the result. -/
def dO (i : S4096x2048.Idx) : Fin 2 := Fin.ofNat 2 ((i 1).val / 1024)
def gO (i : S4096x2048.Idx) : Fin 2 := Fin.ofNat 2 ((i 0).val / 128)
def kO (i : S4096x2048.Idx) : Fin 16 := Fin.ofNat 16 ((i 0).val / 256)
def turn (d : Fin 2) (p k : Fin 16) : Fin 16 := if d = 0 then p - k + 1 else k - p + 1
def jO (c : Dev nD) (i : S4096x2048.Idx) : ℕ := (turn (dO i) (posT c) (kO i)).val
def tmO (c : Dev nD) (i : S4096x2048.Idx) : ℕ := 4 * jO c i + 2 * (gO i).val + (dO i).val
def locO (i : S4096x2048.Idx) : S128x1024.Idx := fun a => match a with
  | 0 => ⟨(i 0).val % 128, Nat.mod_lt _ (by decide)⟩
  | 1 => ⟨(i 1).val % 1024, Nat.mod_lt _ (by decide)⟩

/-- What the devices hold at the end. -/
def outT (c : Dev nD) (i : S4096x2048.Idx) : Elt F .f32 := outV (F := F) (dO i) (gO i) (jO c i) c (locO i)

end

theorem turn_hop : ∀ (d : Fin 2) (p : Fin 16) (j : Fin 16), turn d p (hop d p (15 + j.val)) = j := by decide +kernel
theorem hop_turn : ∀ (d : Fin 2) (p k : Fin 16), hop d p (15 + (turn d p k).val) = k := by decide +kernel

/-- The window of turn `j`, direction `d`, segment `g`. -/
def winO (d : Fin 2) (k : Fin 16) (g : Fin 2) : Fin 2 → ℕ := ![256 * k.val + 128 * g.val, 1024 * d.val]

theorem win_at (c : Dev nD) (d g : Fin 2) (j : ℕ) (hj : j < 16) (h) (y : S128x1024.Idx) :
    let i := (Rect.unit (s := S4096x2048) (winO d (hop d (posT c) (15 + j)) g) S128x1024.size h).emb y
    dO i = d ∧ gO i = g ∧ jO c i = j ∧ locO i = y := by
  intro i
  have hy0 : (y 0).val < 128 := (y 0).isLt
  have hy1 : (y 1).val < 1024 := (y 1).isLt
  have h0 : (i 0).val = 256 * (hop d (posT c) (15 + j)).val + 128 * g.val + (y 0).val := by
    show _ + 1 * (y 0).val = _; rw [Nat.one_mul]; rfl
  have h1 : (i 1).val = 1024 * d.val + (y 1).val := by
    show _ + 1 * (y 1).val = _; rw [Nat.one_mul]; rfl
  have hd : dO i = d := Fin.ext (by show (i 1).val / 1024 % 2 = d.val; omega)
  have hg : gO i = g := Fin.ext (by show (i 0).val / 128 % 2 = g.val; omega)
  have hk : kO i = hop d (posT c) (15 + j) := Fin.ext (by show (i 0).val / 256 % 16 = _; omega)
  refine ⟨hd, hg, ?_, ?_⟩
  · unfold jO; rw [hd, hk]; exact congrArg Fin.val (turn_hop d (posT c) ⟨j, hj⟩)
  · funext a
    match a with
    | 0 => exact Fin.ext (by show (i 0).val % 128 = (y 0).val; omega)
    | 1 => exact Fin.ext (by show (i 1).val % 1024 = (y 1).val; omega)

/-- An element whose time is a window's lies in it. -/
theorem win_mem (c : Dev nD) (d g : Fin 2) (j : ℕ) (h) (i : S4096x2048.Idx) (ht : tmO c i = 4 * j + 2 * g.val + d.val) :
    i ∈ (Rect.unit (s := S4096x2048) (winO d (hop d (posT c) (15 + j)) g) S128x1024.size h).set := by
  have hi0 : (i 0).val < 4096 := (i 0).isLt
  have hi1 : (i 1).val < 2048 := (i 1).isLt
  unfold tmO at ht
  have hd : dO i = d := Fin.ext (by omega)
  have hg : gO i = g := Fin.ext (by omega)
  have hj : jO c i = j := by omega
  have hk : kO i = hop d (posT c) (15 + j) := by rw [← hj, ← hd]; exact (hop_turn (dO i) (posT c) (kO i)).symm
  have e1 : (i 1).val / 1024 % 2 = d.val := congrArg Fin.val hd
  have e2 : (i 0).val / 128 % 2 = g.val := congrArg Fin.val hg
  have e3 : (i 0).val / 256 % 16 = (hop d (posT c) (15 + j)).val := congrArg Fin.val hk
  rw [Rect.mem_set_unit]
  intro a
  match a with
  | 0 => exact ⟨by show 256 * (hop d (posT c) (15 + j)).val + 128 * g.val ≤ _; omega, by show _ < 256 * (hop d (posT c) (15 + j)).val + 128 * g.val + 128; omega⟩
  | 1 => exact ⟨by show 1024 * d.val ≤ _; omega, by show _ < 1024 * d.val + 1024; omega⟩

theorem tmO_lt (c : Dev nD) (i : S4096x2048.Idx) : tmO c i < 64 := by
  have h1 := (turn (dO i) (posT c) (kO i)).isLt
  unfold tmO jO
  omega

end Cert.KernelIdeal.Ring

end
-- ==== Proof.Ki.Sched.lean ====
module

public import proofs.«01_k».proof.Proof.Ki.Vals
public import Idealize.ShloMosaic.Lib.Rounds
public import Idealize.ShloMosaic.Lib.Pipeline.Kit
public import Mathlib.Tactic.DeriveFintype

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! What the devices owe one another, when it is paid, and what each payment carries. -/

variable {F : FTy → Type} [FloatOps F] [Vals F]

/-- The two protocols' algebras: the staging's and the ring's. -/
abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-! ## Payments -/

/-- What a device pays to other devices: the barrier signals, the reduce phase's copies, the credits, the gather phase's copies. -/
inductive Ev where
  | bar (d : Fin 2)
  | rs (d : Fin 2) (s : Fin 15) (g : Fin 2)
  | cr (d : Fin 2) (j : Fin 12)
  | ag (d : Fin 2) (s : Fin 15) (g : Fin 2)
deriving DecidableEq, Fintype

/-- The time at which a device pays. -/
def Ev.tm : Ev → ℕ
  | .bar d => 1 + d.val
  | .rs d s g => if s.val = 0 then 3 + 2 * d.val + g.val else 10 * s.val + 2 * g.val + d.val
  | .cr d j => if j.val = 11 then 150 + d.val else 10 * (j.val + 1) + 4 + d.val
  | .ag d s g => if s.val = 0 then 152 + 2 * d.val + g.val else 150 + 10 * s.val + 2 * g.val + d.val

/-- The semaphore a payment goes to. -/
def Ev.sem : Ev → SemLoc sig
  | .bar _ => .reg barS
  | .rs d s g => .dma (dm 1 d s.val g)
  | .cr d _ => .reg (crS d)
  | .ag d s g => .dma (dm 3 d s.val g)

/-- The device a payment goes to. -/
def Ev.dev (c : Dev nD) : Ev → Dev nD
  | .bar d => upT d c
  | .rs d _ _ => peerT d c
  | .cr d _ => upT d c
  | .ag d _ _ => peerT d c

/-- The payer of a device's payment. -/
def Ev.src (c : Dev nD) : Ev → Dev nD
  | .bar d => peerT d c
  | .rs d _ _ => upT d c
  | .cr d _ => peerT d c
  | .ag d _ _ => upT d c

theorem Ev.dev_src (c : Dev nD) (e : Ev) : e.dev (e.src c) = c := by
  cases e <;> simp only [Ev.dev, Ev.src, up_peer, peer_up]
theorem Ev.src_dev (c : Dev nD) (e : Ev) : e.src (e.dev c) = c := by
  cases e <;> simp only [Ev.dev, Ev.src, up_peer, peer_up]

/-- The bytes' credit of one segment. -/
@[irreducible] def NB : ℕ := (rxV (dirT 0 0) 0 0).view.dmaCredit
theorem NB_eq (V : Memref sig .tc .vmem S128x1024 .bf16) (h : V.view.dmaCredit = (rxV (dirT 0 0) 0 0).view.dmaCredit) : V.view.dmaCredit = NB := by
  unfold NB; exact h
theorem NB_pos : 0 < NB := by unfold NB; exact View.dmaCredit_pos _ (by decide)

def Ev.amt : Ev → ℕ
  | .bar _ => 1
  | .rs _ _ _ => NB
  | .cr _ j => if j.val = 11 then 7 else 1
  | .ag _ _ _ => NB

def Ev.duty : Ev → ℕ
  | .bar d => d.val
  | .rs _ _ _ => 0
  | .cr _ j => j.val
  | .ag _ _ _ => 0

abbrev cell (c : Dev nD) (sm : SemLoc sig) : GSem nD τ sig := ((c : Thread nD τ), sm)

/-- The payments left from a time on. -/
def rem (n : ℕ) : Finset Ev := Finset.univ.filter fun e => n ≤ e.tm

/-- What a device owes from a time on. -/
def oweF (n : ℕ) (c : Dev nD) : CellTallies nD τ sig ℕ :=
  ∑ e ∈ rem n, tallyAt (cell (e.dev c) e.sem) e.tm e.amt

theorem tm_inj : Function.Injective Ev.tm := by
  have h : ∀ a b : Ev, a.tm = b.tm → a = b := by
    rintro (d | ⟨d, s, g⟩ | ⟨d, j⟩ | ⟨d, s, g⟩) (d' | ⟨d', s', g'⟩ | ⟨d', j'⟩ | ⟨d', s', g'⟩) h <;>
      simp only [Ev.tm] at h <;> (try split_ifs at h) <;>
      first
        | (exfalso; omega)
        | (congr 1 <;> (apply Fin.ext; omega))
  exact fun a b => h a b

theorem rem_pay (e : Ev) : rem e.tm = insert e (rem (e.tm + 1)) := by
  ext x
  simp only [rem, Finset.mem_filter, Finset.mem_univ, true_and, Finset.mem_insert]
  constructor
  · intro h
    rcases Nat.lt_or_eq_of_le h with h | h
    · exact .inr h
    · exact .inl (tm_inj h.symm)
  · rintro (rfl | h)
    · exact le_rfl
    · omega

theorem not_mem_rem (e : Ev) : e ∉ rem (e.tm + 1) := by
  simp only [rem, Finset.mem_filter, not_and, not_le]; intro _; omega

theorem rem_skip {n n' : ℕ} (h : n ≤ n') (hn : ∀ e : Ev, n ≤ e.tm → n' ≤ e.tm) : rem n = rem n' := by
  ext x
  simp only [rem, Finset.mem_filter, Finset.mem_univ, true_and]
  exact ⟨hn x, fun h' => h.trans h'⟩

theorem oweF_pay (e : Ev) (c : Dev nD) : oweF e.tm c = oweF (e.tm + 1) c + tallyAt (cell (e.dev c) e.sem) e.tm e.amt := by
  unfold oweF; rw [rem_pay, Finset.sum_insert (not_mem_rem e), add_comm]

/-! ## Levels -/

def L (g : GSem nD τ sig) : Finset ℕ := if g.1.2 = .tc then Finset.range 300 else ∅
def lv (_ : GSem nD τ sig) (i : ℕ) : ℕ := i

theorem L_of_ne (g : GSem nD τ sig) (h : g.1.2 ≠ .tc) : L g = ∅ := if_neg h
theorem L_tc (c : Dev nD) (sm : SemLoc sig) : L (cell c sm) = Finset.range 300 := if_pos rfl

theorem tm_lt (e : Ev) : e.tm < 300 := by
  rcases e with d | ⟨d, s, g⟩ | ⟨d, j⟩ | ⟨d, s, g⟩ <;> simp only [Ev.tm] <;> (try split_ifs) <;> omega
theorem tm_pos (e : Ev) : 0 < e.tm := by
  rcases e with d | ⟨d, s, g⟩ | ⟨d, j⟩ | ⟨d, s, g⟩ <;> simp only [Ev.tm] <;> (try split_ifs) <;> omega

theorem oweF_pos {n : ℕ} {c : Dev nD} {g : GSem nD τ sig} {i : ℕ} (h : 0 < oweF n c g i) :
    n ≤ i ∧ i < 300 ∧ 0 < i ∧ g.1.2 = .tc := by
  unfold oweF at h
  rw [Finset.sum_apply, Finsupp.finset_sum_apply] at h
  obtain ⟨e, he, hp⟩ := Finset.exists_ne_zero_of_sum_ne_zero h.ne'
  rw [tallyAt_apply] at hp
  by_cases hg : g = cell (e.dev c) e.sem ∧ i = e.tm
  · obtain ⟨rfl, rfl⟩ := hg
    exact ⟨(Finset.mem_filter.mp he).2, tm_lt e, tm_pos e, rfl⟩
  · rw [if_neg hg] at hp; exact absurd rfl hp

theorem mayOwe (n : ℕ) (c : Dev nD) (W : Waits sig ℕ) (h : ∀ p ∈ W, p.2 < n ∧ p.2 < 300) :
    (levAts L lv : sProp 𝕄) ⊢ MayOwe (c : Thread nD τ) W (oweF n c) := by
  rcases Nat.eq_zero_or_pos n with rfl | hn
  · have : W = ∅ := Finset.eq_empty_of_forall_notMem fun p hp => absurd (h p hp).1 (Nat.not_lt_zero _)
    subst this
    exact MayOwe.of_cut (L := L) (lev := lv) 0 (fun p hp => absurd hp (Finset.notMem_empty _))
      (fun g u hg => by
        obtain ⟨h1, h2, h3, h4⟩ := oweF_pos hg
        unfold L; rw [if_pos h4]; exact Finset.mem_range.mpr h2)
      (fun p hp => absurd hp (Finset.notMem_empty _)) (fun g u hg => (oweF_pos hg).2.2.1)
  · exact MayOwe.of_cut (L := L) (lev := lv) (n - 1) (fun p hp => by rw [L_tc]; exact Finset.mem_range.mpr (h p hp).2)
      (fun g u hg => by
        obtain ⟨h1, h2, h3, h4⟩ := oweF_pos hg
        unfold L; rw [if_pos h4]; exact Finset.mem_range.mpr h2)
      (fun p hp => by have := (h p hp).1; unfold lv; omega)
      (fun g u hg => by have := (oweF_pos hg).1; unfold lv; omega)

/-! ## Segments -/

/-- Elements of a buffer held at some values. -/
def holdM {sp : Space} {t : Shape} {e : EltTy} (c : Dev nD) (M : Memref sig .tc sp t e) (S : Finset M.view.ty.Idx) (q : PosShare TreeShare) : sProp 𝕄 :=
  iprop(∃ f, (M.view.loc (c : Thread nD τ) ↦[S]{q} f))
/-- A segment held at a share. -/
abbrev segQ (c : Dev nD) (V : Memref sig .tc .vmem S128x1024 .bf16) (q : PosShare TreeShare) : sProp 𝕄 := holdM c V V.view.set q
abbrev segA (c : Dev nD) (V : Memref sig .tc .vmem S128x1024 .bf16) : sProp 𝕄 := segQ (F := F) c V fullShare

instance holdM_storable {sp : Space} {t : Shape} {e : EltTy} (c : Dev nD) (M : Memref sig .tc sp t e) (S : Finset M.view.ty.Idx) (q : PosShare TreeShare) :
    Storable (upEmb : UEmb _ 𝕄) (holdM (F := F) c M S q) := by unfold holdM; infer_instance

/-- A segment held at a share, at known values. -/
def segW (c : Dev nD) (V : Memref sig .tc .vmem S128x1024 .bf16) (q : PosShare TreeShare) (v : Sg F) : sProp 𝕄 :=
  iprop(∃ f, ⌜V.view.read (Elt F) f = v⌝ ∗ (V.view.loc (c : Thread nD τ) ↦[V.view.set]{q} f))
abbrev segV (c : Dev nD) (V : Memref sig .tc .vmem S128x1024 .bf16) (v : Sg F) : sProp 𝕄 := segW c V fullShare v
instance segW_storable (c : Dev nD) (V : Memref sig .tc .vmem S128x1024 .bf16) (q : PosShare TreeShare) (v : Sg F) :
    Storable (upEmb : UEmb _ 𝕄) (segW (F := F) c V q v) := by unfold segW; infer_instance
theorem segW_any (c : Dev nD) (V : Memref sig .tc .vmem S128x1024 .bf16) (q : PosShare TreeShare) (v : Sg F) :
    (segW c V q v : sProp 𝕄) ⊢ segQ c V q := by
  unfold segW segQ holdM
  iintro ⟨%f, -, H⟩
  iexists f; iexact H

abbrev rxS (d : Fin 2) (j : ℕ) (g : Fin 2) : Memref sig .tc .vmem S128x1024 .bf16 := rxV (dirT d 0) j g
abbrev txS (d : Fin 2) (j : ℕ) (g : Fin 2) : Memref sig .tc .vmem S128x1024 .bf16 := txV (dirT d 0) j g
abbrev agSg (d : Fin 2) (k : Fin 16) (g : Fin 2) : Memref sig .tc .vmem S128x1024 .bf16 := agV (dirT d 0) (agO k g) (agO_inb k g)

/-! ## Payloads -/

/-- The round of every cell of a device is reached. -/
def reachedAll (c : Dev nD) : sProp 𝕄 :=
  iprop((bigSep (Finset.univ : Finset (Fin 4 × Fin 2 × Fin 15 × Fin 2)) fun x => reached ER (cell c (.dma (dm x.1 x.2.1 x.2.2.1.val x.2.2.2))) 0)
    ∗ (bigSep (Finset.univ : Finset (Fin 2)) fun d => reached ER (cell c (.reg (crS d))) 0))
instance reachedAll_storable (c : Dev nD) : Storable (upEmb : UEmb _ 𝕄) (reachedAll (F := F) c) := by unfold reachedAll; infer_instance
instance reachedAll_persistent (c : Dev nD) : BI.Persistent (reachedAll (F := F) c) := by unfold reachedAll; infer_instance

/-- The receive slot that iteration `i` of the reduce phase frees, where it is written again. -/
def frRx (c : Dev nD) (d : Fin 2) (i : ℕ) (g : Fin 2) : sProp 𝕄 := if i ≤ 10 then segA c (rxS d i g) else iprop(emp)
/-- The chunk it frees. -/
def frAg (c : Dev nD) (d : Fin 2) (i : ℕ) (g : Fin 2) : sProp 𝕄 := segA c (agSg d (hop d (posT c) (i + 1)) g)
/-- The own chunk, once it is sent. -/
def frOwn (c : Dev nD) (d : Fin 2) (i : ℕ) (g : Fin 2) : sProp 𝕄 := if i = 1 then segA c (agSg d (posT c) g) else iprop(emp)
def freed (c : Dev nD) (d : Fin 2) (i : ℕ) (g : Fin 2) : sProp 𝕄 := iprop(frRx c d i g ∗ frAg c d i g ∗ frOwn c d i g)

instance freed_storable (c : Dev nD) (d : Fin 2) (i : ℕ) (g : Fin 2) : Storable (upEmb : UEmb _ 𝕄) (freed (F := F) c d i g) := by
  unfold freed frRx frAg frOwn
  split_ifs <;> infer_instance

/-- What rides on a reduce copy of step `s` in direction `d` from `c`: what `c` freed in the other direction two steps before. -/
def ride (c : Dev nD) (d : Fin 2) (s : ℕ) (g : Fin 2) : sProp 𝕄 := match s with | 0 => iprop(emp) | 1 => iprop(emp) | i + 2 => freed c (1 - d) i g
instance ride_storable (c : Dev nD) (d : Fin 2) (s : ℕ) (g : Fin 2) : Storable (upEmb : UEmb _ 𝕄) (ride (F := F) c d s g) := by
  unfold ride; split <;> infer_instance
def rideAg (c : Dev nD) (d : Fin 2) (s : ℕ) (g : Fin 2) : sProp 𝕄 := match s with | 0 => frAg c (1 - d) 13 g | _ + 1 => iprop(emp)
instance rideAg_storable (c : Dev nD) (d : Fin 2) (s : ℕ) (g : Fin 2) : Storable (upEmb : UEmb _ 𝕄) (rideAg (F := F) c d s g) := by
  unfold rideAg frAg; split <;> infer_instance

abbrev hs : PosShare TreeShare := fullShare.left
abbrev hs' : PosShare TreeShare := fullShare.right

/-- What a device's barrier cell gets from the device it sends to in a direction. -/
def barPay (c : Dev nD) (d : Fin 2) : sProp 𝕄 :=
  iprop((bigSep (Finset.range 4) fun j => bigSep (Finset.univ : Finset (Fin 2)) fun g => segA (peerT d c) (rxS d j g)) ∗ reachedAll (peerT d c))
instance barPay_storable (c : Dev nD) (d : Fin 2) : Storable (upEmb : UEmb _ 𝕄) (barPay (F := F) c d) := by unfold barPay; infer_instance

/-- What a copy gives the cells it signals. -/
def rssPay (c : Dev nD) (d : Fin 2) (s : ℕ) (g : Fin 2) : sProp 𝕄 :=
  match s with | 0 => segA c (agSg d (posT c) g) | s + 1 => segA c (txS d (s + 1) g)
def rsrPay (c : Dev nD) (d : Fin 2) (s : ℕ) (g : Fin 2) : sProp 𝕄 := iprop(segV c (rxS d s g) (rsv d g s c) ∗ ride (upT d c) d s g)
def agsPay (c : Dev nD) (d : Fin 2) (s : ℕ) (g : Fin 2) : sProp 𝕄 := segQ c (agSg d (hop d (posT c) (15 + s)) g) hs
def agrPay (c : Dev nD) (d : Fin 2) (s : ℕ) (g : Fin 2) : sProp 𝕄 := iprop(segV c (agSg d (hop d (posT c) s) g) (agv d g (s + 1) c) ∗ rideAg (upT d c) d s g)
instance rssPay_storable (c : Dev nD) (d : Fin 2) (s : ℕ) (g : Fin 2) : Storable (upEmb : UEmb _ 𝕄) (rssPay (F := F) c d s g) := by
  unfold rssPay; split <;> infer_instance

def dmPay (c : Dev nD) (k : Fin 4) (d : Fin 2) (s : ℕ) (g : Fin 2) : sProp 𝕄 :=
  match k with
  | 0 => rssPay c d s g
  | 1 => rsrPay c d s g
  | 2 => agsPay c d s g
  | 3 => agrPay c d s g
instance dmPay_storable (c : Dev nD) (k : Fin 4) (d : Fin 2) (s : ℕ) (g : Fin 2) : Storable (upEmb : UEmb _ 𝕄) (dmPay (F := F) c k d s g) := by
  unfold dmPay rsrPay agsPay agrPay; split <;> infer_instance

/-- The place of a copy semaphore in the arrays. -/
def dmK (n : ℕ) : Fin 4 := Fin.ofNat 4 (2 * ((n - 7) / 120) + (n - 7) / 30 % 2)
def dmD (n : ℕ) : Fin 2 := Fin.ofNat 2 ((n - 7) / 60)
def dmS (n : ℕ) : ℕ := (n - 7) % 30 / 2
def dmG (n : ℕ) : Fin 2 := Fin.ofNat 2 (n - 7)

theorem dm_dec (k : Fin 4) (d : Fin 2) (s : ℕ) (g : Fin 2) (hs : s < 15) :
    7 ≤ (dm k d s g).val ∧ dmK (dm k d s g).val = k ∧ dmD (dm k d s g).val = d ∧ dmS (dm k d s g).val = s ∧ dmG (dm k d s g).val = g := by
  have h : ∀ (k : Fin 4) (d : Fin 2) (s : Fin 15) (g : Fin 2), 7 ≤ (dm k d s.val g).val ∧ dmK (dm k d s.val g).val = k ∧ dmD (dm k d s.val g).val = d
      ∧ dmS (dm k d s.val g).val = s.val ∧ dmG (dm k d s.val g).val = g := by decide +kernel
  exact h k d ⟨s, hs⟩ g

/-- The schedule: one round on every cell. -/
def Rd : Rounds.Schedule (GSem nD τ sig) ℕ 𝕄 where
  duties g r := if g.1.2 = .tc ∧ r = 0 then
      (match g.2 with
        | .reg x => if x = barS then {0, 1} else Finset.range 12
        | .dma n => if 7 ≤ n.val then {0} else ∅) else ∅
  unitless _ := False
  amount g _ j := match g.2 with
    | .reg x => if x = barS then 1 else if j = 11 then 7 else 1
    | .dma n => NB
  payload g _ j := match g.2 with
    | .reg x => if x = barS then barPay g.1.1 (Fin.ofNat 2 j) else iprop(emp)
    | .dma n => dmPay g.1.1 (dmK n.val) (dmD n.val) (dmS n.val) (dmG n.val)
  amount_pos g _ j _ := by
    have hN : 0 < NB := NB_pos
    obtain ⟨t, x | n⟩ := g
    · show 0 < (if x = barS then 1 else if j = 11 then 7 else 1)
      split_ifs <;> decide
    · exact hN

instance Rd_storable (g : GSem nD τ sig) (r : ℕ) (j : ℕ) : BI.Storable (upEmb : UEmb _ 𝕄) ((Rd (F := F)).payload g r j) := by
  dsimp only [Rd]
  split
  · split_ifs <;> infer_instance
  · infer_instance

section Facts
variable (c : Dev nD)

theorem duties_dm (k : Fin 4) (d : Fin 2) (s : ℕ) (g : Fin 2) : (Rd (F := F)).duties (cell c (.dma (dm k d s g))) 0 = {0} := by
  dsimp only [Rd]; rw [if_pos ⟨rfl, rfl⟩, if_pos (show 7 ≤ (dm k d s g).val by show 7 ≤ 7 + 30 * (4 * (k.val / 2) + 2 * d.val + k.val % 2) + 2 * (s % 15) + g.val; omega)]
theorem duties_bar : (Rd (F := F)).duties (cell c (.reg barS)) 0 = {0, 1} := by
  dsimp only [Rd]; rw [if_pos ⟨rfl, rfl⟩, if_pos rfl]
theorem crS_ne (d : Fin 2) : crS d ≠ barS := by revert d; decide
theorem duties_cr (d : Fin 2) : (Rd (F := F)).duties (cell c (.reg (crS d))) 0 = Finset.range 12 := by
  dsimp only [Rd]; rw [if_pos ⟨rfl, rfl⟩, if_neg (crS_ne d)]
theorem duties_later (g : GSem nD τ sig) : ∀ r, 1 ≤ r → (Rd (F := F)).duties g r = ∅ := fun r hr => by
  dsimp only [Rd]; rw [if_neg (fun h => by omega)]
theorem payload_dm (k : Fin 4) (d : Fin 2) (s : ℕ) (g : Fin 2) (hs : s < 15) (r j : ℕ) :
    (Rd (F := F)).payload (cell c (.dma (dm k d s g))) r j = dmPay c k d s g := by
  obtain ⟨-, h1, h2, h3, h4⟩ := dm_dec k d s g hs
  show dmPay c (dmK _) (dmD _) (dmS _) (dmG _) = _
  rw [h1, h2, h3, h4]
theorem payload_bar (d : Fin 2) (r : ℕ) : (Rd (F := F)).payload (cell c (.reg barS)) r d.val = barPay c d := by
  show (if barS = barS then barPay c (Fin.ofNat 2 d.val) else iprop(emp)) = _
  rw [if_pos rfl, show Fin.ofNat 2 d.val = d from by revert d; decide]
theorem payload_cr (d : Fin 2) (r j : ℕ) : (Rd (F := F)).payload (cell c (.reg (crS d))) r j = iprop(emp) := if_neg (crS_ne d)
theorem amount_bar (r j : ℕ) : (Rd (F := F)).amount (cell c (.reg barS)) r j = 1 :=
  (if_pos (rfl : barS = barS) : (if barS = barS then 1 else if j = 11 then 7 else 1) = 1)
theorem amount_cr (d : Fin 2) (r j : ℕ) : (Rd (F := F)).amount (cell c (.reg (crS d))) r j = if j = 11 then 7 else 1 := if_neg (crS_ne d)
theorem expect_dm (k : Fin 4) (d : Fin 2) (s : ℕ) (g : Fin 2) : (Rd (F := F)).expect (cell c (.dma (dm k d s g))) 0 = NB := by
  unfold Schedule.expect Schedule.amountOf; rw [duties_dm, Finset.sum_singleton]; rfl
theorem expect_bar : (Rd (F := F)).expect (cell c (.reg barS)) 0 = 2 := by
  unfold Schedule.expect Schedule.amountOf; rw [duties_bar, Finset.sum_congr rfl fun j _ => amount_bar (F := F) c 0 j]; rfl
theorem expect_cr (d : Fin 2) : (Rd (F := F)).expect (cell c (.reg (crS d))) 0 = 18 := by
  unfold Schedule.expect Schedule.amountOf; rw [duties_cr, Finset.sum_congr rfl fun j _ => amount_cr (F := F) c d 0 j]; decide

theorem ev_duty (e : Ev) : e.duty ∈ (Rd (F := F)).duties (cell c e.sem) 0 := by
  rcases e with d | ⟨d, s, g⟩ | ⟨d, j⟩ | ⟨d, s, g⟩ <;> simp only [Ev.sem, Ev.duty]
  · rw [duties_bar]; revert d; decide
  · rw [duties_dm]; exact Finset.mem_singleton_self _
  · rw [duties_cr]; exact Finset.mem_range.mpr j.isLt
  · rw [duties_dm]; exact Finset.mem_singleton_self _
theorem ev_amount (e : Ev) : (Rd (F := F)).amount (cell c e.sem) 0 e.duty = e.amt := by
  rcases e with d | ⟨d, s, g⟩ | ⟨d, j⟩ | ⟨d, s, g⟩ <;> simp only [Ev.sem, Ev.duty, Ev.amt]
  · exact amount_bar (F := F) c 0 _
  · rfl
  · exact amount_cr (F := F) c d 0 _
  · rfl
end Facts

end Cert.KernelIdeal.Ring

end
-- ==== Proof.Ki.Step.lean ====
module

public import proofs.«01_k».proof.Proof.Ki.Sched
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

abbrev 𝒱₀ : Variants := Variants.none

/-! ## Triples -/

/-- A program run on device `c` from `P` to `Q`, with `C` at hand. -/
def Tr {α : Type} (c : Dev nD) (C : sProp 𝕄) (P : sProp 𝕄) (p : Pr F α) (Q : α → sProp 𝕄) : Prop :=
  iprop(C ∗ P) ⊢ wp frame (wpE (defs₀ (F := F)) 𝒱₀ (c : Thread nD τ) none) Set.univ p Q

section Triples
variable {α β : Type} {c : Dev nD}

theorem Tr.use {C : sProp 𝕄} [BI.Persistent C] {P : sProp 𝕄} {p : Pr F α} {Q : α → sProp 𝕄} (h : Tr c C P p Q) {R : α → sProp 𝕄} :
    iprop(C ∗ P) ⊢ iprop((∀ a, Q a -∗ R a) -∗ wp frame (wpE (defs₀ (F := F)) 𝒱₀ (c : Thread nD τ) none) Set.univ p R) :=
  BIBase.Entails.trans h (wp_wand frame (wpE (defs₀ (F := F)) 𝒱₀ (c : Thread nD τ) none) Set.univ)

theorem Tr.bind {C : sProp 𝕄} [BI.Persistent C] {P : sProp 𝕄} {p : Pr F α} {Q : α → sProp 𝕄} {k : α → Pr F β} {R : β → sProp 𝕄}
    (h : Tr c C P p Q) (hk : ∀ a, Tr c C (Q a) (k a) R) : Tr c C P (p >>= k) R := by
  unfold Tr at *
  rw [wp_bind]
  iintro ⟨#HC, HP⟩
  iapply (Tr.use h) $$ [HP]
  · isplitr; · iexact HC
    iexact HP
  iintro %a HQ
  iapply (hk a)
  isplitr; · iexact HC
  iexact HQ

theorem Tr.keep {C : sProp 𝕄} {P : sProp 𝕄} {p : Pr F α} {Q : α → sProp 𝕄} (R : sProp 𝕄) (h : Tr c C P p Q) :
    Tr c C iprop(P ∗ R) p (fun a => iprop(Q a ∗ R)) := by
  unfold Tr at *
  refine BIBase.Entails.trans ?_ (wp_frame_r frame (wpE (defs₀ (F := F)) 𝒱₀ (c : Thread nD τ) none) Set.univ)
  iintro ⟨HC, HP, HR⟩
  isplitr [HR]
  · iapply h; isplitl [HC] <;> iassumption
  · iexact HR

theorem Tr.pre {C : sProp 𝕄} {P P' : sProp 𝕄} {p : Pr F α} {Q : α → sProp 𝕄} (hP : P ⊢ P') (h : Tr c C P' p Q) : Tr c C P p Q :=
  BIBase.Entails.trans (sep_mono_right hP) h
theorem Tr.post {C : sProp 𝕄} {P : sProp 𝕄} {p : Pr F α} {Q Q' : α → sProp 𝕄} (hQ : ∀ a, Q a ⊢ Q' a) (h : Tr c C P p Q) : Tr c C P p Q' :=
  BIBase.Entails.trans h (wp_mono frame (wpE (defs₀ (F := F)) 𝒱₀ (c : Thread nD τ) none) Set.univ hQ)
theorem Tr.weaken {C : sProp 𝕄} {P : sProp 𝕄} {C' : sProp 𝕄} {p : Pr F α} {Q : α → sProp 𝕄} (hC : C' ⊢ C) (h : Tr c C P p Q) : Tr c C' P p Q :=
  BIBase.Entails.trans (sep_mono_left hC) h

theorem Tr.ret {C : sProp 𝕄} {P : sProp 𝕄} (a : α) {Q : α → sProp 𝕄} (h : P ⊢ Q a) : Tr c C P (pure a) Q := by
  refine BIBase.Entails.trans ?_ (le_wp_ret frame (wpE (defs₀ (F := F)) 𝒱₀ (c : Thread nD τ) none) Set.univ a Q)
  iintro ⟨-, HP⟩
  iapply h; iexact HP

theorem Tr.loop {C : sProp 𝕄} [BI.Persistent C] (Inv : ℕ → sProp 𝕄) (f : ℕ → Pr F PUnit) (a n : ℕ)
    (h : ∀ k, a ≤ k → k < a + n → Tr c C (Inv k) (f k) fun _ => Inv (k + 1)) :
    Tr c C (Inv a) (Ring.loop f a n) fun _ => Inv (a + n) := by
  induction n generalizing a with
  | zero => exact Tr.ret _ (BI.Entails.refl _)
  | succ n ih =>
    refine Tr.bind (h a le_rfl (by omega)) fun _ => ?_
    have := ih (a + 1) (fun k h1 h2 => h k (by omega) (by omega))
    rwa [show a + 1 + n = a + (n + 1) by omega] at this

end Triples

/-- The first of a row of assertions. -/
theorem bs_Ico {m n : ℕ} (h : m < n) (f : ℕ → sProp 𝕄) : bigSep (Finset.Ico m n) f = iprop(f m ∗ bigSep (Finset.Ico (m + 1) n) f) := by
  have hI : Finset.Ico m n = insert m (Finset.Ico (m + 1) n) := by ext x; simp only [Finset.mem_Ico, Finset.mem_insert]; omega
  rw [hI, bigSep_insert (by simp)]; rfl
/-- The last of a row. -/
theorem bs_Ico_last {m n : ℕ} (h : m ≤ n) (f : ℕ → sProp 𝕄) : bigSep (Finset.Ico m (n + 1)) f = iprop(f n ∗ bigSep (Finset.Ico m n) f) := by
  have hI : Finset.Ico m (n + 1) = insert n (Finset.Ico m n) := by ext x; simp only [Finset.mem_Ico, Finset.mem_insert]; omega
  rw [hI, bigSep_insert (by simp)]; rfl
theorem bs_range (n : ℕ) (f : ℕ → sProp 𝕄) : bigSep (Finset.range (n + 1)) f = iprop(f n ∗ bigSep (Finset.range n) f) := by
  have hI : Finset.range (n + 1) = insert n (Finset.range n) := by ext x; simp only [Finset.mem_range, Finset.mem_insert]; omega
  rw [hI, bigSep_insert (by simp)]; rfl

/-! ## What every device may consult -/

/-- The cells of a device. -/
abbrev CIx : Type := (Fin 4 × Fin 2 × Fin 15 × Fin 2) ⊕ Fin 3
def smOf : CIx → SemLoc sig
  | .inl x => .dma (dm x.1 x.2.1 x.2.2.1.val x.2.2.2)
  | .inr r => .reg r

section Ctx
variable (K : GSem nD τ sig → ℕ)

def Ctx : sProp 𝕄 :=
  iprop((bigSep (Finset.univ : Finset (Dev nD × CIx)) fun x => cellInv ER (Rd (F := F)) (K (cell x.1 (smOf x.2))) (cell x.1 (smOf x.2)))
    ∗ (bigSep (Finset.univ : Finset (Dev nD)) fun c => reached ER (cell c (.reg barS)) 0) ∗ levAts L lv)
instance ctx_persistent : BI.Persistent (Ctx K : sProp 𝕄) := by unfold Ctx; infer_instance

theorem ctx_inv (c : Dev nD) (x : CIx) : (Ctx K : sProp 𝕄) ⊢ cellInv ER (Rd (F := F)) (K (cell c (smOf x))) (cell c (smOf x)) := by
  unfold Ctx
  exact BIBase.Entails.trans (Laws.sep_and.trans and_elimL) (bigSep_elim (Finset.mem_univ (c, x)))
theorem ctx_dm (c : Dev nD) (k : Fin 4) (d : Fin 2) (s : ℕ) (g : Fin 2) (hs : s < 15) :
    Ctx K ⊢ cellInv ER (Rd (F := F)) (K (cell c (.dma (dm k d s g)))) (cell c (.dma (dm k d s g))) :=
  ctx_inv K c (.inl (k, d, ⟨s, hs⟩, g))
theorem ctx_reg (c : Dev nD) (r : Sem sig) : (Ctx K : sProp 𝕄) ⊢ cellInv ER (Rd (F := F)) (K (cell c (.reg r))) (cell c (.reg r)) :=
  ctx_inv K c (.inr r)
theorem ctx_bar (c : Dev nD) : (Ctx K : sProp 𝕄) ⊢ reached ER (cell c (.reg barS)) 0 := by
  unfold Ctx
  exact BIBase.Entails.trans (Laws.sep_and.trans and_elimR) (BIBase.Entails.trans (Laws.sep_and.trans and_elimL) (bigSep_elim (Finset.mem_univ c)))
theorem ctx_lev : (Ctx K : sProp 𝕄) ⊢ levAts L lv := by
  unfold Ctx
  iintro ⟨-, -, #H⟩
  iexact H

set_option maxRecDepth 8000 in
theorem ctx_may (n : ℕ) (c : Dev nD) (W : Waits sig ℕ) (h : ∀ p ∈ W, p.2 < n ∧ p.2 < 300) :
    (Ctx K : sProp 𝕄) ⊢ MayOwe (c : Thread nD τ) W (oweF n c) := by
  have h1 := ctx_lev (F := F) K
  have h2 := mayOwe (F := F) n c W h
  exact BIBase.Entails.trans h1 h2

theorem reached_dm (c : Dev nD) (k : Fin 4) (d : Fin 2) (s : ℕ) (g : Fin 2) (hs : s < 15) :
    reachedAll (F := F) c ⊢ reached ER (cell c (.dma (dm k d s g))) 0 := by
  unfold reachedAll
  exact BIBase.Entails.trans (Laws.sep_and.trans and_elimL) (bigSep_elim (Finset.mem_univ ((k, d, ⟨s, hs⟩, g) : Fin 4 × Fin 2 × Fin 15 × Fin 2)))
theorem reached_cr (c : Dev nD) (d : Fin 2) : reachedAll (F := F) c ⊢ reached ER (cell c (.reg (crS d))) 0 := by
  unfold reachedAll
  exact BIBase.Entails.trans (Laws.sep_and.trans and_elimR) (bigSep_elim (Finset.mem_univ d))

/-- With the neighbours' cells open. -/
def Ctx2 (c : Dev nD) : sProp 𝕄 := iprop(Ctx K ∗ reachedAll c ∗ reachedAll (peerT 0 c) ∗ reachedAll (peerT 1 c))
instance ctx2_persistent (c : Dev nD) : BI.Persistent (Ctx2 K c : sProp 𝕄) := by unfold Ctx2; infer_instance
theorem ctx2_ctx (c : Dev nD) : (Ctx2 K c : sProp 𝕄) ⊢ Ctx K := by unfold Ctx2; iintro ⟨#H, -⟩; iexact H
theorem ctx2_own (c : Dev nD) : (Ctx2 K c : sProp 𝕄) ⊢ reachedAll c := by unfold Ctx2; iintro ⟨-, #H, -⟩; iexact H
theorem ctx2_peer (c : Dev nD) (d : Fin 2) : (Ctx2 K c : sProp 𝕄) ⊢ reachedAll (peerT d c) := by
  unfold Ctx2
  match d with
  | 0 => iintro ⟨-, -, #H, -⟩; iexact H
  | 1 => iintro ⟨-, -, -, #H⟩; iexact H
theorem ctx2_up (c : Dev nD) (d : Fin 2) : (Ctx2 K c : sProp 𝕄) ⊢ reachedAll (upT d c) := by
  rw [← peer_flip]; exact ctx2_peer K c _

/-! ## Paying -/

/-- The payments left, and the rights to make them. -/
def paying (n : ℕ) (c : Dev nD) : sProp 𝕄 :=
  iprop((∃ W, owes (c : Thread nD τ) (oweF n c) W) ∗ bigSep (rem n) fun e => dutyTok ER (cell (e.dev c) e.sem) 0 e.duty)

theorem paying_skip {n n' : ℕ} (c : Dev nD) (h : n ≤ n') (hn : ∀ e : Ev, n ≤ e.tm → n' ≤ e.tm) : (paying n c : sProp 𝕄) = paying n' c := by
  unfold paying oweF; rw [rem_skip h hn]

theorem paying_take (e : Ev) (c : Dev nD) : (paying e.tm c : sProp 𝕄)
    ⊢ iprop((∃ W, owes (c : Thread nD τ) (oweF e.tm c) W) ∗ dutyTok ER (cell (e.dev c) e.sem) 0 e.duty
      ∗ bigSep (rem (e.tm + 1)) fun e => dutyTok ER (cell (e.dev c) e.sem) 0 e.duty) := by
  unfold paying; rw [rem_pay e, bigSep_insert (not_mem_rem e)]; exact BI.Entails.refl _

/-- A signal. -/
theorem tr_signal (c : Dev nD) (C : sProp 𝕄) [BI.Persistent C] (hC : C ⊢ Ctx K) (e : Ev) (sm : Sem sig) (he : e.sem = .reg sm)
    (hr : C ⊢ reached ER (cell (e.dev c) (.reg sm)) 0) (n : BitVec 32) (hn : n.toInt = (e.amt : ℤ)) :
    Tr c C iprop(paying e.tm c ∗ (Rd (F := F)).payload (cell (e.dev c) (.reg sm)) 0 e.duty) (semSignalWord (e.dev c) sm n) fun _ => paying (e.tm + 1) c := by
  unfold Tr semSignalWord
  rw [hn]
  have hd := ev_duty (F := F) (e.dev c) e
  have hk := ev_amount (F := F) (e.dev c) e
  have hO := oweF_pay e c
  rw [he] at hd hk hO
  iintro ⟨#HC, Hp, Hpay⟩
  ihave Hp' := (paying_take e c) $$ Hp
  rw [he]
  icases Hp' with ⟨⟨%W, HO⟩, Ht, Hrest⟩
  iapply (Rounds.wp_signal 𝒱₀ ER (Rd (F := F)) (c : Thread nD τ) none (dst := (e.dev c : Thread nD τ)) (sem := sm) (r := 0) (d := e.duty) (κ := K (cell (e.dev c) (.reg sm)))
    hd hk e.tm (oweF (e.tm + 1) c) hO) $$ [HO Ht Hpay]
  · isplitr; · iapply (ctx_reg K (e.dev c) sm); iapply hC; iexact HC
    isplitl [HO]; · iexact HO
    isplitl [Ht]; · iexact Ht
    isplitl [Hpay]; · iexact Hpay
    iapply hr; iexact HC
  iintro HO
  rw [wp_ret]
  imodintro
  unfold paying
  isplitl [HO]; · iexists W; iexact HO
  iexact Hrest

/-- The cells are not taken up again. -/
theorem tr_close (κ : ℕ) (c : Dev nD) (sm : SemLoc sig) :
    iprop(cellInv ER (Rd (F := F)) κ (cell c sm) ∗ atPos ER (cell c sm) (0 + 1) ∅ 0) ⊢ (|={Set.univ}=> semVal (cell c sm) 0 : sProp 𝕄) :=
  Rounds.cell_close ER (Rd (F := F)) (Set.mem_univ κ) id (duties_later (F := F) (cell c sm))

/-- A wait for a copy's bytes. -/
theorem tr_dmaWait (c : Dev nD) (C : sProp 𝕄) [BI.Persistent C] (hC : C ⊢ Ctx K) (k : Fin 4) (d : Fin 2) (s : ℕ) (g : Fin 2) (hs : s < 15)
    (sm : DmaSem sig) (hsm : sm = dm k d s g) (n ix : ℕ) (hix : ix < n) (hix' : ix < 300)
    (src dst : Memref sig .tc .vmem S128x1024 .bf16) (h1 : src.view.WordExact) (h2 : dst.view.WordExact) (hN : dst.view.dmaCredit = NB) :
    Tr c C iprop(cred (tallyAt (cell c (.dma (dm k d s g))) ix NB) ∗ atPos ER (cell c (.dma (dm k d s g))) 0 ∅ 0 ∗ paying n c)
      (waitP sm src dst h1 h2)
      fun _ => iprop(dmPay c k d s g ∗ semVal (cell c (.dma (dm k d s g))) 0 ∗ paying n c) := by
  subst hsm
  unfold Tr waitP paying
  iintro ⟨#HC, Hcr, Hat, ⟨%W, HO⟩, Hrest⟩
  ihave #HI := (hC.trans (ctx_dm K c k d s g hs)) $$ HC
  iapply (Rounds.wp_wait_rest_token 𝒱₀ ER (Rd (F := F)) (c : Thread nD τ) none (κ := K (cell c (.dma (dm k d s g))))
      (wpE_waitDma2_eq 𝒱₀ (c : Thread nD τ) none Set.univ) (Set.mem_univ _) ix (O := oweF n c) (W := W) (R := 0) (m := 0) (T := ∅)
      ((Nat.zero_add _).trans (hN.trans (expect_dm c k d s g).symm))) $$ [Hcr HO Hat]
  · isplitr; · iexact HI
    isplitl [Hcr]; · rw [hN]; iexact Hcr
    isplitl [HO]; · iexact HO
    isplitr
    · iapply (BIBase.Entails.trans hC (ctx_may K n c {(SemLoc.dma (dm k d s g), ix)} (fun p hp => by rw [Finset.mem_singleton.mp hp]; exact ⟨hix, hix'⟩))); iexact HC
    iexact Hat
  rw [wp_ret, Finset.sdiff_empty, duties_dm, bigSep_singleton, payload_dm c k d s g hs]
  iintro ⟨HO, Hat, -, Hpay⟩
  imod (tr_close (K (cell c (.dma (dm k d s g)))) c (.dma (dm k d s g))) $$ [Hat] with Hv
  · isplitr; · iexact HI
    iexact Hat
  imodintro
  isplitl [Hpay]; · iexact Hpay
  isplitl [Hv]; · iexact Hv
  isplitl [HO]; · iexists _; iexact HO
  iexact Hrest

/-- A remote copy of a segment, with what rides on it. -/
theorem tr_send (c : Dev nD) (C : sProp 𝕄) [BI.Persistent C] (hC : C ⊢ Ctx2 K c) (k k' : Fin 4) (d : Fin 2) (s : ℕ) (g : Fin 2) (hs : s < 15)
    (e : Ev) (he : e.sem = .dma (dm k' d s g)) (hdev : e.dev c = peerT d c) (hamt : e.amt = NB) (hdu : e.duty = 0)
    (sS sR : DmaSem sig) (hsS : sS = dm k d s g) (hsR : sR = dm k' d s g)
    (src dst : Memref sig .tc .vmem S128x1024 .bf16) (h1 : src.view.WordExact) (h2 : dst.view.WordExact)
    (hN : dst.view.dmaCredit = NB)
    (q : PosShare TreeShare) (Ri : sProp 𝕄) (v : Sg F)
    (hp1 : (segQ c src q : sProp 𝕄) ⊢ dmPay c k d s g) (hp2 : iprop(segV (peerT d c) dst v ∗ Ri) ⊢ dmPay (peerT d c) k' d s g) :
    Tr c C iprop(paying e.tm c ∗ segW c src q v ∗ segA (peerT d c) dst ∗ Ri ∗ dutyTok ER (cell c (.dma (dm k d s g))) 0 0)
      (sendP src dst h1 h2 (peerT d c) sS sR)
      fun _ => iprop(paying (e.tm + 1) c ∗ cred (tallyAt (cell c (.dma (dm k d s g))) 0 NB)) := by
  subst hsS hsR
  unfold Tr sendP
  have hO := oweF_pay e c
  rw [he, hdev, hamt] at hO
  iintro ⟨#HC, Hp, Hs, Hd, HR, Ht⟩
  ihave Hp' := (paying_take e c) $$ Hp
  rw [he, hdev, hdu]
  icases Hp' with ⟨⟨%W, HO⟩, Ht2, Hrest⟩
  ihave #HI := (hC.trans (ctx2_ctx K c)) $$ HC
  unfold segA segQ holdM segW
  icases Hs with ⟨%fs, %hfs, Hs⟩
  icases Hd with ⟨%fd, Hd⟩
  iapply (Rounds.wp_send_pointsTo_with 𝒱₀ ER (Rd (F := F)) (c : Thread nD τ) none (c' := (peerT d c : Thread nD τ)) (src := src) (dst := dst)
      (sS := .dma (dm k d s g)) (sem := .dma (dm k' d s g)) (q := q) (fs := fs) (fd := fd) (F := Ri)
      (κ₁ := K (cell c (.dma (dm k d s g)))) (κ₂ := K (cell (peerT d c) (.dma (dm k' d s g))))
      (r₁ := 0) (r₂ := 0) (d₁ := 0) (d₂ := 0)
      (by rw [duties_dm]; exact Finset.mem_singleton_self _) (by rw [duties_dm]; exact Finset.mem_singleton_self _)
      e.tm 0 NB hN rfl rfl (oweF (e.tm + 1) c) hO (W := W)
      (by rw [payload_dm c k d s g hs]; refine BIBase.Entails.trans ?_ hp1
          unfold segQ holdM; iintro H; iexists fs; iexact H)
      (by rw [payload_dm (peerT d c) k' d s g hs]; refine BIBase.Entails.trans ?_ hp2
          unfold segV segW; iintro ⟨H, HR⟩
          isplitl [H]
          · iexists _
            isplitr; · ipureintro; exact (View.read_write_univ (v := dst.view) fd _).trans hfs
            iexact H
          · iexact HR)) $$ [Hs Hd HR HO Ht Ht2]
  · isplitr; · iapply (ctx_dm K c k d s g hs); iexact HI
    isplitr; · iapply (ctx_dm K (peerT d c) k' d s g hs); iexact HI
    isplitl [Hs]; · iexact Hs
    isplitl [Hd HR]; · isplitl [Hd] <;> iassumption
    isplitl [HO]; · iexact HO
    isplitl [Ht]; · iexact Ht
    isplitr; · iapply ((hC.trans (ctx2_own K c)).trans (reached_dm c k d s g hs)); iexact HC
    isplitl [Ht2]; · iexact Ht2
    iapply ((hC.trans (ctx2_peer K c d)).trans (reached_dm (peerT d c) k' d s g hs)); iexact HC
  iintro ⟨Hcr, HO⟩
  rw [wp_ret]
  imodintro
  unfold paying
  isplitr [Hcr]
  · isplitl [HO]; · iexists W; iexact HO
    iexact Hrest
  · iexact Hcr

/-! ## The credits -/

/-- The index a credit is waited for at. -/
def crIx (d : Fin 2) (j : ℕ) : ℕ := if j < 11 then 10 * (j + 1) + 4 + d.val else 150 + d.val

/-- A credit cell after `m` units. -/
def crSt (c : Dev nD) (d : Fin 2) (m : ℕ) : sProp 𝕄 :=
  iprop((∃ T : Finset ℕ, atPos ER (cell c (.reg (crS d))) 0 T m ∗ ⌜T ⊆ Finset.range 12 ∧ m + (Finset.range 12 \ T).card ≤ 18⌝)
    ∗ bigSep (Finset.Ico m 18) fun j => cred (tallyAt (cell c (.reg (crS d))) (crIx d j) 1))

theorem tr_credit (c : Dev nD) (C : sProp 𝕄) [BI.Persistent C] (hC : C ⊢ Ctx K) (d : Fin 2) (m n : ℕ) (hm : m < 18) (hn : crIx d m < n) (hn' : crIx d m < 300)
    (sm : Sem sig) (hsm : sm = crS d) :
    Tr c C iprop(crSt c d m ∗ paying n c) (semWaitWord sm 1#32) fun _ => iprop(crSt c d (m + 1) ∗ paying n c) := by
  subst hsm
  unfold Tr semWaitWord crSt paying
  rw [bs_Ico hm, show (1#32 : BitVec 32).toInt = ((1 : ℕ) : ℤ) from by decide]
  iintro ⟨#HC, ⟨⟨%T, Hat, %hT⟩, Hcr, Hcrs⟩, ⟨%W, HO⟩, Hrest⟩
  ihave #HI := (hC.trans (ctx_reg K c (crS d))) $$ HC
  iapply (Rounds.wp_wait 𝒱₀ ER (Rd (F := F)) (c : Thread nD τ) none (κ := K (cell c (.reg (crS d))))
      (wpE_semWait_eq 𝒱₀ (c : Thread nD τ) none Set.univ) (Set.mem_univ _) {(SemLoc.reg (crS d), crIx d m)} (cr := Finsupp.single (crIx d m) 1) (O := oweF n c) (W := W) (R := 0) (m := m) (T := T)
      (by rw [Util.total_single]) (image_single_subset (SemLoc.reg (crS d)) (crIx d m) 1)) $$ [Hcr HO Hat]
  · isplitr; · iexact HI
    isplitl [Hcr]; · iexact Hcr
    isplitl [HO]; · iexact HO
    isplitr
    · iapply (BIBase.Entails.trans hC (ctx_may K n c {(SemLoc.reg (crS d), crIx d m)} (fun p hp => by rw [Finset.mem_singleton.mp hp]; exact ⟨hn, hn'⟩))); iexact HC
    iexact Hat
  iintro %S ⟨%hS, HO, Hat, -⟩
  rw [wp_ret]
  imodintro
  isplitl [Hat Hcrs]
  · isplitl [Hat]
    · iexists S
      isplitl [Hat]; · iexact Hat
      ipureintro
      rw [duties_cr, expect_cr] at hS
      exact ⟨hS.2.1, hS.2.2⟩
    · iexact Hcrs
  · isplitl [HO]; · iexists _; iexact HO
    iexact Hrest

theorem crSt_close (c : Dev nD) (d : Fin 2) : (iprop(Ctx K ∗ crSt c d 18) : sProp 𝕄) ⊢ (|={Set.univ}=> semVal (cell c (.reg (crS d))) 0 : sProp 𝕄) := by
  unfold crSt
  iintro ⟨#HC, ⟨%T, Hat, %hT⟩, -⟩
  ihave #HI := (ctx_reg K c (crS d)) $$ HC
  imod (Rounds.fupd_skip ER (Rd (F := F)) (g := cell c (.reg (crS d))) (κ := K (cell c (.reg (crS d)))) (R := 0) (m := 18) (T := T)
    (by rw [duties_cr]; exact Finset.sdiff_eq_empty_iff_subset.mp (Finset.card_eq_zero.mp (by omega))) (expect_cr c d).symm (Set.mem_univ _)) $$ [Hat] with ⟨Hat, -⟩
  · isplitr; · iexact HI
    iexact Hat
  iapply (tr_close (K (cell c (.reg (crS d)))) c (.reg (crS d)))
  isplitr; · iexact HI
  iexact Hat

end Ctx

/-! ## Memory -/

section Mem
variable {sp : Space} {t : Shape} {e : EltTy}

theorem set_seg (M : Memref sig .tc sp t e) (r : Rect t) (hr : ∀ a, r.stride a = 1) {u : Shape} (hq : r.shape.Squeezes u) :
    ((M.slice r hr).squeeze u hq).view.set = M.view.setOn r.set := by
  show ((M.view.slice r).reshape u _).set = _
  rw [View.set_reshape, View.set_slice]; rfl

/-- Elements held at contents of which something is known. -/
def holdP {sp : Space} {t : Shape} {e : EltTy} (c : Dev nD) (M : Memref sig .tc sp t e) (S : Finset M.view.ty.Idx) (q : PosShare TreeShare)
    (φ : M.view.ty.Contents (Elt F) → Prop) : sProp 𝕄 := iprop(∃ f, ⌜φ f⌝ ∗ (M.view.loc (c : Thread nD τ) ↦[S]{q} f))

theorem holdM_P {sp : Space} {t : Shape} {e : EltTy} (c : Dev nD) (M : Memref sig .tc sp t e) (S : Finset M.view.ty.Idx) (q : PosShare TreeShare) :
    (holdM c M S q : sProp 𝕄) ⊢ holdP c M S q fun _ => True := by
  unfold holdM holdP
  iintro ⟨%f, H⟩
  iexists f
  isplitr; · ipureintro; trivial
  iexact H

theorem tr_loadP {t : Shape} {e : EltTy} (c : Dev nD) (C : sProp 𝕄) {cs : CoreSpace} (M : Memref sig .tc cs t e) (r : Rect t) (hl : M.view.LoadsAt r.toLoadRect)
    (S : Finset M.view.ty.Idx) (q : PosShare TreeShare) (hS : M.view.setOn r.set ⊆ S) (φ : M.view.ty.Contents (Elt F) → Prop) :
    Tr c C (holdP c M S q φ) (Prog.lift (.load M r.toLoadRect hl))
      fun v => iprop(⌜∃ f, φ f ∧ v = (M.access r).read (Elt F) f⌝ ∗ holdP c M S q φ) := by
  unfold Tr holdP
  iintro ⟨-, ⟨%f, %hf, H⟩⟩
  iapply (wp_load 𝒱₀ (c : Thread nD τ) none Set.univ (m := M) (r := r.toLoadRect) (hl := hl) (S := S) (q := q) (f := f) hS) $$ [H]
  · iexact H
  iintro H
  rw [wp_ret]
  imodintro
  isplitr; · ipureintro; exact ⟨f, hf, rfl⟩
  iexists f
  isplitr; · ipureintro; exact hf
  iexact H

theorem tr_storeP {t : Shape} {e : EltTy} (c : Dev nD) (C : sProp 𝕄) {cs : CoreSpace} (M : Memref sig .tc cs t e) (r : Rect t) (v : r.shape.Idx → Elt F e)
    (hx : (M.access r).Stores Finset.univ) (hm : (Finset.univ : Finset r.shape.Idx) = Finset.univ ∨ ∀ a, r.stride a = 1)
    (S : Finset M.view.ty.Idx) (hS : M.view.setOn r.set ⊆ S) (φ ψ : M.view.ty.Contents (Elt F) → Prop)
    (hφ : ∀ f, φ f → ψ ((M.access r).write (Elt F) f v Finset.univ)) :
    Tr c C (holdP c M S fullShare φ) (Prog.lift (.store M r v Finset.univ hx hm)) fun _ => holdP c M S fullShare ψ := by
  unfold Tr holdP
  iintro ⟨-, ⟨%f, %hf, H⟩⟩
  iapply (wp_store 𝒱₀ (c : Thread nD τ) none Set.univ (m := M) (r := r) (w := v) (Mk := Finset.univ) (hx := hx) (hm := hm) (S := S) (f := f)
    (by rw [View.setOn_univ]; show (M.view.slice r).set ⊆ S; rw [View.set_slice]; exact hS)) $$ [H]
  · iexact H
  iintro H
  rw [wp_ret]
  imodintro
  iexists _
  isplitr; · ipureintro; exact hφ f hf
  iexact H

theorem tr_load {t : Shape} {e : EltTy} (c : Dev nD) (C : sProp 𝕄) {cs : CoreSpace} (M : Memref sig .tc cs t e) (r : Rect t) (hl : M.view.LoadsAt r.toLoadRect)
    (S : Finset M.view.ty.Idx) (q : PosShare TreeShare) (hS : M.view.setOn r.set ⊆ S) :
    Tr c C (holdM c M S q) (Prog.lift (.load M r.toLoadRect hl)) fun _ => holdM c M S q := by
  unfold Tr holdM
  iintro ⟨-, ⟨%f, H⟩⟩
  iapply (wp_load 𝒱₀ (c : Thread nD τ) none Set.univ (m := M) (r := r.toLoadRect) (hl := hl) (S := S) (q := q) (f := f) hS) $$ [H]
  · iexact H
  iintro H
  rw [wp_ret]
  imodintro
  iexists f; iexact H

theorem tr_smem (c : Dev nD) (C : sProp 𝕄) {t : Shape} {e : EltTy} (M : Memref sig .tc .smem t e) (r : Rect t) (hn) (hw) (q : PosShare TreeShare)
    (x : t.Idx → Elt F e) (a : Elt F e) (hx : ∀ i, x i = a) :
    Tr c C (owns (c : Thread nD τ) M q x) (smemLoad M r hn hw : Pr F (Elt F e)) fun v => iprop(⌜v = a⌝ ∗ owns (c : Thread nD τ) M q x) := by
  unfold Tr owns
  iintro ⟨-, ⟨%f, %hf, H⟩⟩
  iapply (wp_smemLoadElt 𝒱₀ (c : Thread nD τ) none Set.univ (m := M) (r := r) (hw := _) (S := M.view.set) (q := q) (f := f)
    (by show (M.view.slice r).set ⊆ _; exact View.set_slice_subset _ _)) $$ [H]
  · iexact H
  iintro H
  rw [wp_ret]
  imodintro
  isplitr; · ipureintro; exact (congrFun hf _).trans (hx _)
  iexists f
  isplitr; · ipureintro; exact hf
  iexact H

end Mem

end Cert.KernelIdeal.Ring
end
-- ==== Proof.Ki.Ops.lean ====
module

public import proofs.«01_k».proof.Proof.Ki.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The body's operations on segments, as triples. -/

/-- The time of a copy, by the array of its semaphore. -/
def tmK (k : Fin 4) (d : Fin 2) (s : ℕ) (g : Fin 2) : ℕ :=
  match k with
  | 0 => 0
  | 1 => (Ev.rs d (Fin.ofNat 15 s) g).tm
  | 2 => 0
  | 3 => (Ev.ag d (Fin.ofNat 15 s) g).tm

theorem tm_rs (d : Fin 2) (s : ℕ) (g : Fin 2) (hs : s + 1 < 15) : (Ev.rs d (Fin.ofNat 15 (s + 1)) g).tm = 10 * (s + 1) + 2 * g.val + d.val := by
  show (if (s + 1) % 15 = 0 then 3 + 2 * d.val + g.val else 10 * ((s + 1) % 15) + 2 * g.val + d.val) = _
  rw [Nat.mod_eq_of_lt hs, if_neg (Nat.succ_ne_zero s)]
theorem tm_ag (d : Fin 2) (s : ℕ) (g : Fin 2) (hs : s + 1 < 15) : (Ev.ag d (Fin.ofNat 15 (s + 1)) g).tm = 150 + 10 * (s + 1) + 2 * g.val + d.val := by
  show (if (s + 1) % 15 = 0 then 152 + 2 * d.val + g.val else 150 + 10 * ((s + 1) % 15) + 2 * g.val + d.val) = _
  rw [Nat.mod_eq_of_lt hs, if_neg (Nat.succ_ne_zero s)]
theorem tm_rs0 (d g : Fin 2) : (Ev.rs d (Fin.ofNat 15 0) g).tm = 3 + 2 * d.val + g.val := rfl
theorem tm_ag0 (d g : Fin 2) : (Ev.ag d (Fin.ofNat 15 0) g).tm = 152 + 2 * d.val + g.val := rfl
theorem tm_rs_le (d : Fin 2) (s : ℕ) (g : Fin 2) (hs : s < 15) : (Ev.rs d (Fin.ofNat 15 s) g).tm < 10 * (s + 1) := by
  rcases s with _ | s
  · rw [tm_rs0]; omega
  · rw [tm_rs d s g hs]; omega
theorem tm_ag_le (d : Fin 2) (s : ℕ) (g : Fin 2) (hs : s < 15) : (Ev.ag d (Fin.ofNat 15 s) g).tm < 150 + 10 * (s + 1) := by
  rcases s with _ | s
  · rw [tm_ag0]; omega
  · rw [tm_ag d s g hs]; omega

/-- A copy semaphore's cell. -/
abbrev dcell (c : Dev nD) (k : Fin 4) (d : Fin 2) (s : ℕ) (g : Fin 2) : GSem nD τ sig := cell c (.dma (dm k d s g))
/-- A copy cell that will be waited on. -/
def pnd (c : Dev nD) (k : Fin 4) (d g : Fin 2) (s : ℕ) : sProp 𝕄 :=
  iprop(cred (tallyAt (dcell c k d s g) (tmK k d s g) NB) ∗ atPos ER (dcell c k d s g) 0 ∅ 0)
/-- A send cell before its copy. -/
def fre (c : Dev nD) (k : Fin 4) (d g : Fin 2) (s : ℕ) : sProp 𝕄 :=
  iprop(dutyTok ER (dcell c k d s g) 0 0 ∗ atPos ER (dcell c k d s g) 0 ∅ 0)
/-- A copy cell done with. -/
def cls (c : Dev nD) (k : Fin 4) (d g : Fin 2) (s : ℕ) : sProp 𝕄 := semVal (dcell c k d s g) 0

variable (K : GSem nD τ sig → ℕ)

theorem tr_wait (c : Dev nD) (k : Fin 4) (d : Fin 2) (s : ℕ) (g : Fin 2) (hs : s < 15)
    (sm : DmaSem sig) (hsm : sm = dm k d s g) (n : ℕ) (hn : tmK k d s g < n) (hn' : tmK k d s g < 300)
    (src dst : Memref sig .tc .vmem S128x1024 .bf16) (h1 : src.view.WordExact) (h2 : dst.view.WordExact) (hN : dst.view.dmaCredit = NB) :
    Tr c (Ctx2 K c) iprop(pnd c k d g s ∗ paying n c) (waitP sm src dst h1 h2 : Pr F PUnit)
      fun _ => iprop(dmPay c k d s g ∗ cls c k d g s ∗ paying n c) := by
  refine Tr.pre ?_ (tr_dmaWait K c (Ctx2 K c) (ctx2_ctx K c) k d s g hs sm hsm n (tmK k d s g) hn hn' src dst h1 h2 hN)
  unfold pnd
  iintro ⟨⟨H1, H2⟩, H3⟩
  isplitl [H1]; · iexact H1
  isplitl [H2] <;> iassumption

theorem agV_eq (d : Fin 2) (c : Dev nD) {o : Fin 3 → ℕ} (h) {k : Fin 16} {g : Fin 2} (e : o = agO k g) : agV (dirT d c) o h = agSg d k g := by subst e; rfl
theorem txS_add2 (d : Fin 2) (j : ℕ) (g : Fin 2) : txS d (j + 2) g = txS d j g := by
  have : Fin.ofNat 2 (j + 2) = Fin.ofNat 2 j := Fin.ext (by show (j + 2) % 2 = j % 2; omega)
  exact congrArg (fun i : Fin 2 => ((txM d).slice (Rect.unit (s := S2x256x1024) ![i.val, 128 * g.val, 0] S1x128x1024.size (tx_inb i g)) (fun _ => rfl)).squeeze
    S128x1024 squeezes_S1x128x1024_S128x1024) this
theorem rxS_add4 (d : Fin 2) (j : ℕ) (g : Fin 2) : rxS d (j + 4) g = rxS d j g := by
  have : Fin.ofNat 4 (j + 4) = Fin.ofNat 4 j := Fin.ext (by show (j + 4) % 4 = j % 4; omega)
  exact congrArg (fun i : Fin 4 => ((rxM d).slice (Rect.unit (s := S4x256x1024) ![i.val, 128 * g.val, 0] S1x128x1024.size (rx_inb i g)) (fun _ => rfl)).squeeze
    S128x1024 squeezes_S1x128x1024_S128x1024) this

theorem nb_rx (d : Fin 2) (j : ℕ) (g : Fin 2) : (rxS d j g).view.dmaCredit = NB := NB_eq _ rfl
theorem nb_tx (d : Fin 2) (j : ℕ) (g : Fin 2) : (txS d j g).view.dmaCredit = NB := NB_eq _ rfl
theorem nb_ag (d : Fin 2) (c : Dev nD) (o : Fin 3 → ℕ) (h) : (agV (dirT d c) o h).view.dmaCredit = NB := NB_eq _ rfl

/-- A load of a segment. -/
theorem tr_loadSeg {t u : Shape} {e : EltTy} {cs : CoreSpace} (c : Dev nD) (C : sProp 𝕄) (M : Memref sig .tc cs t e) (r : Rect t) (hr : ∀ a, r.stride a = 1)
    (hq : r.shape.Squeezes u) (hl : M.view.LoadsAt r.toLoadRect) (q : PosShare TreeShare) :
    Tr c C (holdM c ((M.slice r hr).squeeze u hq) ((M.slice r hr).squeeze u hq).view.set q) (Prog.lift (.load M r.toLoadRect hl))
      fun _ => holdM c ((M.slice r hr).squeeze u hq) ((M.slice r hr).squeeze u hq).view.set q :=
  tr_load c C M r hl ((M.slice r hr).squeeze u hq).view.set q (by rw [set_seg])

/-- A load of a segment whose values are known. -/
theorem tr_loadSegV {t : Shape} (c : Dev nD) (C : sProp 𝕄) (M : Memref sig .tc .vmem t .bf16) (r : Rect t) (hr : ∀ a, r.stride a = 1)
    (hq : r.shape.Squeezes S128x1024) (hl : M.view.LoadsAt r.toLoadRect) (q : PosShare TreeShare) (v : Sg F) :
    Tr c C (segW c ((M.slice r hr).squeeze S128x1024 hq) q v) (Prog.lift (.load M r.toLoadRect hl))
      fun a => iprop(⌜(fun j => a (Shape.reshapeEquiv hq.numel_eq j)) = v⌝ ∗ segW c ((M.slice r hr).squeeze S128x1024 hq) q v) := by
  refine Tr.post (fun a => ?_) (tr_loadP (cs := .vmem) c C M r hl ((M.slice r hr).squeeze S128x1024 hq).view.set q (by rw [set_seg])
    (fun f => ((M.slice r hr).squeeze S128x1024 hq).view.read (Elt F) f = v))
  unfold segW holdP
  iintro ⟨%h, H⟩
  isplitr
  · ipureintro
    obtain ⟨f, hf, rfl⟩ := h
    exact hf
  · iexact H

/-- A store of a segment, its values known. -/
theorem tr_storeSegV {t : Shape} (c : Dev nD) (C : sProp 𝕄) (M : Memref sig .tc .vmem t .bf16) (r : Rect t) (hr : ∀ a, r.stride a = 1)
    (hq : r.shape.Squeezes S128x1024) (v : r.shape.Idx → Elt F .bf16)
    (hx : (M.access r).Stores Finset.univ) (hm : (Finset.univ : Finset r.shape.Idx) = Finset.univ ∨ ∀ a, r.stride a = 1) :
    Tr c C (segA c ((M.slice r hr).squeeze S128x1024 hq)) (Prog.lift (.store M r v Finset.univ hx hm))
      fun _ => segV c ((M.slice r hr).squeeze S128x1024 hq) (fun j => v (Shape.reshapeEquiv hq.numel_eq j)) := by
  refine Tr.pre (holdM_P c _ _ fullShare) (tr_storeP (cs := .vmem) c C M r v hx hm ((M.slice r hr).squeeze S128x1024 hq).view.set (by rw [set_seg])
    (fun _ => True) (fun f => ((M.slice r hr).squeeze S128x1024 hq).view.read (Elt F) f = fun j => v (Shape.reshapeEquiv hq.numel_eq j)) (fun f _ => ?_))
  exact congrArg (fun (w : r.shape.Idx → Elt F .bf16) => fun j => w (Shape.reshapeEquiv hq.numel_eq j)) (View.read_write_univ (v := M.access r) f v)

theorem eq_up {a : Vec F S1x128x1024 .bf16} {v : Sg F} (h : dn (F := F) a = v) : a = up v := by rw [← h, up_dn]

theorem tr_ldAg (c : Dev nD) (C : sProp 𝕄) (d : Fin 2) {o : Fin 3 → ℕ} (h) {k : Fin 16} {g : Fin 2} (e : o = agO k g)
    (hl : (agM d).view.LoadsAt (Rect.unit (s := S16x256x1024) o S1x128x1024.size h).toLoadRect) (q : PosShare TreeShare) (v : Sg F) :
    Tr c C (segW c (agSg d k g) q v)
      (Prog.lift (.load (agM d) (Rect.unit (s := S16x256x1024) o S1x128x1024.size h).toLoadRect hl) : Pr F (Vec F S1x128x1024 .bf16))
      fun a => iprop(⌜a = up v⌝ ∗ segW c (agSg d k g) q v) := by
  subst e
  refine Tr.post (fun a => ?_) (tr_loadSegV c C (agM d) _ (fun _ => rfl) squeezes_S1x128x1024_S128x1024 hl q v)
  iintro ⟨%ha, H⟩
  isplitr; · ipureintro; exact eq_up ha
  iexact H

theorem tr_ldRx (c : Dev nD) (C : sProp 𝕄) (d : Fin 2) (s : ℕ) (g : Fin 2) (v : Sg F) :
    Tr c C (segV c (rxS d s g) v) (ldRx (dirT d c) s g : Pr F _) fun a => iprop(⌜a = up v⌝ ∗ segV c (rxS d s g) v) := by
  refine Tr.post (fun a => ?_) (tr_loadSegV c C (rxM d) _ (fun _ => rfl) squeezes_S1x128x1024_S128x1024 _ fullShare v)
  iintro ⟨%ha, H⟩
  isplitr; · ipureintro; exact eq_up ha
  iexact H

theorem tr_stTx (c : Dev nD) (C : sProp 𝕄) [BI.Persistent C] (d : Fin 2) (s : ℕ) (g : Fin 2) (v : FVec F S1x128x1024 .bf16) :
    Tr c C (segA c (txS d s g)) (stTx (dirT d c) s g v) fun _ => segV c (txS d s g) (dn v) :=
  Tr.bind (tr_loadSeg c C (txM d) _ (fun _ => rfl) squeezes_S1x128x1024_S128x1024 _ fullShare) fun _ =>
    tr_storeSegV c C (txM d) _ (fun _ => rfl) squeezes_S1x128x1024_S128x1024 _ _ _

/-- The elements of a whole buffer. -/
abbrev whQ {sp : Space} {t : Shape} {e : EltTy} (c : Dev nD) (M : Memref sig .tc sp t e) (q : PosShare TreeShare) : sProp 𝕄 := holdM c M M.view.set q

/-- A load of a buffer whose values are known. -/
theorem tr_ldOwn {t : Shape} {e : EltTy} {cs : CoreSpace} (c : Dev nD) (C : sProp 𝕄) (M : Memref sig .tc cs t e) (r : Rect t) (hl : M.view.LoadsAt r.toLoadRect) (q : PosShare TreeShare)
    (x : t.Idx → Elt F e) :
    Tr c C (owns (c : Thread nD τ) M q x) (Prog.lift (.load M r.toLoadRect hl))
      fun v => iprop(⌜v = fun j => x (r.emb j)⌝ ∗ owns (c : Thread nD τ) M q x) := by
  refine Tr.post (fun a => ?_) (tr_loadP c C M r hl _ q (View.setOn_subset_set _ _) (fun f => M.view.read (Elt F) f = x))
  unfold owns holdP
  iintro ⟨%h, H⟩
  isplitr
  · ipureintro
    obtain ⟨f, hf, rfl⟩ := h
    funext j
    exact congrFun hf (r.emb j)
  · iexact H

/-! ### The result -/

/-- The result's buffer, its first `n` windows written. -/
def outQ (c : Dev nD) (O : Memref sig .tc .vmem S4096x2048 .f32) (n : ℕ) : sProp 𝕄 :=
  holdP c O O.view.set fullShare fun f => ∀ i, tmO c i < n → O.view.read (Elt F) f i = outT c i

theorem out_start (c : Dev nD) (O : Memref sig .tc .vmem S4096x2048 .f32) : (whQ c O fullShare : sProp 𝕄) ⊢ outQ c O 0 := by
  unfold whQ holdM outQ holdP
  iintro ⟨%f, H⟩
  iexists f
  isplitr; · ipureintro; intro i hi; exact absurd hi (Nat.not_lt_zero _)
  iexact H
theorem out_done (c : Dev nD) (O : Memref sig .tc .vmem S4096x2048 .f32) : (outQ c O 64 : sProp 𝕄) ⊢ owns (c : Thread nD τ) O fullShare (outT c) := by
  unfold outQ holdP owns
  iintro ⟨%f, %hf, H⟩
  iexists f
  isplitr; · ipureintro; exact funext fun i => hf i (tmO_lt c i)
  iexact H

theorem tr_ldOut (c : Dev nD) (C : sProp 𝕄) (O : Memref sig .tc .vmem S4096x2048 .f32) (n : ℕ) (r : Rect S4096x2048) (hl : O.view.LoadsAt r.toLoadRect) :
    Tr c C (outQ c O n) (Prog.lift (.load O r.toLoadRect hl) : Pr F _) fun _ => outQ c O n := by
  unfold outQ
  refine Tr.post (fun a => ?_) (tr_loadP (cs := .vmem) c C O r hl _ fullShare (View.setOn_subset_set _ _) _)
  iintro ⟨-, H⟩; iexact H

theorem tr_stOut (c : Dev nD) (C : sProp 𝕄) (O : Memref sig .tc .vmem S4096x2048 .f32) (d g : Fin 2) (j : ℕ) (hj : j < 16) {o : Fin 2 → ℕ} (h)
    (e : o = winO d (hop d (posT c) (15 + j)) g) (v : S128x1024.Idx → Elt F .f32) (hv : v = outV d g j c) (n : ℕ) (hn : n = 4 * j + 2 * g.val + d.val)
    (hx : (O.access (Rect.unit (s := S4096x2048) o S128x1024.size h)).Stores Finset.univ) (hm) :
    Tr c C (outQ c O n) (Prog.lift (.store O (Rect.unit (s := S4096x2048) o S128x1024.size h) v Finset.univ hx hm) : Pr F _) fun _ => outQ c O (n + 1) := by
  subst e hv hn
  refine tr_storeP (cs := .vmem) c C O _ _ hx hm _ (View.setOn_subset_set _ _) _ _ (fun f hf i hi => ?_)
  by_cases hm : i ∈ (Finset.univ : Finset S128x1024.Idx).map (Rect.unit (s := S4096x2048) (winO d (hop d (posT c) (15 + j)) g) S128x1024.size h).emb
  · obtain ⟨y, -, rfl⟩ := Finset.mem_map.mp hm
    obtain ⟨h1, h2, h3, h4⟩ := win_at c d g j hj h y
    refine (View.read_slice_write_emb (v := O.view) _ f _ (Finset.mem_univ y)).trans ?_
    unfold outT
    rw [h1, h2, h3, h4]
  · have hlt : tmO c i < 4 * j + 2 * g.val + d.val := by
      rcases Nat.lt_or_ge (tmO c i) (4 * j + 2 * g.val + d.val) with h' | h'
      · exact h'
      · exact absurd (win_mem c d g j h i (by omega)) (by rw [← Rect.map_emb_univ]; exact hm)
    rw [← hf i hlt]
    exact View.read_slice_write_of_not_mem (v := O.view) _ f _ _ hm

theorem opt_true {p : Pr F PUnit} {b : Bool} (h : b = true) : opt b p = p := by subst h; rfl
theorem opt_false {p : Pr F PUnit} {b : Bool} (h : b = false) : opt b p = pure ⟨⟩ := by subst h; rfl

end Cert.KernelIdeal.Ring

end
-- ==== Proof.Ki.Lane.lean ====
module

public import proofs.«01_k».proof.Proof.Ki.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The reduce phase: what a lane (a direction and a segment) holds before an iteration, and one step of it. -/

variable (K : GSem nD τ sig → ℕ)

theorem bs_pair {a b : ℕ} (h : a ≠ b) (f : ℕ → sProp 𝕄) : bigSep {a, b} f = iprop(f a ∗ f b) := by
  rw [bigSep_insert (by simpa using h), bigSep_singleton]; rfl

/-- A receive slot goes back to its writer, or is kept. -/
theorem rx_put (c : Dev nD) (d g : Fin 2) (s : ℕ) :
    (iprop(segA c (rxS d s g) ∗ bigSep (Finset.Ico 11 s) fun i => segA c (rxS d i g)) : sProp 𝕄)
      ⊢ iprop((bigSep (Finset.Ico 11 (s + 1)) fun i => segA c (rxS d i g)) ∗ frRx c d s g) := by
  unfold frRx
  by_cases h : s ≤ 10
  · rw [if_pos h, show Finset.Ico 11 (s + 1) = ∅ from Finset.Ico_eq_empty (by omega), bigSep_empty]
    iintro ⟨H, -⟩
    isplitr; · iempintro
    iexact H
  · rw [if_neg h, bs_Ico_last (by omega)]
    iintro H
    isplitl; · iexact H
    iempintro

/-- The transmit side of a lane before iteration `s`. -/
def txSt (c : Dev nD) (d g : Fin 2) (s : ℕ) : sProp 𝕄 :=
  iprop(bigSep (Finset.Ico (s - 1) (s + 1)) (pnd c 0 d g) ∗ bigSep (Finset.range (s - 1)) (cls c 0 d g)
    ∗ bigSep (Finset.Ico (s + 1) 3) fun i => segA c (txS d i g))

/-- A lane before iteration `s`. -/
def rsSt (c : Dev nD) (d g : Fin 2) (s : ℕ) : sProp 𝕄 :=
  iprop(bigSep (Finset.Ico s 15) (pnd c 1 d g) ∗ bigSep (Finset.range s) (cls c 1 d g)
    ∗ bigSep (Finset.Ico (s + 1) 15) (fre c 0 d g) ∗ txSt c d g s
    ∗ (bigSep (Finset.Ico s 15) fun i => segV c (agSg d (hop d (posT c) (i + 1)) g) (part c d (hop d (posT c) (i + 1)) g))
    ∗ bigSep (Finset.Ico 11 s) fun i => segA c (rxS d i g))

section
variable (c : Dev nD) (G : Geo) (hG : GeoOk G c)

theorem tr_rsW (d : Fin 2) (s : ℕ) (g : Fin 2) (hs : s < 15) (n : ℕ) (hn : 10 * (s + 1) ≤ n) :
    Tr c (Ctx2 K c) iprop(pnd c 1 d g s ∗ paying n c) (rsW G (dirT d c) s g : Pr F PUnit)
      fun _ => iprop(segV c (rxS d s g) (rsv d g s c) ∗ ride (upT d c) d s g ∗ cls c 1 d g s ∗ paying n c) := by
  have ht := tm_rs_le d s g hs
  refine Tr.post (Q := fun _ => iprop(dmPay c 1 d s g ∗ cls c 1 d g s ∗ paying n c)) (fun _ => ?_) ?_
  · show iprop(rsrPay c d s g ∗ _) ⊢ _
    unfold rsrPay
    iintro ⟨⟨H1, H2⟩, H3⟩
    isplitl [H1]; · iexact H1
    isplitl [H2] <;> iassumption
  · match s, hs with
    | 0, hs => exact tr_wait K c 1 d 0 g hs _ (semAt_rsr d c 0 g) n (by show (Ev.rs d (Fin.ofNat 15 0) g).tm < n; omega) (by show (Ev.rs d (Fin.ofNat 15 0) g).tm < 300; omega) _ _ _ _ (nb_rx d 0 g)
    | s + 1, hs => exact tr_wait K c 1 d (s + 1) g hs _ (semAt_rsr d c (s + 1) g) n (by show (Ev.rs d (Fin.ofNat 15 (s + 1)) g).tm < n; omega) (by show (Ev.rs d (Fin.ofNat 15 (s + 1)) g).tm < 300; omega) _ _ _ _ (nb_rx d (s + 1) g)

theorem tr_rsS (d : Fin 2) (s : ℕ) (g : Fin 2) (hs : s < 15) (n : ℕ) (hn : 0 < n) :
    Tr c (Ctx2 K c) iprop(pnd c 0 d g s ∗ paying n c) (rsS G (dirT d c) s g : Pr F PUnit)
      fun _ => iprop(rssPay c d s g ∗ cls c 0 d g s ∗ paying n c) := by
  match s, hs with
  | 0, hs => exact tr_wait K c 0 d 0 g hs _ (semAt_rss d c 0 g) n hn (show (0 : ℕ) < 300 by decide) _ _ _ _ (nb_ag d c _ _)
  | s + 1, hs => exact tr_wait K c 0 d (s + 1) g hs _ (semAt_rss d c (s + 1) g) n hn (show (0 : ℕ) < 300 by decide) _ _ _ _ (nb_tx d (s + 1) g)

/-- The transmit buffer of the next step is free. -/
theorem tr_txFree (d : Fin 2) (s : ℕ) (g : Fin 2) (hs : s < 14) (n : ℕ) (hn : 0 < n) :
    Tr c (Ctx2 K c) iprop(txSt c d g s ∗ paying n c) (opt (Nat.ble 1 s) (rsS G (dirT d c) (s - 1) g) : Pr F PUnit)
      fun _ => iprop(pnd c 0 d g s ∗ bigSep (Finset.range s) (cls c 0 d g) ∗ (bigSep (Finset.Ico (s + 2) 3) fun i => segA c (txS d i g))
        ∗ segA c (txS d (s + 1) g) ∗ frOwn c d s g ∗ paying n c) := by
  unfold txSt
  match s, hs with
  | 0, hs =>
    refine Tr.ret _ ?_
    rw [show Finset.Ico (0 - 1) (0 + 1) = {0} from rfl, bigSep_singleton, bs_Ico (show 0 + 1 < 3 by omega)]
    iintro ⟨⟨H1, H2, H3, H4⟩, H5⟩
    isplitl [H1]; · iexact H1
    isplitl [H2]; · iexact H2
    isplitl [H4]; · iexact H4
    isplitl [H3]; · iexact H3
    isplitr; · unfold frOwn; rw [if_neg (by decide)]; iempintro
    iexact H5
  | 1, hs =>
    rw [show Finset.Ico (1 - 1) (1 + 1) = {0, 1} from rfl, bs_pair (by decide), bs_Ico (show 1 + 1 < 3 by omega)]
    show Tr c _ _ (rsS G (dirT d c) 0 g : Pr F PUnit) _
    unfold Tr
    iintro ⟨#HC, ⟨H1, H2, H3, H4⟩, H5⟩
    icases H1 with ⟨H0, H1⟩
    iapply (Tr.use (tr_rsS K c G d 0 g (by omega) n hn)) $$ [H0 H5]
    · isplitr; · iexact HC
      isplitl [H0] <;> iassumption
    iintro %_ ⟨Hp, Hc, H5⟩
    isplitl [H1]; · iexact H1
    isplitl [Hc]; · rw [show Finset.range 1 = {0} from rfl, bigSep_singleton]; iexact Hc
    isplitl [H4]; · iexact H4
    isplitl [H3]; · iexact H3
    isplitl [Hp]; · unfold frOwn; rw [if_pos rfl]; simp only [rssPay]; iexact Hp
    iexact H5
  | s + 2, hs =>
    rw [show Finset.Ico (s + 2 - 1) (s + 2 + 1) = {s + 1, s + 2} from by ext x; simp only [Finset.mem_Ico, Finset.mem_insert, Finset.mem_singleton]; omega, bs_pair (by simp)]
    show Tr c _ _ (rsS G (dirT d c) (s + 1) g : Pr F PUnit) _
    unfold Tr
    iintro ⟨#HC, ⟨H1, H2, H3⟩, H5⟩
    icases H1 with ⟨H0, H1⟩
    iapply (Tr.use (tr_rsS K c G d (s + 1) g (by omega) n hn)) $$ [H0 H5]
    · isplitr; · iexact HC
      isplitl [H0] <;> iassumption
    iintro %_ ⟨Hp, Hc, H5⟩
    isplitl [H1]; · iexact H1
    isplitl [Hc H2]
    · rw [bs_range (s + 1)]
      isplitl [Hc]; · iexact Hc
      iexact H2
    isplitr [Hp H5]
    · rw [show Finset.Ico (s + 2 + 2) 3 = ∅ from Finset.Ico_eq_empty (by omega), bigSep_empty]; iempintro
    isplitl [Hp]
    · rw [show s + 2 + 1 = (s + 1) + 2 from rfl, txS_add2]; simp only [rssPay]; iexact Hp
    isplitr; · unfold frOwn; rw [if_neg (by omega)]; iempintro
    iexact H5

/-- The step's credit. -/
def crLane (d g : Fin 2) (m : ℕ) : sProp 𝕄 := if g.val = 0 then crSt c d m else iprop(emp)

theorem tr_crOpt (d : Fin 2) (s : ℕ) (g : Fin 2) (hs : s < 14) (n : ℕ) (hn : 10 * (s + 1) ≤ n) :
    Tr c (Ctx2 K c) iprop(crLane c d g (s - 3) ∗ paying n c) (opt (Nat.ble g.val 0 && Nat.ble 3 s) (semWaitWord (dirT d c).credit.sem 1#32) : Pr F PUnit)
      fun _ => iprop(crLane c d g (s + 1 - 3) ∗ paying n c) := by
  unfold crLane
  by_cases h0 : g.val = 0
  · rw [if_pos h0, if_pos h0]
    by_cases h3 : 3 ≤ s
    · rw [opt_true (by rw [h0, Bool.and_eq_true]; exact ⟨rfl, Nat.ble_eq.mpr h3⟩), show s + 1 - 3 = s - 3 + 1 by omega]
      refine tr_credit K c (Ctx2 K c) (ctx2_ctx K c) d (s - 3) n (by omega) ?_ ?_ _ (credit_sem d c)
      · unfold crIx; rw [if_pos (by omega)]; omega
      · unfold crIx; rw [if_pos (by omega)]; omega
    · rw [opt_false (by rw [Bool.and_eq_false_iff]; right; rw [← Bool.not_eq_true, Nat.ble_eq]; exact h3), show s + 1 - 3 = s - 3 by omega]
      exact Tr.ret _ (BI.Entails.refl _)
  · rw [if_neg h0, if_neg h0, opt_false (by rw [Bool.and_eq_false_iff]; left; rw [← Bool.not_eq_true, Nat.ble_eq]; omega)]
    exact Tr.ret _ (BI.Entails.refl _)

include hG in
theorem tr_rsStep (d : Fin 2) (s : ℕ) (g : Fin 2) (hs : s < 14) :
    Tr c (Ctx2 K c) iprop(rsSt c d g s ∗ ride c d (s + 1) g ∗ segA (peerT d c) (rxS d (s + 1) g) ∗ crLane c d g (s - 3) ∗ paying (10 * (s + 1) + 2 * g.val + d.val) c)
      (rsStep G (dirT d c) d s g : Pr F PUnit)
      fun _ => iprop(rsSt c d g (s + 1) ∗ freed c d s g ∗ ride (upT d c) d s g ∗ crLane c d g (s + 1 - 3) ∗ paying (10 * (s + 1) + 2 * g.val + d.val + 1) c) := by
  have e := hG.rin ⟨s, by omega⟩ d g
  unfold Tr rsStep rsSt
  rw [bs_Ico (show s < 15 by omega) (pnd c 1 d g), bs_Ico (show s + 1 < 15 by omega) (fre c 0 d g), bs_Ico (show s < 15 by omega) fun i => segV c (agSg d (hop d (posT c) (i + 1)) g) (part c d (hop d (posT c) (i + 1)) g)]
  iintro ⟨#HC, ⟨⟨H1, H2⟩, H3, ⟨H4, H5⟩, Htx, ⟨Hag, H6⟩, H7⟩, Hride, Hpeer, Hcr, Hp⟩
  rw [wp_bind]
  iapply (Tr.use (tr_rsW K c G d s g (by omega) (10 * (s + 1) + 2 * g.val + d.val) (by omega))) $$ [H1 Hp]
  · isplitr; · iexact HC
    isplitl [H1] <;> iassumption
  iintro %_ ⟨Hrx, Hup, Hcl, Hp⟩
  rw [wp_bind]
  iapply (Tr.use (tr_crOpt K c d s g hs (10 * (s + 1) + 2 * g.val + d.val) (by omega))) $$ [Hcr Hp]
  · isplitr; · iexact HC
    isplitl [Hcr] <;> iassumption
  iintro %_ ⟨Hcr, Hp⟩
  rw [wp_bind]
  iapply (Tr.use (tr_txFree K c G d s g hs (10 * (s + 1) + 2 * g.val + d.val) (by omega))) $$ [Htx Hp]
  · isplitr; · iexact HC
    isplitl [Htx] <;> iassumption
  iintro %_ ⟨Hpn, Hcs, Htx, Ht, Hown, Hp⟩
  rw [wp_bind]
  iapply (Tr.use (tr_ldAg c (Ctx2 K c) d (G.rin_inb (row s d) g) e _ fullShare _)) $$ [Hag]
  · isplitr; · iexact HC
    iexact Hag
  iintro %va ⟨%hva, Hag⟩
  rw [wp_bind]
  iapply (Tr.use (tr_ldRx c (Ctx2 K c) d s g _)) $$ [Hrx]
  · isplitr; · iexact HC
    iexact Hrx
  iintro %vb ⟨%hvb, Hrx⟩
  rw [wp_bind]
  iapply (Tr.use (tr_stTx c (Ctx2 K c) d (s + 1) g (accP va vb))) $$ [Ht]
  · isplitr; · iexact HC
    iexact Ht
  iintro %_ Ht
  unfold fre
  icases H4 with ⟨Hd, Hat⟩
  have ht := tm_rs d s g (by omega)
  have hm : (Fin.ofNat 15 (s + 1)).val = s + 1 := Nat.mod_eq_of_lt (by omega)
  have hsend := tr_send (F := F) K c (Ctx2 K c) (BI.Entails.refl _) 0 1 d (s + 1) g (by omega) (Ev.rs d (Fin.ofNat 15 (s + 1)) g)
    (by show SemLoc.dma (dm 1 d (Fin.ofNat 15 (s + 1)).val g) = _; rw [hm]) rfl rfl rfl _ _ (semAt_rss d c (s + 1) g) (semAt_rsr d c (s + 1) g)
    (txS d (s + 1) g) (rxS d (s + 1) g) (txV_we _ _ g) (rxV_we _ _ g) (nb_rx d (s + 1) g) fullShare (ride c d (s + 1) g) (dn (accP va vb))
    (BI.Entails.refl _) (by show _ ⊢ rsrPay _ _ _ _; unfold rsrPay; subst hva hvb; simp only [rsv, up_peer]; exact BI.Entails.refl _)
  rw [ht] at hsend
  iapply (Tr.use hsend) $$ [Hp Ht Hpeer Hride Hd]
  · isplitr; · iexact HC
    isplitl [Hp]; · iexact Hp
    isplitl [Ht]; · iexact Ht
    isplitl [Hpeer]; · iexact Hpeer
    isplitl [Hride]; · iexact Hride
    iexact Hd
  iintro %_ ⟨Hp, Hcred⟩
  ihave Hrx := (segW_any c _ _ _) $$ Hrx
  ihave Hag := (segW_any c _ _ _) $$ Hag
  ihave Hr := (rx_put c d g s) $$ [Hrx H7]
  · isplitl [Hrx] <;> iassumption
  icases Hr with ⟨H7, Hfr⟩
  unfold freed frAg txSt
  isplitl [H2 H3 Hcl H5 Hpn Hcs Htx Hat Hcred H6 H7]
  · isplitl [H2]; · iexact H2
    isplitl [H3 Hcl]; · rw [bs_range]; isplitl [Hcl] <;> iassumption
    isplitl [H5]; · iexact H5
    isplitl [Hpn Hcs Htx Hat Hcred]
    · isplitl [Hpn Hat Hcred]
      · rw [show Finset.Ico (s + 1 - 1) (s + 1 + 1) = {s, s + 1} from by ext x; simp only [Finset.mem_Ico, Finset.mem_insert, Finset.mem_singleton]; omega, bs_pair (by simp)]
        isplitl [Hpn]; · iexact Hpn
        unfold pnd
        isplitl [Hcred]; · iexact Hcred
        iexact Hat
      · isplitl [Hcs]; · iexact Hcs
        iexact Htx
    isplitl [H6]; · iexact H6
    iexact H7
  isplitl [Hfr Hag Hown]
  · isplitl [Hfr]; · iexact Hfr
    isplitl [Hag] <;> iassumption
  isplitl [Hup]; · iexact Hup
  isplitl [Hcr] <;> iassumption

end

end Cert.KernelIdeal.Ring

end
-- ==== Proof.Ki.Reduce.lean ====
module

public import proofs.«01_k».proof.Proof.Ki.Lane

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The reduce phase: the four lanes together. -/

variable (K : GSem nD τ sig → ℕ)

/-- Chunks of the peer that an iteration of its reduce phase freed. -/
def got (c : Dev nD) (d g : Fin 2) (i : ℕ) : sProp 𝕄 := iprop(frAg (peerT d c) d i g ∗ frOwn (peerT d c) d i g)

/-- What a lane may write to and what rides on its next copy, before iteration `s`. -/
def psSt (c : Dev nD) (d g : Fin 2) (s : ℕ) : sProp 𝕄 :=
  iprop(ride c d (s + 1) g ∗ (bigSep (Finset.Ico (s + 1) (min 15 (max 4 (s + 2)))) fun i => segA (peerT d c) (rxS d i g))
    ∗ bigSep (Finset.range (s - 2)) (got c d g))
/-- The same after the lane's step. -/
def psMid (c : Dev nD) (d g : Fin 2) (s : ℕ) : sProp 𝕄 :=
  iprop((bigSep (Finset.Ico (s + 2) (min 15 (max 4 (s + 2)))) fun i => segA (peerT d c) (rxS d i g))
    ∗ bigSep (Finset.range (s - 2)) (got c d g))

theorem ps_next (c : Dev nD) (d d' g : Fin 2) (s : ℕ) (hs : s < 14) (h : 1 - d = d') (h' : 1 - d' = d) :
    (iprop(psMid c d g s ∗ freed c d' s g ∗ ride (upT d' c) d' s g) : sProp 𝕄) ⊢ psSt c d g (s + 1) := by
  have hup : upT d' c = peerT d c := by rw [← h, up_flip]
  unfold psMid psSt
  rw [hup]
  show _ ⊢ iprop(freed c (1 - d) s g ∗ _ ∗ _)
  rw [h]
  match s, hs with
  | 0, hs =>
    iintro ⟨⟨H1, H2⟩, H3, -⟩
    isplitl [H3]; · iexact H3
    isplitl [H1]; · iexact H1
    iexact H2
  | 1, hs =>
    iintro ⟨⟨H1, H2⟩, H3, -⟩
    isplitl [H3]; · iexact H3
    isplitl [H1]; · iexact H1
    iexact H2
  | s + 2, hs =>
    show iprop(_ ∗ _ ∗ freed (peerT d c) (1 - d') s g) ⊢ _
    rw [h', show s + 2 + 1 - 2 = s + 1 by omega, show s + 2 - 2 = s by omega, bs_range]
    rw [show (freed (peerT d c) d s g : sProp 𝕄) = iprop(frRx (peerT d c) d s g ∗ frAg (peerT d c) d s g ∗ frOwn (peerT d c) d s g) from rfl]
    iintro ⟨⟨-, H2⟩, H3, H4, H5⟩
    isplitl [H3]; · iexact H3
    isplitl [H4]
    · by_cases h10 : s ≤ 10
      · ihave H4 := (Entails.of_eq (show (frRx (peerT d c) d s g : sProp 𝕄) = segA (peerT d c) (rxS d s g) from if_pos h10)) $$ H4
        rw [show Finset.Ico (s + 2 + 1 + 1) (min 15 (max 4 (s + 2 + 1 + 2))) = {s + 4} from by
          ext x; simp only [Finset.mem_Ico, Finset.mem_singleton]; omega, bigSep_singleton, rxS_add4]
        iexact H4
      · rw [show Finset.Ico (s + 2 + 1 + 1) (min 15 (max 4 (s + 2 + 1 + 2))) = ∅ from Finset.Ico_eq_empty (by omega), bigSep_empty]
        iempintro
    isplitl [H5]; · unfold got; iexact H5
    iexact H2

section
variable (c : Dev nD) (G : Geo) (hG : GeoOk G c)

include hG in
theorem tr_lane (d : Fin 2) (s : ℕ) (g : Fin 2) (hs : s < 14) (n : ℕ) (hn : n = 10 * (s + 1) + 2 * g.val + d.val) :
    Tr c (Ctx2 K c) iprop(rsSt c d g s ∗ psSt c d g s ∗ crLane c d g (s - 3) ∗ paying n c)
      (rsStep G (dirT d c) d s g : Pr F PUnit)
      fun _ => iprop(rsSt c d g (s + 1) ∗ psMid c d g s ∗ freed c d s g ∗ ride (upT d c) d s g ∗ crLane c d g (s + 1 - 3) ∗ paying (n + 1) c) := by
  subst hn
  unfold Tr psSt psMid
  rw [bs_Ico (show s + 1 < min 15 (max 4 (s + 2)) by omega)]
  iintro ⟨#HC, H1, ⟨H2, ⟨H3, H4⟩, H5⟩, H6, H7⟩
  iapply (Tr.use (tr_rsStep K c G hG d s g hs)) $$ [H1 H2 H3 H6 H7]
  · isplitr; · iexact HC
    isplitl [H1]; · iexact H1
    isplitl [H2]; · iexact H2
    isplitl [H3]; · iexact H3
    isplitl [H6] <;> iassumption
  iintro %_ ⟨H1, H2, H3, H6, H7⟩
  isplitl [H1]; · iexact H1
  isplitl [H4 H5]; · isplitl [H4] <;> iassumption
  isplitl [H2]; · iexact H2
  isplitl [H3]; · iexact H3
  isplitl [H6] <;> iassumption

/-- A credit given back. -/
theorem tr_crPay (d : Fin 2) (j : Fin 12) (n : ℕ) (hn : n = (Ev.cr d j).tm) (w : BitVec 32) (hw : w.toInt = ((Ev.cr d j).amt : ℤ)) :
    Tr c (Ctx2 K c) (paying n c) (semSignalWord (dirT d c).up (dirT d c).credit.sem w : Pr F PUnit) fun _ => paying (n + 1) c := by
  subst hn
  rw [credit_sem]
  refine Tr.pre ?_ (tr_signal K c (Ctx2 K c) (ctx2_ctx K c) (Ev.cr d j) (crS d) rfl
    (BIBase.Entails.trans (ctx2_up K c d) (reached_cr (upT d c) d)) w hw)
  rw [payload_cr]
  iintro H
  isplitl; · iexact H
  iempintro

theorem tr_crPays (s : ℕ) (hs : s < 14) :
    Tr c (Ctx2 K c) (paying (10 * (s + 1) + 4) c)
      (opt (Nat.ble s 10) (do
        semSignalWord (dirT 0 c).up (dirT 0 c).credit.sem 1#32
        semSignalWord (dirT 1 c).up (dirT 1 c).credit.sem 1#32) : Pr F PUnit)
      fun _ => paying (10 * (s + 1 + 1)) c := by
  by_cases h : s ≤ 10
  · rw [opt_true (Nat.ble_eq.mpr h)]
    have hv : (Fin.ofNat 12 s).val = s := Nat.mod_eq_of_lt (by omega)
    have ha : ∀ d, (Ev.cr d (Fin.ofNat 12 s)).amt = 1 := fun d => by
      show (if (Fin.ofNat 12 s).val = 11 then 7 else 1) = 1; rw [hv, if_neg (by omega)]
    have ht : ∀ d : Fin 2, (Ev.cr d (Fin.ofNat 12 s)).tm = 10 * (s + 1) + 4 + d.val := fun d => by
      show (if (Fin.ofNat 12 s).val = 11 then 150 + d.val else 10 * ((Fin.ofNat 12 s).val + 1) + 4 + d.val) = _; rw [hv, if_neg (by omega)]
    refine Tr.bind (tr_crPay K c 0 (Fin.ofNat 12 s) _ (by rw [ht]; rfl) _ (by rw [ha]; decide)) fun _ => ?_
    refine Tr.post (fun _ => ?_) (tr_crPay K c 1 (Fin.ofNat 12 s) _ (by rw [ht]; rfl) _ (by rw [ha]; decide))
    rw [paying_skip c (show 10 * (s + 1) + 4 + 1 + 1 ≤ 10 * (s + 1 + 1) by omega)]
    rintro (d | ⟨d, s', g⟩ | ⟨d, j⟩ | ⟨d, s', g⟩) <;> simp only [Ev.tm] <;> (try split_ifs) <;> omega
  · rw [opt_false (by rw [← Bool.not_eq_true, Nat.ble_eq]; exact h)]
    refine Tr.ret _ ?_
    rw [paying_skip c (show 10 * (s + 1) + 4 ≤ 10 * (s + 1 + 1) by omega)]
    rintro (d | ⟨d, s', g⟩ | ⟨d, j⟩ | ⟨d, s', g⟩) <;> simp only [Ev.tm] <;> (try split_ifs) <;> omega

/-- The two lanes of a segment. -/
def laneS (c : Dev nD) (g : Fin 2) (s : ℕ) : sProp 𝕄 :=
  iprop((rsSt c 0 g s ∗ psSt c 0 g s) ∗ (rsSt c 1 g s ∗ psSt c 1 g s))

include hG in
theorem tr_pair (s : ℕ) (g : Fin 2) (hs : s < 14) {β : Type} (k : Pr F PUnit) (R : PUnit → sProp 𝕄) (X : sProp 𝕄)
    (hk : Tr c (Ctx2 K c) iprop(laneS c g (s + 1) ∗ (crLane c 0 g (s + 1 - 3) ∗ crLane c 1 g (s + 1 - 3)) ∗ X ∗ paying (10 * (s + 1) + 2 * g.val + 2) c) k R) :
    Tr c (Ctx2 K c) iprop(laneS c g s ∗ (crLane c 0 g (s - 3) ∗ crLane c 1 g (s - 3)) ∗ X ∗ paying (10 * (s + 1) + 2 * g.val) c)
      (rsStep G (dirT 0 c) 0 s g >>= fun _ => rsStep G (dirT 1 c) 1 s g >>= fun _ => k) R := by
  unfold Tr laneS at *
  rw [wp_bind]
  iintro ⟨#HC, ⟨⟨H1, H2⟩, ⟨H3, H4⟩⟩, ⟨H5, H6⟩, HX, H7⟩
  iapply (Tr.use (tr_lane K c G hG 0 s g hs (10 * (s + 1) + 2 * g.val) rfl)) $$ [H1 H2 H5 H7]
  · isplitr; · iexact HC
    isplitl [H1]; · iexact H1
    isplitl [H2]; · iexact H2
    isplitl [H5] <;> iassumption
  iintro %_ ⟨H1, H2, Hf, Hu, H5, H7⟩
  rw [wp_bind]
  iapply (Tr.use (tr_lane K c G hG 1 s g hs (10 * (s + 1) + 2 * g.val + 1) rfl)) $$ [H3 H4 H6 H7]
  · isplitr; · iexact HC
    isplitl [H3]; · iexact H3
    isplitl [H4]; · iexact H4
    isplitl [H6] <;> iassumption
  iintro %_ ⟨H3, H4, Hf', Hu', H6, H7⟩
  iapply hk
  isplitr; · iexact HC
  isplitr [H5 H6 HX H7]
  · isplitl [H1 H2 Hf' Hu']
    · isplitl [H1]; · iexact H1
      iapply (ps_next c 0 1 g s hs rfl rfl)
      isplitl [H2]; · iexact H2
      isplitl [Hf'] <;> iassumption
    · isplitl [H3]; · iexact H3
      iapply (ps_next c 1 0 g s hs rfl rfl)
      isplitl [H4]; · iexact H4
      isplitl [Hf] <;> iassumption
  isplitl [H5 H6]; · isplitl [H5] <;> iassumption
  isplitl [HX] <;> iassumption

/-- The reduce phase before iteration `s`. -/
def rsInv (c : Dev nD) (s : ℕ) : sProp 𝕄 :=
  iprop(laneS c 0 s ∗ laneS c 1 s ∗ (crSt c 0 (s - 3) ∗ crSt c 1 (s - 3)) ∗ paying (10 * (s + 1)) c)

include hG in
theorem tr_rsIter (s : ℕ) (hs : s < 14) :
    Tr c (Ctx2 K c) (rsInv c s) (rsIter G (dirT 0 c) (dirT 1 c) s : Pr F PUnit) fun _ => rsInv c (s + 1) := by
  unfold rsIter rsInv
  have h2 := tr_pair (F := F) K c G hG s 1 hs (β := PUnit) _ (fun _ => rsInv c (s + 1))
    iprop(laneS c 0 (s + 1) ∗ (crSt c 0 (s + 1 - 3) ∗ crSt c 1 (s + 1 - 3)))
    (Tr.post (fun _ => ?_) (Tr.pre ?_ (Tr.keep iprop(laneS c 0 (s + 1) ∗ laneS c 1 (s + 1) ∗ (crSt c 0 (s + 1 - 3) ∗ crSt c 1 (s + 1 - 3)))
      (tr_crPays K c s hs))))
  · refine Tr.pre ?_ (tr_pair (F := F) K c G hG s 0 hs (β := PUnit) _ (fun _ => rsInv c (s + 1)) (laneS c 1 s) (Tr.pre ?_ h2))
    · iintro ⟨H1, H2, H3, H4⟩
      isplitl [H1]; · iexact H1
      isplitl [H3]; · iexact H3
      isplitl [H2] <;> iassumption
    · iintro ⟨H1, H3, H2, H4⟩
      isplitl [H2]; · iexact H2
      isplitr
      · unfold crLane; isplitr; · rw [if_neg (by decide)]; iempintro
        rw [if_neg (by decide)]; iempintro
      isplitl [H1 H3]; · isplitl [H1]; · iexact H1
                         iexact H3
      iexact H4
  · unfold rsInv
    iintro ⟨H1, H2, H3, H4⟩
    isplitl [H2]; · iexact H2
    isplitl [H3]; · iexact H3
    isplitl [H4] <;> iassumption
  · iintro ⟨H1, -, ⟨H2, H3⟩, H4⟩
    isplitl [H4]; · iexact H4
    isplitl [H2]; · iexact H2
    isplitl [H1] <;> iassumption

end

end Cert.KernelIdeal.Ring

end
-- ==== Proof.Ki.Gather.lean ====
module

public import proofs.«01_k».proof.Proof.Ki.Reduce

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The end of the reduce phase, and the gather phase. -/

variable (K : GSem nD τ sig → ℕ)

/-- A lane whose reduce phase is over, its sends still to be waited for. -/
def rsFin (c : Dev nD) (d g : Fin 2) : sProp 𝕄 :=
  iprop(bigSep (Finset.range 15) (cls c 1 d g) ∗ segV c (agSg d (hop d (posT c) 15) g) (finBV d g c) ∗ bigSep (Finset.Ico 11 15) fun i => segA c (rxS d i g))

/-- A share of a segment in two halves. -/
theorem seg_halve (c : Dev nD) (V : Memref sig .tc .vmem S128x1024 .bf16) (v : Sg F) : (segV c V v : sProp 𝕄) ⊢ iprop(segW c V hs v ∗ segW c V hs' v) := by
  unfold segV segW
  iintro ⟨%f, %hf, H⟩
  ihave H2 := (pointsTo_share (PosShare.mem_left_op_right fullShare)).1 $$ H
  icases H2 with ⟨H1, H2⟩
  isplitl [H1]
  · iexists f
    isplitr; · ipureintro; exact hf
    iexact H1
  iexists f
  isplitr; · ipureintro; exact hf
  iexact H2

theorem seg_join (c : Dev nD) (V : Memref sig .tc .vmem S128x1024 .bf16) : (iprop(segQ c V hs ∗ segQ c V hs') : sProp 𝕄) ⊢ segA c V := by
  unfold segA segQ holdM
  iintro ⟨⟨%f, H1⟩, ⟨%f', H2⟩⟩
  ihave %h := (pointsTo_agree) $$ [H1 H2]
  · isplitl [H1]; · iexact H1
    iexact H2
  iexists f
  iapply (pointsTo_share (PosShare.mem_left_op_right fullShare)).2
  isplitl [H1]; · iexact H1
  rw [pointsTo_congr (f := f) (g := f') (fun i hi => (h i (Finset.mem_inter.mpr ⟨hi, hi⟩)).1)]
  iexact H2

section
variable (c : Dev nD) (G : Geo) (hG : GeoOk G c)
  (S : Memref sig .tc .smem S1 .f32) (O : Memref sig .tc .vmem S4096x2048 .f32) (q : PosShare TreeShare)

include hG in
theorem tr_rsLast (d g : Fin 2) :
    Tr c (Ctx2 K c) iprop(rsSt c d g 14 ∗ outQ c O (2 * g.val + d.val) ∗ owns (c : Thread nD τ) S q (fun _ => Vals.sc c) ∗ paying 150 c) (rsLast G S O (dirT d c) d g : Pr F PUnit)
      fun _ => iprop(rsFin c d g ∗ txSt c d g 14 ∗ freed (upT d c) (1 - d) 12 g ∗ outQ c O (2 * g.val + d.val + 1) ∗ owns (c : Thread nD τ) S q (fun _ => Vals.sc c) ∗ paying 150 c) := by
  have e := hG.rin ⟨14, by omega⟩ d g
  unfold Tr rsLast rsSt rsFin
  rw [show Finset.Ico 14 15 = {14} from rfl, bigSep_singleton, bigSep_singleton, bs_range 14, bs_Ico_last (show 11 ≤ 14 by omega)]
  iintro ⟨#HC, ⟨H1, H2, -, H3, H4, H5⟩, HO, HS, Hp⟩
  rw [wp_bind]
  iapply (Tr.use (tr_rsW K c G d 14 g (by omega) 150 (by omega))) $$ [H1 Hp]
  · isplitr; · iexact HC
    isplitl [H1] <;> iassumption
  iintro %_ ⟨Hrx, Hup, Hcl, Hp⟩
  rw [wp_bind]
  iapply (Tr.use (tr_ldAg c (Ctx2 K c) d (G.rin_inb (row 14 d) g) e _ fullShare _)) $$ [H4]
  · isplitr; · iexact HC
    iexact H4
  iintro %va ⟨%hva, H4⟩
  rw [wp_bind]
  iapply (Tr.use (tr_ldRx c (Ctx2 K c) d 14 g _)) $$ [Hrx]
  · isplitr; · iexact HC
    iexact Hrx
  iintro %vb ⟨%hvb, Hrx⟩
  rw [wp_bind]
  iapply (Tr.use (tr_smem c (Ctx2 K c) S _ _ _ q _ (Vals.sc c) (fun _ => rfl))) $$ [HS]
  · isplitr; · iexact HC
    iexact HS
  iintro %vc ⟨%hvc, HS⟩
  subst hva hvb hvc
  rw [wp_bind]
  iapply (Tr.use (tr_ldOut c (Ctx2 K c) O (2 * g.val + d.val) _ _)) $$ [HO]
  · isplitr; · iexact HC
    iexact HO
  iintro %_ HO
  rw [wp_bind]
  iapply (Tr.use (tr_stOut c (Ctx2 K c) O d g 0 (by omega) _ (hG.fin d g) _ rfl (2 * g.val + d.val) (by omega) _ _)) $$ [HO]
  · isplitr; · iexact HC
    iexact HO
  iintro %_ HO
  rw [wp_bind]
  iapply (Tr.use (tr_ldAg c (Ctx2 K c) d (G.rin_inb (row 14 d) g) e _ fullShare _)) $$ [H4]
  · isplitr; · iexact HC
    iexact H4
  iintro %_ ⟨-, H4⟩
  rw [← agV_eq d c (G.rin_inb (row 14 d) g) e]
  ihave H4 := (segW_any c _ _ _) $$ H4
  iapply (Tr.use (tr_storeSegV c (Ctx2 K c) (agM d) _ (fun _ => rfl) squeezes_S1x128x1024_S128x1024 _ _ _)) $$ [H4]
  · isplitr; · iexact HC
    iexact H4
  iintro %_ H4
  ihave Hrx := (segW_any c _ _ _) $$ Hrx
  isplitl [H2 H4 H5 Hcl Hrx]
  · isplitl [H2 Hcl]; · isplitl [Hcl] <;> iassumption
    isplitl [H4]; · iexact H4
    isplitl [Hrx] <;> iassumption
  isplitl [H3]; · iexact H3
  isplitl [Hup]
  · ihave Hup := (show (ride (upT d c) d 14 g : sProp 𝕄) ⊢ freed (upT d c) (1 - d) 12 g from BI.Entails.refl _) $$ Hup
    iexact Hup
  isplitl [HO]; · iexact HO
  isplitl [HS] <;> iassumption

/-- A lane's sends of the reduce phase done with. -/
def rsEndSt (c : Dev nD) (d g : Fin 2) : sProp 𝕄 :=
  iprop(bigSep (Finset.range 15) (cls c 0 d g) ∗ segA c (txS d 13 g) ∗ segA c (txS d 14 g))

theorem tr_rsEnd1 (d g : Fin 2) {β : Type} (k : Pr F β) (R : β → sProp 𝕄) (X : sProp 𝕄)
    (hk : Tr c (Ctx2 K c) iprop(rsEndSt c d g ∗ X ∗ paying 150 c) k R) :
    Tr c (Ctx2 K c) iprop(txSt c d g 14 ∗ X ∗ paying 150 c) (rsS G (dirT d c) 13 g >>= fun _ => rsS G (dirT d c) 14 g >>= fun _ => k) R := by
  unfold Tr txSt rsEndSt at *
  rw [show Finset.Ico (14 - 1) (14 + 1) = {13, 14} from rfl, bs_pair (by decide), wp_bind]
  iintro ⟨#HC, ⟨⟨H1, H2⟩, H3, -⟩, HX, Hp⟩
  iapply (Tr.use (tr_rsS K c G d 13 g (by omega) 150 (by omega))) $$ [H1 Hp]
  · isplitr; · iexact HC
    isplitl [H1] <;> iassumption
  iintro %_ ⟨Ht, Hc, Hp⟩
  rw [wp_bind]
  iapply (Tr.use (tr_rsS K c G d 14 g (by omega) 150 (by omega))) $$ [H2 Hp]
  · isplitr; · iexact HC
    isplitl [H2] <;> iassumption
  iintro %_ ⟨Ht', Hc', Hp⟩
  iapply hk
  isplitr; · iexact HC
  isplitr [HX Hp]
  · rw [bs_range 14, bs_range 13]
    simp only [rssPay]
    isplitl [H3 Hc Hc']
    · isplitl [Hc']; · iexact Hc'
      isplitl [Hc]; · iexact Hc
      iexact H3
    isplitl [Ht] <;> iassumption
  isplitl [HX] <;> iassumption

theorem tr_rsEnd (d : Fin 2) :
    Tr c (Ctx2 K c) iprop(txSt c d 0 14 ∗ txSt c d 1 14 ∗ paying 150 c) (rsEnd G (dirT d c) : Pr F PUnit)
      fun _ => iprop(rsEndSt c d 0 ∗ rsEndSt c d 1 ∗ paying 150 c) := by
  unfold rsEnd
  refine tr_rsEnd1 (F := F) K c G d 0 _ _ (txSt c d 1 14) (Tr.pre (P' := iprop(txSt c d 1 14 ∗ rsEndSt c d 0 ∗ paying 150 c)) ?_ ?_)
  · iintro ⟨H1, H2, H3⟩
    isplitl [H2]; · iexact H2
    isplitl [H1] <;> iassumption
  · have := tr_rsEnd1 (F := F) K c G d 1 (pure ⟨⟩ : Pr F PUnit) (fun _ => iprop(rsEndSt c d 0 ∗ rsEndSt c d 1 ∗ paying 150 c)) (rsEndSt c d 0) (Tr.ret _ (by
      iintro ⟨H1, H2, H3⟩
      isplitl [H2]; · iexact H2
      isplitl [H1] <;> iassumption))
    exact this

/-! ## Gather -/

/-- A lane before iteration `s` of the gather phase. -/
def agSt (c : Dev nD) (d g : Fin 2) (s : ℕ) : sProp 𝕄 :=
  iprop(bigSep (Finset.Ico s 15) (pnd c 3 d g) ∗ bigSep (Finset.range s) (cls c 3 d g) ∗ bigSep (Finset.Ico (s + 1) 15) (fre c 2 d g)
    ∗ bigSep (Finset.range (s + 1)) (pnd c 2 d g) ∗ bigSep (Finset.range s) fun i => segQ c (agSg d (hop d (posT c) i) g) hs')

include hG in
theorem tr_agS (d g : Fin 2) (s : ℕ) (hs' : s < 15) (n : ℕ) (hn : n = (Ev.ag d (Fin.ofNat 15 s) g).tm) :
    Tr c (Ctx2 K c) iprop(fre c 2 d g s ∗ segW c (agSg d (hop d (posT c) (15 + s)) g) hs (agv d g s c) ∗ segA (peerT d c) (agSg d (hop d (posT c) (15 + s)) g) ∗ rideAg c d s g ∗ paying n c)
      (agS G (dirT d c) d s g : Pr F PUnit)
      fun _ => iprop(pnd c 2 d g s ∗ paying (n + 1) c) := by
  subst hn
  have e : G.snd (row s d) g = agO (hop d (posT c) (15 + s)) g := hG.snd ⟨s, hs'⟩ d g
  have hm : (Fin.ofNat 15 s).val = s := Nat.mod_eq_of_lt hs'
  have hpe : hop d (posT (peerT d c)) s = hop d (posT c) (15 + s) := by rw [pos_peer, hop_hop]
  have hsend := tr_send (F := F) K c (Ctx2 K c) (BI.Entails.refl _) 2 3 d s g hs' (Ev.ag d (Fin.ofNat 15 s) g)
    (by show SemLoc.dma (dm 3 d (Fin.ofNat 15 s).val g) = _; rw [hm]) rfl rfl rfl _ _ (semAt_ags d c s g) (semAt_agr d c s g)
    (agV (dirT d c) (G.snd (row s d) g) (G.snd_inb _ g)) (agV (dirT d c) (G.snd (row s d) g) (G.snd_inb _ g)) (agV_we _ _ _ (G.snd_ww _ g)) (agV_we _ _ _ (G.snd_ww _ g))
    (nb_ag d c _ _) hs (rideAg c d s g) (agv d g s c)
    (by rw [agV_eq d c _ e]; exact BI.Entails.refl _)
    (by rw [agV_eq d c _ e]; show _ ⊢ agrPay _ _ _ _; unfold agrPay; simp only [agv, up_peer, hpe]; exact BI.Entails.refl _)
  rw [← agV_eq d c (G.snd_inb (row s d) g) e]
  unfold Tr agS fre pnd
  iintro ⟨#HC, ⟨Hd, Hat⟩, H1, H2, H3, Hp⟩
  iapply (Tr.use hsend) $$ [Hd H1 H2 H3 Hp]
  · isplitr; · iexact HC
    isplitl [Hp]; · iexact Hp
    isplitl [H1]; · iexact H1
    isplitl [H2]; · iexact H2
    isplitl [H3]; · iexact H3
    iexact Hd
  iintro %_ ⟨Hp, Hcr⟩
  isplitl [Hcr Hat]
  · isplitl [Hcr]; · iexact Hcr
    iexact Hat
  iexact Hp

theorem tr_agWr (d g : Fin 2) (s : ℕ) (hs : s < 15) (n : ℕ) (hn : 150 + 10 * (s + 1) ≤ n) :
    Tr c (Ctx2 K c) iprop(pnd c 3 d g s ∗ paying n c) (agW G (dirT d c).agr (dirT d c) d s g : Pr F PUnit)
      fun _ => iprop(agrPay c d s g ∗ cls c 3 d g s ∗ paying n c) := by
  have ht := tm_ag_le d s g hs
  exact tr_wait K c 3 d s g hs _ (semAt_agr d c s g) n (by show (Ev.ag d (Fin.ofNat 15 s) g).tm < n; omega) (by show (Ev.ag d (Fin.ofNat 15 s) g).tm < 300; omega) _ _ _ _ (nb_ag d c _ _)
theorem tr_agWs (d g : Fin 2) (s : ℕ) (hs : s < 15) (n : ℕ) (hn : 0 < n) :
    Tr c (Ctx2 K c) iprop(pnd c 2 d g s ∗ paying n c) (agW G (dirT d c).ags (dirT d c) d s g : Pr F PUnit)
      fun _ => iprop(agsPay c d s g ∗ cls c 2 d g s ∗ paying n c) :=
  tr_wait K c 2 d s g hs _ (semAt_ags d c s g) n hn (show (0 : ℕ) < 300 by decide) _ _ _ _ (nb_ag d c _ _)

include hG in
theorem tr_agOut (d g : Fin 2) (s : ℕ) (hs : s < 15) (q : PosShare TreeShare) :
    Tr c (Ctx2 K c) iprop(segW c (agSg d (hop d (posT c) s) g) q (agv d g (s + 1) c) ∗ outQ c O (4 * (s + 1) + 2 * g.val + d.val)) (agOut G O (dirT d c) d s g : Pr F PUnit)
      fun _ => iprop(segQ c (agSg d (hop d (posT c) s) g) q ∗ outQ c O (4 * (s + 1) + 2 * g.val + d.val + 1)) := by
  have e := hG.ld ⟨s, hs⟩ d g
  have e' : G.out (Fin.ofNat 15 s) d g = winO d (hop d (posT c) (15 + (s + 1))) g := by
    rw [show Fin.ofNat 15 s = ⟨s, hs⟩ from Fin.ext (Nat.mod_eq_of_lt hs), hG.out ⟨s, hs⟩ d g, show 15 + (s + 1) = 16 + s by omega, hop_add16]; rfl
  unfold Tr agOut
  iintro ⟨#HC, H4, HO⟩
  rw [wp_bind]
  iapply (Tr.use (tr_ldAg c (Ctx2 K c) d (G.ld_inb (row s d) g) e _ q _)) $$ [H4]
  · isplitr; · iexact HC
    iexact H4
  iintro %va ⟨%hva, H4⟩
  subst hva
  rw [wp_bind]
  iapply (Tr.use (tr_ldOut c (Ctx2 K c) O _ _ _)) $$ [HO]
  · isplitr; · iexact HC
    iexact HO
  iintro %_ HO
  iapply (Tr.use (tr_stOut c (Ctx2 K c) O d g (s + 1) (by omega) _ e' _ rfl (4 * (s + 1) + 2 * g.val + d.val) rfl _ _)) $$ [HO]
  · isplitr; · iexact HC
    iexact HO
  iintro %_ HO
  ihave H4 := (segW_any c _ _ _) $$ H4
  isplitl [H4] <;> iassumption

theorem tr_crOpt2 (d : Fin 2) (s : ℕ) (g : Fin 2) (hs : s < 14) (n : ℕ) (hn : 150 + 10 * (s + 1) ≤ n) :
    Tr c (Ctx2 K c) iprop(crLane c d g (11 + (s - 7)) ∗ paying n c) (opt (Nat.ble g.val 0 && Nat.ble 7 s) (semWaitWord (dirT d c).credit.sem 1#32) : Pr F PUnit)
      fun _ => iprop(crLane c d g (11 + (s + 1 - 7)) ∗ paying n c) := by
  unfold crLane
  by_cases h0 : g.val = 0
  · rw [if_pos h0, if_pos h0]
    by_cases h3 : 7 ≤ s
    · rw [opt_true (by rw [h0, Bool.and_eq_true]; exact ⟨rfl, Nat.ble_eq.mpr h3⟩), show 11 + (s + 1 - 7) = 11 + (s - 7) + 1 by omega]
      refine tr_credit K c (Ctx2 K c) (ctx2_ctx K c) d (11 + (s - 7)) n (by omega) ?_ ?_ _ (credit_sem d c)
      · unfold crIx; rw [if_neg (by omega)]; omega
      · unfold crIx; rw [if_neg (by omega)]; omega
    · rw [opt_false (by rw [Bool.and_eq_false_iff]; right; rw [← Bool.not_eq_true, Nat.ble_eq]; exact h3), show s + 1 - 7 = s - 7 by omega]
      exact Tr.ret _ (BI.Entails.refl _)
  · rw [if_neg h0, if_neg h0, opt_false (by rw [Bool.and_eq_false_iff]; left; rw [← Bool.not_eq_true, Nat.ble_eq]; omega)]
    exact Tr.ret _ (BI.Entails.refl _)

include hG in
/-- One gather step of a lane. -/
theorem tr_agLane (d : Fin 2) (s : ℕ) (g : Fin 2) (hs : s < 14) (n : ℕ) (hn : n = 150 + 10 * (s + 1) + 2 * g.val + d.val) :
    Tr c (Ctx2 K c) iprop(agSt c d g s ∗ frAg (peerT d c) d s g ∗ crLane c d g (11 + (s - 7)) ∗ outQ c O (4 * (s + 1) + 2 * g.val + d.val) ∗ paying n c)
      (agStep G O (dirT d c) d s g : Pr F PUnit)
      fun _ => iprop(agSt c d g (s + 1) ∗ rideAg (upT d c) d s g ∗ crLane c d g (11 + (s + 1 - 7)) ∗ outQ c O (4 * (s + 1) + 2 * g.val + d.val + 1) ∗ paying (n + 1) c) := by
  have hpe : hop d (posT (peerT d c)) (s + 1) = hop d (posT c) (15 + (s + 1)) := by rw [pos_peer, hop_hop]
  have hh : hop d (posT c) (15 + (s + 1)) = hop d (posT c) s := by rw [show 15 + (s + 1) = 16 + s by omega, hop_add16]
  unfold Tr agStep agSt frAg
  rw [bs_Ico (show s < 15 by omega) (pnd c 3 d g), bs_Ico (show s + 1 < 15 by omega) (fre c 2 d g), hpe]
  iintro ⟨#HC, ⟨⟨H1, H2⟩, H3, ⟨H4, H5⟩, H6, H7⟩, Hdst, Hcr, HO, Hp⟩
  rw [wp_bind]
  iapply (Tr.use (tr_agWr K c G d g s (by omega) n (by omega))) $$ [H1 Hp]
  · isplitr; · iexact HC
    isplitl [H1] <;> iassumption
  iintro %_ ⟨Hpay, Hcl, Hp⟩
  unfold agrPay
  icases Hpay with ⟨Hsg, Hup⟩
  ihave Hsg' := (seg_halve c _ _) $$ Hsg
  icases Hsg' with ⟨Ha, Hb⟩
  rw [wp_bind]
  iapply (Tr.use (tr_crOpt2 K c d s g hs n (by omega))) $$ [Hcr Hp]
  · isplitr; · iexact HC
    isplitl [Hcr] <;> iassumption
  iintro %_ ⟨Hcr, Hp⟩
  rw [wp_bind]
  iapply (Tr.use (tr_agS K c G hG d g (s + 1) (by omega) n (by rw [tm_ag d s g (by omega)]; exact hn))) $$ [H4 Ha Hdst Hp]
  · isplitr; · iexact HC
    isplitl [H4]; · iexact H4
    isplitl [Ha]; · rw [hh]; iexact Ha
    isplitl [Hdst]; · iexact Hdst
    isplitr; · simp only [rideAg]; iempintro
    iexact Hp
  iintro %_ ⟨Hpn, Hp⟩
  iapply (Tr.use (tr_agOut K c G hG O d g s (by omega) hs')) $$ [Hb HO]
  · isplitr; · iexact HC
    isplitl [Hb] <;> iassumption
  iintro %_ ⟨Hb, HO⟩
  isplitl [H2 H3 H5 H6 H7 Hcl Hpn Hb]
  · isplitl [H2]; · iexact H2
    isplitl [H3 Hcl]; · rw [bs_range s (cls c 3 d g)]; isplitl [Hcl] <;> iassumption
    isplitl [H5]; · iexact H5
    isplitl [H6 Hpn]; · rw [bs_range (s + 1) (pnd c 2 d g)]; isplitl [Hpn] <;> iassumption
    rw [bs_range s]; isplitl [Hb] <;> iassumption
  isplitl [Hup]; · iexact Hup
  isplitl [Hcr]; · iexact Hcr
  isplitl [HO] <;> iassumption

end

end Cert.KernelIdeal.Ring

end
-- ==== Proof.Ki.Split.lean ====
module

public import proofs.«01_k».proof.Proof.Ki.Gather

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! Buffers taken apart into their segments and put together again. -/

section Family
variable {sp : Space} {t : Shape} {e : EltTy} (c : Dev nD) (M : Memref sig .tc sp t e) (q : PosShare TreeShare)

theorem holdM_union {A B : Finset M.view.ty.Idx} (h : Disjoint A B) : (holdM c M (A ∪ B) q : sProp 𝕄) ⊢ iprop(holdM c M A q ∗ holdM c M B q) := by
  unfold holdM
  iintro ⟨%f, H⟩
  ihave H2 := (pointsTo_union h).1 $$ H
  icases H2 with ⟨H1, H2⟩
  isplitl [H1]; · iexists f; iexact H1
  iexists f; iexact H2

theorem holdM_join {A B : Finset M.view.ty.Idx} (h : Disjoint A B) : (iprop(holdM c M A q ∗ holdM c M B q) : sProp 𝕄) ⊢ holdM c M (A ∪ B) q := by
  unfold holdM
  iintro ⟨⟨%f, H1⟩, ⟨%g, H2⟩⟩
  iexists _
  iapply (pointsTo_join h)
  isplitl [H1] <;> iassumption

theorem setOn_union (A B : Finset t.Idx) : M.view.setOn (A ∪ B) = M.view.setOn A ∪ M.view.setOn B := Finset.map_union _ _
theorem setOn_disjoint {A B : Finset t.Idx} (h : Disjoint A B) : Disjoint (M.view.setOn A) (M.view.setOn B) := (Finset.disjoint_map _).mpr h

variable {T : Type} [DecidableEq T]

theorem holdM_split (S : Finset T) (R : T → Finset t.Idx) (hd : ∀ x y, x ≠ y → Disjoint (R x) (R y)) :
    (holdM c M (M.view.setOn (S.biUnion R)) q : sProp 𝕄) ⊢ bigSep S fun x => holdM c M (M.view.setOn (R x)) q := by
  induction S using Finset.induction_on with
  | empty => rw [bigSep_empty]; iintro -; iempintro
  | insert a S ha ih =>
    rw [bigSep_insert ha, Finset.biUnion_insert, setOn_union]
    refine BIBase.Entails.trans (holdM_union c M q (setOn_disjoint M ?_)) (sep_mono_right ih)
    exact (Finset.disjoint_biUnion_right _ _ _).mpr fun y hy => hd a y (fun h => ha (h ▸ hy))

theorem holdM_gather (S : Finset T) (a : T) (ha : a ∉ S) (R : T → Finset t.Idx) (hd : ∀ x y, x ≠ y → Disjoint (R x) (R y)) :
    (bigSep (insert a S) fun x => holdM c M (M.view.setOn (R x)) q : sProp 𝕄) ⊢ holdM c M (M.view.setOn ((insert a S).biUnion R)) q := by
  induction S using Finset.induction_on with
  | empty =>
    rw [show (insert a (∅ : Finset T)) = {a} from rfl, bigSep_singleton, Finset.singleton_biUnion]
  | insert b S hb ih =>
    have hab : a ∉ S := fun h => ha (Finset.mem_insert_of_mem h)
    have hne : b ≠ a := fun h => ha (h ▸ Finset.mem_insert_self _ _)
    have hb' : b ∉ insert a S := fun h => (Finset.mem_insert.mp h).elim hne hb
    rw [Finset.insert_comm, bigSep_insert hb', Finset.biUnion_insert, setOn_union]
    refine BIBase.Entails.trans (sep_mono_right (ih hab)) (holdM_join c M q (setOn_disjoint M ?_))
    exact (Finset.disjoint_biUnion_right _ _ _).mpr fun y hy => hd b y (fun h => hb' (h ▸ hy))

end Family

/-! ## The rectangles -/

/-- A chunk. -/
def chO (k : Fin 16) : Fin 3 → ℕ := ![k.val, 0, 0]
theorem chO_inb (k : Fin 16) : ∀ a, chO k a + S1x256x1024.size a ≤ S16x256x1024.size a := by revert k; decide
def chR (k : Fin 16) : Finset S16x256x1024.Idx := (Rect.unit (s := S16x256x1024) (chO k) S1x256x1024.size (chO_inb k)).set
def agR (k : Fin 16) (g : Fin 2) : Finset S16x256x1024.Idx := (Rect.unit (s := S16x256x1024) (agO k g) S1x128x1024.size (agO_inb k g)).set
def rxR (x : Fin 4 × Fin 2) : Finset S4x256x1024.Idx := (Rect.unit (s := S4x256x1024) ![x.1.val, 128 * x.2.val, 0] S1x128x1024.size (rx_inb x.1 x.2)).set
def txR (x : Fin 2 × Fin 2) : Finset S2x256x1024.Idx := (Rect.unit (s := S2x256x1024) ![x.1.val, 128 * x.2.val, 0] S1x128x1024.size (tx_inb x.1 x.2)).set

theorem mem_chR (k : Fin 16) (i : S16x256x1024.Idx) : i ∈ chR k ↔ (i 0).val = k.val := by
  unfold chR; rw [Rect.mem_set_unit]
  constructor
  · intro h; have := h 0; have h1 : k.val ≤ (i 0).val := this.1; have h2 : (i 0).val < k.val + 1 := this.2; omega
  · intro h a
    match a with
    | 0 => exact ⟨by show k.val ≤ _; omega, by show _ < k.val + 1; omega⟩
    | 1 => exact ⟨Nat.zero_le _, by show _ < 0 + 256; have : (i 1).val < 256 := (i 1).isLt; omega⟩
    | 2 => exact ⟨Nat.zero_le _, by show _ < 0 + 1024; have : (i 2).val < 1024 := (i 2).isLt; omega⟩
theorem mem_agR (k : Fin 16) (g : Fin 2) (i : S16x256x1024.Idx) : i ∈ agR k g ↔ (i 0).val = k.val ∧ (i 1).val / 128 = g.val := by
  unfold agR; rw [Rect.mem_set_unit]
  constructor
  · intro h
    have h0 := h 0; have h1 := h 1
    have a1 : k.val ≤ (i 0).val := h0.1; have a2 : (i 0).val < k.val + 1 := h0.2
    have b1 : 128 * g.val ≤ (i 1).val := h1.1; have b2 : (i 1).val < 128 * g.val + 128 := h1.2
    omega
  · intro h a
    match a with
    | 0 => exact ⟨by show k.val ≤ _; omega, by show _ < k.val + 1; omega⟩
    | 1 => exact ⟨by show 128 * g.val ≤ _; omega, by show _ < 128 * g.val + 128; omega⟩
    | 2 => exact ⟨Nat.zero_le _, by show _ < 0 + 1024; have : (i 2).val < 1024 := (i 2).isLt; omega⟩
theorem mem_rxR (x : Fin 4 × Fin 2) (i : S4x256x1024.Idx) : i ∈ rxR x ↔ (i 0).val = x.1.val ∧ (i 1).val / 128 = x.2.val := by
  unfold rxR; rw [Rect.mem_set_unit]
  constructor
  · intro h
    have h0 := h 0; have h1 := h 1
    have a1 : x.1.val ≤ (i 0).val := h0.1; have a2 : (i 0).val < x.1.val + 1 := h0.2
    have b1 : 128 * x.2.val ≤ (i 1).val := h1.1; have b2 : (i 1).val < 128 * x.2.val + 128 := h1.2
    omega
  · intro h a
    match a with
    | 0 => exact ⟨by show x.1.val ≤ _; omega, by show _ < x.1.val + 1; omega⟩
    | 1 => exact ⟨by show 128 * x.2.val ≤ _; omega, by show _ < 128 * x.2.val + 128; omega⟩
    | 2 => exact ⟨Nat.zero_le _, by show _ < 0 + 1024; have : (i 2).val < 1024 := (i 2).isLt; omega⟩
theorem mem_txR (x : Fin 2 × Fin 2) (i : S2x256x1024.Idx) : i ∈ txR x ↔ (i 0).val = x.1.val ∧ (i 1).val / 128 = x.2.val := by
  unfold txR; rw [Rect.mem_set_unit]
  constructor
  · intro h
    have h0 := h 0; have h1 := h 1
    have a1 : x.1.val ≤ (i 0).val := h0.1; have a2 : (i 0).val < x.1.val + 1 := h0.2
    have b1 : 128 * x.2.val ≤ (i 1).val := h1.1; have b2 : (i 1).val < 128 * x.2.val + 128 := h1.2
    omega
  · intro h a
    match a with
    | 0 => exact ⟨by show x.1.val ≤ _; omega, by show _ < x.1.val + 1; omega⟩
    | 1 => exact ⟨by show 128 * x.2.val ≤ _; omega, by show _ < 128 * x.2.val + 128; omega⟩
    | 2 => exact ⟨Nat.zero_le _, by show _ < 0 + 1024; have : (i 2).val < 1024 := (i 2).isLt; omega⟩

theorem ag_cover : (Finset.univ : Finset (Fin 16 × Fin 2)).biUnion (fun x => agR x.1 x.2) = Finset.univ := by
  ext i; simp only [Finset.mem_biUnion, Finset.mem_univ, true_and, iff_true]
  have h1 : (i 1).val < 256 := (i 1).isLt
  exact ⟨(⟨(i 0).val, (i 0).isLt⟩, ⟨(i 1).val / 128, by omega⟩), (mem_agR _ _ i).mpr ⟨rfl, rfl⟩⟩
theorem ch_cover : (Finset.univ : Finset (Fin 16)).biUnion chR = Finset.univ := by
  ext i; simp only [Finset.mem_biUnion, Finset.mem_univ, true_and, iff_true]
  exact ⟨⟨(i 0).val, (i 0).isLt⟩, (mem_chR _ i).mpr rfl⟩
theorem rx_cover : (Finset.univ : Finset (Fin 4 × Fin 2)).biUnion rxR = Finset.univ := by
  ext i; simp only [Finset.mem_biUnion, Finset.mem_univ, true_and, iff_true]
  have h1 : (i 1).val < 256 := (i 1).isLt
  exact ⟨(⟨(i 0).val, (i 0).isLt⟩, ⟨(i 1).val / 128, by omega⟩), (mem_rxR _ i).mpr ⟨rfl, rfl⟩⟩
theorem tx_cover : (Finset.univ : Finset (Fin 2 × Fin 2)).biUnion txR = Finset.univ := by
  ext i; simp only [Finset.mem_biUnion, Finset.mem_univ, true_and, iff_true]
  have h1 : (i 1).val < 256 := (i 1).isLt
  exact ⟨(⟨(i 0).val, (i 0).isLt⟩, ⟨(i 1).val / 128, by omega⟩), (mem_txR _ i).mpr ⟨rfl, rfl⟩⟩
theorem ag_disj (x y : Fin 16 × Fin 2) (h : x ≠ y) : Disjoint (agR x.1 x.2) (agR y.1 y.2) :=
  Finset.disjoint_left.mpr fun i h1 h2 => h (Prod.ext (Fin.ext (((mem_agR _ _ i).mp h1).1.symm.trans ((mem_agR _ _ i).mp h2).1)) (Fin.ext (((mem_agR _ _ i).mp h1).2.symm.trans ((mem_agR _ _ i).mp h2).2)))
theorem rx_disj (x y : Fin 4 × Fin 2) (h : x ≠ y) : Disjoint (rxR x) (rxR y) :=
  Finset.disjoint_left.mpr fun i h1 h2 => h (Prod.ext (Fin.ext (((mem_rxR _ i).mp h1).1.symm.trans ((mem_rxR _ i).mp h2).1)) (Fin.ext (((mem_rxR _ i).mp h1).2.symm.trans ((mem_rxR _ i).mp h2).2)))
theorem tx_disj (x y : Fin 2 × Fin 2) (h : x ≠ y) : Disjoint (txR x) (txR y) :=
  Finset.disjoint_left.mpr fun i h1 h2 => h (Prod.ext (Fin.ext (((mem_txR _ i).mp h1).1.symm.trans ((mem_txR _ i).mp h2).1)) (Fin.ext (((mem_txR _ i).mp h1).2.symm.trans ((mem_txR _ i).mp h2).2)))
theorem ch_disj (x y : Fin 16) (h : x ≠ y) : Disjoint (chR x) (chR y) :=
  Finset.disjoint_left.mpr fun i h1 h2 => h (Fin.ext (((mem_chR _ i).mp h1).symm.trans ((mem_chR _ i).mp h2)))
theorem ch_segs (k : Fin 16) : chR k = agR k 0 ∪ agR k 1 := by
  ext i; rw [Finset.mem_union, mem_chR, mem_agR, mem_agR]
  have h1 : (i 1).val < 256 := (i 1).isLt
  show _ ↔ (_ ∧ _ = 0) ∨ (_ ∧ _ = 1)
  omega

/-! ## The three scratch buffers -/

theorem ag_seg (c : Dev nD) (d : Fin 2) (k : Fin 16) (g : Fin 2) (q : PosShare TreeShare) :
    (segQ c (agSg d k g) q : sProp 𝕄) = holdM c (agM d) ((agM d).view.setOn (agR k g)) q := by
  have h2 : (agSg d k g).view.set = (agM d).view.setOn (agR k g) := set_seg (agM d) _ (fun _ => rfl) squeezes_S1x128x1024_S128x1024
  unfold segQ; exact congrArg (fun A => (holdM c (agM d) A q : sProp 𝕄)) h2
theorem rx_seg (c : Dev nD) (d : Fin 2) (x : Fin 4 × Fin 2) (q : PosShare TreeShare) :
    (segQ c (rxS d x.1.val x.2) q : sProp 𝕄) = holdM c (rxM d) ((rxM d).view.setOn (rxR x)) q := by
  have h : Fin.ofNat 4 x.1.val = x.1 := Fin.ext (Nat.mod_eq_of_lt x.1.isLt)
  have h2 : (rxS d x.1.val x.2).view.set = (rxM d).view.setOn (rxR (Fin.ofNat 4 x.1.val, x.2)) := set_seg (rxM d) _ (fun _ => rfl) squeezes_S1x128x1024_S128x1024
  rw [h] at h2
  unfold segQ; exact congrArg (fun A => (holdM c (rxM d) A q : sProp 𝕄)) h2
theorem tx_seg (c : Dev nD) (d : Fin 2) (x : Fin 2 × Fin 2) (q : PosShare TreeShare) :
    (segQ c (txS d x.1.val x.2) q : sProp 𝕄) = holdM c (txM d) ((txM d).view.setOn (txR x)) q := by
  have h : Fin.ofNat 2 x.1.val = x.1 := Fin.ext (Nat.mod_eq_of_lt x.1.isLt)
  have h2 : (txS d x.1.val x.2).view.set = (txM d).view.setOn (txR (Fin.ofNat 2 x.1.val, x.2)) := set_seg (txM d) _ (fun _ => rfl) squeezes_S1x128x1024_S128x1024
  rw [h] at h2
  unfold segQ; exact congrArg (fun A => (holdM c (txM d) A q : sProp 𝕄)) h2

/-- A chunk as one piece. -/
def chunkA (c : Dev nD) (d : Fin 2) (k : Fin 16) : sProp 𝕄 := holdM c (agM d) ((agM d).view.setOn (chR k)) fullShare

/-- A chunk that holds its product. -/
def chunkP (c : Dev nD) (d : Fin 2) (k : Fin 16) : sProp 𝕄 :=
  holdP c (agM d) ((agM d).view.setOn (chR k)) fullShare fun f => ∀ i ∈ chR k, (agM d).view.read (Elt F) f i = chunkV c d i

theorem chunkP_any (c : Dev nD) (d : Fin 2) (k : Fin 16) : (chunkP c d k : sProp 𝕄) ⊢ chunkA c d k := by
  unfold chunkP chunkA holdP holdM
  iintro ⟨%f, -, H⟩; iexists f; iexact H

theorem segIx_mem (k : Fin 16) (g : Fin 2) (j : S128x1024.Idx) : segIx k g j ∈ agR k g := by
  unfold segIx agR
  rw [← Rect.map_emb_univ]
  exact Finset.mem_map_of_mem _ (Finset.mem_univ _)

/-- The half of a chunk that is a segment. -/
theorem chunk_seg (c : Dev nD) (d : Fin 2) (k : Fin 16) (g : Fin 2) (hg : agR k g ⊆ chR k) (f : (agM d).view.ty.Contents (Elt F))
    (hf : ∀ i ∈ chR k, (agM d).view.read (Elt F) f i = chunkV c d i) :
    ((agM d).view.loc (c : Thread nD τ) ↦[(agM d).view.setOn (agR k g)]{fullShare} f : sProp 𝕄) ⊢ segV c (agSg d k g) (part c d k g) := by
  have h2 : (agSg d k g).view.set = (agM d).view.setOn (agR k g) := set_seg (agM d) _ (fun _ => rfl) squeezes_S1x128x1024_S128x1024
  unfold segV segW
  rw [h2]
  iintro H
  iexists f
  isplitr
  · ipureintro
    funext j
    exact hf (segIx k g j) (hg (segIx_mem k g j))
  · iexact H

theorem chunk_split (c : Dev nD) (d : Fin 2) (k : Fin 16) :
    (chunkP c d k : sProp 𝕄) ⊢ iprop(segV c (agSg d k 0) (part c d k 0) ∗ segV c (agSg d k 1) (part c d k 1)) := by
  unfold chunkP holdP
  iintro ⟨%f, %hf, H⟩
  rw [show (agM d).view.setOn (chR k) = (agM d).view.setOn (agR k 0) ∪ (agM d).view.setOn (agR k 1) by rw [ch_segs, setOn_union]]
  ihave H2 := (pointsTo_union (setOn_disjoint (agM d) (ag_disj (k, 0) (k, 1) (by simp)))).1 $$ H
  icases H2 with ⟨H1, H2⟩
  isplitl [H1]
  · iapply (chunk_seg c d k 0 (by rw [ch_segs]; exact Finset.subset_union_left) f hf); iexact H1
  · iapply (chunk_seg c d k 1 (by rw [ch_segs]; exact Finset.subset_union_right) f hf); iexact H2

theorem ag_open (c : Dev nD) (d : Fin 2) : (whQ c (agM d) fullShare : sProp 𝕄) ⊢ bigSep Finset.univ (chunkA c d) := by
  unfold whQ
  rw [← View.setOn_univ, ← ch_cover]
  exact holdM_split c (agM d) _ _ _ ch_disj
theorem rx_open (c : Dev nD) (d : Fin 2) : (whQ c (rxM d) fullShare : sProp 𝕄) ⊢ bigSep Finset.univ fun x : Fin 4 × Fin 2 => segA c (rxS d x.1.val x.2) := by
  unfold whQ segA
  simp only [rx_seg]
  rw [← View.setOn_univ, ← rx_cover]
  exact holdM_split c (rxM d) _ _ _ rx_disj
theorem tx_open (c : Dev nD) (d : Fin 2) : (whQ c (txM d) fullShare : sProp 𝕄) ⊢ bigSep Finset.univ fun x : Fin 2 × Fin 2 => segA c (txS d x.1.val x.2) := by
  unfold whQ segA
  simp only [tx_seg]
  rw [← View.setOn_univ, ← tx_cover]
  exact holdM_split c (txM d) _ _ _ tx_disj

theorem univ_insert {T : Type} [Fintype T] [DecidableEq T] (a : T) : insert a (Finset.univ.erase a) = (Finset.univ : Finset T) := Finset.insert_erase (Finset.mem_univ a)

theorem ag_close (c : Dev nD) (d : Fin 2) : (bigSep Finset.univ fun x : Fin 16 × Fin 2 => segA c (agSg d x.1 x.2) : sProp 𝕄) ⊢ whQ c (agM d) fullShare := by
  unfold whQ segA
  simp only [ag_seg]
  have := holdM_gather (F := F) c (agM d) fullShare (Finset.univ.erase ((0, 0) : Fin 16 × Fin 2)) (0, 0) (Finset.notMem_erase _ _) (fun x => agR x.1 x.2) ag_disj
  rw [univ_insert, ag_cover, View.setOn_univ] at this
  exact this
theorem rx_close (c : Dev nD) (d : Fin 2) : (bigSep Finset.univ fun x : Fin 4 × Fin 2 => segA c (rxS d x.1.val x.2) : sProp 𝕄) ⊢ whQ c (rxM d) fullShare := by
  unfold whQ segA
  simp only [rx_seg]
  have := holdM_gather (F := F) c (rxM d) fullShare (Finset.univ.erase ((0, 0) : Fin 4 × Fin 2)) (0, 0) (Finset.notMem_erase _ _) rxR rx_disj
  rw [univ_insert, rx_cover, View.setOn_univ] at this
  exact this
theorem tx_close (c : Dev nD) (d : Fin 2) : (bigSep Finset.univ fun x : Fin 2 × Fin 2 => segA c (txS d x.1.val x.2) : sProp 𝕄) ⊢ whQ c (txM d) fullShare := by
  unfold whQ segA
  simp only [tx_seg]
  have := holdM_gather (F := F) c (txM d) fullShare (Finset.univ.erase ((0, 0) : Fin 2 × Fin 2)) (0, 0) (Finset.notMem_erase _ _) txR tx_disj
  rw [univ_insert, tx_cover, View.setOn_univ] at this
  exact this

end Cert.KernelIdeal.Ring

end
-- ==== Proof.Ki.Begin.lean ====
module

public import proofs.«01_k».proof.Proof.Ki.Split

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The beginning of the body: the meeting at the barrier, the products, the first copies. -/

variable (K : GSem nD τ sig → ℕ)

/-! ### Rows of assertions -/

theorem bs_erase {T : Type} [DecidableEq T] {S : Finset T} {i : T} (h : i ∈ S) (f : T → sProp 𝕄) : bigSep S f = iprop(f i ∗ bigSep (S.erase i) f) := bigSep_erase h
theorem bs_two (f : Fin 2 → sProp 𝕄) : bigSep Finset.univ f = iprop(f 0 ∗ f 1) := BI.bigSep_fin_two f
theorem bs_fin (n : ℕ) (f : ℕ → sProp 𝕄) : (bigSep (Finset.univ : Finset (Fin n)) fun i => f i.val) = bigSep (Finset.range n) f := by
  have h : Finset.range n = (Finset.univ : Finset (Fin n)).map Fin.valEmbedding := by
    ext x; simp only [Finset.mem_range, Finset.mem_map, Finset.mem_univ, true_and, Fin.valEmbedding_apply]
    exact ⟨fun h => ⟨⟨x, h⟩, rfl⟩, fun ⟨a, ha⟩ => ha ▸ a.isLt⟩
  rw [h, BI.bigSep_map]; rfl
theorem bs_shift (m n : ℕ) (f : ℕ → sProp 𝕄) : bigSep (Finset.Ico (m + 1) (n + 1)) f = bigSep (Finset.Ico m n) fun i => f (i + 1) := by
  have h : Finset.Ico (m + 1) (n + 1) = (Finset.Ico m n).image (· + 1) := by
    ext x; simp only [Finset.mem_Ico, Finset.mem_image]
    exact ⟨fun h => ⟨x - 1, by omega, by omega⟩, by rintro ⟨y, h, rfl⟩; omega⟩
  rw [h, BI.bigSep_image_of_injOn (fun a _ b _ h => Nat.succ_injective h)]
theorem bs_zip {T : Type} (S : Finset T) (f g : T → sProp 𝕄) : (bigSep S fun i => iprop(f i ∗ g i)) = iprop(bigSep S f ∗ bigSep S g) := bigSep_sep' _ _ _

theorem hop_image : ∀ (d : Fin 2) (p : Fin 16), (Finset.range 16).image (hop d p) = Finset.univ := by decide +kernel
theorem hop_inj (d : Fin 2) (p : Fin 16) : Set.InjOn (hop d p) (Finset.range 16 : Finset ℕ) := by
  apply Finset.injOn_of_card_image_eq
  rw [hop_image]; rfl
theorem bs_hop (d : Fin 2) (p : Fin 16) (f : Fin 16 → sProp 𝕄) : bigSep Finset.univ f = bigSep (Finset.range 16) fun i => f (hop d p i) := by
  rw [← hop_image d p, BI.bigSep_image_of_injOn (hop_inj d p)]
/-- The own chunk first. -/
theorem bs_own (d : Fin 2) (p : Fin 16) (f : Fin 16 → sProp 𝕄) : bigSep Finset.univ f = iprop(f p ∗ bigSep (Finset.range 15) fun i => f (hop d p (i + 1))) := by
  rw [bs_hop d p, Finset.range_eq_Ico, bs_Ico (show 0 < 16 by omega), bs_shift 0 15, hop_zero, ← Finset.range_eq_Ico]

/-! ### The buffers at the start -/

/-- The receive slots of a direction. -/
def rxOwn (c : Dev nD) (d : Fin 2) : sProp 𝕄 := bigSep (Finset.range 4) fun j => bigSep (Finset.univ : Finset (Fin 2)) fun g => segA c (rxS d j g)

theorem rx_open' (c : Dev nD) (d : Fin 2) : (whQ c (rxM d) fullShare : sProp 𝕄) ⊢ rxOwn c d := by
  refine BIBase.Entails.trans (rx_open c d) ?_
  unfold rxOwn
  rw [bigSep_univ_prod, ← bs_fin 4 fun j => bigSep (Finset.univ : Finset (Fin 2)) fun g => segA c (rxS d j g)]

theorem tx_open' (c : Dev nD) (d : Fin 2) : (whQ c (txM d) fullShare : sProp 𝕄)
    ⊢ iprop((bigSep (Finset.Ico 1 3) fun i => segA c (txS d i 0)) ∗ bigSep (Finset.Ico 1 3) fun i => segA c (txS d i 1)) := by
  refine BIBase.Entails.trans (tx_open c d) ?_
  rw [bigSep_univ_prod, bs_two, bs_two, bs_two, show Finset.Ico 1 3 = {1, 2} from rfl, bs_pair (by decide), bs_pair (by decide), txS_add2 d 0, txS_add2 d 0]
  iintro ⟨⟨H1, H2⟩, H3, H4⟩
  isplitl [H1 H3]
  · isplitl [H3]; · iexact H3
    iexact H1
  isplitl [H4]; · iexact H4
  iexact H2

/-- The chunks other than the own. -/
def chRest (c : Dev nD) (d : Fin 2) : sProp 𝕄 := bigSep (Finset.range 15) fun i => chunkA c d (hop d (posT c) (i + 1))

theorem ag_open' (c : Dev nD) (d : Fin 2) : (whQ c (agM d) fullShare : sProp 𝕄) ⊢ iprop(chunkA c d (posT c) ∗ chRest c d) := by
  refine BIBase.Entails.trans (ag_open c d) ?_
  rw [bs_own d (posT c)]; exact BI.Entails.refl _

/-- A chunk after `n` of the products: the product, or whatever was there. -/
def chSt (c : Dev nD) (d : Fin 2) (n : ℕ) (k : Fin 16) : sProp 𝕄 := if ∃ j, j < n ∧ gkT (posT c) j = k then chunkP c d k else chunkA c d k
theorem chSt_any (c : Dev nD) (d : Fin 2) (n : ℕ) (k : Fin 16) : (chSt c d n k : sProp 𝕄) ⊢ chunkA c d k := by
  unfold chSt; split_ifs
  · exact chunkP_any c d k
  · exact BI.Entails.refl _
theorem chSt_zero (c : Dev nD) (d : Fin 2) (k : Fin 16) : (chSt c d 0 k : sProp 𝕄) = chunkA c d k := if_neg (by rintro ⟨j, hj, -⟩; omega)
theorem chSt_made (c : Dev nD) (d : Fin 2) (n : ℕ) (k : Fin 16) (h : ∃ j, j < n ∧ gkT (posT c) j = k) : (chSt c d n k : sProp 𝕄) = chunkP c d k := if_pos h
theorem chSt_old (c : Dev nD) (d : Fin 2) (n : ℕ) (k : Fin 16) (h : gkT (posT c) n ≠ k) : (chSt c d n k : sProp 𝕄) = chSt c d (n + 1) k := by
  unfold chSt
  refine if_congr ⟨fun ⟨j, hj, e⟩ => ⟨j, by omega, e⟩, fun ⟨j, hj, e⟩ => ⟨j, ?_, e⟩⟩ rfl rfl
  rcases Nat.lt_or_ge j n with h' | h'
  · exact h'
  · exact absurd (show gkT (posT c) n = k by rw [← e, show j = n by omega]) h
theorem gk_all : ∀ (p : Fin 16) (d : Fin 2), ∀ i ∈ Finset.range 15, ∃ j, j < 15 ∧ gkT p j = hop d p (i + 1) := by decide +kernel

/-- The chunks other than the own after `n` of the products. -/
def chMid (c : Dev nD) (d : Fin 2) (n : ℕ) : sProp 𝕄 := bigSep (Finset.range 15) fun i => chSt c d n (hop d (posT c) (i + 1))
theorem chMid_zero (c : Dev nD) (d : Fin 2) : (chRest c d : sProp 𝕄) = chMid c d 0 := by
  unfold chRest chMid; simp only [chSt_zero]

theorem chRest_split (c : Dev nD) (d : Fin 2) : (chMid c d 15 : sProp 𝕄)
    ⊢ iprop((bigSep (Finset.range 15) fun i => segV c (agSg d (hop d (posT c) (i + 1)) 0) (part c d (hop d (posT c) (i + 1)) 0))
      ∗ bigSep (Finset.range 15) fun i => segV c (agSg d (hop d (posT c) (i + 1)) 1) (part c d (hop d (posT c) (i + 1)) 1)) := by
  unfold chMid
  rw [← bs_zip]
  exact bigSep_mono fun i hi => by rw [chSt_made c d 15 _ (gk_all (posT c) d i hi)]; exact chunk_split c d _

/-- One chunk among the others. -/
theorem chMid_one (c : Dev nD) (d : Fin 2) (n i : ℕ) (hi : i ∈ Finset.range 15) (e : gkT (posT c) n = hop d (posT c) (i + 1)) :
    (chMid c d n : sProp 𝕄) ⊢ iprop(chunkA c d (gkT (posT c) n) ∗ (chunkP c d (gkT (posT c) n) -∗ chMid c d (n + 1))) := by
  unfold chMid
  rw [bs_erase hi, bs_erase hi, ← e, chSt_made c d (n + 1) _ ⟨n, by omega, rfl⟩]
  have hr : (bigSep ((Finset.range 15).erase i) fun i => chSt c d n (hop d (posT c) (i + 1)) : sProp 𝕄)
      = bigSep ((Finset.range 15).erase i) fun i => chSt c d (n + 1) (hop d (posT c) (i + 1)) :=
    bigSep_congr fun j hj => chSt_old c d n _ fun h => by
      have h1 := Finset.mem_range.mp (Finset.mem_erase.mp hj).2
      have h2 := Finset.mem_range.mp hi
      have := hop_inj d (posT c) (by simpa using (by omega : i + 1 < 16)) (by simpa using (by omega : j + 1 < 16)) (e.symm.trans h)
      exact (Finset.mem_erase.mp hj).1 (by omega)
  rw [hr]
  iintro ⟨H1, H2⟩
  isplitl [H1]; · iapply (chSt_any c d n _); iexact H1
  iintro H
  isplitl [H] <;> iassumption

section
variable (c : Dev nD) (G : Geo) (hG : GeoOk G c)

/-! ### The barrier -/

/-- What is known before the barrier. -/
def Ctx1 (c : Dev nD) : sProp 𝕄 := iprop(Ctx K ∗ reachedAll c)
instance ctx1_persistent : BI.Persistent (Ctx1 K c : sProp 𝕄) := by unfold Ctx1; infer_instance
theorem ctx1_ctx : (Ctx1 K c : sProp 𝕄) ⊢ Ctx K := by unfold Ctx1; iintro ⟨#H, -⟩; iexact H

theorem tr_up {α : Type} {P : sProp 𝕄} {p : Pr F α} {Q : α → sProp 𝕄} (h : Tr c (Ctx2 K c) P p Q) :
    Tr c (Ctx1 K c) iprop(reachedAll (peerT 0 c) ∗ reachedAll (peerT 1 c) ∗ P) p Q := by
  refine BIBase.Entails.trans ?_ h
  unfold Ctx1 Ctx2
  iintro ⟨⟨#H1, #H2⟩, #H3, #H4, H5⟩
  isplitr
  · isplitr; · iexact H1
    isplitr; · iexact H2
    isplitr; · iexact H3
    iexact H4
  iexact H5

theorem tr_barSig (d : Fin 2) (n : ℕ) (hn : n = (Ev.bar d).tm) :
    Tr c (Ctx1 K c) iprop(paying n c ∗ rxOwn c d)
      (semSignalWord (dirT d c).up (SemArray.scalar (sig.barrier 0 rfl) : Sems sig S_).sem 1#32 : Pr F PUnit) fun _ => paying (n + 1) c := by
  subst hn
  rw [bar_sem]
  unfold Tr
  iintro ⟨#HC, Hp, Hrx⟩
  have hs := tr_signal K c (Ctx1 (F := F) K c) (ctx1_ctx K c) (Ev.bar d) barS rfl (BIBase.Entails.trans (ctx1_ctx K c) (ctx_bar K (upT d c))) 1#32 (by show _ = ((1 : ℕ) : ℤ); decide)
  unfold Tr at hs
  iapply hs
  isplitr; · iexact HC
  isplitl [Hp]; · iexact Hp
  rw [show (Ev.bar d).dev c = upT d c from rfl, show (Ev.bar d).duty = d.val from rfl, payload_bar]
  unfold barPay rxOwn
  rw [peer_up]
  isplitl [Hrx]; · iexact Hrx
  unfold Ctx1
  icases HC with ⟨-, #H⟩
  iexact H

/-- The own barrier cell at the start. -/
def barSt (c : Dev nD) : sProp 𝕄 :=
  iprop(atPos ER (cell c (.reg barS)) 0 ∅ 0 ∗ cred (tallyAt (cell c (.reg barS)) 1 1) ∗ cred (tallyAt (cell c (.reg barS)) 2 1))

theorem tr_barWait : Tr c (Ctx1 K c) iprop(barSt c ∗ paying 3 c)
    (semWaitWord (SemArray.scalar (sig.barrier 0 rfl) : Sems sig S_).sem 2#32 : Pr F PUnit)
    fun _ => iprop(barPay c 0 ∗ barPay c 1 ∗ semVal (cell c (.reg barS)) 0 ∗ paying 3 c) := by
  rw [bar_sem]
  unfold Tr semWaitWord barSt paying
  rw [show (2#32 : BitVec 32).toInt = ((2 : ℕ) : ℤ) from by decide]
  iintro ⟨#HC, ⟨Hat, Hc1, Hc2⟩, ⟨%W, HO⟩, Hrest⟩
  ihave #HI := ((ctx1_ctx K c).trans (ctx_reg K c barS)) $$ HC
  ihave Hcr := (cred_add _ _).2 $$ [Hc1 Hc2]
  · isplitl [Hc1]; · iexact Hc1
    iexact Hc2
  iapply (Rounds.wp_wait_rest 𝒱₀ ER (Rd (F := F)) (c : Thread nD τ) none (κ := K (cell c (.reg barS)))
      (wpE_semWait_eq 𝒱₀ (c : Thread nD τ) none Set.univ) (Set.mem_univ _) (cr := Finsupp.single 1 1 + Finsupp.single 2 1)
      {(SemLoc.reg barS, 1), (SemLoc.reg barS, 2)} (O := oweF 3 c) (W := W) (R := 0) (m := 0) (T := ∅)
      ((Nat.zero_add _).trans (expect_bar c).symm)
      (by rw [Util.total_add, Util.total_single, Util.total_single])
      (by
        intro x hx
        obtain ⟨i, hi, rfl⟩ := Finset.mem_image.mp hx
        have := Finsupp.support_add hi
        rcases Finset.mem_union.mp this with h | h <;> have := Finsupp.support_single_subset h <;> simp only [Finset.mem_singleton] at this <;> subst this
        · exact Finset.mem_insert_self _ _
        · exact Finset.mem_insert_of_mem (Finset.mem_singleton_self _))) $$ [Hcr HO Hat]
  · isplitr; · iexact HI
    isplitl [Hcr]; · unfold tallyAt; rw [tallyOn_add]; iexact Hcr
    isplitl [HO]; · iexact HO
    isplitr
    · iapply (BIBase.Entails.trans (ctx1_ctx K c) (ctx_may K 3 c {(SemLoc.reg barS, 1), (SemLoc.reg barS, 2)} (fun p hp => by
        rcases Finset.mem_insert.mp hp with rfl | hp
        · exact ⟨by decide, by decide⟩
        · rw [Finset.mem_singleton.mp hp]; exact ⟨by decide, by decide⟩))); iexact HC
    iexact Hat
  rw [wp_ret, Finset.sdiff_empty, duties_bar, bs_pair (by decide)]
  iintro ⟨HO, Hat, -, Hp0, Hp1⟩
  imod (tr_close (K (cell c (.reg barS))) c (.reg barS)) $$ [Hat] with Hv
  · isplitr; · iexact HI
    iexact Hat
  imodintro
  isplitl [Hp0]; · iapply (Entails.of_eq (show (Rd (F := F)).payload (cell c (.reg barS)) 0 0 = barPay c 0 from payload_bar c 0 0)); iexact Hp0
  isplitl [Hp1]; · iapply (Entails.of_eq (show (Rd (F := F)).payload (cell c (.reg barS)) 0 1 = barPay c 1 from payload_bar c 1 0)); iexact Hp1
  isplitl [Hv]; · iexact Hv
  isplitl [HO]; · iexists _; iexact HO
  iexact Hrest

/-! ### The products -/

variable (X : Memref sig .tc .vmem S4096x256 .i8) (W : Memref sig .tc .vmem S256x2048 .i8)

theorem tr_chunk (C : sProp 𝕄) [BI.Persistent C] (d : Fin 2) (k : Fin 16) {o : Fin 3 → ℕ} (h hp) (e : o = chO k) (v : FVec F S1x256x1024 .bf16) (hv : v = prodV c d k) :
    Tr c C (chunkA c d k) (storeChunk (agM d) (agM_whole d) o h hp v) fun _ => chunkP c d k := by
  subst e hv
  refine Tr.bind (tr_load c C (agM d) _ _ _ fullShare (Finset.Subset.refl _)) fun _ =>
    Tr.pre (holdM_P c _ _ fullShare) (tr_storeP (cs := .vmem) c C (agM d) _ _ _ _ _ (Finset.Subset.refl _) (fun _ => True) _ fun f _ i hi => ?_)
  unfold chR at hi
  rw [← Rect.map_emb_univ] at hi
  obtain ⟨y, -, rfl⟩ := Finset.mem_map.mp hi
  refine (View.read_slice_write_emb (v := (agM d).view) _ f _ (Finset.mem_univ y)).trans ?_
  have h0 : (y 0).val < 1 := (y 0).isLt
  unfold chunkV
  have ek : (⟨((Rect.unit (s := S16x256x1024) (chO k) S1x256x1024.size (chO_inb k)).emb y 0).val, ((Rect.unit (s := S16x256x1024) (chO k) S1x256x1024.size (chO_inb k)).emb y 0).isLt⟩ : Fin 16) = k :=
    Fin.ext (by show k.val + 1 * (y 0).val = k.val; omega)
  refine Eq.trans ?_ (congrArg (fun k' => prodV (F := F) c d k' _) ek.symm)
  refine congrArg (prodV (F := F) c d k) (funext fun a => ?_)
  match a with
  | 0 => exact Fin.ext (by show (y 0).val = 0; omega)
  | 1 => exact Fin.ext (by show (y 1).val = 0 + 1 * (y 1).val; omega)
  | 2 => exact Fin.ext (by show (y 2).val = 0 + 1 * (y 2).val; omega)

theorem whole_emb (w : S256x2048.Idx → Elt F .i8) :
    (fun j => w ((Rect.unit (s := S256x2048) ![0, 0] S256x2048.size inb_S256x2048_S256x2048_0_0).emb j)) = w :=
  funext fun j => congrArg w (funext fun a => by
    match a with
    | 0 => exact Fin.ext (by show 0 + 1 * (j 0).val = (j 0).val; omega)
    | 1 => exact Fin.ext (by show 0 + 1 * (j 1).val = (j 1).val; omega))

theorem tr_gemm (C : sProp 𝕄) [BI.Persistent C] (k : Fin 16) {ox : Fin 2 → ℕ} (hx) (ex : ox = ![256 * k.val, 0]) {o : Fin 3 → ℕ} (h hp) (e : o = chO k) (qx qw : PosShare TreeShare) :
    Tr c C iprop(owns (c : Thread nD τ) X qx (Vals.x c) ∗ owns (c : Thread nD τ) W qw (Vals.w c) ∗ chunkA c 0 k ∗ chunkA c 1 k) (gemmP X W (dirT 0 c) (dirT 1 c) ox hx o h hp : Pr F PUnit)
      fun _ => iprop(owns (c : Thread nD τ) X qx (Vals.x c) ∗ owns (c : Thread nD τ) W qw (Vals.w c) ∗ chunkP c 0 k ∗ chunkP c 1 k) := by
  subst ex
  unfold gemmP Tr
  iintro ⟨#HC, HX, HW, H0, H1⟩
  rw [wp_bind]
  iapply (Tr.use (tr_ldOwn c C X _ _ qx _)) $$ [HX]
  · isplitr; · iexact HC
    iexact HX
  iintro %vx ⟨%hvx, HX⟩
  rw [wp_bind]
  iapply (Tr.use (tr_ldOwn c C W _ _ qw _)) $$ [HW]
  · isplitr; · iexact HC
    iexact HW
  iintro %vw ⟨%hvw, HW⟩
  rw [whole_emb] at hvw
  subst hvx hvw
  rw [wp_bind]
  iapply (Tr.use (tr_chunk c C 0 k h hp e _ rfl)) $$ [H0]
  · isplitr; · iexact HC
    iexact H0
  iintro %_ H0
  iapply (Tr.use (tr_chunk c C 1 k h hp e _ rfl)) $$ [H1]
  · isplitr; · iexact HC
    iexact H1
  iintro %_ H1
  isplitl [HX]; · iexact HX
  isplitl [HW]; · iexact HW
  isplitl [H0] <;> iassumption

theorem gk_mem : ∀ (p : Fin 16) (k : Fin 15) (d : Fin 2), ∃ i ∈ Finset.range 15, gkT p k.val = hop d p (i + 1) := by decide +kernel

include hG in
theorem tr_gemms (C : sProp 𝕄) [BI.Persistent C] (qx qw : PosShare TreeShare) :
    Tr c C iprop(owns (c : Thread nD τ) X qx (Vals.x c) ∗ owns (c : Thread nD τ) W qw (Vals.w c) ∗ chRest c 0 ∗ chRest c 1)
      (loop (fun k => gemmP X W (dirT 0 c) (dirT 1 c) (G.xk (Fin.ofNat 15 k)) (G.xk_inb _) (G.ck (Fin.ofNat 15 k)) (G.ck_inb _) (G.ck_pk _)) 0 15 : Pr F PUnit)
      fun _ => iprop(owns (c : Thread nD τ) X qx (Vals.x c) ∗ owns (c : Thread nD τ) W qw (Vals.w c) ∗ chMid c 0 15 ∗ chMid c 1 15) := by
  rw [chMid_zero, chMid_zero]
  refine Tr.loop (fun n => iprop(owns (c : Thread nD τ) X qx (Vals.x c) ∗ owns (c : Thread nD τ) W qw (Vals.w c) ∗ chMid c 0 n ∗ chMid c 1 n)) _ 0 15 fun k _ hk => ?_
  have hm : (Fin.ofNat 15 k).val = k := Nat.mod_eq_of_lt (by omega)
  obtain ⟨i, hi, ei⟩ := gk_mem (posT c) (Fin.ofNat 15 k) 0
  obtain ⟨j, hj, ej⟩ := gk_mem (posT c) (Fin.ofNat 15 k) 1
  have ex := hG.xk (Fin.ofNat 15 k)
  have ec := hG.ck (Fin.ofNat 15 k)
  rw [hm] at ei ej ex ec
  unfold Tr
  iintro ⟨#HC, HX, HW, H0, H1⟩
  ihave H0 := (chMid_one c 0 k i hi ei) $$ H0
  icases H0 with ⟨H0, R0⟩
  ihave H1 := (chMid_one c 1 k j hj ej) $$ H1
  icases H1 with ⟨H1, R1⟩
  iapply (Tr.use (tr_gemm c X W C (gkT (posT c) k) _ ex _ _ ec qx qw)) $$ [HX HW H0 H1]
  · isplitr; · iexact HC
    isplitl [HX]; · iexact HX
    isplitl [HW]; · iexact HW
    isplitl [H0] <;> iassumption
  iintro %_ ⟨HX, HW, H0, H1⟩
  isplitl [HX]; · iexact HX
  isplitl [HW]; · iexact HW
  isplitl [H0 R0]
  · iapply R0; iexact H0
  · iapply R1; iexact H1

/-! ### The first copies -/

include hG in
theorem tr_rs0 (d g : Fin 2) (n : ℕ) (hn : n = 3 + 2 * d.val + g.val) :
    Tr c (Ctx2 K c) iprop(fre c 0 d g 0 ∗ segV c (agSg d (posT c) g) (part c d (posT c) g) ∗ segA (peerT d c) (rxS d 0 g) ∗ paying n c)
      (rs0 G (dirT d c) g : Pr F PUnit) fun _ => iprop(pnd c 0 d g 0 ∗ paying (n + 1) c) := by
  subst hn
  have e := hG.own g
  have hsend := tr_send (F := F) K c (Ctx2 K c) (BI.Entails.refl _) 0 1 d 0 g (by omega) (Ev.rs d (Fin.ofNat 15 0) g)
    rfl rfl rfl rfl _ _ (semAt_rss d c 0 g) (semAt_rsr d c 0 g)
    (agV (dirT d c) (G.own g) (G.own_inb g)) (rxV (dirT d c) 0 g) (agV_we _ _ _ (G.own_ww g)) (rxV_we _ _ _)
    (nb_rx d 0 g) fullShare iprop(emp) (part c d (posT c) g)
    (by rw [agV_eq d c _ e]; exact BI.Entails.refl _)
    (by show _ ⊢ rsrPay _ _ _ _; unfold rsrPay ride; simp only [rsv, up_peer]; exact BI.Entails.refl _)
  rw [← agV_eq d c (G.own_inb g) e]
  unfold Tr rs0 fre pnd
  iintro ⟨#HC, ⟨Hd, Hat⟩, H1, H2, Hp⟩
  iapply (Tr.use hsend) $$ [Hd H1 H2 Hp]
  · isplitr; · iexact HC
    isplitl [Hp]; · iexact Hp
    isplitl [H1]; · iexact H1
    isplitl [H2]; · iexact H2
    isplitr; · iempintro
    iexact Hd
  iintro %_ ⟨Hp, Hcr⟩
  isplitl [Hcr Hat]
  · isplitl [Hcr]; · iexact Hcr
    iexact Hat
  iexact Hp

end

end Cert.KernelIdeal.Ring

end
-- ==== Proof.Ki.Stage.lean ====
module

public import proofs.«01_k».proof.Proof.Ki.Begin

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The body up to the reduce phase, and through it. -/

variable (K : GSem nD τ sig → ℕ)

/-- A lane's cells before its first copy. -/
def laneB (c : Dev nD) (d g : Fin 2) : sProp 𝕄 := iprop(bigSep (Finset.range 15) (fre c 0 d g) ∗ bigSep (Finset.range 15) (pnd c 1 d g))
/-- A lane after its first copy. -/
def laneB1 (c : Dev nD) (d g : Fin 2) : sProp 𝕄 :=
  iprop(pnd c 0 d g 0 ∗ bigSep (Finset.Ico 1 15) (fre c 0 d g) ∗ bigSep (Finset.range 15) (pnd c 1 d g)
    ∗ bigSep (Finset.Ico 1 4) fun i => segA (peerT d c) (rxS d i g))

theorem lane_ready (c : Dev nD) (d g : Fin 2) :
    (iprop(laneB1 c d g ∗ (bigSep (Finset.Ico 1 3) fun i => segA c (txS d i g)) ∗ bigSep (Finset.range 15) fun i => segV c (agSg d (hop d (posT c) (i + 1)) g) (part c d (hop d (posT c) (i + 1)) g)) : sProp 𝕄)
      ⊢ iprop(rsSt c d g 0 ∗ psSt c d g 0) := by
  unfold laneB1 rsSt psSt txSt
  rw [show Finset.Ico (0 - 1) (0 + 1) = {0} from rfl, bigSep_singleton, show Finset.Ico 11 0 = ∅ from rfl, show Finset.range (0 - 1) = ∅ from rfl,
    bigSep_empty, bigSep_empty, bigSep_empty, bigSep_empty, Finset.range_eq_Ico,
    show min 15 (max 4 (0 + 2)) = 4 from rfl]
  iintro ⟨⟨H1, H2, H3, H4⟩, H5, H6⟩
  isplitr [H4]
  · isplitl [H3]; · iexact H3
    isplitr; · iempintro
    isplitl [H2]; · iexact H2
    isplitl [H1 H5]
    · isplitl [H1]; · iexact H1
      isplitr; · iempintro
      iexact H5
    isplitl [H6]; · iexact H6
    iempintro
  · isplitr; · simp only [ride]; iempintro
    isplitl [H4]; · iexact H4
    iempintro

theorem rx_peel (c : Dev nD) (d : Fin 2) : (rxOwn c d : sProp 𝕄)
    ⊢ iprop((segA c (rxS d 0 0) ∗ bigSep (Finset.Ico 1 4) fun i => segA c (rxS d i 0)) ∗ (segA c (rxS d 0 1) ∗ bigSep (Finset.Ico 1 4) fun i => segA c (rxS d i 1))) := by
  unfold rxOwn
  rw [show (fun j => bigSep (Finset.univ : Finset (Fin 2)) fun g => (segA c (rxS d j g) : sProp 𝕄)) = fun j => iprop(segA c (rxS d j 0) ∗ segA c (rxS d j 1)) from
    funext fun j => bs_two _, bs_zip, Finset.range_eq_Ico, bs_Ico (show 0 < 4 by omega), bs_Ico (show 0 < 4 by omega)]

section
variable (c : Dev nD) (G : Geo) (hG : GeoOk G c)
  (X : Memref sig .tc .vmem S4096x256 .i8) (W : Memref sig .tc .vmem S256x2048 .i8) (S : Memref sig .tc .smem S1 .f32) (O : Memref sig .tc .vmem S4096x2048 .f32)
  (qx qw q : PosShare TreeShare)

/-- The meeting. -/
theorem st_bar {β : Type} (k : Pr F β) (R : β → sProp 𝕄) (Y : sProp 𝕄)
    (hk : Tr c (Ctx2 K c) iprop(paying 3 c ∗ semVal (cell c (.reg barS)) 0 ∗ rxOwn (peerT 0 c) 0 ∗ rxOwn (peerT 1 c) 1 ∗ Y) k R) :
    Tr c (Ctx1 K c) iprop(paying 1 c ∗ barSt c ∗ rxOwn c 0 ∗ rxOwn c 1 ∗ Y)
      (semSignalWord (dirT 0 c).up (SemArray.scalar (sig.barrier 0 rfl) : Sems sig S_).sem 1#32 >>= fun _ =>
        semSignalWord (dirT 1 c).up (SemArray.scalar (sig.barrier 0 rfl) : Sems sig S_).sem 1#32 >>= fun _ =>
        semWaitWord (SemArray.scalar (sig.barrier 0 rfl) : Sems sig S_).sem 2#32 >>= fun _ => k) R := by
  have hk2 := tr_up K c hk
  unfold Tr at hk2 ⊢
  rw [wp_bind]
  iintro ⟨#HC, Hp, Hb, H0, H1, HY⟩
  iapply (Tr.use (tr_barSig K c 0 1 rfl)) $$ [Hp H0]
  · isplitr; · iexact HC
    isplitl [Hp] <;> iassumption
  iintro %_ Hp
  rw [wp_bind]
  iapply (Tr.use (tr_barSig K c 1 2 rfl)) $$ [Hp H1]
  · isplitr; · iexact HC
    isplitl [Hp] <;> iassumption
  iintro %_ Hp
  rw [wp_bind]
  iapply (Tr.use (tr_barWait K c)) $$ [Hp Hb]
  · isplitr; · iexact HC
    isplitl [Hb] <;> iassumption
  iintro %_ ⟨Ha, Hb, Hv, Hp⟩
  unfold barPay
  icases Ha with ⟨Ha, #Hra⟩
  icases Hb with ⟨Hb, #Hrb⟩
  iapply hk2
  isplitr; · iexact HC
  isplitr; · iexact Hra
  isplitr; · iexact Hrb
  isplitl [Hp]; · iexact Hp
  isplitl [Hv]; · iexact Hv
  isplitl [Ha]; · unfold rxOwn; iexact Ha
  isplitl [Hb]; · unfold rxOwn; iexact Hb
  iexact HY

include hG in
/-- A direction's two first copies. -/
theorem st_rs0 (d : Fin 2) {β : Type} (k : Pr F β) (R : β → sProp 𝕄) (Y : sProp 𝕄)
    (hk : Tr c (Ctx2 K c) iprop(laneB1 c d 0 ∗ laneB1 c d 1 ∗ paying (3 + 2 * d.val + 2) c ∗ Y) k R) :
    Tr c (Ctx2 K c) iprop(laneB c d 0 ∗ laneB c d 1 ∗ chunkP c d (posT c) ∗ rxOwn (peerT d c) d ∗ paying (3 + 2 * d.val) c ∗ Y)
      (rs0 G (dirT d c) 0 >>= fun _ => rs0 G (dirT d c) 1 >>= fun _ => k) R := by
  unfold Tr at hk ⊢
  unfold laneB
  rw [wp_bind, Finset.range_eq_Ico, bs_Ico (show 0 < 15 by omega) (fre c 0 d 0), bs_Ico (show 0 < 15 by omega) (fre c 0 d 1)]
  iintro ⟨#HC, ⟨⟨Hf, Hfs⟩, Hpn⟩, ⟨⟨Hf', Hfs'⟩, Hpn'⟩, Hch, Hrx, Hp, HY⟩
  ihave Hch := (chunk_split c d (posT c)) $$ Hch
  icases Hch with ⟨Hc0, Hc1⟩
  ihave Hrx := (rx_peel (peerT d c) d) $$ Hrx
  icases Hrx with ⟨⟨Hr0, Hrs0⟩, ⟨Hr1, Hrs1⟩⟩
  iapply (Tr.use (tr_rs0 K c G hG d 0 (3 + 2 * d.val) rfl)) $$ [Hf Hc0 Hr0 Hp]
  · isplitr; · iexact HC
    isplitl [Hf]; · iexact Hf
    isplitl [Hc0]; · iexact Hc0
    isplitl [Hr0] <;> iassumption
  iintro %_ ⟨Ha, Hp⟩
  rw [wp_bind]
  iapply (Tr.use (tr_rs0 K c G hG d 1 (3 + 2 * d.val + 1) rfl)) $$ [Hf' Hc1 Hr1 Hp]
  · isplitr; · iexact HC
    isplitl [Hf']; · iexact Hf'
    isplitl [Hc1]; · iexact Hc1
    isplitl [Hr1] <;> iassumption
  iintro %_ ⟨Hb, Hp⟩
  iapply hk
  unfold laneB1
  rw [Finset.range_eq_Ico]
  isplitr; · iexact HC
  isplitl [Ha Hfs Hpn Hrs0]
  · isplitl [Ha]; · iexact Ha
    isplitl [Hfs]; · iexact Hfs
    isplitl [Hpn]; · iexact Hpn
    iexact Hrs0
  isplitl [Hb Hfs' Hpn' Hrs1]
  · isplitl [Hb]; · iexact Hb
    isplitl [Hfs']; · iexact Hfs'
    isplitl [Hpn']; · iexact Hpn'
    iexact Hrs1
  isplitl [Hp]; · iexact Hp
  iexact HY

/-- A direction before the products. -/
def dirB (c : Dev nD) (d : Fin 2) : sProp 𝕄 :=
  iprop((laneB c d 0 ∗ laneB c d 1) ∗ (chunkA c d (posT c) ∗ chRest c d)
    ∗ (bigSep (Finset.Ico 1 3) fun i => segA c (txS d i 0)) ∗ (bigSep (Finset.Ico 1 3) fun i => segA c (txS d i 1)) ∗ crSt c d 0)

include hG in
/-- The products and the first copies. -/
theorem st_gemm {β : Type} (k : Pr F β) (R : β → sProp 𝕄) (Y : sProp 𝕄)
    (hk : Tr c (Ctx2 K c) iprop(rsInv c 0 ∗ owns (c : Thread nD τ) X qx (Vals.x c) ∗ owns (c : Thread nD τ) W qw (Vals.w c) ∗ Y) k R) :
    Tr c (Ctx2 K c) iprop(dirB c 0 ∗ dirB c 1 ∗ rxOwn (peerT 0 c) 0 ∗ rxOwn (peerT 1 c) 1 ∗ paying 3 c ∗ owns (c : Thread nD τ) X qx (Vals.x c) ∗ owns (c : Thread nD τ) W qw (Vals.w c) ∗ Y)
      (gemmP X W (dirT 0 c) (dirT 1 c) G.x0 G.x0_inb G.c0 G.c0_inb G.c0_pk >>= fun _ =>
        rs0 G (dirT 0 c) 0 >>= fun _ => rs0 G (dirT 0 c) 1 >>= fun _ => rs0 G (dirT 1 c) 0 >>= fun _ => rs0 G (dirT 1 c) 1 >>= fun _ =>
        loop (fun k => gemmP X W (dirT 0 c) (dirT 1 c) (G.xk (Fin.ofNat 15 k)) (G.xk_inb _) (G.ck (Fin.ofNat 15 k)) (G.ck_inb _) (G.ck_pk _)) 0 15 >>= fun _ => k) R := by
  have hsk : (paying 7 c : sProp 𝕄) = paying 10 c := paying_skip c (by omega) (by
    rintro (d | ⟨d, s', g⟩ | ⟨d, j⟩ | ⟨d, s', g⟩) <;> simp only [Ev.tm] <;> (try split_ifs) <;> omega)
  unfold dirB
  refine Tr.pre (P' := iprop(iprop(owns (c : Thread nD τ) X qx (Vals.x c) ∗ owns (c : Thread nD τ) W qw (Vals.w c) ∗ chunkA c 0 (posT c) ∗ chunkA c 1 (posT c)) ∗
    iprop(laneB c 0 0 ∗ laneB c 0 1 ∗ laneB c 1 0 ∗ laneB c 1 1 ∗ chRest c 0 ∗ chRest c 1 ∗ rxOwn (peerT 0 c) 0 ∗ rxOwn (peerT 1 c) 1 ∗ paying 3 c
      ∗ (bigSep (Finset.Ico 1 3) fun i => segA c (txS 0 i 0)) ∗ (bigSep (Finset.Ico 1 3) fun i => segA c (txS 0 i 1)) ∗ crSt c 0 0
      ∗ (bigSep (Finset.Ico 1 3) fun i => segA c (txS 1 i 0)) ∗ (bigSep (Finset.Ico 1 3) fun i => segA c (txS 1 i 1)) ∗ crSt c 1 0 ∗ Y))) ?_
    (Tr.bind (Tr.keep _ (tr_gemm c X W (Ctx2 K c) (posT c) _ hG.x0 _ _ hG.c0 qx qw)) fun _ => ?_)
  · iintro ⟨⟨⟨H1, H2⟩, ⟨H3, H4⟩, H5, H6, H7⟩, ⟨⟨K1, K2⟩, ⟨K3, K4⟩, K5, K6, K7⟩, J1, J2, Hp, HX, HW, HY⟩
    isplitl [HX HW H3 K3]
    · isplitl [HX]; · iexact HX
      isplitl [HW]; · iexact HW
      isplitl [H3] <;> iassumption
    isplitl [H1]; · iexact H1
    isplitl [H2]; · iexact H2
    isplitl [K1]; · iexact K1
    isplitl [K2]; · iexact K2
    isplitl [H4]; · iexact H4
    isplitl [K4]; · iexact K4
    isplitl [J1]; · iexact J1
    isplitl [J2]; · iexact J2
    isplitl [Hp]; · iexact Hp
    isplitl [H5]; · iexact H5
    isplitl [H6]; · iexact H6
    isplitl [H7]; · iexact H7
    isplitl [K5]; · iexact K5
    isplitl [K6]; · iexact K6
    isplitl [K7] <;> iassumption
  refine Tr.pre ?_ (st_rs0 K c G hG 0 _ R iprop(laneB c 1 0 ∗ laneB c 1 1 ∗ chunkP c 1 (posT c) ∗ rxOwn (peerT 1 c) 1 ∗ chRest c 0 ∗ chRest c 1
      ∗ (bigSep (Finset.Ico 1 3) fun i => segA c (txS 0 i 0)) ∗ (bigSep (Finset.Ico 1 3) fun i => segA c (txS 0 i 1)) ∗ crSt c 0 0
      ∗ (bigSep (Finset.Ico 1 3) fun i => segA c (txS 1 i 0)) ∗ (bigSep (Finset.Ico 1 3) fun i => segA c (txS 1 i 1)) ∗ crSt c 1 0 ∗ owns (c : Thread nD τ) X qx (Vals.x c) ∗ owns (c : Thread nD τ) W qw (Vals.w c) ∗ Y)
    (Tr.pre ?_ (st_rs0 K c G hG 1 _ R iprop(laneB1 c 0 0 ∗ laneB1 c 0 1 ∗ chRest c 0 ∗ chRest c 1
      ∗ (bigSep (Finset.Ico 1 3) fun i => segA c (txS 0 i 0)) ∗ (bigSep (Finset.Ico 1 3) fun i => segA c (txS 0 i 1)) ∗ crSt c 0 0
      ∗ (bigSep (Finset.Ico 1 3) fun i => segA c (txS 1 i 0)) ∗ (bigSep (Finset.Ico 1 3) fun i => segA c (txS 1 i 1)) ∗ crSt c 1 0 ∗ owns (c : Thread nD τ) X qx (Vals.x c) ∗ owns (c : Thread nD τ) W qw (Vals.w c) ∗ Y)
      (Tr.pre (P' := iprop(iprop(owns (c : Thread nD τ) X qx (Vals.x c) ∗ owns (c : Thread nD τ) W qw (Vals.w c) ∗ chRest c 0 ∗ chRest c 1) ∗ iprop(laneB1 c 0 0 ∗ laneB1 c 0 1 ∗ laneB1 c 1 0 ∗ laneB1 c 1 1 ∗ paying 7 c
        ∗ (bigSep (Finset.Ico 1 3) fun i => segA c (txS 0 i 0)) ∗ (bigSep (Finset.Ico 1 3) fun i => segA c (txS 0 i 1)) ∗ crSt c 0 0
        ∗ (bigSep (Finset.Ico 1 3) fun i => segA c (txS 1 i 0)) ∗ (bigSep (Finset.Ico 1 3) fun i => segA c (txS 1 i 1)) ∗ crSt c 1 0 ∗ Y))) ?_
        (Tr.bind (Tr.keep _ (tr_gemms c G hG X W (Ctx2 K c) qx qw)) fun _ => Tr.pre ?_ hk)))))
  · iintro ⟨⟨HX, HW, Hc0, Hc1⟩, L0, L1, L2, L3, R0, R1, J1, J2, Hp, T⟩
    isplitl [L0]; · iexact L0
    isplitl [L1]; · iexact L1
    isplitl [Hc0]; · iexact Hc0
    isplitl [J1]; · iexact J1
    isplitl [Hp]; · iexact Hp
    isplitl [L2]; · iexact L2
    isplitl [L3]; · iexact L3
    isplitl [Hc1]; · iexact Hc1
    isplitl [J2]; · iexact J2
    isplitl [R0]; · iexact R0
    isplitl [R1]; · iexact R1
    icases T with ⟨T1, T2, T3, T4, T5, T6, HY⟩
    isplitl [T1]; · iexact T1
    isplitl [T2]; · iexact T2
    isplitl [T3]; · iexact T3
    isplitl [T4]; · iexact T4
    isplitl [T5]; · iexact T5
    isplitl [T6]; · iexact T6
    isplitl [HX]; · iexact HX
    isplitl [HW] <;> iassumption
  · iintro ⟨L0, L1, Hp, L2, L3, Hc1, J2, T⟩
    isplitl [L2]; · iexact L2
    isplitl [L3]; · iexact L3
    isplitl [Hc1]; · iexact Hc1
    isplitl [J2]; · iexact J2
    isplitl [Hp]; · iexact Hp
    isplitl [L0]; · iexact L0
    isplitl [L1] <;> iassumption
  · iintro ⟨L2, L3, Hp, L0, L1, R0, R1, T1, T2, T3, T4, T5, T6, HX, HW, HY⟩
    isplitl [HX HW R0 R1]
    · isplitl [HX]; · iexact HX
      isplitl [HW]; · iexact HW
      isplitl [R0] <;> iassumption
    isplitl [L0]; · iexact L0
    isplitl [L1]; · iexact L1
    isplitl [L2]; · iexact L2
    isplitl [L3]; · iexact L3
    isplitl [Hp]; · iexact Hp
    isplitl [T1]; · iexact T1
    isplitl [T2]; · iexact T2
    isplitl [T3]; · iexact T3
    isplitl [T4]; · iexact T4
    isplitl [T5]; · iexact T5
    isplitl [T6] <;> iassumption
  · unfold rsInv laneS
    rw [hsk]
    iintro ⟨⟨HX, HW, R0, R1⟩, L0, L1, L2, L3, Hp, T1, T2, T3, T4, T5, T6, HY⟩
    ihave R0 := (chRest_split c 0) $$ R0
    icases R0 with ⟨R00, R01⟩
    ihave R1 := (chRest_split c 1) $$ R1
    icases R1 with ⟨R10, R11⟩
    isplitr [HX HW HY]
    · isplitl [L0 T1 R00 L2 T4 R10]
      · isplitl [L0 T1 R00]
        · iapply (lane_ready c 0 0)
          isplitl [L0]; · iexact L0
          isplitl [T1] <;> iassumption
        · iapply (lane_ready c 1 0)
          isplitl [L2]; · iexact L2
          isplitl [T4] <;> iassumption
      isplitl [L1 T2 R01 L3 T5 R11]
      · isplitl [L1 T2 R01]
        · iapply (lane_ready c 0 1)
          isplitl [L1]; · iexact L1
          isplitl [T2] <;> iassumption
        · iapply (lane_ready c 1 1)
          isplitl [L3]; · iexact L3
          isplitl [T5] <;> iassumption
      isplitl [T3 T6]
      · isplitl [T3]; · iexact T3
        iexact T6
      iexact Hp
    isplitl [HX]; · iexact HX
    isplitl [HW] <;> iassumption

end

end Cert.KernelIdeal.Ring

end
-- ==== Proof.Ki.Round.lean ====
module

public import proofs.«01_k».proof.Proof.Ki.Stage

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! From the reduce phase into the gather phase. -/

variable (K : GSem nD τ sig → ℕ)

/-- A lane between the phases. -/
def laneC (c : Dev nD) (d g : Fin 2) : sProp 𝕄 := iprop(rsFin c d g ∗ rsEndSt c d g ∗ psSt c d g 14 ∗ freed (peerT d c) d 12 g)
/-- A lane's cells of the gather phase, untouched. -/
def laneH (c : Dev nD) (d g : Fin 2) : sProp 𝕄 := iprop(bigSep (Finset.range 15) (pnd c 3 d g) ∗ bigSep (Finset.range 15) (fre c 2 d g))
/-- A lane before iteration `s` of the gather phase. -/
def laneG (c : Dev nD) (d g : Fin 2) (s : ℕ) : sProp 𝕄 :=
  iprop(agSt c d g s ∗ bigSep (Finset.Ico s (min 14 (13 + s))) fun i => frAg (peerT d c) d i g)
/-- What a lane keeps aside through the gather phase. -/
def laneX (c : Dev nD) (d g : Fin 2) : sProp 𝕄 :=
  iprop(bigSep (Finset.range 15) (cls c 1 d g) ∗ rsEndSt c d g ∗ (bigSep (Finset.Ico 11 15) fun i => segA c (rxS d i g))
    ∗ segQ c (agSg d (hop d (posT c) 15) g) hs')

/-- What the reduce phase freed of the peer, for the gather phase. -/
theorem ps_end (c : Dev nD) (d g : Fin 2) : (iprop(psSt c d g 14 ∗ freed (peerT d c) d 12 g) : sProp 𝕄)
    ⊢ iprop(rideAg c d 0 g ∗ (bigSep (Finset.Ico 0 13) fun i => frAg (peerT d c) d i g) ∗ segA (peerT d c) (agSg d (hop d (posT c) 15) g)) := by
  unfold psSt got
  show iprop((freed c (1 - d) 13 g ∗ _ ∗ _) ∗ _) ⊢ iprop(frAg c (1 - d) 13 g ∗ _ ∗ _)
  unfold freed
  rw [show 14 - 2 = 12 from rfl, bs_zip, Finset.range_eq_Ico, bs_Ico_last (show 0 ≤ 12 by omega), bs_Ico (show 0 < 12 by omega) (fun i => frOwn (peerT d c) d i g),
    bs_Ico (show 0 + 1 < 12 by omega) (fun i => frOwn (peerT d c) d i g), ← pos_peer]
  iintro ⟨⟨⟨-, Ha, -⟩, -, Hb, -, Ho, -⟩, -, Hc, -⟩
  isplitl [Ha]; · iexact Ha
  isplitr [Ho]
  · isplitl [Hc]; · iexact Hc
    iexact Hb
  ihave Ho := (Entails.of_eq (show (frOwn (peerT d c) d (0 + 1) g : sProp 𝕄) = segA (peerT d c) (agSg d (posT (peerT d c)) g) from if_pos rfl)) $$ Ho
  iexact Ho

theorem freed_flip (c : Dev nD) (d d' g : Fin 2) (h : 1 - d = d') (h' : 1 - d' = d) : (freed (upT d' c) (1 - d') 12 g : sProp 𝕄) ⊢ freed (peerT d c) d 12 g := by
  rw [h', ← h, up_flip]

section
variable (c : Dev nD) (G : Geo) (hG : GeoOk G c)
  (X : Memref sig .tc .vmem S4096x256 .i8) (W : Memref sig .tc .vmem S256x2048 .i8) (S : Memref sig .tc .smem S1 .f32) (O : Memref sig .tc .vmem S4096x2048 .f32)
  (q : PosShare TreeShare)

include hG in
theorem tr_rsIters : Tr c (Ctx2 K c) (rsInv c 0) (loop (rsIter G (dirT 0 c) (dirT 1 c)) 0 14 : Pr F PUnit) fun _ => rsInv c 14 :=
  Tr.loop (rsInv c) (rsIter G (dirT 0 c) (dirT 1 c)) 0 14 fun s _ hs => tr_rsIter K c G hG s (by omega)

include hG in
/-- The rest of the reduce phase. -/
theorem st_reduce {β : Type} (k : Pr F β) (R : β → sProp 𝕄) (Y : sProp 𝕄)
    (hk : Tr c (Ctx2 K c) iprop(laneC c 0 0 ∗ laneC c 0 1 ∗ laneC c 1 0 ∗ laneC c 1 1 ∗ (crSt c 0 11 ∗ crSt c 1 11) ∗ paying 150 c ∗ outQ c O 4 ∗ owns (c : Thread nD τ) S q (fun _ => Vals.sc c) ∗ Y) k R) :
    Tr c (Ctx2 K c) iprop(rsInv c 0 ∗ outQ c O 0 ∗ owns (c : Thread nD τ) S q (fun _ => Vals.sc c) ∗ Y)
      (loop (rsIter G (dirT 0 c) (dirT 1 c)) 0 14 >>= fun _ =>
        rsLast G S O (dirT 0 c) 0 0 >>= fun _ => rsLast G S O (dirT 1 c) 1 0 >>= fun _ => rsLast G S O (dirT 0 c) 0 1 >>= fun _ => rsLast G S O (dirT 1 c) 1 1 >>= fun _ =>
        rsEnd G (dirT 0 c) >>= fun _ => rsEnd G (dirT 1 c) >>= fun _ => k) R := by
  unfold Tr at hk ⊢
  unfold laneC at hk
  rw [wp_bind]
  iintro ⟨#HC, Hinv, HO, HS, HY⟩
  iapply (Tr.use (tr_rsIters K c G hG)) $$ [Hinv]
  · isplitr; · iexact HC
    iexact Hinv
  unfold rsInv laneS
  iintro %_ ⟨⟨⟨A, A'⟩, ⟨B, B'⟩⟩, ⟨⟨A1, A1'⟩, ⟨B1, B1'⟩⟩, Hcr, Hp⟩
  rw [wp_bind]
  iapply (Tr.use (tr_rsLast K c G hG S O q 0 0)) $$ [A HO HS Hp]
  · isplitr; · iexact HC
    isplitl [A]; · iexact A
    isplitl [HO]; · iexact HO
    isplitl [HS] <;> iassumption
  iintro %_ ⟨A, At, Af, HO, HS, Hp⟩
  rw [wp_bind]
  iapply (Tr.use (tr_rsLast K c G hG S O q 1 0)) $$ [B HO HS Hp]
  · isplitr; · iexact HC
    isplitl [B]; · iexact B
    isplitl [HO]; · iexact HO
    isplitl [HS] <;> iassumption
  iintro %_ ⟨B, Bt, Bf, HO, HS, Hp⟩
  rw [wp_bind]
  iapply (Tr.use (tr_rsLast K c G hG S O q 0 1)) $$ [A1 HO HS Hp]
  · isplitr; · iexact HC
    isplitl [A1]; · iexact A1
    isplitl [HO]; · iexact HO
    isplitl [HS] <;> iassumption
  iintro %_ ⟨A1, At1, Af1, HO, HS, Hp⟩
  rw [wp_bind]
  iapply (Tr.use (tr_rsLast K c G hG S O q 1 1)) $$ [B1 HO HS Hp]
  · isplitr; · iexact HC
    isplitl [B1]; · iexact B1
    isplitl [HO]; · iexact HO
    isplitl [HS] <;> iassumption
  iintro %_ ⟨B1, Bt1, Bf1, HO, HS, Hp⟩
  rw [wp_bind]
  iapply (Tr.use (tr_rsEnd K c G 0)) $$ [At At1 Hp]
  · isplitr; · iexact HC
    isplitl [At]; · iexact At
    isplitl [At1] <;> iassumption
  iintro %_ ⟨At, At1, Hp⟩
  rw [wp_bind]
  iapply (Tr.use (tr_rsEnd K c G 1)) $$ [Bt Bt1 Hp]
  · isplitr; · iexact HC
    isplitl [Bt]; · iexact Bt
    isplitl [Bt1] <;> iassumption
  iintro %_ ⟨Bt, Bt1, Hp⟩
  iapply hk
  isplitr; · iexact HC
  isplitl [A A' At Bf]
  · isplitl [A]; · iexact A
    isplitl [At]; · iexact At
    isplitl [A']; · iexact A'
    iapply (freed_flip c 0 1 0 rfl rfl); iexact Bf
  isplitl [A1 A1' At1 Bf1]
  · isplitl [A1]; · iexact A1
    isplitl [At1]; · iexact At1
    isplitl [A1']; · iexact A1'
    iapply (freed_flip c 0 1 1 rfl rfl); iexact Bf1
  isplitl [B B' Bt Af]
  · isplitl [B]; · iexact B
    isplitl [Bt]; · iexact Bt
    isplitl [B']; · iexact B'
    iapply (freed_flip c 1 0 0 rfl rfl); iexact Af
  isplitl [B1 B1' Bt1 Af1]
  · isplitl [B1]; · iexact B1
    isplitl [Bt1]; · iexact Bt1
    isplitl [B1']; · iexact B1'
    iapply (freed_flip c 1 0 1 rfl rfl); iexact Af1
  isplitl [Hcr]; · iexact Hcr
  isplitl [Hp]; · iexact Hp
  isplitl [HO]; · iexact HO
  isplitl [HS] <;> iassumption

include hG in
/-- A lane's first send of the gather phase. -/
theorem tr_ag0 (d g : Fin 2) (n : ℕ) (hn : n = 152 + 2 * d.val + g.val) :
    Tr c (Ctx2 K c) iprop(laneC c d g ∗ laneH c d g ∗ paying n c) (agS G (dirT d c) d 0 g : Pr F PUnit)
      fun _ => iprop(laneG c d g 0 ∗ laneX c d g ∗ paying (n + 1) c) := by
  unfold laneC laneH laneG laneX agSt rsFin
  rw [Finset.range_eq_Ico, bs_Ico (show 0 < 15 by omega) (fre c 2 d g)]
  refine Tr.pre (P' := iprop(iprop(fre c 2 d g 0 ∗ segW c (agSg d (hop d (posT c) (15 + 0)) g) hs (agv d g 0 c) ∗ segA (peerT d c) (agSg d (hop d (posT c) (15 + 0)) g) ∗ rideAg c d 0 g ∗ paying n c)
    ∗ iprop((bigSep (Finset.Ico 0 15) (cls c 1 d g) ∗ rsEndSt c d g ∗ (bigSep (Finset.Ico 11 15) fun i => segA c (rxS d i g)) ∗ segQ c (agSg d (hop d (posT c) 15) g) hs')
      ∗ bigSep (Finset.Ico 0 15) (pnd c 3 d g) ∗ bigSep (Finset.Ico (0 + 1) 15) (fre c 2 d g) ∗ (bigSep (Finset.Ico 0 13) fun i => frAg (peerT d c) d i g)))) ?_
    (Tr.post (fun _ => ?_) (Tr.keep _ (tr_agS K c G hG d g 0 (by omega) n (by rw [hn, tm_ag0]))))
  · iintro ⟨⟨⟨Hc, Hs, Hr⟩, He, Hps, Hf⟩, ⟨Hp3, Hf0, Hfs⟩, Hp⟩
    ihave Hx := (ps_end c d g) $$ [Hps Hf]
    · isplitl [Hps] <;> iassumption
    icases Hx with ⟨Hri, Hag, Hdst⟩
    ihave Hs := (seg_halve c _ _) $$ Hs
    icases Hs with ⟨Hs1, Hs2⟩
    ihave Hs2 := (segW_any c _ _ _) $$ Hs2
    isplitl [Hf0 Hs1 Hdst Hri Hp]
    · isplitl [Hf0]; · iexact Hf0
      isplitl [Hs1]; · iexact Hs1
      isplitl [Hdst]; · iexact Hdst
      isplitl [Hri] <;> iassumption
    isplitl [Hc He Hr Hs2]
    · isplitl [Hc]; · iexact Hc
      isplitl [He]; · iexact He
      isplitl [Hr] <;> iassumption
    isplitl [Hp3]; · iexact Hp3
    isplitl [Hfs] <;> iassumption
  · rw [show Finset.range (0 + 1) = {0} from rfl, show Finset.range 0 = ∅ from rfl, bigSep_empty, bigSep_empty, bigSep_singleton, show min 14 (13 + 0) = 13 from rfl]
    iintro ⟨⟨Hpn, Hp⟩, Hx, Hp3, Hfs, Hag⟩
    isplitl [Hpn Hp3 Hfs Hag]
    · isplitl [Hpn Hp3 Hfs]
      · isplitl [Hp3]; · iexact Hp3
        isplitr; · iempintro
        isplitl [Hfs]; · iexact Hfs
        isplitl [Hpn]; · iexact Hpn
        iempintro
      iexact Hag
    isplitl [Hx] <;> iassumption

include hG in
/-- The last credits and the first sends of the gather phase. -/
theorem st_turn {β : Type} (k : Pr F β) (R : β → sProp 𝕄) (Y : sProp 𝕄)
    (hk : Tr c (Ctx2 K c) iprop((laneG c 0 0 0 ∗ laneG c 0 1 0 ∗ laneG c 1 0 0 ∗ laneG c 1 1 0) ∗ (laneX c 0 0 ∗ laneX c 0 1 ∗ laneX c 1 0 ∗ laneX c 1 1) ∗ paying 160 c ∗ Y) k R) :
    Tr c (Ctx2 K c) iprop(laneC c 0 0 ∗ laneC c 0 1 ∗ laneC c 1 0 ∗ laneC c 1 1 ∗ (laneH c 0 0 ∗ laneH c 0 1 ∗ laneH c 1 0 ∗ laneH c 1 1) ∗ paying 150 c ∗ Y)
      (semSignalWord (dirT 0 c).up (dirT 0 c).credit.sem 7#32 >>= fun _ => semSignalWord (dirT 1 c).up (dirT 1 c).credit.sem 7#32 >>= fun _ =>
        agS G (dirT 0 c) 0 0 0 >>= fun _ => agS G (dirT 0 c) 0 0 1 >>= fun _ => agS G (dirT 1 c) 1 0 0 >>= fun _ => agS G (dirT 1 c) 1 0 1 >>= fun _ => k) R := by
  have hsk : (paying 156 c : sProp 𝕄) = paying 160 c := paying_skip c (by omega) (by
    rintro (d | ⟨d, s', g⟩ | ⟨d, j⟩ | ⟨d, s', g⟩) <;> simp only [Ev.tm] <;> (try split_ifs) <;> omega)
  rw [← hsk] at hk
  unfold Tr at hk ⊢
  rw [wp_bind]
  iintro ⟨#HC, A, B, C, D, ⟨A', B', C', D'⟩, Hp, HY⟩
  iapply (Tr.use (tr_crPay K c 0 11 150 rfl 7#32 (by decide))) $$ [Hp]
  · isplitr; · iexact HC
    iexact Hp
  iintro %_ Hp
  rw [wp_bind]
  iapply (Tr.use (tr_crPay K c 1 11 151 rfl 7#32 (by decide))) $$ [Hp]
  · isplitr; · iexact HC
    iexact Hp
  iintro %_ Hp
  rw [wp_bind]
  iapply (Tr.use (tr_ag0 K c G hG 0 0 152 rfl)) $$ [A A' Hp]
  · isplitr; · iexact HC
    isplitl [A]; · iexact A
    isplitl [A'] <;> iassumption
  iintro %_ ⟨A, A', Hp⟩
  rw [wp_bind]
  iapply (Tr.use (tr_ag0 K c G hG 0 1 153 rfl)) $$ [B B' Hp]
  · isplitr; · iexact HC
    isplitl [B]; · iexact B
    isplitl [B'] <;> iassumption
  iintro %_ ⟨B, B', Hp⟩
  rw [wp_bind]
  iapply (Tr.use (tr_ag0 K c G hG 1 0 154 rfl)) $$ [C C' Hp]
  · isplitr; · iexact HC
    isplitl [C]; · iexact C
    isplitl [C'] <;> iassumption
  iintro %_ ⟨C, C', Hp⟩
  rw [wp_bind]
  iapply (Tr.use (tr_ag0 K c G hG 1 1 155 rfl)) $$ [D D' Hp]
  · isplitr; · iexact HC
    isplitl [D]; · iexact D
    isplitl [D'] <;> iassumption
  iintro %_ ⟨D, D', Hp⟩
  iapply hk
  isplitr; · iexact HC
  isplitl [A B C D]
  · isplitl [A]; · iexact A
    isplitl [B]; · iexact B
    isplitl [C] <;> iassumption
  isplitl [A' B' C' D']
  · isplitl [A']; · iexact A'
    isplitl [B']; · iexact B'
    isplitl [C'] <;> iassumption
  isplitl [Hp] <;> iassumption

end

end Cert.KernelIdeal.Ring

end
-- ==== Proof.Ki.Finish.lean ====
module

public import proofs.«01_k».proof.Proof.Ki.Round

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The gather phase and the end of the body. -/

variable (K : GSem nD τ sig → ℕ)

/-- A lane whose gather phase is over, its sends still to be waited for. -/
def laneE (c : Dev nD) (d g : Fin 2) : sProp 𝕄 :=
  iprop(bigSep (Finset.range 15) (cls c 3 d g) ∗ bigSep (Finset.range 15) (pnd c 2 d g)
    ∗ (bigSep (Finset.range 14) fun i => segQ c (agSg d (hop d (posT c) i) g) hs') ∗ segA c (agSg d (hop d (posT c) 14) g))
/-- A lane's sends of the gather phase, `s` of them waited for. -/
def laneW (c : Dev nD) (d g : Fin 2) (s : ℕ) : sProp 𝕄 :=
  iprop(bigSep (Finset.Ico s 15) (pnd c 2 d g) ∗ bigSep (Finset.range s) (cls c 2 d g)
    ∗ bigSep (Finset.range s) fun i => segQ c (agSg d (hop d (posT c) (15 + i)) g) hs)
/-- A lane at the end. -/
def laneZ (c : Dev nD) (d g : Fin 2) : sProp 𝕄 :=
  iprop((bigSep (Finset.range 15) (cls c 0 d g) ∗ bigSep (Finset.range 15) (cls c 1 d g) ∗ bigSep (Finset.range 15) (cls c 2 d g) ∗ bigSep (Finset.range 15) (cls c 3 d g))
    ∗ (bigSep (Finset.range 16) fun i => segA c (agSg d (hop d (posT c) i) g)) ∗ (bigSep (Finset.range 4) fun i => segA c (rxS d i g))
    ∗ bigSep (Finset.range 2) fun i => segA c (txS d i g))

theorem ag_next (c : Dev nD) (d d' g : Fin 2) (s : ℕ) (hs : s < 14) (h : 1 - d = d') (h' : 1 - d' = d) :
    (iprop(agSt c d g (s + 1) ∗ (bigSep (Finset.Ico (s + 1) (min 14 (13 + s))) fun i => frAg (peerT d c) d i g) ∗ rideAg (upT d' c) d' s g) : sProp 𝕄)
      ⊢ laneG c d g (s + 1) := by
  have hup : upT d' c = peerT d c := by rw [← h, up_flip]
  unfold laneG
  rw [hup]
  match s, hs with
  | 0, _ =>
    show iprop(_ ∗ _ ∗ frAg (peerT d c) (1 - d') 13 g) ⊢ _
    rw [h', show min 14 (13 + 0) = 13 from rfl, show min 14 (13 + (0 + 1)) = 13 + 1 from rfl, bs_Ico_last (show 0 + 1 ≤ 13 by omega)]
    iintro ⟨H1, H2, H3⟩
    isplitl [H1]; · iexact H1
    isplitl [H3] <;> iassumption
  | s + 1, _ =>
    rw [show min 14 (13 + (s + 1)) = 14 by omega, show min 14 (13 + (s + 1 + 1)) = 14 by omega]
    iintro ⟨H1, H2, -⟩
    isplitl [H1] <;> iassumption

/-- All that a lane held comes together. -/
theorem lane_end (c : Dev nD) (d g : Fin 2) : (iprop(laneX c d g ∗ (bigSep (Finset.range 15) (cls c 3 d g)
      ∗ (bigSep (Finset.range 14) fun i => segQ c (agSg d (hop d (posT c) i) g) hs') ∗ segA c (agSg d (hop d (posT c) 14) g)) ∗ laneW c d g 15) : sProp 𝕄)
    ⊢ laneZ c d g := by
  have hj : (iprop((bigSep (Finset.range 14) fun i => segQ c (agSg d (hop d (posT c) i) g) hs')
      ∗ (bigSep (Finset.Ico 0 14) fun i => segQ c (agSg d (hop d (posT c) (15 + (i + 1))) g) hs)) : sProp 𝕄)
      ⊢ bigSep (Finset.range 14) fun i => segA c (agSg d (hop d (posT c) i) g) := by
    rw [Finset.range_eq_Ico, ← bs_zip]
    refine bigSep_mono fun i _ => ?_
    rw [show 15 + (i + 1) = 16 + i by omega, hop_add16]
    refine BIBase.Entails.trans ?_ (seg_join c _)
    exact sep_comm.1
  have hrx : (bigSep (Finset.Ico 11 15) fun i => (segA c (rxS d i g) : sProp 𝕄)) ⊢ bigSep (Finset.range 4) fun i => segA c (rxS d i g) := by
    rw [Finset.range_eq_Ico, bs_Ico (show 11 < 15 by omega), bs_Ico (show 11 + 1 < 15 by omega), bs_Ico (show 11 + 1 + 1 < 15 by omega), bs_Ico (show 11 + 1 + 1 + 1 < 15 by omega),
      show Finset.Ico (11 + 1 + 1 + 1 + 1) 15 = ∅ from rfl, bigSep_empty,
      bs_Ico (show 0 < 4 by omega), bs_Ico (show 0 + 1 < 4 by omega), bs_Ico (show 0 + 1 + 1 < 4 by omega), bs_Ico (show 0 + 1 + 1 + 1 < 4 by omega),
      show Finset.Ico (0 + 1 + 1 + 1 + 1) 4 = ∅ from rfl, bigSep_empty,
      show rxS d 11 g = rxS d (0 + 1 + 1 + 1) g from rfl, show rxS d (11 + 1) g = rxS d 0 g from rfl,
      show rxS d (11 + 1 + 1) g = rxS d (0 + 1) g from rfl, show rxS d (11 + 1 + 1 + 1) g = rxS d (0 + 1 + 1) g from rfl]
    iintro ⟨H1, H2, H3, H4, -⟩
    isplitl [H2]; · iexact H2
    isplitl [H3]; · iexact H3
    isplitl [H4]; · iexact H4
    isplitl [H1]; · iexact H1
    iempintro
  unfold laneX laneW laneZ rsEndSt
  rw [show Finset.Ico 15 15 = ∅ from rfl, bigSep_empty, show (15 : ℕ) = 14 + 1 from rfl, bs_range 14 fun i => segQ c (agSg d (hop d (posT c) (14 + 1 + i)) g) hs,
    bs_range (14 + 1) fun i => segA c (agSg d (hop d (posT c) i) g), bs_range 14 fun i => segA c (agSg d (hop d (posT c) i) g), bs_range 1, bs_range 0,
    show Finset.range 0 = ∅ from rfl, bigSep_empty, show txS d 13 g = txS d 1 g from rfl, show txS d (13 + 1) g = txS d 0 g from rfl]
  have hz : (iprop(segQ c (agSg d (hop d (posT c) (14 + 1 + 14)) g) hs ∗ bigSep (Finset.range 14) fun i => segQ c (agSg d (hop d (posT c) (14 + 1 + i)) g) hs) : sProp 𝕄)
      ⊢ iprop(segQ c (agSg d (hop d (posT c) (14 + 1)) g) hs ∗ bigSep (Finset.Ico 0 14) fun i => segQ c (agSg d (hop d (posT c) (15 + (i + 1))) g) hs) := by
    rw [← bs_range 14 fun i => segQ c (agSg d (hop d (posT c) (14 + 1 + i)) g) hs, Finset.range_eq_Ico, bs_Ico (show 0 < 14 + 1 by omega), bs_shift 0 14]
  iintro ⟨⟨H1, ⟨H2, H3, H4⟩, H5, H6⟩, ⟨H7, H8, H9⟩, -, H10, H11⟩
  ihave H11 := hz $$ H11
  icases H11 with ⟨Ha, Hb⟩
  isplitl [H1 H2 H7 H10]
  · isplitl [H2]; · iexact H2
    isplitl [H1]; · iexact H1
    isplitl [H10] <;> iassumption
  isplitl [H6 H8 H9 Ha Hb]
  · isplitl [H6 Ha]
    · iapply (seg_join c _)
      isplitl [Ha] <;> iassumption
    isplitl [H9]; · iexact H9
    iapply hj
    isplitl [H8] <;> iassumption
  isplitl [H5]; · iapply hrx; iexact H5
  isplitl [H3]; · iexact H3
  isplitl [H4]; · iexact H4
  iempintro

section
variable (c : Dev nD) (G : Geo) (hG : GeoOk G c)
  (O : Memref sig .tc .vmem S4096x2048 .f32)

/-- The gather phase before iteration `s`. -/
def agInv (O : Memref sig .tc .vmem S4096x2048 .f32) (s : ℕ) : sProp 𝕄 :=
  iprop((laneG c 0 0 s ∗ laneG c 1 0 s) ∗ (laneG c 0 1 s ∗ laneG c 1 1 s) ∗ (crSt c 0 (11 + (s - 7)) ∗ crSt c 1 (11 + (s - 7))) ∗ outQ c O (4 * (s + 1)) ∗ paying (150 + 10 * (s + 1)) c)

include hG in
theorem tr_agPair (s : ℕ) (g : Fin 2) (hs : s < 14) {β : Type} (k : Pr F β) (R : β → sProp 𝕄) (X : sProp 𝕄)
    (hk : Tr c (Ctx2 K c) iprop((laneG c 0 g (s + 1) ∗ laneG c 1 g (s + 1)) ∗ (crLane c 0 g (11 + (s + 1 - 7)) ∗ crLane c 1 g (11 + (s + 1 - 7))) ∗ outQ c O (4 * (s + 1) + 2 * g.val + 2) ∗ X
      ∗ paying (150 + 10 * (s + 1) + 2 * g.val + 2) c) k R) :
    Tr c (Ctx2 K c) iprop((laneG c 0 g s ∗ laneG c 1 g s) ∗ (crLane c 0 g (11 + (s - 7)) ∗ crLane c 1 g (11 + (s - 7))) ∗ outQ c O (4 * (s + 1) + 2 * g.val) ∗ X
      ∗ paying (150 + 10 * (s + 1) + 2 * g.val) c)
      (agStep G O (dirT 0 c) 0 s g >>= fun _ => agStep G O (dirT 1 c) 1 s g >>= fun _ => k) R := by
  unfold Tr at *
  rw [wp_bind, show (laneG c 0 g s : sProp 𝕄) = iprop(agSt c 0 g s ∗ bigSep (Finset.Ico s (min 14 (13 + s))) fun i => frAg (peerT 0 c) 0 i g) from rfl,
    show (laneG c 1 g s : sProp 𝕄) = iprop(agSt c 1 g s ∗ bigSep (Finset.Ico s (min 14 (13 + s))) fun i => frAg (peerT 1 c) 1 i g) from rfl,
    bs_Ico (show s < min 14 (13 + s) by omega), bs_Ico (show s < min 14 (13 + s) by omega)]
  iintro ⟨#HC, ⟨⟨H1, Ha, Hx⟩, ⟨H3, Hb, Hy⟩⟩, ⟨H5, H6⟩, HO, HX, H7⟩
  iapply (Tr.use (tr_agLane K c G hG O 0 s g hs (150 + 10 * (s + 1) + 2 * g.val) rfl)) $$ [H1 Ha H5 HO H7]
  · isplitr; · iexact HC
    isplitl [H1]; · iexact H1
    isplitl [Ha]; · iexact Ha
    isplitl [H5]; · iexact H5
    isplitl [HO] <;> iassumption
  iintro %_ ⟨H1, Hr, H5, HO, H7⟩
  rw [wp_bind]
  iapply (Tr.use (tr_agLane K c G hG O 1 s g hs (150 + 10 * (s + 1) + 2 * g.val + 1) rfl)) $$ [H3 Hb H6 HO H7]
  · isplitr; · iexact HC
    isplitl [H3]; · iexact H3
    isplitl [Hb]; · iexact Hb
    isplitl [H6]; · iexact H6
    isplitl [HO] <;> iassumption
  iintro %_ ⟨H3, Hr', H6, HO, H7⟩
  iapply hk
  isplitr; · iexact HC
  isplitl [H1 H3 Hx Hy Hr Hr']
  · isplitl [H1 Hx Hr']
    · iapply (ag_next c 0 1 g s hs rfl rfl)
      isplitl [H1]; · iexact H1
      isplitl [Hx] <;> iassumption
    · iapply (ag_next c 1 0 g s hs rfl rfl)
      isplitl [H3]; · iexact H3
      isplitl [Hy] <;> iassumption
  isplitl [H5 H6]; · isplitl [H5] <;> iassumption
  isplitl [HO]; · iexact HO
  isplitl [HX] <;> iassumption

include hG in
theorem tr_agIter (s : ℕ) (hs : s < 14) :
    Tr c (Ctx2 K c) (agInv c O s) (agIter G O (dirT 0 c) (dirT 1 c) s : Pr F PUnit) fun _ => agInv c O (s + 1) := by
  have hsk : (paying (150 + 10 * (s + 1) + 4) c : sProp 𝕄) = paying (150 + 10 * (s + 1 + 1)) c := paying_skip c (by omega) (by
    rintro (d | ⟨d, s', g⟩ | ⟨d, j⟩ | ⟨d, s', g⟩) <;> simp only [Ev.tm] <;> (try split_ifs) <;> omega)
  unfold agInv
  refine Tr.pre ?_ (tr_agPair K c G hG O s 0 hs (β := PUnit) _ (fun _ => agInv c O (s + 1)) iprop(laneG c 0 1 s ∗ laneG c 1 1 s)
    (Tr.pre ?_ (tr_agPair K c G hG O s 1 hs (β := PUnit) (pure ⟨⟩) (fun _ => agInv c O (s + 1))
      iprop((laneG c 0 0 (s + 1) ∗ laneG c 1 0 (s + 1)) ∗ (crSt c 0 (11 + (s + 1 - 7)) ∗ crSt c 1 (11 + (s + 1 - 7)))) (Tr.ret _ ?_))))
  · iintro ⟨H1, H2, H3, HO, H4⟩
    isplitl [H1]; · iexact H1
    isplitl [H3]; · iexact H3
    isplitl [HO]; · iexact HO
    isplitl [H2] <;> iassumption
  · iintro ⟨H1, H3, HO, H2, H4⟩
    isplitl [H2]; · iexact H2
    isplitr
    · unfold crLane; isplitr; · rw [if_neg (by decide)]; iempintro
      rw [if_neg (by decide)]; iempintro
    isplitl [HO]; · iexact HO
    isplitl [H1 H3]; · isplitl [H1]; · iexact H1
                       iexact H3
    iexact H4
  · unfold agInv
    rw [← hsk]
    iintro ⟨H1, -, HO, ⟨H2, H3⟩, H4⟩
    isplitl [H2]; · iexact H2
    isplitl [H1]; · iexact H1
    isplitl [H3]; · iexact H3
    isplitl [HO] <;> iassumption

include hG in
theorem tr_agIters : Tr c (Ctx2 K c) (agInv c O 0) (loop (agIter G O (dirT 0 c) (dirT 1 c)) 0 14 : Pr F PUnit) fun _ => agInv c O 14 :=
  Tr.loop (agInv c O) (agIter G O (dirT 0 c) (dirT 1 c)) 0 14 fun s _ hs => tr_agIter K c G hG O s (by omega)

include hG in
theorem tr_agLast (d g : Fin 2) :
    Tr c (Ctx2 K c) iprop(laneG c d g 14 ∗ outQ c O (60 + 2 * g.val + d.val) ∗ paying 300 c) (agLast G O (dirT d c) d g : Pr F PUnit)
      fun _ => iprop(laneE c d g ∗ outQ c O (60 + 2 * g.val + d.val + 1) ∗ paying 300 c) := by
  unfold Tr agLast laneG agSt laneE
  rw [bs_Ico (show 14 < 15 by omega)]
  iintro ⟨#HC, ⟨⟨⟨H1, -⟩, H2, -, H3, H4⟩, -⟩, HO, Hp⟩
  rw [wp_bind]
  iapply (Tr.use (tr_agWr K c G d g 14 (by omega) 300 (by omega))) $$ [H1 Hp]
  · isplitr; · iexact HC
    isplitl [H1] <;> iassumption
  iintro %_ ⟨Hpay, Hcl, Hp⟩
  unfold agrPay
  icases Hpay with ⟨Hsg, -⟩
  iapply (Tr.use (tr_agOut K c G hG O d g 14 (by omega) fullShare)) $$ [Hsg HO]
  · isplitr; · iexact HC
    isplitl [Hsg] <;> iassumption
  iintro %_ ⟨Hsg, HO⟩
  isplitr [HO Hp]
  · isplitl [H2 Hcl]; · rw [bs_range 14 (cls c 3 d g)]; isplitl [Hcl] <;> iassumption
    isplitl [H3]; · iexact H3
    isplitl [H4] <;> iassumption
  isplitl [HO] <;> iassumption

include hG in
/-- The gather phase. -/
theorem st_gather {β : Type} (k : Pr F β) (R : β → sProp 𝕄) (Y : sProp 𝕄)
    (hk : Tr c (Ctx2 K c) iprop((laneE c 0 0 ∗ laneE c 0 1 ∗ laneE c 1 0 ∗ laneE c 1 1) ∗ (crSt c 0 18 ∗ crSt c 1 18) ∗ outQ c O 64 ∗ paying 300 c ∗ Y) k R) :
    Tr c (Ctx2 K c) iprop((laneG c 0 0 0 ∗ laneG c 0 1 0 ∗ laneG c 1 0 0 ∗ laneG c 1 1 0) ∗ (crSt c 0 11 ∗ crSt c 1 11) ∗ outQ c O 4 ∗ paying 160 c ∗ Y)
      (loop (agIter G O (dirT 0 c) (dirT 1 c)) 0 14 >>= fun _ =>
        agLast G O (dirT 0 c) 0 0 >>= fun _ => agLast G O (dirT 1 c) 1 0 >>= fun _ => agLast G O (dirT 0 c) 0 1 >>= fun _ => agLast G O (dirT 1 c) 1 1 >>= fun _ => k) R := by
  unfold Tr at hk ⊢
  rw [wp_bind]
  iintro ⟨#HC, ⟨A, B, C, D⟩, Hcr, HO, Hp, HY⟩
  iapply (Tr.use (tr_agIters K c G hG O)) $$ [A B C D Hcr HO Hp]
  · isplitr; · iexact HC
    unfold agInv
    isplitl [A C]; · isplitl [A] <;> iassumption
    isplitl [B D]; · isplitl [B] <;> iassumption
    isplitl [Hcr]; · iexact Hcr
    isplitl [HO] <;> iassumption
  unfold agInv
  iintro %_ ⟨⟨A, C⟩, ⟨B, D⟩, Hcr, HO, Hp⟩
  rw [wp_bind]
  iapply (Tr.use (tr_agLast K c G hG O 0 0)) $$ [A HO Hp]
  · isplitr; · iexact HC
    isplitl [A]; · iexact A
    isplitl [HO] <;> iassumption
  iintro %_ ⟨A, HO, Hp⟩
  rw [wp_bind]
  iapply (Tr.use (tr_agLast K c G hG O 1 0)) $$ [C HO Hp]
  · isplitr; · iexact HC
    isplitl [C]; · iexact C
    isplitl [HO] <;> iassumption
  iintro %_ ⟨C, HO, Hp⟩
  rw [wp_bind]
  iapply (Tr.use (tr_agLast K c G hG O 0 1)) $$ [B HO Hp]
  · isplitr; · iexact HC
    isplitl [B]; · iexact B
    isplitl [HO] <;> iassumption
  iintro %_ ⟨B, HO, Hp⟩
  rw [wp_bind]
  iapply (Tr.use (tr_agLast K c G hG O 1 1)) $$ [D HO Hp]
  · isplitr; · iexact HC
    isplitl [D]; · iexact D
    isplitl [HO] <;> iassumption
  iintro %_ ⟨D, HO, Hp⟩
  iapply hk
  isplitr; · iexact HC
  isplitl [A B C D]
  · isplitl [A]; · iexact A
    isplitl [B]; · iexact B
    isplitl [C] <;> iassumption
  isplitl [Hcr]; · iexact Hcr
  isplitl [HO]; · iexact HO
  isplitl [Hp] <;> iassumption

/-- A direction's last waits. -/
theorem tr_agEnd (d : Fin 2) :
    Tr c (Ctx2 K c) iprop(laneW c d 0 0 ∗ laneW c d 1 0 ∗ paying 300 c)
      (loop (fun s => do agW G (dirT d c).ags (dirT d c) d s 0; agW G (dirT d c).ags (dirT d c) d s 1) 0 15 : Pr F PUnit)
      fun _ => iprop(laneW c d 0 15 ∗ laneW c d 1 15 ∗ paying 300 c) := by
  refine Tr.loop (fun s => iprop(laneW c d 0 s ∗ laneW c d 1 s ∗ paying 300 c)) _ 0 15 fun s _ hs => ?_
  unfold Tr laneW
  rw [bs_Ico (show s < 15 by omega), bs_Ico (show s < 15 by omega), wp_bind]
  iintro ⟨#HC, ⟨⟨H1, H2⟩, H3, H4⟩, ⟨⟨H5, H6⟩, H7, H8⟩, Hp⟩
  iapply (Tr.use (tr_agWs K c G d 0 s (by omega) 300 (by omega))) $$ [H1 Hp]
  · isplitr; · iexact HC
    isplitl [H1] <;> iassumption
  iintro %_ ⟨Ha, Hb, Hp⟩
  iapply (Tr.use (tr_agWs K c G d 1 s (by omega) 300 (by omega))) $$ [H5 Hp]
  · isplitr; · iexact HC
    isplitl [H5] <;> iassumption
  iintro %_ ⟨Ha', Hb', Hp⟩
  unfold agsPay
  rw [bs_range s, bs_range s, bs_range s, bs_range s]
  isplitl [H2 H3 H4 Ha Hb]
  · isplitl [H2]; · iexact H2
    isplitl [H3 Hb]; · isplitl [Hb] <;> iassumption
    isplitl [Ha] <;> iassumption
  isplitr [Hp]
  · isplitl [H6]; · iexact H6
    isplitl [H7 Hb']; · isplitl [Hb'] <;> iassumption
    isplitl [Ha'] <;> iassumption
  iexact Hp

/-- A lane's sends before any is waited for. -/
theorem laneW_zero (d g : Fin 2) : (bigSep (Finset.range 15) (pnd c 2 d g) : sProp 𝕄) ⊢ laneW c d g 0 := by
  unfold laneW
  rw [show Finset.range 0 = ∅ from rfl, bigSep_empty, bigSep_empty, Finset.range_eq_Ico]
  iintro H
  isplitl [H]; · iexact H
  isplitr <;> iempintro

end

theorem bs_four (f : Fin 4 → sProp 𝕄) : bigSep Finset.univ f = iprop(f 0 ∗ f 1 ∗ f 2 ∗ f 3) := by
  rw [show (Finset.univ : Finset (Fin 4)) = insert 0 (insert 1 (insert 2 {3})) by decide, bigSep_insert (by decide), bigSep_insert (by decide), bigSep_insert (by decide), bigSep_singleton]
  rfl

/-- A direction's buffers and cells at the end. -/
def dirZ (c : Dev nD) (d : Fin 2) : sProp 𝕄 :=
  iprop((bigSep Finset.univ fun g : Fin 2 => bigSep Finset.univ fun k : Fin 4 => bigSep (Finset.range 15) (cls c k d g))
    ∗ whQ c (agM d) fullShare ∗ whQ c (rxM d) fullShare ∗ whQ c (txM d) fullShare)

theorem dir_close (c : Dev nD) (d : Fin 2) : (iprop(laneZ c d 0 ∗ laneZ c d 1) : sProp 𝕄) ⊢ dirZ c d := by
  have two : ∀ (n : ℕ) (f : ℕ → Fin 2 → sProp 𝕄), (bigSep Finset.univ fun x : Fin n × Fin 2 => f x.1.val x.2)
      = iprop(bigSep (Finset.range n) (f · 0) ∗ bigSep (Finset.range n) (f · 1)) := fun n f => by
    rw [bigSep_univ_prod]
    show (bigSep Finset.univ fun i : Fin n => bigSep Finset.univ fun g : Fin 2 => f i.val g) = _
    rw [show (fun i : Fin n => bigSep Finset.univ fun g => f i.val g) = fun i : Fin n => iprop(f i.val 0 ∗ f i.val 1) from
        funext fun i => bs_two _, bs_zip, bs_fin n (f · 0), bs_fin n (f · 1)]
  have hag : (iprop((bigSep (Finset.range 16) fun i => segA c (agSg d (hop d (posT c) i) 0)) ∗ bigSep (Finset.range 16) fun i => segA c (agSg d (hop d (posT c) i) 1)) : sProp 𝕄)
      ⊢ whQ c (agM d) fullShare := by
    rw [← bs_zip, ← bs_hop d (posT c) fun k => iprop(segA c (agSg d k 0) ∗ segA c (agSg d k 1))]
    refine BIBase.Entails.trans (Entails.of_eq ?_) (ag_close c d)
    rw [bigSep_univ_prod]
    exact congrArg _ (funext fun k => (bs_two fun g => (segA c (agSg d k g) : sProp 𝕄)).symm)
  have hrx : (iprop((bigSep (Finset.range 4) fun i => segA c (rxS d i 0)) ∗ bigSep (Finset.range 4) fun i => segA c (rxS d i 1)) : sProp 𝕄)
      ⊢ whQ c (rxM d) fullShare := BIBase.Entails.trans (Entails.of_eq (two 4 fun i g => segA c (rxS d i g)).symm) (rx_close c d)
  have htx : (iprop((bigSep (Finset.range 2) fun i => segA c (txS d i 0)) ∗ bigSep (Finset.range 2) fun i => segA c (txS d i 1)) : sProp 𝕄)
      ⊢ whQ c (txM d) fullShare := BIBase.Entails.trans (Entails.of_eq (two 2 fun i g => segA c (txS d i g)).symm) (tx_close c d)
  unfold laneZ dirZ
  iintro ⟨⟨⟨A0, A1, A2, A3⟩, H1, H2, H3⟩, ⟨⟨B0, B1, B2, B3⟩, J1, J2, J3⟩⟩
  isplitr [H1 H2 H3 J1 J2 J3]
  · rw [bs_two, bs_four, bs_four]
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  isplitl [H1 J1]; · iapply hag; isplitl [H1] <;> iassumption
  isplitl [H2 J2]; · iapply hrx; isplitl [H2] <;> iassumption
  iapply htx; isplitl [H3] <;> iassumption

end Cert.KernelIdeal.Ring

end
-- ==== Proof.Ki.Body.lean ====
module

public import proofs.«01_k».proof.Proof.Ki.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The whole body of the ring, from its stages. -/

variable (K : GSem nD τ sig → ℕ) (c : Dev nD) (G : Geo) (hG : GeoOk G c)
variable (X : Memref sig .tc .vmem S4096x256 .i8) (W : Memref sig .tc .vmem S256x2048 .i8)
  (S : Memref sig .tc .smem S1 .f32) (O : Memref sig .tc .vmem S4096x2048 .f32) (qx qw q : PosShare TreeShare)

/-- A device's lanes of the gather phase, untouched. -/
def lanesH (c : Dev nD) : sProp 𝕄 := iprop(laneH c 0 0 ∗ laneH c 0 1 ∗ laneH c 1 0 ∗ laneH c 1 1)

/-- What a device's body starts from. -/
def ringPre : sProp 𝕄 :=
  iprop(paying 1 c ∗ barSt c ∗ (rxOwn c 0 ∗ rxOwn c 1) ∗ (dirB c 0 ∗ dirB c 1) ∗ lanesH c
    ∗ owns (c : Thread nD τ) X qx (Vals.x c) ∗ owns (c : Thread nD τ) W qw (Vals.w c) ∗ owns (c : Thread nD τ) S q (fun _ => Vals.sc c) ∗ outQ c O 0)
/-- What it ends with. -/
def ringPost : sProp 𝕄 :=
  iprop((dirZ c 0 ∗ dirZ c 1) ∗ (semVal (cell c (.reg barS)) 0 ∗ semVal (cell c (.reg (crS 0))) 0 ∗ semVal (cell c (.reg (crS 1))) 0)
    ∗ (owns (c : Thread nD τ) X qx (Vals.x c) ∗ owns (c : Thread nD τ) W qw (Vals.w c) ∗ owns (c : Thread nD τ) S q (fun _ => Vals.sc c) ∗ outQ c O 64) ∗ ∃ A, owes (c : Thread nD τ) 0 A)

theorem rem_done : rem 300 = ∅ := Finset.filter_eq_empty_iff.mpr fun e _ => not_le.mpr (tm_lt e)
theorem oweF_done : oweF 300 c = 0 := by unfold oweF; rw [rem_done]; rfl

theorem paying_done : (paying 300 c : sProp 𝕄) ⊢ ∃ A, owes (c : Thread nD τ) 0 A := by
  unfold paying; rw [oweF_done]
  iintro ⟨H, -⟩; iexact H

theorem tr_over (Y : sProp 𝕄) :
    Tr c (Ctx2 K c) iprop((laneE c 0 0 ∗ laneE c 0 1 ∗ laneE c 1 0 ∗ laneE c 1 1) ∗ (crSt c 0 18 ∗ crSt c 1 18) ∗ outQ c O 64 ∗ paying 300 c
        ∗ (laneX c 0 0 ∗ laneX c 0 1 ∗ laneX c 1 0 ∗ laneX c 1 1) ∗ Y)
      (loop (fun s => do agW G (dirT 0 c).ags (dirT 0 c) 0 s 0; agW G (dirT 0 c).ags (dirT 0 c) 0 s 1) 0 15 >>= fun _ =>
        loop (fun s => do agW G (dirT 1 c).ags (dirT 1 c) 1 s 0; agW G (dirT 1 c).ags (dirT 1 c) 1 s 1) 0 15 : Pr F PUnit)
      fun _ => iprop((dirZ c 0 ∗ dirZ c 1) ∗ (semVal (cell c (.reg (crS 0))) 0 ∗ semVal (cell c (.reg (crS 1))) 0) ∗ outQ c O 64
        ∗ (∃ A, owes (c : Thread nD τ) 0 A) ∗ Y) := by
  rw [← bind_pure (loop (fun s => do agW G (dirT 1 c).ags (dirT 1 c) 1 s 0; agW G (dirT 1 c).ags (dirT 1 c) 1 s 1) 0 15 : Pr F PUnit)]
  unfold Tr laneE
  rw [wp_bind]
  iintro ⟨#HC, ⟨⟨A1, A2, A3, A4⟩, ⟨B1, B2, B3, B4⟩, ⟨C1, C2, C3, C4⟩, ⟨D1, D2, D3, D4⟩⟩, ⟨Hc0, Hc1⟩, HO, Hp, ⟨XA, XB, XC, XD⟩, HY⟩
  iapply (Tr.use (tr_agEnd K c G 0)) $$ [A2 B2 Hp]
  · isplitr; · iexact HC
    isplitl [A2]; · iapply (laneW_zero c 0 0); iexact A2
    isplitl [B2]; · iapply (laneW_zero c 0 1); iexact B2
    iexact Hp
  iintro %_ ⟨A2, B2, Hp⟩
  rw [wp_bind]
  iapply (Tr.use (tr_agEnd K c G 1)) $$ [C2 D2 Hp]
  · isplitr; · iexact HC
    isplitl [C2]; · iapply (laneW_zero c 1 0); iexact C2
    isplitl [D2]; · iapply (laneW_zero c 1 1); iexact D2
    iexact Hp
  iintro %_ ⟨C2, D2, Hp⟩
  imod (crSt_close K c 0) $$ [Hc0] with Hc0
  · isplitr; · iapply (ctx2_ctx K c); iexact HC
    iexact Hc0
  imod (crSt_close K c 1) $$ [Hc1] with Hc1
  · isplitr; · iapply (ctx2_ctx K c); iexact HC
    iexact Hc1
  iapply (le_wp_ret frame (wpE (defs₀ (F := F)) 𝒱₀ (c : Thread nD τ) none) Set.univ _ _)
  isplitl [A1 A2 A3 A4 B1 B2 B3 B4 C1 C2 C3 C4 D1 D2 D3 D4 XA XB XC XD]
  · isplitl [A1 A2 A3 A4 B1 B2 B3 B4 XA XB]
    · iapply (dir_close c 0)
      isplitl [A1 A2 A3 A4 XA]
      · iapply (lane_end c 0 0)
        isplitl [XA]; · iexact XA
        isplitr [A2]
        · isplitl [A1]; · iexact A1
          isplitl [A3] <;> iassumption
        iexact A2
      · iapply (lane_end c 0 1)
        isplitl [XB]; · iexact XB
        isplitr [B2]
        · isplitl [B1]; · iexact B1
          isplitl [B3] <;> iassumption
        iexact B2
    · iapply (dir_close c 1)
      isplitl [C1 C2 C3 C4 XC]
      · iapply (lane_end c 1 0)
        isplitl [XC]; · iexact XC
        isplitr [C2]
        · isplitl [C1]; · iexact C1
          isplitl [C3] <;> iassumption
        iexact C2
      · iapply (lane_end c 1 1)
        isplitl [XD]; · iexact XD
        isplitr [D2]
        · isplitl [D1]; · iexact D1
          isplitl [D3] <;> iassumption
        iexact D2
  isplitl [Hc0 Hc1]; · isplitl [Hc0] <;> iassumption
  isplitl [HO]; · iexact HO
  isplitl [Hp]; · iapply (paying_done c); iexact Hp
  iexact HY

include hG in
/-- A device's body. -/
theorem ring_run : Tr c (Ctx1 K c) (ringPre c X W S O qx qw q) (ringP G X W S O (dirT 0 c) (dirT 1 c) : Pr F PUnit)
    fun _ => ringPost c X W S O qx qw q := by
  let bv : sProp 𝕄 := semVal (cell c (.reg barS)) 0
  let hold : sProp 𝕄 := iprop(owns (c : Thread nD τ) S q (fun _ => Vals.sc c) ∗ owns (c : Thread nD τ) X qx (Vals.x c) ∗ owns (c : Thread nD τ) W qw (Vals.w c) ∗ bv)
  have h5 := tr_over K c G O hold
  have h4 := st_gather K c G hG O _ _ iprop((laneX c 0 0 ∗ laneX c 0 1 ∗ laneX c 1 0 ∗ laneX c 1 1) ∗ hold) h5
  have h3 := st_turn K c G hG _ _ iprop((crSt c 0 11 ∗ crSt c 1 11) ∗ outQ c O 4 ∗ hold) (Tr.pre (by
    iintro ⟨H1, H2, H3, H4, H5, H6⟩
    isplitl [H1]; · iexact H1
    isplitl [H4]; · iexact H4
    isplitl [H5]; · iexact H5
    isplitl [H3]; · iexact H3
    isplitl [H2] <;> iassumption) h4)
  have h2 := st_reduce K c G hG S O q _ _ iprop(lanesH c ∗ owns (c : Thread nD τ) X qx (Vals.x c) ∗ owns (c : Thread nD τ) W qw (Vals.w c) ∗ bv) (Tr.pre (by
    show _ ⊢ iprop(_ ∗ _ ∗ _ ∗ _ ∗ lanesH c ∗ _ ∗ _)
    iintro ⟨H1, H2, H3, H4, H5, H6, H7, H8, H9, H10⟩
    isplitl [H1]; · iexact H1
    isplitl [H2]; · iexact H2
    isplitl [H3]; · iexact H3
    isplitl [H4]; · iexact H4
    isplitl [H9]; · iexact H9
    isplitl [H6]; · iexact H6
    isplitl [H5]; · iexact H5
    isplitl [H7]; · iexact H7
    isplitl [H8]; · iexact H8
    iexact H10) h3)
  have h1 := st_gemm K c G hG X W qx qw _ _ iprop(outQ c O 0 ∗ owns (c : Thread nD τ) S q (fun _ => Vals.sc c) ∗ lanesH c ∗ bv) (Tr.pre (by
    iintro ⟨H1, H2, H3, H4, H5, H6, H7⟩
    isplitl [H1]; · iexact H1
    isplitl [H4]; · iexact H4
    isplitl [H5]; · iexact H5
    isplitl [H6]; · iexact H6
    isplitl [H2]; · iexact H2
    isplitl [H3]; · iexact H3
    iexact H7) h2)
  have h0 := st_bar K c _ _ iprop(dirB c 0 ∗ dirB c 1 ∗ owns (c : Thread nD τ) X qx (Vals.x c) ∗ owns (c : Thread nD τ) W qw (Vals.w c) ∗ outQ c O 0 ∗ owns (c : Thread nD τ) S q (fun _ => Vals.sc c) ∗ lanesH c) (Tr.pre (by
    iintro ⟨H1, H2, H3, H4, H5, H6, H7, H8, H9, H10, H11⟩
    isplitl [H5]; · iexact H5
    isplitl [H6]; · iexact H6
    isplitl [H3]; · iexact H3
    isplitl [H4]; · iexact H4
    isplitl [H1]; · iexact H1
    isplitl [H7]; · iexact H7
    isplitl [H8]; · iexact H8
    isplitl [H9]; · iexact H9
    isplitl [H10]; · iexact H10
    isplitl [H11]; · iexact H11
    iexact H2) h1)
  refine Tr.post ?_ (Tr.pre ?_ h0)
  · intro _
    unfold ringPost
    iintro ⟨H1, ⟨H2, H3⟩, H4, H5, H6, H7, H8, H9⟩
    isplitl [H1]; · iexact H1
    isplitl [H2 H3 H9]
    · isplitl [H9]; · iexact H9
      isplitl [H2] <;> iassumption
    isplitr [H5]
    · isplitl [H7]; · iexact H7
      isplitl [H8]; · iexact H8
      isplitl [H6] <;> iassumption
    iexact H5
  · unfold ringPre
    iintro ⟨H1, H2, ⟨H3, H4⟩, ⟨H5, H6⟩, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H11]; · iexact H11
    isplitl [H10] <;> iassumption

end Cert.KernelIdeal.Ring

end
-- ==== Proof.Ki.BodyEq.lean ====
module

public import proofs.«01_k».proof.Proof.Ki.Program

@[expose] public section

noncomputable section

namespace Cert.KernelIdeal.Ring

open Idealize.ShloMosaic Idealize.SL.Sem
open Cert.KernelIdeal Cert.KernelIdeal.Gen

variable {F : FTy → Type} [FloatOps F]

/-- The whole body: the device reads its place and its neighbours, then runs the ring. -/
def ringBody (arg0 : Memref sig .tc .vmem S4096x256 .i8) (harg0 : arg0.IsWhole) (arg1 : Memref sig .tc .vmem S256x2048 .i8) (harg1 : arg1.IsWhole) (arg2 : Memref sig .tc .smem S1 .f32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S4096x2048 .f32) (harg6 : arg6.IsWhole) (arg7 : Memref sig .tc .vmem S4x256x1024 .bf16) (harg7 : arg7.IsWhole) (arg8 : Memref sig .tc .vmem S4x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S16x256x1024 .bf16) (harg11 : arg11.IsWhole) (arg12 : Memref sig .tc .vmem S16x256x1024 .bf16) (harg12 : arg12.IsWhole) (arg13 : DmaSems sig S15x2) (arg14 : DmaSems sig S15x2) (arg15 : DmaSems sig S15x2) (arg16 : DmaSems sig S15x2) (arg17 : DmaSems sig S15x2) (arg18 : DmaSems sig S15x2) (arg19 : DmaSems sig S15x2) (arg20 : DmaSems sig S15x2) (arg21 : Sems sig S_) (arg22 : Sems sig S_) : Pr F PUnit := do
  let v0 : Elt F .i32 ← smemLoad arg3 (Rect.unit (s := S1) ![0] S1.size inb_S1_S1_0) numel1_S1 rfl
  have k0_hw3 : k0_chk3 v0 := (← Prog.lift (TpuEff.assume (k0_chk3 v0) (k0_chk3.dec v0))).down
  let v1 : Elt F .i32 ← smemLoad arg4 (Rect.unit (s := S1) ![0] S1.size inb_S1_S1_0) numel1_S1 rfl
  have k0_hw2 : k0_chk2 v1 := (← Prog.lift (TpuEff.assume (k0_chk2 v1) (k0_chk2.dec v1))).down
  let v2 : Elt F .i32 ← smemLoad arg5 (Rect.unit (s := S1) ![0] S1.size inb_S1_S1_0) numel1_S1 rfl
  have k0_hw1 : k0_chk1 v2 := (← Prog.lift (TpuEff.assume (k0_chk1 v2) (k0_chk1.dec v2))).down
  ringP (geoAt v0 k0_hw3) arg0 arg1 arg2 arg6
    { rx := arg7, hrx := harg7, tx := arg9, htx := harg9, ag := arg11, hag := harg11, rss := arg13, rsr := arg14, ags := arg17, agr := arg18,
      credit := arg21, peer := ⟨k0_dev3 v1, k0_dev3_lt v1 k0_hw2⟩, up := ⟨k0_dev1 v2, k0_dev1_lt v2 k0_hw1⟩ }
    { rx := arg8, hrx := harg8, tx := arg10, htx := harg10, ag := arg12, hag := harg12, rss := arg15, rsr := arg16, ags := arg19, agr := arg20,
      credit := arg22, peer := ⟨k0_dev1 v2, k0_dev1_lt v2 k0_hw1⟩, up := ⟨k0_dev2 v1, k0_dev2_lt v1 k0_hw2⟩ }

section steps

variable {α β γ : Type} {e : EltTy}

theorem asL {a : Pr F α} {f : α → Pr F β} {K : β → Pr F γ} {R : Pr F γ} (h : (a >>= fun x => f x >>= K) = R) : ((a >>= f) >>= K) = R :=
  (bind_assoc a f K).trans h
theorem asR {a : Pr F α} {f : α → Pr F β} {K : β → Pr F γ} {R : Pr F γ} (h : R = (a >>= fun x => f x >>= K)) : R = ((a >>= f) >>= K) :=
  h.trans (bind_assoc a f K).symm
theorem puL {a : α} {K : α → Pr F γ} {R : Pr F γ} (h : K a = R) : ((pure a : Pr F α) >>= K) = R := (pure_bind a K).trans h
theorem puR {a : α} {K : α → Pr F γ} {R : Pr F γ} (h : R = K a) : R = ((pure a : Pr F α) >>= K) := h.trans (pure_bind a K).symm
theorem liU {e e' : TpuEff nD τ sig (Elt F) Λ₀ .tc PUnit} {K K' : PUnit → Pr F γ} (he : e = e') (h : K ⟨⟩ = K' ⟨⟩) :
    ((Prog.lift e : Pr F PUnit) >>= K) = ((Prog.lift e' : Pr F PUnit) >>= K') := by
  subst he; exact congrArg _ (funext fun _ => h)
theorem liV {e e' : TpuEff nD τ sig (Elt F) Λ₀ .tc α} {K K' : α → Pr F γ} (he : e = e') (h : ∀ x, K x = K' x) :
    ((Prog.lift e : Pr F α) >>= K) = ((Prog.lift e' : Pr F α) >>= K') := by
  subst he; exact congrArg _ (funext h)

theorem idR {a : Pr F α} {K : α → Pr F γ} {L : Pr F γ} (h : L = (a >>= K)) : L = (a >>= K) := h
theorem optT {b : Bool} {p : Pr F PUnit} {K : PUnit → Pr F γ} {L : Pr F γ} (hb : b = true) (h : L = (p >>= K)) : L = (opt b p >>= K) := by
  subst hb; exact h
theorem optF {b : Bool} {p : Pr F PUnit} {K : PUnit → Pr F γ} {L : Pr F γ} (hb : b = false) (h : L = K ⟨⟩) : L = (opt b p >>= K) := by
  subst hb; exact h.trans (pure_bind _ K).symm
theorem loZ {f : ℕ → Pr F PUnit} {k : ℕ} {K : PUnit → Pr F γ} {L : Pr F γ} (h : L = K ⟨⟩) : L = (loop f k 0 >>= K) :=
  h.trans (pure_bind _ K).symm
theorem endL {f : ℕ → Pr F PUnit} {k : ℕ} : (pure ⟨⟩ : Pr F PUnit) = loop f k 0 := rfl
theorem sgU {d d' : Dev nD} {s s' : Sem sig} {n : BitVec 32} {K K' : PUnit → Pr F γ} (hd : d = d') (hs : s = s') (h : K ⟨⟩ = K' ⟨⟩) :
    ((semSignalWord d s n : Pr F PUnit) >>= K) = ((semSignalWord d' s' n : Pr F PUnit) >>= K') := by
  subst hd; subst hs; exact congrArg _ (funext fun _ => h)
theorem wtU {s s' : Sem sig} {n : BitVec 32} {K K' : PUnit → Pr F γ} (hs : s = s') (h : K ⟨⟩ = K' ⟨⟩) :
    ((semWaitWord s n : Pr F PUnit) >>= K) = ((semWaitWord s' n : Pr F PUnit) >>= K') := by
  subst hs; exact congrArg _ (funext fun _ => h)
theorem smV {m : Memref sig .tc .smem S1 e} {r : Rect S1} {h1 : r.shape.numel = 1} {hp : e.packing = 1} {K K' : Elt F e → Pr F γ}
    (h : ∀ x, K x = K' x) :
    ((smemLoad m r h1 hp : Pr F (Elt F e)) >>= K) = ((smemLoad m r h1 hp : Pr F (Elt F e)) >>= K') :=
  congrArg _ (funext h)

end steps

set_option maxRecDepth 65536 in
set_option maxHeartbeats 40000000 in
/-- The printed body is the structured one. -/
theorem body_eq (arg0 : Memref sig .tc .vmem S4096x256 .i8) (harg0 : arg0.IsWhole) (arg1 : Memref sig .tc .vmem S256x2048 .i8) (harg1 : arg1.IsWhole) (arg2 : Memref sig .tc .smem S1 .f32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S4096x2048 .f32) (harg6 : arg6.IsWhole) (arg7 : Memref sig .tc .vmem S4x256x1024 .bf16) (harg7 : arg7.IsWhole) (arg8 : Memref sig .tc .vmem S4x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S16x256x1024 .bf16) (harg11 : arg11.IsWhole) (arg12 : Memref sig .tc .vmem S16x256x1024 .bf16) (harg12 : arg12.IsWhole) (arg13 : DmaSems sig S15x2) (arg14 : DmaSems sig S15x2) (arg15 : DmaSems sig S15x2) (arg16 : DmaSems sig S15x2) (arg17 : DmaSems sig S15x2) (arg18 : DmaSems sig S15x2) (arg19 : DmaSems sig S15x2) (arg20 : DmaSems sig S15x2) (arg21 : Sems sig S_) (arg22 : Sems sig S_) :
    cc0_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 arg18 arg19 arg20 arg21 arg22 = ringBody arg0 harg0 arg1 harg1 arg2 harg2 arg3 harg3 arg4 harg4 arg5 harg5 arg6 harg6 arg7 harg7 arg8 harg8 arg9 harg9 arg10 harg10 arg11 harg11 arg12 harg12 arg13 arg14 arg15 arg16 arg17 arg18 arg19 arg20 arg21 arg22 := by
  repeat first
    | exact endL
    | with_reducible apply asL
    | with_reducible apply asR
    | with_reducible apply puL
    | with_reducible apply puR
    | with_reducible apply loZ
    | ((with_reducible apply optT) <;> [rfl; skip])
    | ((with_reducible apply optF) <;> [rfl; skip])
    | (with_reducible apply sgU) <;> [rfl; rfl; skip]
    | (with_reducible apply wtU) <;> [rfl; skip]
    | (with_reducible apply liU) <;> [rfl; skip]
    | (with_reducible apply liV) <;> [rfl; intro x]
    | (apply smV; intro x)
    | apply asL
    | apply asR
    | (apply liU) <;> [rfl; skip]
    | (apply liV) <;> [rfl; intro x]
    | apply idR

end Cert.KernelIdeal.Ring

end
-- ==== Proof.Ki.Call.lean ====
module

public import proofs.«01_k».proof.Proof.Ki.Body
public import proofs.«01_k».proof.Proof.Ki.BodyEq

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The kernel's body as the launch calls it: the three words it loads, then the ring. -/

/-- A loaded word whose value is known. -/
theorem Tr.word {α : Type} (c : Dev nD) (C : sProp 𝕄) {t : Shape} (M : Memref sig .tc .smem t .i32) (r : Rect t) (hn) (hw)
    (X : t.Idx → Elt F .i32) (w : BitVec 32) (hX : ∀ i, X i = w) (R : sProp 𝕄) (k : Elt F .i32 → Pr F α) (Q : α → sProp 𝕄)
    (hk : Tr c C iprop(owns (c : Thread nD τ) M fullShare X ∗ R) (k w) Q) :
    Tr c C iprop(owns (c : Thread nD τ) M fullShare X ∗ R) (smemLoad M r hn hw >>= k) Q := by
  unfold Tr owns at *
  rw [wp_bind]
  iintro ⟨HC, ⟨%f, %hf, H⟩, HR⟩
  iapply (wp_smemLoadElt 𝒱₀ (c : Thread nD τ) none Set.univ (m := M) (r := r) (hw := _) (S := M.view.set) (q := fullShare) (f := f)
    (by show (M.view.slice r).set ⊆ _; exact View.set_slice_subset _ _)) $$ [H]
  · iexact H
  iintro H
  rw [wp_ret]
  imodintro
  have hv : ∀ x, (M.access r).read (Elt F) f x = w := fun x => (congrFun hf _).trans (hX _)
  rw [hv]
  iapply hk
  isplitl [HC]; · iexact HC
  isplitl [H]
  · iexists f; isplitr; · ipureintro; exact hf
    iexact H
  iexact HR

/-- A fact the body checks. -/
theorem Tr.assume {α : Type} (c : Dev nD) (C : sProp 𝕄) {P : Prop} {d : Decidable P} (h : P) (k : PLift P → Pr F α) (R : sProp 𝕄) (Q : α → sProp 𝕄)
    (hk : Tr c C R (k ⟨h⟩) Q) : Tr c C R (Prog.lift (.assume P d) >>= k) Q := by
  unfold Tr at *
  exact BIBase.Entails.trans hk (wp_assume 𝒱₀ (c : Thread nD τ) none Set.univ h)

section Call
variable (K : GSem nD τ sig → ℕ) (c : Dev nD)
variable (A0 : Memref sig .tc .vmem S4096x256 .i8) (h0 : A0.IsWhole) (A1 : Memref sig .tc .vmem S256x2048 .i8) (h1 : A1.IsWhole)
  (A2 : Memref sig .tc .smem S1 .f32) (h2 : A2.IsWhole) (A3 : Memref sig .tc .smem S1 .i32) (h3 : A3.IsWhole)
  (A4 : Memref sig .tc .smem S1 .i32) (h4 : A4.IsWhole) (A5 : Memref sig .tc .smem S1 .i32) (h5 : A5.IsWhole)
  (A6 : Memref sig .tc .vmem S4096x2048 .f32) (h6 : A6.IsWhole)
  (X3 X4 X5 : S1.Idx → Elt F .i32)

theorem dir0_eq (hp) (hu) :
    ({ rx := Memref.whole cc0_scratch0, hrx := Memref.isWhole_whole _, tx := Memref.whole cc0_scratch2, htx := Memref.isWhole_whole _,
       ag := Memref.whole cc0_scratch4, hag := Memref.isWhole_whole _, rss := cc0_scratch6, rsr := cc0_scratch7, ags := cc0_scratch10, agr := cc0_scratch11,
       credit := cc0_scratch14, peer := ⟨k0_dev3 (devW (peerT 0 c)), hp⟩, up := ⟨k0_dev1 (devW (peerT 1 c)), hu⟩ } : Dir) = dirT 0 c := by
  rw [dev3_eq, dev1_eq]
  have : peerT 1 c = upT 0 c := peer_flip 0 c
  rw [this]; rfl
theorem dir1_eq (hp) (hu) :
    ({ rx := Memref.whole cc0_scratch1, hrx := Memref.isWhole_whole _, tx := Memref.whole cc0_scratch3, htx := Memref.isWhole_whole _,
       ag := Memref.whole cc0_scratch5, hag := Memref.isWhole_whole _, rss := cc0_scratch8, rsr := cc0_scratch9, ags := cc0_scratch12, agr := cc0_scratch13,
       credit := cc0_scratch15, peer := ⟨k0_dev1 (devW (peerT 1 c)), hp⟩, up := ⟨k0_dev2 (devW (peerT 0 c)), hu⟩ } : Dir) = dirT 1 c := by
  rw [dev1_eq, dev2_eq]
  have : peerT 0 c = upT 1 c := (up_flip 0 c).symm
  rw [this]; rfl

/-- The body, run from the three words. -/
theorem body_run (e3 : ∀ i, X3 i = posW c) (e4 : ∀ i, X4 i = devW (peerT 0 c)) (e5 : ∀ i, X5 i = devW (peerT 1 c)) :
    Tr c (Ctx1 K c) iprop(owns (c : Thread nD τ) A3 fullShare X3 ∗ owns (c : Thread nD τ) A4 fullShare X4 ∗ owns (c : Thread nD τ) A5 fullShare X5
        ∗ ringPre c A0 A1 A2 A6 hs hs hs)
      (ringBody A0 h0 A1 h1 A2 h2 A3 h3 A4 h4 A5 h5 A6 h6 (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10 cc0_scratch11 cc0_scratch12
        cc0_scratch13 cc0_scratch14 cc0_scratch15 : Pr F PUnit)
      fun _ => iprop((owns (c : Thread nD τ) A3 fullShare X3 ∗ owns (c : Thread nD τ) A4 fullShare X4 ∗ owns (c : Thread nD τ) A5 fullShare X5)
        ∗ ringPost c A0 A1 A2 A6 hs hs hs) := by
  unfold ringBody
  refine Tr.word c _ A3 _ _ _ X3 (posW c) e3 _ _ _ ?_
  refine Tr.assume c _ (chk3_pos c) _ _ _ ?_
  refine Tr.pre (P' := iprop(owns (c : Thread nD τ) A4 fullShare X4 ∗ (owns (c : Thread nD τ) A3 fullShare X3 ∗ owns (c : Thread nD τ) A5 fullShare X5
        ∗ ringPre c A0 A1 A2 A6 hs hs hs))) ?_ ?_
  · iintro ⟨H3, H4, H5, H⟩
    isplitl [H4]; · iexact H4
    isplitl [H3]; · iexact H3
    isplitl [H5] <;> iassumption
  refine Tr.word c _ A4 _ _ _ X4 (devW (peerT 0 c)) e4 _ _ _ ?_
  refine Tr.assume c _ (chk2_dev _) _ _ _ ?_
  refine Tr.pre (P' := iprop(owns (c : Thread nD τ) A5 fullShare X5 ∗ (owns (c : Thread nD τ) A3 fullShare X3 ∗ owns (c : Thread nD τ) A4 fullShare X4
        ∗ ringPre c A0 A1 A2 A6 hs hs hs))) ?_ ?_
  · iintro ⟨H4, H3, H5, H⟩
    isplitl [H5]; · iexact H5
    isplitl [H3]; · iexact H3
    isplitl [H4] <;> iassumption
  refine Tr.word c _ A5 _ _ _ X5 (devW (peerT 1 c)) e5 _ _ _ ?_
  refine Tr.assume c _ (chk1_dev _) _ _ _ ?_
  have h := ring_run (F := F) K c (geoAt (posW c) (chk3_pos c)) (geo_ok c (chk3_pos c)) A0 A1 A2 A6 hs hs hs
  rw [← dir0_eq c (k0_dev3_lt _ (chk2_dev _)) (k0_dev1_lt _ (chk1_dev _)), ← dir1_eq c (k0_dev1_lt _ (chk1_dev _)) (k0_dev2_lt _ (chk2_dev _))] at h
  refine Tr.pre ?_ (Tr.post ?_ (Tr.keep iprop(owns (c : Thread nD τ) A3 fullShare X3 ∗ owns (c : Thread nD τ) A4 fullShare X4 ∗ owns (c : Thread nD τ) A5 fullShare X5) h))
  · iintro ⟨H5, H3, H4, H⟩
    isplitl [H]; · iexact H
    isplitl [H3]; · iexact H3
    isplitl [H4] <;> iassumption
  · intro _
    iintro ⟨H, H'⟩
    isplitl [H'] <;> iassumption

end Call

end Cert.KernelIdeal.Ring

end
-- ==== Proof.Ki.Fund.lean ====
module

public import proofs.«01_k».proof.Proof.Ki.Call

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The launch: which cells are open from the start, who holds which token, and how a device's share becomes what its body starts from. -/

/-! ### Rows -/

theorem rows_dsg (f : Fin 2 → ℕ → Fin 2 → sProp 𝕄) : (bigSep Finset.univ fun x : Fin 2 × Fin 15 × Fin 2 => f x.1 x.2.1.val x.2.2)
    = bigSep Finset.univ fun d : Fin 2 => bigSep Finset.univ fun g : Fin 2 => bigSep (Finset.range 15) fun s => f d s g := by
  rw [bigSep_univ_prod]
  refine bigSep_congr fun d _ => ?_
  rw [bigSep_univ_prod, BI.bigSep_univ_comm]
  refine bigSep_congr fun g _ => ?_
  exact bs_fin 15 fun s => f d s g

/-- One assertion per lane. -/
def lanes4 (f : Fin 2 → Fin 2 → sProp 𝕄) : sProp 𝕄 := bigSep Finset.univ fun d : Fin 2 => bigSep Finset.univ fun g : Fin 2 => f d g
theorem lanes4_zip (f f' : Fin 2 → Fin 2 → sProp 𝕄) : (iprop(lanes4 f ∗ lanes4 f') : sProp 𝕄) = lanes4 fun d g => iprop(f d g ∗ f' d g) := by
  unfold lanes4
  rw [← bs_zip]
  exact bigSep_congr fun d _ => (bs_zip _ _ _).symm
theorem lanes4_eq (f : Fin 2 → Fin 2 → sProp 𝕄) : lanes4 f = iprop((f 0 0 ∗ f 0 1) ∗ (f 1 0 ∗ f 1 1)) := by
  unfold lanes4
  rw [bs_two, bs_two, bs_two]
theorem lanes4_congr {f f' : Fin 2 → Fin 2 → sProp 𝕄} (h : ∀ d g, f d g = f' d g) : lanes4 f = lanes4 f' := by
  have e : f = f' := funext fun d => funext fun g => h d g
  rw [e]

theorem rows_k4 (f : Fin 4 → Fin 2 → ℕ → Fin 2 → sProp 𝕄) : (bigSep Finset.univ fun x : Fin 4 × Fin 2 × Fin 15 × Fin 2 => f x.1 x.2.1 x.2.2.1.val x.2.2.2)
    = iprop(lanes4 (fun d g => bigSep (Finset.range 15) fun s => f 0 d s g) ∗ lanes4 (fun d g => bigSep (Finset.range 15) fun s => f 1 d s g)
      ∗ lanes4 (fun d g => bigSep (Finset.range 15) fun s => f 2 d s g) ∗ lanes4 (fun d g => bigSep (Finset.range 15) fun s => f 3 d s g)) := by
  rw [bigSep_univ_prod, bs_four]
  unfold lanes4
  rw [← rows_dsg (f 0), ← rows_dsg (f 1), ← rows_dsg (f 2), ← rows_dsg (f 3)]
theorem rows_k2 (f : Fin 2 → Fin 2 → ℕ → Fin 2 → sProp 𝕄) : (bigSep Finset.univ fun x : Fin 2 × Fin 2 × Fin 15 × Fin 2 => f x.1 x.2.1 x.2.2.1.val x.2.2.2)
    = iprop(lanes4 (fun d g => bigSep (Finset.range 15) fun s => f 0 d s g) ∗ lanes4 (fun d g => bigSep (Finset.range 15) fun s => f 1 d s g)) := by
  rw [bigSep_univ_prod, bs_two]
  unfold lanes4
  rw [← rows_dsg (f 0), ← rows_dsg (f 1)]

/-! ### The payments, by kind -/

def evEquiv : (Fin 2 ⊕ (Fin 2 × Fin 15 × Fin 2)) ⊕ ((Fin 2 × Fin 12) ⊕ (Fin 2 × Fin 15 × Fin 2)) ≃ Ev where
  toFun
    | .inl (.inl d) => .bar d
    | .inl (.inr x) => .rs x.1 x.2.1 x.2.2
    | .inr (.inl x) => .cr x.1 x.2
    | .inr (.inr x) => .ag x.1 x.2.1 x.2.2
  invFun
    | .bar d => .inl (.inl d)
    | .rs d s g => .inl (.inr (d, s, g))
    | .cr d j => .inr (.inl (d, j))
    | .ag d s g => .inr (.inr (d, s, g))
  left_inv := by rintro ((_ | _) | (_ | _)) <;> rfl
  right_inv := by rintro (_ | _ | _ | _) <;> rfl

theorem rows_ev (f : Ev → sProp 𝕄) : bigSep Finset.univ f
    = iprop(((bigSep Finset.univ fun d : Fin 2 => f (.bar d)) ∗ bigSep Finset.univ fun x : Fin 2 × Fin 15 × Fin 2 => f (.rs x.1 x.2.1 x.2.2))
      ∗ ((bigSep Finset.univ fun x : Fin 2 × Fin 12 => f (.cr x.1 x.2)) ∗ bigSep Finset.univ fun x : Fin 2 × Fin 15 × Fin 2 => f (.ag x.1 x.2.1 x.2.2))) := by
  have h := BI.bigSep_univ_equiv evEquiv f
  rw [BI.bigSep_univ_sum, BI.bigSep_univ_sum, BI.bigSep_univ_sum] at h
  exact h

theorem rem_one : rem 1 = Finset.univ := by
  ext e
  simp only [rem, Finset.mem_filter, Finset.mem_univ, true_and, iff_true]
  exact tm_pos e

/-! ### Credits -/

theorem cred_many (g : GSem nD τ sig) (i a n : ℕ) : (cred (tallyAt g i n) : sProp 𝕄) ⊢ bigSep (Finset.Ico a (a + n)) fun _ => cred (tallyAt g i 1) := by
  induction n with
  | zero =>
    rw [Nat.add_zero, Finset.Ico_self, bigSep_empty]
    iintro -
    iempintro
  | succ n ih =>
    rw [show a + (n + 1) = a + n + 1 from rfl, bs_Ico_last (show a ≤ a + n by omega)]
    have h : (tallyAt g i (n + 1) : CellTallies nD τ sig ℕ) = tallyAt g i n + tallyAt g i 1 := by
      unfold tallyAt; rw [Finsupp.single_add, tallyOn_add]
    rw [h]
    refine BIBase.Entails.trans (cred_add _ _).1 ?_
    iintro ⟨H1, H2⟩
    ihave H1 := ih $$ H1
    isplitl [H2]
    · iexact H2
    · iexact H1

/-- The credits for a credit cell. -/
theorem cred_cr (c : Dev nD) (d : Fin 2) : (bigSep Finset.univ fun j : Fin 12 => cred (tallyAt (cell c (.reg (crS d))) (Ev.cr d j).tm (Ev.cr d j).amt) : sProp 𝕄)
    ⊢ bigSep (Finset.Ico 0 18) fun j => cred (tallyAt (cell c (.reg (crS d))) (crIx d j) 1) := by
  have h : (bigSep Finset.univ fun j : Fin 12 => cred (tallyAt (cell c (.reg (crS d))) (Ev.cr d j).tm (Ev.cr d j).amt) : sProp 𝕄)
      = bigSep (Finset.range 12) fun j => cred (tallyAt (cell c (.reg (crS d))) (crIx d j) (if j = 11 then 7 else 1)) := by
    rw [← bs_fin 12]
    refine bigSep_congr fun j _ => ?_
    have : (Ev.cr d j).tm = crIx d j.val := by
      simp only [Ev.tm, crIx]
      split_ifs <;> omega
    rw [this]; rfl
  have hs : Finset.Ico 0 18 = Finset.range 11 ∪ Finset.Ico 11 (11 + 7) := by decide
  have hd : Disjoint (Finset.range 11) (Finset.Ico 11 (11 + 7)) := by decide
  rw [h, Finset.range_eq_Ico, bs_Ico_last (show 0 ≤ 11 by omega), hs, show ∀ f : ℕ → sProp 𝕄, bigSep (Finset.range 11 ∪ Finset.Ico 11 (11 + 7)) f = iprop(bigSep (Finset.range 11) f ∗ bigSep (Finset.Ico 11 (11 + 7)) f) from fun f => bigSep_union hd]
  have h1 : (bigSep (Finset.Ico 0 11) fun j => cred (tallyAt (cell c (.reg (crS d))) (crIx d j) (if j = 11 then 7 else 1)) : sProp 𝕄)
      = bigSep (Finset.range 11) fun j => cred (tallyAt (cell c (.reg (crS d))) (crIx d j) 1) := by
    rw [Finset.range_eq_Ico]
    refine bigSep_congr fun j hj => ?_
    have := (Finset.mem_Ico.1 hj).2
    rw [if_neg (by omega)]
  have h2 : (bigSep (Finset.Ico 11 (11 + 7)) fun j => cred (tallyAt (cell c (.reg (crS d))) (crIx d j) 1) : sProp 𝕄)
      = bigSep (Finset.Ico 11 (11 + 7)) fun _ => cred (tallyAt (cell c (.reg (crS d))) (crIx d 11) 1) := by
    refine bigSep_congr fun j hj => ?_
    have := (Finset.mem_Ico.1 hj).1
    unfold crIx
    rw [if_neg (by omega), if_neg (by omega)]
  rw [h1, h2, if_pos rfl]
  iintro ⟨H1, H2⟩
  ihave H1 := (cred_many (F := F) _ _ 11 7) $$ H1
  isplitl [H2]
  · iexact H2
  · iexact H1

theorem tallyOn_apply' (g g' : GSem nD τ sig) (κ : ℕ →₀ ℕ) : (tallyOn g κ : CellTallies nD τ sig ℕ) g' = if g' = g then κ else 0 := by
  unfold tallyOn
  by_cases h : g' = g
  · subst h; rw [if_pos rfl, Pi.single_eq_same]
  · rw [if_neg h, Pi.single_eq_of_ne h]

theorem cred_fsum {T : Type} [DecidableEq T] (s : Finset T) (f : T → CellTallies nD τ sig ℕ) :
    (cred (∑ x ∈ s, f x) : sProp 𝕄) = bigSep s fun x => cred (f x) := by
  induction s using Finset.induction_on with
  | empty => rw [Finset.sum_empty, cred_zero, bigSep_empty]; rfl
  | insert a s ha ih =>
    rw [Finset.sum_insert ha, bigSep_insert ha, ← ih]
    exact BI.Entails.antisymm (cred_add _ _).1 (cred_add _ _).2

theorem owed_at (c : Dev nD) (sm : SemLoc sig) (i : ℕ) : ∑ d : Dev nD, oweF 1 d (cell c sm) i = ∑ e : Ev, tallyAt (cell c e.sem) e.tm e.amt (cell c sm) i := by
  have h : ∀ d : Dev nD, oweF 1 d (cell c sm) i = ∑ e : Ev, tallyAt (cell (e.dev d) e.sem) e.tm e.amt (cell c sm) i := by
    intro d
    unfold oweF
    rw [rem_one, Finset.sum_apply, Finsupp.finset_sum_apply]
  rw [Finset.sum_congr rfl fun d _ => h d, Finset.sum_comm]
  refine Finset.sum_congr rfl fun e _ => ?_
  rw [Finset.sum_eq_single (e.src c)]
  · rw [Ev.dev_src]
  · intro d _ hd
    rw [tallyAt_apply, if_neg]
    rintro ⟨hg, -⟩
    have hc : c = e.dev d := congrArg (fun g : GSem nD τ sig => g.1.1) hg
    exact hd (by rw [hc, Ev.src_dev])
  · intro h; exact absurd (Finset.mem_univ _) h

theorem creds (c : Dev nD) : (Pipeline.launchCred (oweF 1) c : sProp 𝕄) = bigSep Finset.univ fun e : Ev => cred (tallyAt (cell c e.sem) e.tm e.amt) := by
  unfold Pipeline.launchCred
  rw [← cred_fsum, ← cred_fsum]
  congr 1
  funext g
  ext i
  rw [Finset.sum_apply, Finset.sum_apply, Finsupp.finset_sum_apply, Finsupp.finset_sum_apply]
  by_cases hg : ∃ sm, g = cell c sm
  · obtain ⟨sm, rfl⟩ := hg
    rw [Finset.sum_eq_single sm]
    · rw [tallyOn_apply', if_pos rfl, Pipeline.launchCredit_owing]
      exact owed_at c sm i
    · intro sm' _ h
      rw [tallyOn_apply', if_neg]
      · rfl
      · intro e; exact h (congrArg (fun g : GSem nD τ sig => g.2) e).symm
    · intro h; exact absurd (Finset.mem_univ _) h
  · rw [Finset.sum_eq_zero, Finset.sum_eq_zero]
    · intro e _
      rw [tallyAt_apply, if_neg]
      rintro ⟨h, -⟩; exact hg ⟨_, h⟩
    · intro sm _
      rw [tallyOn_apply', if_neg]
      · rfl
      · intro h; exact hg ⟨_, h⟩

/-! ### Opening the scoped cells -/

/-- The counters the kernel call brings. -/
abbrev OIx := (Fin 4 × Fin 2 × Fin 15 × Fin 2) ⊕ Fin 2
def osem : OIx → SemLoc sig
  | .inl x => .dma (dm x.1 x.2.1 x.2.2.1.val x.2.2.2)
  | .inr d => .reg (crS d)

/-- The two kinds of cell a device pays itself. -/
def sendK (k : Fin 2) : Fin 4 := match k with | 0 => 0 | 1 => 2

variable (K : GSem nD τ sig → ℕ)

/-- A device's share at the launch, beside what everyone knows. -/
def share (c : Dev nD) : sProp 𝕄 :=
  iprop(atPos ER (cell c (.reg barS)) 0 ∅ 0 ∗ (bigSep Finset.univ fun k : OIx => openTok ER (cell c (osem k)))
    ∗ (bigSep Finset.univ fun e : Ev => dutyTok ER (cell (e.dev c) e.sem) 0 e.duty)
    ∗ (bigSep Finset.univ fun x : Fin 2 × Fin 2 × Fin 15 × Fin 2 => dutyTok ER (dcell c (sendK x.1) x.2.1 x.2.2.1.val x.2.2.2) 0 0))

/-- What a device's body starts from, beside its buffers. -/
def entry (c : Dev nD) : sProp 𝕄 :=
  iprop((bigSep (rem 1) fun e => dutyTok ER (cell (e.dev c) e.sem) 0 e.duty) ∗ barSt c
    ∗ lanes4 (laneB c) ∗ lanes4 (laneH c) ∗ (crSt c 0 0 ∗ crSt c 1 0))

theorem open_cells (c : Dev nD) : (iprop(Ctx K ∗ (bigSep Finset.univ fun k : OIx => openTok ER (cell c (osem k))) ∗ bigSep Finset.univ fun k : OIx => semVal (cell c (osem k)) 0) : sProp 𝕄)
    ⊢ iprop(|={Set.univ}=> ((bigSep Finset.univ fun k : OIx => atPos ER (cell c (osem k)) 0 ∅ 0) ∗ reachedAll c)) := by
  rw [← bs_zip]
  have h : ∀ k ∈ (Finset.univ : Finset OIx), (iprop(Ctx K ∗ (openTok ER (cell c (osem k)) ∗ semVal (cell c (osem k)) 0)) : sProp 𝕄)
      ⊢ iprop(|={Set.univ}=> (atPos ER (cell c (osem k)) 0 ∅ 0 ∗ reached ER (cell c (osem k)) 0)) := by
    intro k _
    iintro ⟨#HC, Ho, Hv⟩
    ihave HI : cellInv ER (Rd (F := F)) (K (cell c (osem k))) (cell c (osem k)) $$ []
    · match k with
      | .inl x => iapply (ctx_inv K c (.inl x)); iexact HC
      | .inr d => iapply (ctx_inv K c (.inr (crS d))); iexact HC
    iapply (Rounds.cell_open ER (Rd (F := F)) (g := cell c (osem k)) (Set.mem_univ (K (cell c (osem k)))))
    isplitl [HI]; · iexact HI
    isplitl [Ho]; · iexact Ho
    iexact Hv
  refine BIBase.Entails.trans (bigSep_with_persistent (R := Ctx K) (Φ := fun k : OIx => iprop(openTok ER (cell c (osem k)) ∗ semVal (cell c (osem k)) 0)) h) ?_
  refine BIBase.Entails.trans (bigSep_fupd _ _) ?_
  rw [bs_zip]
  have hr : (bigSep Finset.univ fun k : OIx => reached ER (cell c (osem k)) 0 : sProp 𝕄) = reachedAll c := by
    rw [BI.bigSep_univ_sum]; rfl
  rw [hr]

theorem lane_send (k : Fin 2) (c : Dev nD) : (iprop(lanes4 (fun d g => bigSep (Finset.range 15) fun s => dutyTok ER (dcell c (sendK k) d s g) 0 0)
      ∗ lanes4 (fun d g => bigSep (Finset.range 15) fun s => atPos ER (dcell c (sendK k) d s g) 0 ∅ 0)) : sProp 𝕄)
    = lanes4 fun d g => bigSep (Finset.range 15) (fre c (sendK k) d g) := by
  rw [lanes4_zip]
  refine lanes4_congr fun d g => ?_
  rw [← bs_zip]
  rfl
theorem lane_recv (k : Fin 4) (c : Dev nD) : (iprop(lanes4 (fun d g => bigSep (Finset.range 15) fun s => cred (tallyAt (dcell c k d s g) (tmK k d s g) NB))
      ∗ lanes4 (fun d g => bigSep (Finset.range 15) fun s => atPos ER (dcell c k d s g) 0 ∅ 0)) : sProp 𝕄)
    = lanes4 fun d g => bigSep (Finset.range 15) (pnd c k d g) := by
  rw [lanes4_zip]
  refine lanes4_congr fun d g => ?_
  rw [← bs_zip]
  rfl

theorem creds_lane1 (c : Dev nD) : (bigSep Finset.univ fun x : Fin 2 × Fin 15 × Fin 2 => cred (tallyAt (cell c (Ev.rs x.1 x.2.1 x.2.2).sem) (Ev.rs x.1 x.2.1 x.2.2).tm (Ev.rs x.1 x.2.1 x.2.2).amt) : sProp 𝕄)
    = lanes4 fun d g => bigSep (Finset.range 15) fun s => cred (tallyAt (dcell c 1 d s g) (tmK 1 d s g) NB) := by
  unfold lanes4
  rw [← rows_dsg fun d s g => cred (tallyAt (dcell c 1 d s g) (tmK 1 d s g) NB)]
  refine bigSep_congr fun x _ => ?_
  have h : Fin.ofNat 15 x.2.1.val = x.2.1 := Fin.ext (Nat.mod_eq_of_lt x.2.1.isLt)
  unfold tmK
  simp only [h]
  rfl
theorem creds_lane3 (c : Dev nD) : (bigSep Finset.univ fun x : Fin 2 × Fin 15 × Fin 2 => cred (tallyAt (cell c (Ev.ag x.1 x.2.1 x.2.2).sem) (Ev.ag x.1 x.2.1 x.2.2).tm (Ev.ag x.1 x.2.1 x.2.2).amt) : sProp 𝕄)
    = lanes4 fun d g => bigSep (Finset.range 15) fun s => cred (tallyAt (dcell c 3 d s g) (tmK 3 d s g) NB) := by
  unfold lanes4
  rw [← rows_dsg fun d s g => cred (tallyAt (dcell c 3 d s g) (tmK 3 d s g) NB)]
  refine bigSep_congr fun x _ => ?_
  have h : Fin.ofNat 15 x.2.1.val = x.2.1 := Fin.ext (Nat.mod_eq_of_lt x.2.1.isLt)
  unfold tmK
  simp only [h]
  rfl

theorem cr_start (c : Dev nD) (d : Fin 2) : (iprop(atPos ER (cell c (.reg (crS d))) 0 ∅ 0 ∗ bigSep (Finset.Ico 0 18) fun j => cred (tallyAt (cell c (.reg (crS d))) (crIx d j) 1)) : sProp 𝕄)
    ⊢ crSt c d 0 := by
  unfold crSt
  iintro ⟨Ha, Hc⟩
  isplitl [Ha]
  · iexists ∅
    isplitl [Ha]; · iexact Ha
    ipureintro
    exact ⟨Finset.empty_subset _, by decide⟩
  · iexact Hc

theorem creds_split (c : Dev nD) : (bigSep Finset.univ fun e : Ev => cred (tallyAt (cell c e.sem) e.tm e.amt) : sProp 𝕄)
    ⊢ iprop((cred (tallyAt (cell c (.reg barS)) 1 1) ∗ cred (tallyAt (cell c (.reg barS)) 2 1))
      ∗ lanes4 (fun d g => bigSep (Finset.range 15) fun s => cred (tallyAt (dcell c 1 d s g) (tmK 1 d s g) NB))
      ∗ lanes4 (fun d g => bigSep (Finset.range 15) fun s => cred (tallyAt (dcell c 3 d s g) (tmK 3 d s g) NB))
      ∗ (bigSep (Finset.Ico 0 18) fun j => cred (tallyAt (cell c (.reg (crS 0))) (crIx 0 j) 1))
      ∗ bigSep (Finset.Ico 0 18) fun j => cred (tallyAt (cell c (.reg (crS 1))) (crIx 1 j) 1)) := by
  rw [rows_ev, creds_lane1, creds_lane3, bigSep_univ_prod, bs_two, bs_two]
  have h0 := cred_cr (F := F) c 0
  have h1 := cred_cr (F := F) c 1
  iintro ⟨⟨Hb, H1⟩, ⟨⟨Hc0, Hc1⟩, H3⟩⟩
  ihave Hc0 := (show (bigSep Finset.univ fun b : Fin 12 => cred (tallyAt (cell c (Ev.cr 0 b).sem) (Ev.cr 0 b).tm (Ev.cr 0 b).amt) : sProp 𝕄) ⊢ _ from h0) $$ Hc0
  ihave Hc1 := (show (bigSep Finset.univ fun b : Fin 12 => cred (tallyAt (cell c (Ev.cr 1 b).sem) (Ev.cr 1 b).tm (Ev.cr 1 b).amt) : sProp 𝕄) ⊢ _ from h1) $$ Hc1
  isplitl [Hb]; · iexact Hb
  isplitl [H1]; · iexact H1
  isplitl [H3]; · iexact H3
  isplitl [Hc0]; · iexact Hc0
  iexact Hc1

/-- From the launch share to the body's start. -/
theorem open_share (c : Dev nD) : (iprop(Ctx K ∗ share c ∗ (bigSep Finset.univ fun e : Ev => cred (tallyAt (cell c e.sem) e.tm e.amt))
      ∗ bigSep Finset.univ fun k : OIx => semVal (cell c (osem k)) 0) : sProp 𝕄)
    ⊢ iprop(|={Set.univ}=> (Ctx1 K c ∗ entry c)) := by
  unfold share
  iintro ⟨#HC, ⟨Hbar, Hopen, Htok, Hsend⟩, Hcred, Hv⟩
  imod (open_cells K c) $$ [Hopen Hv] with ⟨Hat, #Hr⟩
  · isplitr; · iexact HC
    isplitl [Hopen]; · iexact Hopen
    iexact Hv
  imodintro
  ihave Hcred := (creds_split c) $$ Hcred
  icases Hcred with ⟨⟨Hb1, Hb2⟩, H1, H3, Hc0, Hc1⟩
  ihave Hat := (Entails.of_eq (show (bigSep Finset.univ (fun k : OIx => atPos ER (cell c (osem k)) 0 ∅ 0) : sProp 𝕄)
      = iprop((bigSep Finset.univ fun x : Fin 4 × Fin 2 × Fin 15 × Fin 2 => atPos ER (dcell c x.1 x.2.1 x.2.2.1.val x.2.2.2) 0 ∅ 0)
        ∗ bigSep Finset.univ fun d : Fin 2 => atPos ER (cell c (.reg (crS d))) 0 ∅ 0) from BI.bigSep_univ_sum _)) $$ Hat
  icases Hat with ⟨Hat, Hcr⟩
  ihave Hat := (Entails.of_eq (rows_k4 fun k d s g => (atPos ER (dcell c k d s g) 0 ∅ 0 : sProp 𝕄))) $$ Hat
  icases Hat with ⟨A0, A1, A2, A3⟩
  ihave Hsend := (Entails.of_eq (rows_k2 fun k d s g => (dutyTok ER (dcell c (sendK k) d s g) 0 0 : sProp 𝕄))) $$ Hsend
  icases Hsend with ⟨S0, S2⟩
  ihave F0 := (Entails.of_eq (lane_send (F := F) 0 c)) $$ [S0 A0]
  · isplitl [S0]; · iexact S0
    iexact A0
  ihave F2 := (Entails.of_eq (lane_send (F := F) 1 c)) $$ [S2 A2]
  · isplitl [S2]; · iexact S2
    iexact A2
  ihave P1 := (Entails.of_eq (lane_recv (F := F) 1 c)) $$ [H1 A1]
  · isplitl [H1]; · iexact H1
    iexact A1
  ihave P3 := (Entails.of_eq (lane_recv (F := F) 3 c)) $$ [H3 A3]
  · isplitl [H3]; · iexact H3
    iexact A3
  ihave B := (Entails.of_eq (lanes4_zip (F := F) _ _)) $$ [F0 P1]
  · isplitl [F0]; · iexact F0
    iexact P1
  ihave HH := (Entails.of_eq (lanes4_zip (F := F) _ _)) $$ [P3 F2]
  · isplitl [P3]; · iexact P3
    iexact F2
  ihave Hcr := (Entails.of_eq (bs_two fun d : Fin 2 => (atPos ER (cell c (.reg (crS d))) 0 ∅ 0 : sProp 𝕄))) $$ Hcr
  icases Hcr with ⟨R0, R1⟩
  isplitr
  · unfold Ctx1
    isplitr; · iexact HC
    iexact Hr
  unfold entry
  rw [rem_one]
  isplitl [Htok]; · iexact Htok
  isplitl [Hbar Hb1 Hb2]
  · unfold barSt
    isplitl [Hbar]; · iexact Hbar
    isplitl [Hb1]; · iexact Hb1
    iexact Hb2
  isplitl [B]; · iexact B
  isplitl [HH]; · iexact HH
  isplitl [R0 Hc0]
  · iapply (cr_start c 0)
    isplitl [R0]; · iexact R0
    iexact Hc0
  · iapply (cr_start c 1)
    isplitl [R1]; · iexact R1
    iexact Hc1

end Cert.KernelIdeal.Ring

end
-- ==== Proof.Ki.Enter.lean ====
module

public import proofs.«01_k».proof.Proof.Ki.Fund

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The body between the launch's resources and the ones the pipeline gives and takes. -/

section Enter
variable (K : GSem nD τ sig → ℕ) (c : Dev nD)
variable (A0 : Memref sig .tc .vmem S4096x256 .i8) (h0 : A0.IsWhole) (A1 : Memref sig .tc .vmem S256x2048 .i8) (h1 : A1.IsWhole)
  (A2 : Memref sig .tc .smem S1 .f32) (h2 : A2.IsWhole) (A3 : Memref sig .tc .smem S1 .i32) (h3 : A3.IsWhole)
  (A4 : Memref sig .tc .smem S1 .i32) (h4 : A4.IsWhole) (A5 : Memref sig .tc .smem S1 .i32) (h5 : A5.IsWhole)
  (A6 : Memref sig .tc .vmem S4096x2048 .f32) (h6 : A6.IsWhole)
  (X0 : S4096x256.Idx → Elt F .i8) (X1 : S256x2048.Idx → Elt F .i8) (X2 : S1.Idx → Elt F .f32)
  (X3 X4 X5 : S1.Idx → Elt F .i32)

/-! ### A buffer lent by half -/

theorem owns_lend {sp : Space} {S : Shape} {e : EltTy} (M : Memref sig .tc sp S e) (X : S.Idx → Elt F e) :
    (owns (c : Thread nD τ) M fullShare X : sProp 𝕄) ⊢ iprop(owns (c : Thread nD τ) M hs' X ∗ owns (c : Thread nD τ) M hs X) := by
  unfold owns
  iintro ⟨%f, %hf, H⟩
  ihave H2 := (pointsTo_share (PosShare.mem_left_op_right fullShare)).1 $$ H
  icases H2 with ⟨H1, H2⟩
  isplitl [H2]
  · iexists f
    isplitr; · ipureintro; exact hf
    iexact H2
  iexists f
  isplitr; · ipureintro; exact hf
  iexact H1

theorem owns_back {sp : Space} {S : Shape} {e : EltTy} (M : Memref sig .tc sp S e) (X : S.Idx → Elt F e) :
    (iprop(owns (c : Thread nD τ) M hs' X ∗ owns (c : Thread nD τ) M hs X) : sProp 𝕄) ⊢ owns (c : Thread nD τ) M fullShare X := by
  unfold owns
  iintro ⟨⟨%f, %hf, H2⟩, %f', -, H1⟩
  ihave %h := (pointsTo_agree) $$ [H1 H2]
  · isplitl [H1]; · iexact H1
    iexact H2
  iexists f
  isplitr; · ipureintro; exact hf
  iapply (pointsTo_share (PosShare.mem_left_op_right fullShare)).2
  isplitl [H1]
  · iapply (Entails.of_eq (pointsTo_congr (fun i hi => (h i (Finset.mem_inter.mpr ⟨hi, hi⟩)).1)))
    iexact H1
  · iexact H2

/-! ### The scratch buffers and the counters -/

def scratch : sProp 𝕄 :=
  iprop(whQ c (rxM 0) fullShare ∗ whQ c (rxM 1) fullShare ∗ whQ c (txM 0) fullShare ∗ whQ c (txM 1) fullShare
    ∗ whQ c (agM 0) fullShare ∗ whQ c (agM 1) fullShare)

theorem dirs_close : (iprop((dirZ c 0 ∗ dirZ c 1) ∗ (semVal (cell c (.reg (crS 0))) 0 ∗ semVal (cell c (.reg (crS 1))) 0)) : sProp 𝕄)
    ⊢ iprop(scratch c ∗ bigSep Finset.univ fun k : OIx => semVal (cell c (osem k)) 0) := by
  have e : (bigSep Finset.univ fun k : OIx => semVal (cell c (osem k)) 0 : sProp 𝕄)
      = iprop(((bigSep Finset.univ fun g : Fin 2 => bigSep Finset.univ fun k : Fin 4 => bigSep (Finset.range 15) (cls c k 0 g))
        ∗ (bigSep Finset.univ fun g : Fin 2 => bigSep Finset.univ fun k : Fin 4 => bigSep (Finset.range 15) (cls c k 1 g)))
        ∗ (semVal (cell c (.reg (crS 0))) 0 ∗ semVal (cell c (.reg (crS 1))) 0)) := by
    have e1 : (bigSep Finset.univ fun k : OIx => semVal (cell c (osem k)) 0 : sProp 𝕄)
        = iprop((bigSep Finset.univ fun x : Fin 4 × Fin 2 × Fin 15 × Fin 2 => semVal (dcell c x.1 x.2.1 x.2.2.1.val x.2.2.2) 0)
          ∗ bigSep Finset.univ fun d : Fin 2 => semVal (cell c (.reg (crS d))) 0) := BI.bigSep_univ_sum _
    rw [e1, bs_two, bigSep_univ_prod]
    have e2 : ∀ k : Fin 4, (bigSep Finset.univ fun b : Fin 2 × Fin 15 × Fin 2 => semVal (dcell c (k, b).1 (k, b).2.1 (k, b).2.2.1.val (k, b).2.2.2) 0 : sProp 𝕄)
        = bigSep Finset.univ fun d : Fin 2 => bigSep Finset.univ fun g : Fin 2 => bigSep (Finset.range 15) (cls c k d g) := fun k =>
      rows_dsg fun d s g => (semVal (dcell c k d s g) 0 : sProp 𝕄)
    rw [bigSep_congr fun k _ => e2 k, BI.bigSep_univ_comm, bs_two,
      BI.bigSep_univ_comm fun (k : Fin 4) (g : Fin 2) => bigSep (Finset.range 15) (cls c k 0 g),
      BI.bigSep_univ_comm fun (k : Fin 4) (g : Fin 2) => bigSep (Finset.range 15) (cls c k 1 g)]
  rw [e]
  unfold scratch dirZ
  iintro ⟨⟨⟨Z0, a0, r0, t0⟩, ⟨Z1, a1, r1, t1⟩⟩, S⟩
  isplitr [Z0 Z1 S]
  · isplitl [r0]; · iexact r0
    isplitl [r1]; · iexact r1
    isplitl [t0]; · iexact t0
    isplitl [t1]; · iexact t1
    isplitl [a0]; · iexact a0
    iexact a1
  isplitr [S]
  · isplitl [Z0]; · iexact Z0
    iexact Z1
  iexact S

/-- The scratch buffers and the launch share, as the body wants them. -/
theorem dirs_open : (iprop(scratch c ∗ entry c ∗ ∃ A, owes (c : Thread nD τ) (oweF 1 c) A) : sProp 𝕄)
    ⊢ iprop(paying 1 c ∗ barSt c ∗ (rxOwn c 0 ∗ rxOwn c 1) ∗ (dirB c 0 ∗ dirB c 1) ∗ lanesH c) := by
  unfold scratch entry paying dirB lanesH
  rw [lanes4_eq, lanes4_eq]
  iintro ⟨⟨r0, r1, t0, t1, a0, a1⟩, ⟨Ht, Hb, ⟨B0, B1⟩, ⟨⟨H0, H1⟩, ⟨H2, H3⟩⟩, ⟨c0, c1⟩⟩, HO⟩
  ihave r0 := (rx_open' c 0) $$ r0
  ihave r1 := (rx_open' c 1) $$ r1
  ihave t0 := (tx_open' c 0) $$ t0
  ihave t1 := (tx_open' c 1) $$ t1
  ihave a0 := (ag_open' c 0) $$ a0
  ihave a1 := (ag_open' c 1) $$ a1
  icases t0 with ⟨t00, t01⟩
  icases t1 with ⟨t10, t11⟩
  isplitl [HO Ht]
  · isplitl [HO]; · iexact HO
    iexact Ht
  isplitl [Hb]; · iexact Hb
  isplitl [r0 r1]
  · isplitl [r0]; · iexact r0
    iexact r1
  isplitr [H0 H1 H2 H3]
  · isplitl [B0 a0 t00 t01 c0]
    · isplitl [B0]; · iexact B0
      isplitl [a0]; · iexact a0
      isplitl [t00]; · iexact t00
      isplitl [t01]; · iexact t01
      iexact c0
    · isplitl [B1]; · iexact B1
      isplitl [a1]; · iexact a1
      isplitl [t10]; · iexact t10
      isplitl [t11]; · iexact t11
      iexact c1
  isplitl [H0]; · iexact H0
  isplitl [H1]; · iexact H1
  isplitl [H2]; · iexact H2
  iexact H3

/-! ### The body -/

/-- The seven windows' buffers, the result's in what `R` says of it. -/
def wins (R : sProp 𝕄) : sProp 𝕄 :=
  iprop(owns (c : Thread nD τ) A0 fullShare X0 ∗ owns (c : Thread nD τ) A1 fullShare X1 ∗ owns (c : Thread nD τ) A2 fullShare X2
    ∗ owns (c : Thread nD τ) A3 fullShare X3 ∗ owns (c : Thread nD τ) A4 fullShare X4 ∗ owns (c : Thread nD τ) A5 fullShare X5
    ∗ R)

theorem out_open : (iprop(∃ X, owns (c : Thread nD τ) A6 fullShare X) : sProp 𝕄) ⊢ whQ c A6 fullShare := by
  unfold owns whQ holdM
  iintro ⟨%X, %f, -, H⟩
  iexists f; iexact H
theorem body_enter (x0 : X0 = Vals.x c) (x1 : X1 = Vals.w c) (x2 : X2 = fun _ => Vals.sc c)
    (e3 : ∀ i, X3 i = posW c) (e4 : ∀ i, X4 i = devW (peerT 0 c)) (e5 : ∀ i, X5 i = devW (peerT 1 c)) :
    Tr c (Ctx1 K c) iprop(wins c A0 A1 A2 A3 A4 A5 X0 X1 X2 X3 X4 X5 iprop(∃ X, owns (c : Thread nD τ) A6 fullShare X) ∗ scratch c ∗ entry c ∗ ∃ A, owes (c : Thread nD τ) (oweF 1 c) A)
      (cc0_body A0 h0 A1 h1 A2 h2 A3 h3 A4 h4 A5 h5 A6 h6 (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10 cc0_scratch11 cc0_scratch12
        cc0_scratch13 cc0_scratch14 cc0_scratch15 : Pr F PUnit)
      fun _ => iprop(wins c A0 A1 A2 A3 A4 A5 X0 X1 X2 X3 X4 X5 (owns (c : Thread nD τ) A6 fullShare (outT c)) ∗ scratch c ∗ (bigSep Finset.univ fun k : OIx => semVal (cell c (osem k)) 0)
        ∗ semVal (cell c (.reg barS)) 0 ∗ ∃ A, owes (c : Thread nD τ) 0 A) := by
  subst x0 x1 x2
  rw [body_eq]
  have h := body_run K c A0 h0 A1 h1 A2 h2 A3 h3 A4 h4 A5 h5 A6 h6 X3 X4 X5 e3 e4 e5
  refine Tr.pre ?_ (Tr.post ?_ (Tr.keep iprop(owns (c : Thread nD τ) A0 hs' (Vals.x c) ∗ owns (c : Thread nD τ) A1 hs' (Vals.w c) ∗ owns (c : Thread nD τ) A2 hs' (fun _ => Vals.sc c)) h))
  · unfold wins ringPre
    iintro ⟨⟨W0, W1, W2, W3, W4, W5, W6⟩, H⟩
    ihave W0 := (owns_lend c A0 (Vals.x c)) $$ W0
    ihave W1 := (owns_lend c A1 (Vals.w c)) $$ W1
    ihave W2 := (owns_lend c A2 (fun _ => Vals.sc c)) $$ W2
    icases W0 with ⟨W0, L0⟩
    icases W1 with ⟨W1, L1⟩
    icases W2 with ⟨W2, L2⟩
    ihave W6 := (out_open c A6) $$ W6
    ihave W6 := (out_start c A6) $$ W6
    ihave H := (dirs_open c) $$ H
    icases H with ⟨Hp, Hb, Hr, Hd, Hl⟩
    isplitr [W0 W1 W2]
    · isplitl [W3]; · iexact W3
      isplitl [W4]; · iexact W4
      isplitl [W5]; · iexact W5
      isplitl [Hp]; · iexact Hp
      isplitl [Hb]; · iexact Hb
      isplitl [Hr]; · iexact Hr
      isplitl [Hd]; · iexact Hd
      isplitl [Hl]; · iexact Hl
      isplitl [L0]; · iexact L0
      isplitl [L1]; · iexact L1
      isplitl [L2]; · iexact L2
      iexact W6
    isplitl [W0]; · iexact W0
    isplitl [W1]; · iexact W1
    iexact W2
  · intro _
    unfold wins ringPost
    iintro ⟨⟨⟨W3, W4, W5⟩, Hz, ⟨Hb, Hc0, Hc1⟩, ⟨L0, L1, L2, W6⟩, HO⟩, W0, W1, W2⟩
    ihave W0 := (owns_back c A0 (Vals.x c)) $$ [W0 L0]
    · isplitl [W0] <;> iassumption
    ihave W1 := (owns_back c A1 (Vals.w c)) $$ [W1 L1]
    · isplitl [W1] <;> iassumption
    ihave W2 := (owns_back c A2 (fun _ => Vals.sc c)) $$ [W2 L2]
    · isplitl [W2] <;> iassumption
    ihave W6 := (out_done c A6) $$ W6
    ihave Hz := (dirs_close c) $$ [Hz Hc0 Hc1]
    · isplitl [Hz]; · iexact Hz
      isplitl [Hc0]; · iexact Hc0
      iexact Hc1
    icases Hz with ⟨Hs, Hk⟩
    isplitr [Hs Hk Hb HO]
    · isplitl [W0]; · iexact W0
      isplitl [W1]; · iexact W1
      isplitl [W2]; · iexact W2
      isplitl [W3]; · iexact W3
      isplitl [W4]; · iexact W4
      isplitl [W5]; · iexact W5
      iexact W6
    isplitl [Hs]; · iexact Hs
    isplitl [Hk]; · iexact Hk
    isplitl [Hb]; · iexact Hb
    iexact HO

end Enter

end Cert.KernelIdeal.Ring

end
-- ==== Proof.Ki.Words.lean ====
module

public import proofs.«01_k».proof.Proof.Ki.Place
public import proofs.«01_k».proof.Proof.Gen.KernelIdeal.Regions

@[expose] public section

noncomputable section

namespace Cert.KernelIdeal.Ring

open Idealize.ShloMosaic Idealize.ShloMosaic.TcCoe
open Idealize.ShloMosaic.StableHlo
open Cert.KernelIdeal Cert.KernelIdeal.Gen

variable {F : FTy → Type} [FloatOps F]

/-! The three words a device's kernel loads, as the host stretches leave them. -/

variable (m : (ℓ : Loc nD τ sig) → Buf (Elt F) ℓ)

/-- A scalar word. -/
abbrev Sc : Type := IVec S_ 32
/-- Where the host looks in a table of the ring: a negative place counts from the end. -/
def wrap (x : Sc) : Sc := select (cmpi .slt x (constantI S_ 32 0#32)) (addi x (constantI S_ 32 16#32)) x
/-- A table's entry. -/
def look (t : Fin 16 → BitVec 32) (x : Sc) : Sc := fun i =>
  Host.dynamicSlice S1 (fun i : S16.Idx => t (S16.rowMajor i)) (fun _ => (wrap x (Shape.Idx.first h_S_)).toInt) sliceFits_S16_S1 (Shape.reshapeEquiv shapeCasts_S1_S_ i)
/-- The remainder that takes its divisor's sign. -/
def remS (x n : Sc) : Sc :=
  let n' := select (cmpi .eq n (constantI S_ 32 0#32)) (constantI S_ 32 1#32) n
  let r := Host.remsi x n'
  select (andi (cmpi .ne (cmpi .slt r (constantI S_ 32 0#32)) (cmpi .slt n' (constantI S_ 32 0#32))) (cmpi .ne r (constantI S_ 32 0#32))) (addi r n') r

/-- A device's position, as the host computes it, -/
def hPos (c : Dev nD) : Sc :=
  look lit0 (Host.remui (Host.divui (constantI S_ 32 (Dev.word c)) (constantI S_ 32 1#32)) (constantI S_ 32 16#32))
/-- the device after it in the ring, -/
def hRight (c : Dev nD) : Sc := look lit1 (remS (addi (hPos c) (constantI S_ 32 1#32)) (constantI S_ 32 16#32))
/-- and the device before it. -/
def hLeft (c : Dev nD) : Sc := look lit1 (remS (subi (hPos c) (constantI S_ 32 1#32)) (constantI S_ 32 16#32))

theorem look_of (t : Fin 16 → BitVec 32) (x : Sc) (X : IVec S16 32) (idx : Fin 1 → ℤ) (hX : X = fun i => t (S16.rowMajor i))
    (hk : idx 0 = (wrap x (Shape.Idx.first h_S_)).toInt) (h : S1.ShapeCasts S_) :
    (fun i => shapeCast S_ (Host.dynamicSlice S1 X idx sliceFits_S16_S1) h i : Sc) = look t x := by
  subst hX
  have : idx = fun _ => (wrap x (Shape.Idx.first h_S_)).toInt := funext fun k => by rw [Subsingleton.elim k 0]; exact hk
  rw [this]; rfl

section Stretches
variable (V : Valuation τ sig (Elt F))

theorem ops0_v9 (c : Dev nD) : StableHlo.after (hostOps0 c) V main_v9 = hPos c := by
  unfold hostOps0; after_results_simp
  refine look_of _ _ _ _ rfl ?_ _
  rfl
theorem ops0_v10 (c : Dev nD) : StableHlo.after (hostOps0 c) V main_v10 = addi (hPos c) (constantI S_ 32 1#32) := by
  unfold hostOps0; after_results_simp
  refine congrArg (fun x : Sc => addi x (constantI S_ 32 1#32)) (look_of _ _ _ _ rfl ?_ _)
  rfl
theorem ops0_c6 (c : Dev nD) : StableHlo.after (hostOps0 c) V main_c_6 = constantI S_ 32 16#32 := by
  unfold hostOps0; after_results_simp
theorem ops0_c0 (c : Dev nD) : StableHlo.after (hostOps0 c) V main_c_0 = fun i => lit1 (S16.rowMajor i) := by
  unfold hostOps0; after_results_simp; rfl
theorem ops1_v11 : StableHlo.after hostOps0_1 V main_v11 = remS (V main_v10) (V main_c_6) := by
  unfold hostOps0_1; after_results_simp
  simp only [TRef.ofBuf_toBuf]; rfl
theorem ops2_v16 (h : V main_c_0 = fun i => lit1 (S16.rowMajor i)) : StableHlo.after hostOps0_2 V main_v16 = look lit1 (V main_v11) := by
  unfold hostOps0_2; after_results_simp
  refine look_of _ _ _ _ h ?_ _
  rfl
theorem ops2_v17 : StableHlo.after hostOps0_2 V main_v17 = subi (V main_v9 : Sc) (constantI S_ 32 1#32) := by
  unfold hostOps0_2; after_results_simp
theorem ops2_c10 : StableHlo.after hostOps0_2 V main_c_10 = constantI S_ 32 16#32 := by
  unfold hostOps0_2; after_results_simp
theorem ops3_v18 : StableHlo.after hostOps0_3 V main_v18 = remS (V main_v17) (V main_c_10) := by
  unfold hostOps0_3; after_results_simp
  simp only [TRef.ofBuf_toBuf]; rfl
theorem ops4_v24 : StableHlo.after hostOps0_4 V main_v24 = fun i => (V main_v9 : Sc) (Shape.reshapeEquiv shapeCasts_S_S1 i) := by
  unfold hostOps0_4; after_results_simp; rfl
theorem ops4_v25 : StableHlo.after hostOps0_4 V main_v25 = fun i => (V main_v16 : Sc) (Shape.reshapeEquiv shapeCasts_S_S1 i) := by
  unfold hostOps0_4; after_results_simp; rfl
theorem ops4_v26 (h : V main_c_0 = fun i => lit1 (S16.rowMajor i)) :
    StableHlo.after hostOps0_4 V main_v26 = fun i => look lit1 (V main_v18) (Shape.reshapeEquiv shapeCasts_S_S1 i) := by
  unfold hostOps0_4; after_results_simp
  refine congrArg (fun (x : Sc) (i : S1.Idx) => x (Shape.reshapeEquiv shapeCasts_S_S1 i)) (look_of _ _ _ _ h ?_ _)
  rfl
end Stretches

theorem idx_S (i : S_.Idx) : i = Shape.Idx.first h_S_ := funext fun k => k.elim0
theorem hPos_eq (c : Dev nD) (i : S_.Idx) : hPos c i = posW c := by
  rw [idx_S i]; revert c; decide +kernel
theorem hRight_eq (c : Dev nD) (i : S_.Idx) : hRight c i = devW (peerT 0 c) := by
  rw [idx_S i]; revert c; decide +kernel
theorem hLeft_eq (c : Dev nD) (i : S_.Idx) : hLeft c i = devW (peerT 1 c) := by
  rw [idx_S i]; revert c; decide +kernel

theorem word_pos (c : Dev nD) (i : S1.Idx) : (V5 m c main_v24 : IVec S1 32) i = posW c := by
  have h : V4 m c main_v9 = hPos c :=
    (V4_of m c main_v9 (by decide)).trans <| (V3_of m c main_v9 (by decide)).trans <| (V2_of m c main_v9 (by decide)).trans (ops0_v9 _ c)
  rw [show V5 m c main_v24 = _ from ops4_v24 _, h]; exact hPos_eq c _
theorem word_right (c : Dev nD) (i : S1.Idx) : (V5 m c main_v25 : IVec S1 32) i = devW (peerT 0 c) := by
  have h0 : V2 m c main_c_0 = fun i => lit1 (S16.rowMajor i) := (V2_of m c main_c_0 (by decide)).trans (ops0_c0 _ c)
  have h1 : V2 m c main_v11 = remS (addi (hPos c) (constantI S_ 32 1#32)) (constantI S_ 32 16#32) := by
    rw [show V2 m c main_v11 = _ from ops1_v11 _, show V1 m c main_v10 = _ from ops0_v10 _ c, show V1 m c main_c_6 = _ from ops0_c6 _ c]
  have h : V4 m c main_v16 = hRight c := by
    rw [V4_of m c main_v16 (by decide), show V3 m c main_v16 = _ from ops2_v16 _ h0, h1]; rfl
  rw [show V5 m c main_v25 = _ from ops4_v25 _, h]; exact hRight_eq c _
theorem word_left (c : Dev nD) (i : S1.Idx) : (V5 m c main_v26 : IVec S1 32) i = devW (peerT 1 c) := by
  have h0 : V4 m c main_c_0 = fun i => lit1 (S16.rowMajor i) :=
    (V4_of m c main_c_0 (by decide)).trans <| (V3_of m c main_c_0 (by decide)).trans <| (V2_of m c main_c_0 (by decide)).trans (ops0_c0 _ c)
  have h9 : V2 m c main_v9 = hPos c := (V2_of m c main_v9 (by decide)).trans (ops0_v9 _ c)
  have h : V4 m c main_v18 = remS (subi (hPos c) (constantI S_ 32 1#32)) (constantI S_ 32 16#32) := by
    rw [show V4 m c main_v18 = _ from ops3_v18 _, show V3 m c main_v17 = _ from ops2_v17 _, show V3 m c main_c_10 = _ from ops2_c10 _, h9]
  rw [show V5 m c main_v26 = _ from ops4_v26 _ h0, h]; exact hLeft_eq c _

end Cert.KernelIdeal.Ring

end
-- ==== Proof.Ki.Launch.lean ====
module

public import proofs.«01_k».proof.Proof.Ki.Enter
public import proofs.«01_k».proof.Proof.Ki.Words
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The kernel call: what the pipeline finds and leaves, and the record of the call. -/

open Idealize.ShloMosaic.Pipeline (Dat BodyObligation)

variable (m : (ℓ : Loc nD τ sig) → Buf (Elt F) ℓ)

/-- The call finds the given slices of the operands, and the given scale. -/
structure Fits : Prop where
  x : ∀ c, V5 m c main_arg0 = Vals.x c
  w : ∀ c, V5 m c main_arg1 = Vals.w c
  sc : ∀ c, V5 m c main_v27 = fun _ => Vals.sc c

/-- What enters the body beside its buffers. -/
def Xk (c : Dev nD) : sProp 𝕄 := iprop(∃ K, Ctx1 K c ∗ entry c)
/-- What it leaves. -/
def Yk (c : Dev nD) : sProp 𝕄 := semVal (cell c (.reg barS)) 0
abbrev prng (c : Dev nD) : sProp 𝕄 := iprop(∃ r, prngReg c r)

def dat (c : Dev nD) : Dat τ (Elt F) ℕ ℕ UU ℕ cfg0 c where
  A w := V5 m c (Proc.devRef .tc (Pipeline.arrRef spec0 w))
  after w t := Function.update (β := fun w : Fin 7 => (cfg0.win w).block.Idx → Elt F (cfg0.win w).elt)
    (fun w => (cfg0.win w).fill (cfg0.grid.coords t) (Dat.unnamed w t) (((cfg0.win w).blk t).view.read (Elt F) (V5 m c (Proc.devRef .tc (Pipeline.arrRef spec0 w)))))
    6 (outT c) w
  Φ t := if t.val = 0 then iprop(Xk c ∗ scratch c ∗ prng c)
    else iprop(Yk c ∗ (bigSep Finset.univ fun k : OIx => semVal (cell c (osem k)) 0) ∗ scratch c ∗ prng c)
  q _ := fullShare
  owed t := if t.val = 0 then oweF 1 c else 0

def pdats : (p : Fin 1) → (c : Dev nD) → Dat τ (Elt F) ℕ ℕ UU ℕ (Pipeline.pin (pcfgs (F := F)) adm p) c := fun p c => dat m c

/-- No window is left at some contents. -/
abbrev fgt (_ : Fin 1) (_ : Fin 7) : Bool := false

theorem owes_in (c : Dev nD) (t : Fin (cfg0.N + 1)) (O : CellTallies nD τ sig ℕ) (h : (dat m c).owed t = O) :
    (iprop(∃ W, owes (c : Thread nD τ) O W) : sProp 𝕄) ⊢ (dat m c).owesAt 0 t := by
  unfold Dat.owesAt Pipeline.owesWithin Dat.bound
  rw [h]
  iintro ⟨%W, H⟩
  iexists W
  isplitr
  · ipureintro; exact fun _ _ => Or.inl trivial
  · iexact H
theorem owes_out (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin
  rw [h]
  iintro ⟨%W, -, H⟩
  iexists W
  iexact H

theorem scratch_eq (c : Dev nD) : (Pipeline.scopedRest (Ix := ℕ) (Name := ℕ) (U := UU) (Lvl := ℕ) (Val := Elt F) spec0 c : sProp 𝕄) = scratch c := by
  rw [scopedRest0_eq]
  have h : ∀ b : Ref sig .tc, (Memref.whole b).view.set = Finset.univ := fun b => View.set_whole b
  unfold scratch whQ holdM rxM txM agM
  simp only [h]

theorem before_0 (c : Dev nD) (d) : (dat m c).before 0 t0_0 d = (dat m c).after 0 t0_0 := by
  unfold Dat.before; rw [if_pos (fetch0_0 _)]; rfl
theorem before_1 (c : Dev nD) (d) : (dat m c).before 1 t0_0 d = (dat m c).after 1 t0_0 := by
  unfold Dat.before; rw [if_pos (fetch0_1 _)]; rfl
theorem before_2 (c : Dev nD) (d) : (dat m c).before 2 t0_0 d = (dat m c).after 2 t0_0 := by
  unfold Dat.before; rw [if_pos (fetch0_2 _)]; rfl
theorem before_3 (c : Dev nD) (d) : (dat m c).before 3 t0_0 d = (dat m c).after 3 t0_0 := by
  unfold Dat.before; rw [if_pos (fetch0_3 _)]; rfl
theorem before_4 (c : Dev nD) (d) : (dat m c).before 4 t0_0 d = (dat m c).after 4 t0_0 := by
  unfold Dat.before; rw [if_pos (fetch0_4 _)]; rfl
theorem before_5 (c : Dev nD) (d) : (dat m c).before 5 t0_0 d = (dat m c).after 5 t0_0 := by
  unfold Dat.before; rw [if_pos (fetch0_5 _)]; rfl

theorem after_6 (c : Dev nD) : (dat m c).after 6 t0_0 = outT c := rfl

/-! ### The operands -/

theorem idx_0 : ∀ a : Fin 2, (cfg0.win 0).index t0_0 a = 0 := by decide +kernel
theorem idx_1 : ∀ a : Fin 2, (cfg0.win 1).index t0_0 a = 0 := by decide +kernel

theorem whole_read_0 (A : S4096x256.Idx → Elt F .i8) (d : S4096x256.Idx → Elt F .i8) :
    (cfg0.win 0).fill (cfg0.grid.coords t0_0) d (((cfg0.win 0).blk t0_0).view.read (Elt F) A) = A := by
  funext i
  show ((cfg0.win 0).blk t0_0).view.read (Elt F) A i = A i
  rw [View.read_apply]
  refine eq_of_heq ((cast_heq _ _).trans (heq_of_eq (congrArg A ?_)))
  funext a; apply Fin.ext
  exact Pipeline.Window.rect_emb_val_of_index_zero (cfg0.win 0) t0_0 a (idx_0 a) i
theorem whole_read_1 (A : S256x2048.Idx → Elt F .i8) (d : S256x2048.Idx → Elt F .i8) :
    (cfg0.win 1).fill (cfg0.grid.coords t0_0) d (((cfg0.win 1).blk t0_0).view.read (Elt F) A) = A := by
  funext i
  show ((cfg0.win 1).blk t0_0).view.read (Elt F) A i = A i
  rw [View.read_apply]
  refine eq_of_heq ((cast_heq _ _).trans (heq_of_eq (congrArg A ?_)))
  funext a; apply Fin.ext
  exact Pipeline.Window.rect_emb_val_of_index_zero (cfg0.win 1) t0_0 a (idx_1 a) i
theorem whole_read_2 (A : S1.Idx → Elt F .f32) (x : Elt F .f32) (h : ∀ i, A i = x) (d : S1.Idx → Elt F .f32) :
    (cfg0.win 2).fill (cfg0.grid.coords t0_0) d (((cfg0.win 2).blk t0_0).view.read (Elt F) A) = fun _ => x := by
  funext i
  show ((cfg0.win 2).blk t0_0).view.read (Elt F) A i = x
  rw [View.read_apply]
  exact eq_of_heq ((cast_heq _ _).trans (heq_of_eq (h _)))

section Operands
variable {m} (hm : Fits m)
include hm
theorem staged_0 (c : Dev nD) : ((dat m c).after 0 t0_0 : S4096x256.Idx → Elt F .i8) = Vals.x c :=
  (whole_read_0 (V5 m c main_arg0) (Dat.unnamed (Val := Elt F) (cfg := cfg0) 0 t0_0)).trans (hm.x c)
theorem staged_1 (c : Dev nD) : ((dat m c).after 1 t0_0 : S256x2048.Idx → Elt F .i8) = Vals.w c :=
  (whole_read_1 (V5 m c main_arg1) (Dat.unnamed (Val := Elt F) (cfg := cfg0) 1 t0_0)).trans (hm.w c)
theorem staged_2 (c : Dev nD) : ((dat m c).after 2 t0_0 : S1.Idx → Elt F .f32) = fun _ => Vals.sc c :=
  whole_read_2 (V5 m c main_v27) _ (congrFun (hm.sc c)) (Dat.unnamed (Val := Elt F) (cfg := cfg0) 2 t0_0)
end Operands

/-! ### The three words -/

theorem word_read_3 (A : S1.Idx → Elt F .i32) (x : Elt F .i32) (h : ∀ i, A i = x) (d : S1.Idx → Elt F .i32) (i : S1.Idx) :
    (cfg0.win 3).fill (cfg0.grid.coords t0_0) d (((cfg0.win 3).blk t0_0).view.read (Elt F) A) i = x := by
  show ((cfg0.win 3).blk t0_0).view.read (Elt F) A i = x
  rw [View.read_apply]
  exact eq_of_heq ((cast_heq _ _).trans (heq_of_eq (h _)))

theorem staged_3 (c : Dev nD) (i : S1.Idx) : ((dat m c).after 3 t0_0 : S1.Idx → Elt F .i32) i = posW c :=
  word_read_3 (V5 m c main_v24) _ (word_pos m c) (Dat.unnamed (Val := Elt F) (cfg := cfg0) 3 t0_0) i

theorem word_read_4 (A : S1.Idx → Elt F .i32) (x : Elt F .i32) (h : ∀ i, A i = x) (d : S1.Idx → Elt F .i32) (i : S1.Idx) :
    (cfg0.win 4).fill (cfg0.grid.coords t0_0) d (((cfg0.win 4).blk t0_0).view.read (Elt F) A) i = x := by
  show ((cfg0.win 4).blk t0_0).view.read (Elt F) A i = x
  rw [View.read_apply]
  exact eq_of_heq ((cast_heq _ _).trans (heq_of_eq (h _)))

theorem staged_4 (c : Dev nD) (i : S1.Idx) : ((dat m c).after 4 t0_0 : S1.Idx → Elt F .i32) i = devW (peerT 0 c) :=
  word_read_4 (V5 m c main_v25) _ (word_right m c) (Dat.unnamed (Val := Elt F) (cfg := cfg0) 4 t0_0) i

theorem word_read_5 (A : S1.Idx → Elt F .i32) (x : Elt F .i32) (h : ∀ i, A i = x) (d : S1.Idx → Elt F .i32) (i : S1.Idx) :
    (cfg0.win 5).fill (cfg0.grid.coords t0_0) d (((cfg0.win 5).blk t0_0).view.read (Elt F) A) i = x := by
  show ((cfg0.win 5).blk t0_0).view.read (Elt F) A i = x
  rw [View.read_apply]
  exact eq_of_heq ((cast_heq _ _).trans (heq_of_eq (h _)))

theorem staged_5 (c : Dev nD) (i : S1.Idx) : ((dat m c).after 5 t0_0 : S1.Idx → Elt F .i32) i = devW (peerT 1 c) :=
  word_read_5 (V5 m c main_v26) _ (word_left m c) (Dat.unnamed (Val := Elt F) (cfg := cfg0) 5 t0_0) i

/-! ### The body at its one point -/

abbrev pts (c : Dev nD) (R : sProp 𝕄) : sProp 𝕄 :=
  wins c (st0_0 t0_0) (st0_1 t0_0) (st0_2 t0_0) (st0_3 t0_0) (st0_4 t0_0) (st0_5 t0_0)
    ((dat m c).after 0 t0_0) ((dat m c).after 1 t0_0) ((dat m c).after 2 t0_0) ((dat m c).after 3 t0_0) ((dat m c).after 4 t0_0) ((dat m c).after 5 t0_0) R

def preB (c : Dev nD) : sProp 𝕄 := iprop((Xk c ∗ scratch c ∗ prng c) ∗ (∃ A, owes (c : Thread nD τ) (oweF 1 c) A) ∗ pts m c iprop(∃ X, owns (c : Thread nD τ) (st0_6 t0_0) fullShare X))
def postB (c : Dev nD) : sProp 𝕄 := iprop((Yk c ∗ (bigSep Finset.univ fun k : OIx => semVal (cell c (osem k)) 0) ∗ scratch c ∗ prng c) ∗ (∃ A, owes (c : Thread nD τ) 0 A) ∗ pts m c (owns (c : Thread nD τ) (st0_6 t0_0) fullShare (outT c)))

section Body
variable {m} (hm : Fits m)
include hm

theorem body_at (c : Dev nD) : preB m c ⊢ wp frame (wpE (defs₀ (F := F)) 𝒱₀ (c : Thread nD τ) none) Set.univ (bodyAt0 t0_0 : Pr F PUnit) fun _ => postB m c := by
  unfold preB Xk
  iintro ⟨⟨⟨%K, #HC, HE⟩, HS, HP⟩, HO, HW⟩
  have h := (body_enter K c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0)
    (st0_6 t0_0) (hstage0_6 0) ((dat m c).after 0 t0_0) ((dat m c).after 1 t0_0) ((dat m c).after 2 t0_0) ((dat m c).after 3 t0_0) ((dat m c).after 4 t0_0) ((dat m c).after 5 t0_0)
    (staged_0 hm c) (staged_1 hm c) (staged_2 hm c) (staged_3 m c) (staged_4 m c) (staged_5 m c)).keep (prng c)
  have h' := h.post (Q' := fun _ => postB m c) (fun _ => by
    unfold postB Yk
    iintro ⟨⟨HW, HS, Hv, Hb, HO⟩, HP⟩
    isplitl [HS Hv Hb HP]
    · isplitl [Hb]; · iexact Hb
      isplitl [Hv]; · iexact Hv
      isplitl [HS] <;> iassumption
    isplitl [HO] <;> iassumption)
  unfold Tr at h'
  iapply h'
  isplitr; · iexact HC
  isplitr [HP]
  · isplitl [HW]; · iexact HW
    isplitl [HS]; · iexact HS
    isplitl [HE]; · iexact HE
    iexact HO
  · iexact HP

omit hm in
theorem body_call (t : Fin cfg0.N) : (defs₀ (F := F)) .tc cfg0.body (cfg0.bodyArgs t (cfg0.slots t)) = bodyAt0 t := rfl

theorem body_wp (c : Dev nD) {α : Type} (e : α = PUnit) (q : Pr F α) (hq : HEq q (bodyAt0 t0_0 : Pr F PUnit)) {A' B' : sProp 𝕄} (h1 : A' ⊢ preB m c) (h2 : postB m c ⊢ B') :
    A' ⊢ wp frame (wpE (defs₀ (F := F)) 𝒱₀ (c : Thread nD τ) none) Set.univ q fun _ => B' := by
  subst e
  cases hq
  exact BIBase.Entails.trans h1 (BIBase.Entails.trans (body_at hm c) (wp_mono frame (wpE (defs₀ (F := F)) 𝒱₀ (c : Thread nD τ) none) Set.univ fun _ => h2))

theorem body0 (c : Dev nD) : BodyObligation (dat m c) (defs₀ (F := F)) 𝒱₀ 0 Set.univ := fun t => by
  obtain rfl := fin_N0 t
  rw [bigSep_W0, bigSep_W0]
  refine body_wp hm c ?e _ ?hq ?h1 ?h2
  case e => rfl
  case hq => exact heq_of_eq (body_call t0_0)
  case h1 =>
    unfold preB
    dsimp only
    simp only [before_0 m c, before_1 m c, before_2 m c, before_3 m c, before_4 m c, before_5 m c]
    unfold pts wins
    show iprop((Xk c ∗ scratch c ∗ prng c) ∗ _) ⊢ _
    iintro ⟨HX, HO, ⟨%_, W0⟩, ⟨%_, W1⟩, ⟨%_, W2⟩, ⟨%_, W3⟩, ⟨%_, W4⟩, ⟨%_, W5⟩, ⟨%_, W6⟩⟩
    isplitl [HX]; · iexact HX
    isplitl [HO]; · iapply (owes_out m c (t0_0 : Fin cfg0.N).castSucc (oweF 1 c) rfl); iexact HO
    isplitl [W0]; · iexact W0
    isplitl [W1]; · iexact W1
    isplitl [W2]; · iexact W2
    isplitl [W3]; · iexact W3
    isplitl [W4]; · iexact W4
    isplitl [W5]; · iexact W5
    iexists _; iexact W6
  case h2 =>
    unfold postB
    dsimp only
    unfold pts wins
    show _ ⊢ iprop((Yk c ∗ (bigSep Finset.univ fun k : OIx => semVal (cell c (osem k)) 0) ∗ scratch c ∗ prng c) ∗ _)
    iintro ⟨HX, HO, W0, W1, W2, W3, W4, W5, W6⟩
    isplitl [HX]; · iexact HX
    isplitl [HO]; · iapply (owes_in m c (t0_0 : Fin cfg0.N).succ 0 rfl); iexact HO
    isplitl [W0]; · iexact W0
    isplitl [W1]; · iexact W1
    isplitl [W2]; · iexact W2
    isplitl [W3]; · iexact W3
    isplitl [W4]; · iexact W4
    isplitl [W5]; · iexact W5
    iexact W6

end Body

theorem ho0 : Pipeline.OwnSemFacts spec0 osem where
  isScoped := by decide +kernel
  inj := by decide +kernel
  disj := by decide +kernel

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then oweF 1 c else 0 := rfl
  rw [e] at h
  split at h
  · obtain ⟨_, hi, h0, hg⟩ := oweF_pos h
    refine ⟨?_, h0⟩
    unfold L
    rw [if_pos hg]
    exact Finset.mem_range.mpr hi
  · exact absurd h (Nat.lt_irrefl 0)

/-- What the launch leaves a device for the call. -/
def Tk (c : Dev nD) : sProp 𝕄 :=
  iprop(∃ K : GSem nD τ sig → ℕ, (bigSep Finset.univ fun x : Dev nD × CIx => cellInv ER (Rd (F := F)) (K (cell x.1 (smOf x.2))) (cell x.1 (smOf x.2)))
    ∗ (bigSep Finset.univ fun c : Dev nD => reached ER (cell c (.reg barS)) 0) ∗ share c
    ∗ bigSep Finset.univ fun e : Ev => cred (tallyAt (cell c e.sem) e.tm e.amt))

theorem own_eq (c : Dev nD) : (Pipeline.ownSems0 osem c : sProp 𝕄) = bigSep Finset.univ fun k : OIx => semVal (cell c (osem k)) 0 := rfl

theorem open_call (c : Dev nD) : (iprop(Tk c ∗ Pipeline.ownSems0 osem c ∗ levAts L lv) : sProp 𝕄) ⊢ iprop(|={Set.univ}=> Xk c) := by
  rw [own_eq]
  unfold Tk Xk
  iintro ⟨⟨%K, HI, HR, HS, HC⟩, Hv, HL⟩
  imod (open_share K c) $$ [HI HR HS HC Hv HL] with H
  · isplitl [HI HR HL]
    · unfold Ctx
      isplitl [HI]; · iexact HI
      isplitl [HR] <;> iassumption
    isplitl [HS]; · iexact HS
    isplitl [HC]; · iexact HC
    iexact Hv
  imodintro
  iexists K
  iexact H

theorem call_in (c : Dev nD) : (iprop(Pipeline.scopedRest (Pipeline.pin (pcfgs (F := F)) adm 0).spec c ∗ (∃ r, prngReg c r)
    ∗ StableHlo.held (c.tc : Thread nD τ) ∅ (V5 m c) ∗ Xk c) : sProp 𝕄) ⊢ (pdats m 0 c).Φ 0 := by
  show _ ⊢ iprop(Xk c ∗ scratch c ∗ prng c)
  rw [show (Pipeline.scopedRest (Pipeline.pin (pcfgs (F := F)) adm 0).spec c : sProp 𝕄) = scratch c from scratch_eq c]
  iintro ⟨Hs, Hp, -, HX⟩
  isplitl [HX]; · iexact HX
  isplitl [Hs] <;> iassumption

theorem call_out (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r)
      ∗ (∃ W' : Valuation τ sig (Elt F), ⌜True⌝ ∗ StableHlo.held (c.tc : Thread nD τ) ∅ W') ∗ Pipeline.ownSems0 osem c ∗ Yk c) : sProp 𝕄) := by
  show iprop(Yk c ∗ (bigSep Finset.univ fun k : OIx => semVal (cell c (osem k)) 0) ∗ scratch c ∗ prng c) ⊢ _
  rw [show (Pipeline.scopedRest (Pipeline.pin (pcfgs (F := F)) adm 0).spec c : sProp 𝕄) = scratch c from scratch_eq c, own_eq]
  iintro ⟨HY, Hv, Hs, Hp⟩
  isplitl [Hs]; · iexact Hs
  isplitl [Hp]; · iexact Hp
  isplitr
  · iexists (V5 m c)
    isplitr; · ipureintro; trivial
    unfold StableHlo.held
    rw [BI.bigSep_empty]
    iempintro
  isplitl [Hv]; · iexact Hv
  iexact HY

/-- The unscoped buffers that are no window's array. -/
abbrev Sr : Finset (DevRef τ sig) := Pipeline.ucRefs τ sig \ Pipeline.arrRefs (τ := τ) (pcfgs (F := F) 0).spec

set_option backward.isDefEq.respectTransparency.types false in
set_option maxRecDepth 1024 in
def reg0 (hm : Fits m) : Pipeline.RDat.RegionSeg (pcfgs (F := F)) adm (Pipeline.toRsF (pcfgs (F := F)) adm (pdats m) fgt) 0 defs₀ 𝒱₀ L lv 0 :=
  Pipeline.RDat.RegionSeg.ofTalkF (pcfgs (F := F)) adm (pdats m) 0 defs₀ 𝒱₀ L lv 0 fgt osem ho0 ∅ (Sr (F := F)) (Finset.empty_subset _) kit0 rfl
    (fun c => (body0 hm c).loose) (fun _ => 0) (oweF 1) (fun c => (zero_add _).symm) (fun _ => rfl) (fun _ => rfl) (fun _ _ => ite_self _)
    (V5 m) (fun _ _ => True) Tk Yk Xk Yk open_call (call_in m) (call_out m) (fun c => by iintro H; imodintro; iexact H)
    (fun _ => 0) ⟨fun c w s => by rw [L_tc]; exact Finset.mem_range.mpr (by decide), fun _ _ _ => Nat.le_refl 0, cut m⟩ (fun _ => iprop(emp)) (fun _ _ => rfl)

end Cert.KernelIdeal.Ring

end
-- ==== Proof.Ki.Run.lean ====
module

public import proofs.«01_k».proof.Proof.Ki.Launch
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Vals F]

local notation "𝕄" => MT nD τ sig ℕ (Elt F) ℕ UU ℕ

/-! The launch: every cell funded, the resources dealt to the devices. -/

variable (m : (ℓ : Loc nD τ sig) → Buf (Elt F) ℓ) (ρ : Dev nD → PrngReg)

theorem osem_ne_bar : ∀ k : OIx, osem k ≠ .reg barS := by decide +kernel

def barEmb : Dev nD ↪ GSem nD τ sig := ⟨fun c => cell c (.reg barS), fun _ _ h => congrArg (fun g : GSem nD τ sig => g.1.1) h⟩
def ownEmb : Dev nD × OIx ↪ GSem nD τ sig :=
  ⟨fun x => cell x.1 (osem x.2), fun _ _ h => Prod.ext (congrArg (fun g : GSem nD τ sig => g.1.1) h) (ho0.inj (congrArg Prod.snd h))⟩

/-- The barrier's cells, and the cells whose owner opens them. -/
def liveCells : Finset (GSem nD τ sig) := Finset.univ.map barEmb
def ownCells : Finset (GSem nD τ sig) := Finset.univ.map ownEmb

theorem cells_disjoint : Disjoint liveCells ownCells := by
  unfold liveCells ownCells
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem reg_cases : ∀ r : Fin 3, r = barS ∨ ∃ d : Fin 2, r = crS d := by decide

theorem cell_mem (c : Dev nD) (x : CIx) : cell c (smOf x) ∈ liveCells ∪ ownCells := by
  rcases x with x | r
  · exact Finset.mem_union_right _ (Finset.mem_map_of_mem ownEmb (Finset.mem_univ ((c, .inl x) : Dev nD × OIx)))
  · rcases reg_cases r with rfl | ⟨d, rfl⟩
    · exact Finset.mem_union_left _ (Finset.mem_map_of_mem barEmb (Finset.mem_univ c))
    · exact Finset.mem_union_right _ (Finset.mem_map_of_mem ownEmb (Finset.mem_univ ((c, .inr d) : Dev nD × OIx)))

/-! ### The tokens -/

abbrev TIx : Type := Ev ⊕ (Fin 2 × Fin 2 × Fin 15 × Fin 2)
def tokSem : TIx → SemLoc sig
  | .inl e => e.sem
  | .inr x => .dma (dm (sendK x.1) x.2.1 x.2.2.1.val x.2.2.2)
def tokDuty : TIx → ℕ
  | .inl e => e.duty
  | .inr _ => 0
def tokDev (c : Dev nD) : TIx → Dev nD
  | .inl e => e.dev c
  | .inr _ => c
theorem tok_key : Function.Injective fun x : TIx => (tokSem x, tokDuty x) := by decide +kernel
theorem tokDev_inj (x : TIx) {c c' : Dev nD} (h : tokDev c x = tokDev c' x) : c = c' := by
  rcases x with e | x
  · have h' := congrArg (fun d => e.src d) h
    simpa only [tokDev, Ev.src_dev] using h'
  · exact h
def tokEmb : Dev nD × TIx ↪ GSem nD τ sig × ℕ × ℕ :=
  ⟨fun y => (cell (tokDev y.1 y.2) (tokSem y.2), 0, tokDuty y.2), fun y y' h => by
    have h2 : y.2 = y'.2 := tok_key (Prod.ext (congrArg (fun t : GSem nD τ sig × ℕ × ℕ => t.1.2) h) (congrArg (fun t : GSem nD τ sig × ℕ × ℕ => t.2.2) h))
    have h1 : tokDev y.1 y.2 = tokDev y'.1 y'.2 := congrArg (fun t : GSem nD τ sig × ℕ × ℕ => t.1.1.1) h
    rw [← h2] at h1
    exact Prod.ext (tokDev_inj _ h1) h2⟩
def toks : Finset (GSem nD τ sig × ℕ × ℕ) := Finset.univ.map tokEmb

/-- The launch element. -/
def u₀ : UU :=
  (initOf (Pipeline.cells (Pipeline.pin (pcfgs (F := F)) adm) cellOf_inj) (Pipeline.launchToks (Pipeline.pin (pcfgs (F := F)) adm) cellOf_inj),
    launchOf liveCells ownCells toks)

abbrev ghost : sProp 𝕄 := BI.own (ER (launchOf liveCells ownCells toks))
/-- The whole of it is left with the first device until the launch deals it. -/
def G (c : Dev nD) : sProp 𝕄 := if c = 0 then ghost else iprop(emp)
theorem bigSep_G : bigSep Finset.univ (G (F := F)) = ghost := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- What everyone may consult. -/
def known (κ : GSem nD τ sig → ℕ) : sProp 𝕄 :=
  iprop((bigSep (liveCells ∪ ownCells) fun g => cellInv ER (Rd (F := F)) (κ g) g) ∗ bigSep liveCells fun g => reached ER g 0)
instance known_persistent (κ : GSem nD τ sig → ℕ) : BI.Persistent (known κ : sProp 𝕄) := by unfold known; infer_instance

theorem known_inv (κ : GSem nD τ sig → ℕ) : (known κ : sProp 𝕄)
    ⊢ bigSep Finset.univ fun x : Dev nD × CIx => cellInv ER (Rd (F := F)) (κ (cell x.1 (smOf x.2))) (cell x.1 (smOf x.2)) := by
  have h : ∀ x ∈ (Finset.univ : Finset (Dev nD × CIx)), (iprop(known κ ∗ emp) : sProp 𝕄)
      ⊢ cellInv ER (Rd (F := F)) (κ (cell x.1 (smOf x.2))) (cell x.1 (smOf x.2)) := by
    intro x _
    unfold known
    iintro ⟨⟨#H, -⟩, -⟩
    iapply (show (_ : sProp 𝕄) ⊢ _ from bigSep_elim (Φ := fun g => (cellInv ER (Rd (F := F)) (κ g) g : sProp 𝕄)) (cell_mem x.1 x.2))
    iexact H
  refine BIBase.Entails.trans ?_ (bigSep_with_persistent (R := known κ) (Φ := fun _ => iprop(emp)) h)
  iintro #H
  isplitr; · iexact H
  iapply (Entails.of_eq (BI.bigSep_emp_const (Finset.univ : Finset (Dev nD × CIx))).symm)
  iempintro

theorem known_reached (κ : GSem nD τ sig → ℕ) : (known κ : sProp 𝕄) ⊢ bigSep Finset.univ fun c : Dev nD => reached ER (cell c (.reg barS)) 0 := by
  unfold known
  iintro ⟨-, #H⟩
  iapply (Entails.of_eq (bigSep_map (s := Finset.univ) barEmb (Φ := fun g : GSem nD τ sig => (reached ER g 0 : sProp 𝕄))))
  iexact H

theorem share_eq : (iprop((bigSep liveCells fun g => atPos ER g 0 ∅ 0) ∗ (bigSep ownCells fun g => openTok ER g)
    ∗ bigSep toks fun x => dutyTok ER x.1 x.2.1 x.2.2) : sProp 𝕄) ⊢ bigSep Finset.univ fun c : Dev nD => share c := by
  unfold liveCells ownCells toks share
  rw [bigSep_map, bigSep_map, bigSep_map, bigSep_univ_prod, bigSep_univ_prod, bigSep_sep', bigSep_sep', bigSep_sep']
  iintro ⟨HA, HO, HT⟩
  isplitl [HA]; · iexact HA
  isplitl [HO]; · iexact HO
  iapply (Entails.of_eq (show _ = iprop(_ ∗ _) from bigSep_sep' Finset.univ _ _))
  iapply (show (_ : sProp 𝕄) ⊢ _ from bigSep_mono (s := Finset.univ) fun c _ => Entails.of_eq (BI.bigSep_univ_sum fun x : TIx => dutyTok ER (tokEmb (c, x)).1 (tokEmb (c, x)).2.1 (tokEmb (c, x)).2.2))
  iexact HT

/-! ### The first state -/

theorem unscoped_eq : ∀ sm : SemLoc sig, sm.isScoped .tc = false → sm = .reg barS := by decide +kernel
theorem unscopedSems0_eq (c : Dev nD) : (unscopedSems0 c : sProp 𝕄) = semVal (cell c (.reg barS)) 0 := by
  unfold unscopedSems0
  rw [show (Finset.univ.filter fun sm : SemLoc sig => ¬ sm.isScoped .tc) = {.reg barS} from by decide +kernel, bigSep_singleton]

/-- What rides beside a device's buffers until the call. -/
def start (c : Dev nD) : sProp 𝕄 := iprop(Tk c ∗ prng c ∗ ∃ W, owes (c : Thread nD τ) (oweF 1 c) W)

abbrev bufs0 (c : Dev nD) : sProp 𝕄 := StableHlo.held (c : Thread nD τ) (Pipeline.ucRefs τ sig) (V0 m c)
abbrev creds0 (c : Dev nD) : sProp 𝕄 := bigSep Finset.univ fun e : Ev => cred (tallyAt (cell c e.sem) e.tm e.amt)

theorem start_intro (κ : GSem nD τ sig → ℕ) (c : Dev nD) :
    (iprop(known κ ∗ (share c ∗ creds0 c ∗ prngReg c (ρ c) ∗ owes (c : Thread nD τ) (oweF 1 c) ∅) ∗ bufs0 m c) : sProp 𝕄) ⊢ iprop(bufs0 m c ∗ start c) := by
  unfold start Tk
  iintro ⟨#HK, ⟨Hs, Hc, Hp, HO⟩, HB⟩
  isplitl [HB]; · iexact HB
  isplitl [Hs Hc]
  · iexists κ
    isplitr; · iapply (known_inv κ); iexact HK
    isplitr; · iapply (known_reached κ); iexact HK
    isplitl [Hs] <;> iassumption
  isplitl [Hp]
  · iexists _; iexact Hp
  · iexists _; iexact HO

theorem init : (iprop((bigSep Finset.univ fun c : Dev nD => iprop(unscopedBufs c (fun b => m ((c.tc : Thread nD τ).loc b)) ∗ unscopedSems0 c
      ∗ owes (c.tc : Thread nD τ) (oweF 1 c) ∅ ∗ Pipeline.launchCred (oweF 1) c ∗ prngReg c (ρ c) ∗ G c)) ∗ levAts L lv) : sProp 𝕄)
    ⊢ |={Set.univ}=> bigSep Finset.univ fun c : Dev nD => iprop(bufs0 m c ∗ start c) := by
  have hcore (c : Dev nD) : (iprop(unscopedBufs c (fun b => m ((c.tc : Thread nD τ).loc b)) ∗ unscopedSems0 c
        ∗ owes (c.tc : Thread nD τ) (oweF 1 c) ∅ ∗ Pipeline.launchCred (oweF 1) c ∗ prngReg c (ρ c) ∗ G c) : sProp 𝕄)
      ⊢ iprop(G c ∗ semVal (cell c (.reg barS)) 0 ∗ (creds0 c ∗ prngReg c (ρ c) ∗ owes (c : Thread nD τ) (oweF 1 c) ∅) ∗ bufs0 m c) := by
    rw [unscopedSems0_eq, creds, show (fun b => m ((c.tc : Thread nD τ).loc b)) = (fun b : Ref sig .tc => V0 m c (Proc.devRef .tc b)) from rfl,
      Pipeline.unscopedBufs_held (Ix := ℕ) (Name := ℕ) (U := UU) (Lvl := ℕ) c (V0 m c)]
    iintro ⟨HB, Hv, HO, Hc, Hp, HG⟩
    isplitl [HG]; · iexact HG
    isplitl [Hv]; · iexact Hv
    isplitr [HB]
    · isplitl [Hc]; · iexact Hc
      isplitl [Hp] <;> iassumption
    · iexact HB
  have hall : (bigSep Finset.univ fun c : Dev nD => iprop(unscopedBufs c (fun b => m ((c.tc : Thread nD τ).loc b)) ∗ unscopedSems0 c
        ∗ owes (c.tc : Thread nD τ) (oweF 1 c) ∅ ∗ Pipeline.launchCred (oweF 1) c ∗ prngReg c (ρ c) ∗ G c) : sProp 𝕄)
      ⊢ iprop(ghost ∗ (bigSep liveCells fun g => semVal g 0) ∗ (bigSep Finset.univ fun c : Dev nD => iprop(creds0 c ∗ prngReg c (ρ c) ∗ owes (c : Thread nD τ) (oweF 1 c) ∅))
        ∗ bigSep Finset.univ fun c : Dev nD => bufs0 m c) := by
    refine BIBase.Entails.trans (bigSep_mono fun c _ => hcore c) ?_
    rw [bigSep_sep', bigSep_sep', bigSep_sep', bigSep_G]
    unfold liveCells
    rw [bigSep_map]
    exact .rfl
  iintro ⟨H, -⟩
  ihave H' := hall $$ H
  icases H' with ⟨HG, Hv, HR, HB⟩
  imod (Rounds.fund_launch ER (Rd (F := F)) cells_disjoint (fun g _ h => h) toks) $$ [HG Hv] with ⟨%κ, -, Hi, Hr, Ha, Ho, Ht⟩
  · isplitl [Hv]; · iexact Hv
    iexact HG
  imodintro
  iapply (show (_ : sProp 𝕄) ⊢ _ from bigSep_with_persistent (R := known κ)
    (Φ := fun c => iprop((share c ∗ creds0 c ∗ prngReg c (ρ c) ∗ owes (c : Thread nD τ) (oweF 1 c) ∅) ∗ bufs0 m c)) fun c _ => start_intro m ρ κ c)
  isplitl [Hi Hr]
  · unfold known
    isplitl [Hi] <;> iassumption
  iapply (Entails.of_eq (show (_ : sProp 𝕄) = iprop(_ ∗ _) from bigSep_sep' Finset.univ _ _).symm)
  isplitr [HB]
  · iapply (Entails.of_eq (show (_ : sProp 𝕄) = iprop(_ ∗ _) from bigSep_sep' Finset.univ _ _).symm)
    isplitr [HR]
    · iapply share_eq
      isplitl [Ha]; · iexact Ha
      isplitl [Ho] <;> iassumption
    · iexact HR
  · iexact HB

/-! ### In and out of the call -/

variable (hm : Fits m)

abbrev arrs : Finset (DevRef τ sig) := Pipeline.arrRefs (τ := τ) (pcfgs (F := F) 0).spec
theorem arr_unscoped : ∀ w : Fin 7, (Pipeline.arrRef spec0 w).isScoped = false := by decide
theorem arrs_sub : arrs (F := F) ⊆ Pipeline.ucRefs τ sig := Pipeline.arrRefs_sub_ucRefs _ arr_unscoped
theorem out_mem : (Proc.devRef .tc main_v28 : DevRef τ sig) ∈ arrs (F := F) :=
  Finset.mem_map.mpr ⟨main_v28, Finset.mem_image.mpr ⟨(6 : Fin 7), Finset.mem_univ _, rfl⟩, rfl⟩
theorem rest_eq (c : Dev nD) (V W : Valuation τ sig (Elt F)) (h : ∀ b, b ≠ (Proc.devRef .tc main_v28 : DevRef τ sig) → W b = V b) :
    (StableHlo.held (c : Thread nD τ) (Sr (F := F)) V : sProp 𝕄) = StableHlo.held (c : Thread nD τ) (Sr (F := F)) W :=
  StableHlo.held_congr (c : Thread nD τ) fun b hb => (h b fun e => (Finset.mem_sdiff.mp hb).2 (e ▸ out_mem (F := F))).symm

theorem pre_eq (c : Dev nD) : (reg0 m hm).pre c = iprop(StableHlo.held (c : Thread nD τ) (arrs (F := F)) (V5 m c) ∗ prng c
    ∗ (StableHlo.held (c : Thread nD τ) (Sr (F := F)) (V5 m c) ∗ emp) ∗ Tk c ∗ ∃ W, owes (c : Thread nD τ) (0 + oweF 1 c) W) := rfl

theorem call_pre (c : Dev nD) : (iprop(StableHlo.held (c : Thread nD τ) (Pipeline.ucRefs τ sig) (V5 m c) ∗ start c) : sProp 𝕄) ⊢ (reg0 m hm).pre c := by
  rw [pre_eq m hm, zero_add, StableHlo.held_sub_split (c : Thread nD τ) (arrs_sub (F := F)) (V5 m c)]
  unfold start
  iintro ⟨⟨HA, HR⟩, HT, HP, HO⟩
  isplitl [HA]; · iexact HA
  isplitl [HP]; · iexact HP
  isplitl [HR]
  · isplitl [HR]; · iexact HR
    iempintro
  isplitl [HT] <;> iassumption

theorem whole_6 : (cfg0.win 6).WholeAt t0_0 := by decide +kernel
/-- The result's array ends as the body leaves its buffer. -/
theorem arr_out (c : Dev nD) : (pdats m 0 c).arrAt 6 (Pipeline.pin (pcfgs (F := F)) adm 0).N = (outT c : S4096x2048.Idx → Elt F .f32) :=
  (dat m c).arrAt_eq_of_after_last 6 t0_0 whole_6 (outT c : S4096x2048.Idx → Elt F .f32) fun j => by
    rw [after_6]; rfl

theorem arr_ne : ∀ w : Fin 7, w ≠ 6 → Pipeline.arrRef spec0 w ≠ main_v28 := by decide

/-- Contents of the seven arrays that agree with a valuation but for the result's. -/
theorem glue (c : Dev nD) (V : Valuation τ sig (Elt F)) (A : (w : Fin 7) → Buf (Elt F) (((Pipeline.pin (pcfgs (F := F)) adm 0).win w).arr.view.loc (c.tc : Thread nD τ)))
    (h : ∀ w, w ≠ 6 → A w = V (Proc.devRef .tc (Pipeline.arrRef spec0 w))) :
    ∃ W : Valuation τ sig (Elt F), (∀ w, A w = W (Proc.devRef .tc (Pipeline.arrRef spec0 w))) ∧ W (Proc.devRef .tc main_v28) = A 6 ∧ ∀ b, b ≠ (Proc.devRef .tc main_v28 : DevRef τ sig) → W b = V b := by
  refine ⟨Function.update V (Proc.devRef .tc main_v28) (A 6), fun w => ?_, Function.update_self (β := fun b : DevRef τ sig => b.ty.Idx → Elt F b.ty.elt) (Proc.devRef .tc main_v28 : DevRef τ sig) (A 6) V, fun b hb => Function.update_of_ne hb _ _⟩
  by_cases hw : w = 6
  · subst hw
    exact (Function.update_self (β := fun b : DevRef τ sig => b.ty.Idx → Elt F b.ty.elt) (Proc.devRef .tc main_v28 : DevRef τ sig) (A 6) V).symm
  · rw [h w hw, Function.update_of_ne (StableHlo.devRef_ne_of_ne (arr_ne w hw))]

theorem in_arr : ∀ w : Fin 7, w ≠ 6 → ((Pipeline.pin (pcfgs (F := F)) adm 0).win w).isOut = false
  | 0, _ => rfl | 1, _ => rfl | 2, _ => rfl | 3, _ => rfl | 4, _ => rfl | 5, _ => rfl | 6, h => absurd rfl h

/-- What a device ends with. -/
def finish (c : Dev nD) : sProp 𝕄 :=
  iprop((∃ W : Valuation τ sig (Elt F), ⌜W (Proc.devRef .tc main_v28) = (outT c : S4096x2048.Idx → Elt F .f32) ∧ ∀ b, b ≠ (Proc.devRef .tc main_v28 : DevRef τ sig) → W b = V5 m c b⌝ ∗ StableHlo.held (c : Thread nD τ) (Pipeline.ucRefs τ sig) W)
    ∗ semVal (cell c (.reg barS)) 0)

theorem post_eq (c : Dev nD) : (reg0 m hm).post c = iprop((∃ A, ⌜∀ w, fgt 0 w = false → A w = (pdats m 0 c).arrAt w (Pipeline.pin (pcfgs (F := F)) adm 0).N⌝ ∗ (pdats m 0 c).arrays A) ∗ prng c
    ∗ ((∃ W', ⌜True⌝ ∗ StableHlo.held (c : Thread nD τ) ∅ W') ∗ StableHlo.held (c : Thread nD τ) (Sr (F := F) \ ∅) (V5 m c) ∗ emp) ∗ Yk c ∗ ∃ W, owes (c : Thread nD τ) 0 W) := rfl

theorem call_post (c : Dev nD) : (reg0 m hm).post c ⊢ iprop(finish m c ∗ ∃ W, owes (c : Thread nD τ) (0 : CellTallies nD τ sig ℕ) W) := by
  rw [post_eq m hm, Finset.sdiff_empty]
  unfold finish Yk
  iintro ⟨⟨%A, %hA, HA⟩, -, ⟨-, HS, -⟩, Hb, HO⟩
  isplitr [HO]
  · isplitr [Hb]
    · obtain ⟨W, hW, hO, hV⟩ := glue c (V5 m c) A fun w hw => (hA w rfl).trans ((pdats m 0 c).arrAt_in w (in_arr w hw) _)
      iexists W
      isplitr; · ipureintro; exact ⟨hO.trans ((hA 6 rfl).trans (arr_out m c)), hV⟩
      iapply (Entails.of_eq (StableHlo.held_sub_split (c : Thread nD τ) (arrs_sub (F := F)) W).symm)
      isplitl [HA]
      · iapply (Entails.of_eq (Pipeline.arrays_held (pcfgs (F := F)) adm (pdats m) 0 kit0 c (fun w => ite_self _) A W hW))
        iexact HA
      · iapply (Entails.of_eq (rest_eq c (V5 m c) W hV))
        iexact HS
    · iexact Hb
  · iexact HO

/-! ### The run -/

abbrev Er : Fin 2 → Dev nD → sProp 𝕄 := fun _ c => start c

def items (hm : Fits m) (c : Dev nD) : List (Pipeline.RDat.Seg (pcfgs (F := F)) adm (Pipeline.toRsF (pcfgs (F := F)) adm (pdats m) fgt) 0 defs₀ 𝒱₀ L lv) :=
  [.host (seg0 m 𝒱₀ L lv Er c), .host (seg1 m 𝒱₀ L lv Er), .host (seg2 m 𝒱₀ L lv Er), .host (seg3 m 𝒱₀ L lv Er), .host (seg4 m 𝒱₀ L lv Er), .region (reg0 m hm)]

theorem v5_arg0 (c : Dev nD) : V5 m c main_arg0 = m ((c : Thread nD τ).loc main_arg0) :=
  (V6_of m (fun _ r c => m ((c : Thread nD τ).loc r)) c main_arg0 (by decide)).symm.trans (V6_main_arg0 m _ c)
theorem v5_arg1 (c : Dev nD) : V5 m c main_arg1 = m ((c : Thread nD τ).loc main_arg1) :=
  (V6_of m (fun _ r c => m ((c : Thread nD τ).loc r)) c main_arg1 (by decide)).symm.trans (V6_main_arg1 m _ c)
theorem v5_arg2 (c : Dev nD) : V5 m c main_arg2 = m ((c : Thread nD τ).loc main_arg2) :=
  (V6_of m (fun _ r c => m ((c : Thread nD τ).loc r)) c main_arg2 (by decide)).symm.trans (V6_main_arg2 m _ c)
theorem v5_arg3 (c : Dev nD) : V5 m c main_arg3 = m ((c : Thread nD τ).loc main_arg3) :=
  (V6_of m (fun _ r c => m ((c : Thread nD τ).loc r)) c main_arg3 (by decide)).symm.trans (V6_main_arg3 m _ c)

/-- What the last memory says of a device. -/
def Kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v28) = (outT c : S4096x2048.Idx → Elt F .f32)
  ∧ s.sem (cell c (.reg barS)) = 0

theorem arg_mem (r : Ref sig .tc) (h : ¬ r.isScoped = true) : (Proc.devRef .tc r : DevRef τ sig) ∈ Pipeline.ucRefs τ sig :=
  Finset.mem_filter.mpr ⟨StableHlo.devRef_mem_tcRefs r, h⟩

theorem read (c : Dev nD) (s' : Phys nD τ sig (Elt F)) : (iprop(finish m c ∗ SI s') : sProp 𝕄) ⊢ |={Set.univ}=> iprop(⌜Kept m c s'.mem⌝ ∗ SI s') := by
  unfold finish
  iintro ⟨⟨⟨%W, %hWO, Hh⟩, Hb⟩, HSI⟩
  obtain ⟨hO, hW⟩ := hWO
  icombine HSI Hb gives %hb
  unfold StableHlo.held
  ihave Hr := (pointsTo_read_all (Pipeline.ucRefs τ sig) (fun b => ((c : Thread nD τ).1, b)) W s') $$ [Hh HSI]
  · isplitl [Hh] <;> iassumption
  icases Hr with ⟨%h, HSI⟩
  imodintro
  isplitr
  · ipureintro
    have hr (r : Ref sig .tc) (hs : ¬ r.isScoped = true) (hne : r ≠ main_v28) : s'.mem.mem ((c : Thread nD τ).loc r) = V5 m c r :=
      (h _ (arg_mem r hs)).trans (hW _ (StableHlo.devRef_ne_of_ne hne))
    exact ⟨⟨(hr main_arg0 (by decide) (by decide)).trans (v5_arg0 m c), (hr main_arg1 (by decide) (by decide)).trans (v5_arg1 m c),
      (hr main_arg2 (by decide) (by decide)).trans (v5_arg2 m c), (hr main_arg3 (by decide) (by decide)).trans (v5_arg3 m c)⟩, (h _ (arg_mem main_v28 (by decide))).trans hO, by simpa using hb⟩
  · iexact HSI

set_option backward.isDefEq.respectTransparency.types false in
set_option maxRecDepth 1024 in
/-- Every run ends without a fault, every argument as it was, the result at its values and every counter at zero. -/
theorem run_vals (hm : Fits m) : θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.mem ((c : Thread nD τ).loc main_v28) = (outT c : S4096x2048.Idx → Elt F .f32)) ∧ r.2.sem = fun _ => 0) :=
  Pipeline.RDat.θ_run_regions_kit_dev_sems (pcfgs (F := F)) adm (Pipeline.toRsF (pcfgs (F := F)) adm (pdats m) fgt) 0 cellOf_inj EP defs₀ 𝒱₀ L lv m ρ main
    (items m hm)
    (fun c Q => by
      rewrite [main_chain c, Pipeline.RDat.Seg.run_eq_chain,
        show (items m hm c).map Pipeline.RDat.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := oweF 1) (hL := L_of_ne) (G := G) (u₀ := u₀ (F := F))
    (hu₀ := by
      unfold u₀
      rw [bigSep_G]
      iintro Hu
      ihave H := (ownU_pair _ _) $$ Hu
      icases H with ⟨HP, HX⟩
      imodintro
      isplitl [HP]; · iexact HP
      iexact HX)
    (T₀ := fun c => iprop(bufs0 m c ∗ start c)) (Tₙ := finish m)
    (hch := fun c => ⟨.rfl, .rfl, .rfl, .rfl, .rfl, call_pre m hm c, call_post m hm c⟩)
    (hinit := init m ρ) (QY := Kept m) (hfin := read m)
    (hQ := fun s h hs => ⟨fun c => ⟨(h c).1, (h c).2.1⟩, sem_eq_zero hs fun c sm hsm => by
      obtain rfl := unscoped_eq sm hsm
      exact (h c).2.2⟩)

/-! ### The values -/

theorem v5_scale (c : Dev nD) : V5 m c main_v27 = mulf (F := F) (s := S1) (φ := .f32) (m ((c : Thread nD τ).loc main_arg2)) (m ((c : Thread nD τ).loc main_arg3)) := by
  have h : ∀ V : Valuation τ sig (Elt F), StableHlo.after hostOps0_4 V main_v27 = mulf (F := F) (s := S1) (φ := .f32) (V main_arg2) (V main_arg3) := fun V => by
    unfold hostOps0_4; after_results_simp
  have h2 : V4 m c main_arg2 = m ((c : Thread nD τ).loc main_arg2) := (V5_of m c main_arg2 (by decide)).symm.trans (v5_arg2 m c)
  have h3 : V4 m c main_arg3 = m ((c : Thread nD τ).loc main_arg3) := (V5_of m c main_arg3 (by decide)).symm.trans (v5_arg3 m c)
  rw [show V5 m c main_v27 = _ from h _, h2, h3]

/-- The one place of a word. -/
def at0 : S1.Idx := fun | 0 => ⟨0, by decide⟩
theorem eq_at0 (i : S1.Idx) : i = at0 := by
  funext a
  match a with
  | 0 => exact Subsingleton.elim (α := Fin 1) (i 0) (at0 0)

omit [Vals F] in
/-- What the arguments give: the slices of the operands, and the product of the scales. -/
abbrev valsOf (m : (ℓ : Loc nD τ sig) → Buf (Elt F) ℓ) : Vals F where
  x c := m ((c : Thread nD τ).loc main_arg0)
  w c := m ((c : Thread nD τ).loc main_arg1)
  sc c := mulf (F := F) (s := S1) (φ := .f32) (m ((c : Thread nD τ).loc main_arg2)) (m ((c : Thread nD τ).loc main_arg3)) at0

omit [Vals F] in
theorem fits (m : (ℓ : Loc nD τ sig) → Buf (Elt F) ℓ) : letI := valsOf m; Fits m :=
  letI := valsOf m
  ⟨v5_arg0 m, v5_arg1 m, fun c => (v5_scale m c).trans (funext fun i => by rw [eq_at0 i]; rfl)⟩

omit [Vals F] in
/-- Every run ends without a fault, every argument as it was, every device with the values of the ring, every counter at zero. -/
theorem run_main (m : (ℓ : Loc nD τ sig) → Buf (Elt F) ℓ) (ρ : Dev nD → PrngReg) :
    θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.mem ((c : Thread nD τ).loc main_v28) = (letI := valsOf m; (outT c : S4096x2048.Idx → Elt F .f32))) ∧ r.2.sem = fun _ => 0) :=
  letI := valsOf m
  run_vals m ρ (fits m)

end Cert.KernelIdeal.Ring

end
-- ==== Proof.Ki.Sum.lean ====
module

public import proofs.«01_k».proof.Proof.Ki.Vals
public import Idealize.ShloMosaic.Lib.ValueIdx
public import Idealize.ShloMosaic.PureOps.Ideal.Laws
public import Idealize.ShloMosaic.Lib.ValueLayout

@[expose] public section

noncomputable section

namespace Cert.KernelIdeal.Ring

open Idealize.ShloMosaic Idealize.ShloMosaic.TcCoe Idealize.ShloMosaic.ValueIdx
open Cert.KernelIdeal Cert.KernelIdeal.Gen
open scoped BigOperators

/-! The ring's values at the reals: what each device ends with is the sum of all shares, scaled and clipped. -/

theorem cast_up (v : Sg Ideal) (h) : shapeCast S128x1024 (up v) h = v := by
  funext j; unfold up
  exact congrArg v ((Shape.reshapeEquiv_reshapeEquiv _ _ _).trans (Shape.reshapeEquiv_self _ _))
theorem dn_cast (v : Sg Ideal) (h) : dn (F := Ideal) (shapeCast S1x128x1024 v h) = v := by
  funext j; unfold dn
  exact congrArg v ((Shape.reshapeEquiv_reshapeEquiv _ _ _).trans (Shape.reshapeEquiv_self _ _))

theorem acc_at (a b : Sg Ideal) (j : S128x1024.Idx) : dn (accP (up a) (up b)) j = (a j + b j : EReal) := by
  unfold accP k0_pay53
  rw [cast_up, cast_up, dn_cast]
  rfl
theorem fin_at (a b : Sg Ideal) (s : EReal) (j : S128x1024.Idx) : (finP (up a) (up b) s j : EReal) = max ((a j + b j : EReal) * s) 0 := by
  unfold finP k0_pay125
  rw [cast_up, cast_up]
  exact congrArg (max ((a j + b j : EReal) * s)) Ideal.ofBits_zero_f32
theorem finB_at (a b : Sg Ideal) (s : EReal) (j : S128x1024.Idx) : (dn (F := Ideal) (finB (up a) (up b) s) j : EReal) = finP (up a) (up b) s j := by
  unfold finB k0_pay126
  rw [dn_cast]
  rfl
theorem out_at (a : Sg Ideal) (j : S128x1024.Idx) : (outP (up a) j : EReal) = a j := by
  unfold outP k0_pay135
  rw [cast_up]
  rfl

section
variable [Vals Ideal]

/-- What the reduce phase brings is the sum of the shares of the devices it has passed. -/
theorem rsv_sum (d g : Fin 2) (j : S128x1024.Idx) : ∀ (s : ℕ) (c : Dev nD),
    (rsv (F := Ideal) d g s c j : EReal) = ∑ t ∈ Finset.range (s + 1), (part (F := Ideal) ((upT d)^[t + 1] c) d (hop d (posT c) (s + 1)) g j : EReal)
  | 0, c => by
    rw [Finset.sum_range_one]
    show part (F := Ideal) (upT d c) d (posT (upT d c)) g j = part (F := Ideal) (upT d c) d (hop d (posT c) 1) g j
    rw [pos_up]
  | s + 1, c => by
    have e : hop d (posT (upT d c)) (s + 1) = hop d (posT c) (s + 2) := by rw [pos_up, hop_hop]; congr 1; omega
    rw [Finset.sum_range_succ']
    show dn (accP (up (part (upT d c) d (hop d (posT (upT d c)) (s + 1)) g)) (up (rsv d g s (upT d c)))) j = _
    rw [acc_at, rsv_sum d g j s (upT d c), e, add_comm]
    rfl

theorem turns_all : ∀ (d : Fin 2) (c : Dev nD), Function.Bijective fun t : Fin 16 => (upT d)^[t.val] c := by decide +kernel

/-- The finished segment. -/
theorem fin_sum (d g : Fin 2) (c : Dev nD) (j : S128x1024.Idx) :
    (finV (F := Ideal) d g c j : EReal) = max ((∑ c' : Dev nD, (part (F := Ideal) c' d (hop d (posT c) 15) g j : EReal)) * (Vals.sc (F := Ideal) c : EReal)) 0 := by
  unfold finV
  rw [fin_at, rsv_sum]
  refine congrArg (fun x : EReal => max (x * (Vals.sc (F := Ideal) c : EReal)) 0) ?_
  rw [← (turns_all d c).sum_comp fun c' => (part (F := Ideal) c' d (hop d (posT c) 15) g j : EReal),
    ← Fin.sum_univ_eq_sum_range (fun t => (part (F := Ideal) ((upT d)^[t + 1] c) d (hop d (posT c) 15) g j : EReal)) 15]
  exact (Fin.sum_univ_succ (n := 15) fun t : Fin 16 => (part (F := Ideal) ((upT d)^[t.val] c) d (hop d (posT c) 15) g j : EReal)).symm

theorem agv_eq (d g : Fin 2) (j : S128x1024.Idx) : ∀ (s : ℕ) (c : Dev nD), (agv (F := Ideal) d g s c j : EReal) = finV (F := Ideal) d g ((upT d)^[s] c) j
  | 0, c => finB_at _ _ _ j
  | s + 1, c => agv_eq d g j s (upT d c)

theorem out_eq (d g : Fin 2) (j : ℕ) (c : Dev nD) (y : S128x1024.Idx) : (outV (F := Ideal) d g j c y : EReal) = finV (F := Ideal) d g ((upT d)^[j] c) y := by
  match j with
  | 0 => rfl
  | s + 1 => exact (out_at _ y).trans (agv_eq d g y (s + 1) c)

theorem pos_iter (d : Fin 2) : ∀ (j : ℕ) (c : Dev nD), posT ((upT d)^[j] c) = hop d (posT c) j
  | 0, c => (hop_zero d _).symm
  | j + 1, c => by
    show posT ((upT d)^[j] (upT d c)) = _
    rw [pos_iter d j, pos_up, hop_hop, Nat.add_comm]

/-- What the devices end with. -/
theorem outT_sum (s : EReal) (hs : ∀ c : Dev nD, (Vals.sc (F := Ideal) c : EReal) = s) (c : Dev nD) (i : S4096x2048.Idx) :
    (outT (F := Ideal) c i : EReal) = max ((∑ c' : Dev nD, (part (F := Ideal) c' (dO i) (kO i) (gO i) (locO i) : EReal)) * s) 0 := by
  unfold outT
  rw [out_eq, fin_sum, hs, pos_iter, hop_hop]
  have e : hop (dO i) (posT c) (jO c i + 15) = kO i := by rw [Nat.add_comm]; exact hop_turn (dO i) (posT c) (kO i)
  rw [e]

end

end Cert.KernelIdeal.Ring

end
-- ==== Proof.Ki.Value.lean ====
module

public import proofs.«01_k».proof.Proof.Ki.Sum
public import proofs.«01_k».proof.Proof.Ki.Run
public import proofs.«01_k».proof.Proof.Gen.ReferenceIdeal.Run
public import proofs.«01_k».proof.Defs
public import Idealize.ShloMosaic.Lib.IntMxu
public import Idealize.ShloMosaic.Lib.IdealHost
public import Idealize.ShloMosaic.Lib.StackMember

@[expose] public section

noncomputable section

namespace Cert.KernelIdeal.Ring

open Idealize.ShloMosaic Idealize.ShloMosaic.TcCoe Idealize.ShloMosaic.ValueIdx Idealize.SL.Sem
open Cert.KernelIdeal Cert.KernelIdeal.Gen
open scoped BigOperators

/-! A device's share of a segment is its slice's product, and all shares together are the reference's product. -/

theorem dot_plain : dot_S256x256_S256x2048_S256x2048_1_0_0_1_n_n = DotDims.plain 256 256 2048 := rfl

theorem dotI8_at (x : S256x256.Idx → BitVec 8) (w : S256x2048.Idx → BitVec 8) (r : Fin 256) (q : Fin 2048) :
    dotI8 dot_S256x256_S256x2048_S256x2048_1_0_0_1_n_n x w (ix2 r q) = ∑ t : Fin 256, (x (ix2 r t)).toInt * (w (ix2 t q)).toInt := by
  rw [dot_plain]
  unfold dotI8
  rw [← Equiv.sum_comp (contrEquiv1 (DotDims.plain 256 256 2048) 256 rfl rfl).symm]
  refine Finset.sum_congr rfl fun t _ => ?_
  have c2 := contrEquiv1_symm_val (DotDims.plain 256 256 2048) 256 rfl rfl t
  have l2 : (DotDims.plain 256 256 2048).lhsIdx (ix2 r q) ((contrEquiv1 _ 256 rfl rfl).symm t) = ix2 r t := by
    funext ax; apply Fin.ext
    match ax with
    | ⟨0, _⟩ => simp [DotDims.lhsIdx, DotDims.plain]; rfl
    | ⟨1, _⟩ => simp [DotDims.lhsIdx, DotDims.plain]; exact c2
  have r2 : (DotDims.plain 256 256 2048).rhsIdx (ix2 r q) ((contrEquiv1 _ 256 rfl rfl).symm t) = ix2 t q := by
    funext ax; apply Fin.ext
    match ax with
    | ⟨0, _⟩ => simp [DotDims.rhsIdx, DotDims.plain]; exact c2
    | ⟨1, _⟩ => simp [DotDims.rhsIdx, DotDims.plain]; rfl
  rw [l2, r2]

theorem bound_ok : dot_S256x256_S256x2048_S256x2048_1_0_0_1_n_n.contr.numel * 2 ^ 14 ≤ IntMxuNumerics.v7x.exactUpTo := by decide +kernel

/-- An integer's value. -/
abbrev rl (z : ℤ) : EReal := ((z : ℝ) : EReal)

theorem rl_mul (a b : ℤ) : rl (a * b) = rl a * rl b := by
  unfold rl; rw [Int.cast_mul, EReal.coe_mul]
theorem rl_sum {n : ℕ} (f : Fin n → ℤ) : rl (∑ t, f t) = ∑ t, rl (f t) := by
  unfold rl
  rw [Int.cast_sum]
  exact map_sum (⟨⟨fun x : ℝ => (x : EReal), rfl⟩, EReal.coe_add⟩ : ℝ →+ EReal) _ _

theorem pay1_at (x : S256x256.Idx → BitVec 8) (w : S256x2048.Idx → BitVec 8) (r : Fin 256) (q : Fin 2048) :
    (k0_pay1 (F := Ideal) x w (ix2 r q) : EReal) = ∑ t : Fin 256, rl (x (ix2 r t)).toInt * rl (w (ix2 t q)).toInt := by
  unfold k0_pay1
  have ex : shapeCast S256x256 x shapeCasts_S256x256_S256x256 = x := funext fun j => congrArg x (Shape.reshapeEquiv_self _ j)
  have ew : shapeCast S256x2048 w shapeCasts_S256x2048_S256x2048 = w := funext fun j => congrArg w (Shape.reshapeEquiv_self _ j)
  show rl (matmulI8 IntMxuNumerics.v7x dot_S256x256_S256x2048_S256x2048_1_0_0_1_n_n (shapeCast S256x256 x shapeCasts_S256x256_S256x256)
    (shapeCast S256x2048 w shapeCasts_S256x2048_S256x2048) (constantI S256x2048 32 0#32) (ix2 r q)).toInt = _
  rw [ex, ew, matmulI8_toInt _ _ _ _ _ _ rfl ((absDotI8_le_numel _ _ _ _).trans bound_ok), dotI8_at, rl_sum]
  exact Finset.sum_congr rfl fun t _ => rl_mul _ _

theorem pay2_at (x : S256x256.Idx → BitVec 8) (w : S256x2048.Idx → BitVec 8) (z : Fin 1) (r : Fin 256) (q : Fin 1024) (q' : Fin 2048) (h : q'.val = 0 + q.val) :
    (k0_pay2 (F := Ideal) x w (ix3 z r q) : EReal) = ∑ t : Fin 256, rl (x (ix2 r t)).toInt * rl (w (ix2 t q')).toInt := by
  unfold k0_pay2
  exact (shapeCast_ab_1ab_apply _ shapeCasts_S256x1024_S1x256x1024 z r q).trans ((slice2_axis1_apply 0 _ slices_S256x2048_o0_0_S256x1024 r q q' h).trans (pay1_at x w r q'))
theorem pay3_at (x : S256x256.Idx → BitVec 8) (w : S256x2048.Idx → BitVec 8) (z : Fin 1) (r : Fin 256) (q : Fin 1024) (q' : Fin 2048) (h : q'.val = 1024 + q.val) :
    (k0_pay3 (F := Ideal) x w (ix3 z r q) : EReal) = ∑ t : Fin 256, rl (x (ix2 r t)).toInt * rl (w (ix2 t q')).toInt := by
  unfold k0_pay3
  exact (shapeCast_ab_1ab_apply _ shapeCasts_S256x1024_S1x256x1024 z r q).trans ((slice2_axis1_apply 1024 _ slices_S256x2048_o0_1024_S256x1024 r q q' h).trans (pay1_at x w r q'))

section
variable [Vals Ideal]

theorem prod_at (c : Dev nD) (d : Fin 2) (k : Fin 16) (z : Fin 1) (r : Fin 256) (q : Fin 1024) (q' : Fin 2048) (h : q'.val = 1024 * d.val + q.val) :
    (prodV (F := Ideal) c d k (ix3 z r q) : EReal)
      = ∑ t : Fin 256, rl ((Vals.x (F := Ideal) c (xrow k (ix2 r t)) : BitVec 8)).toInt * rl ((Vals.w (F := Ideal) c (ix2 t q') : BitVec 8)).toInt :=
  match d, h with
  | 0, h => pay2_at (fun j => Vals.x (F := Ideal) c (xrow k j)) (Vals.w (F := Ideal) c) z r q q' h
  | 1, h => pay3_at (fun j => Vals.x (F := Ideal) c (xrow k j)) (Vals.w (F := Ideal) c) z r q q' h

/-- A device's share of an element of the result. -/
theorem part_at (c : Dev nD) (i : S4096x2048.Idx) :
    (part (F := Ideal) c (dO i) (kO i) (gO i) (locO i) : EReal)
      = ∑ t : Fin 256, rl ((Vals.x (F := Ideal) c (ix2 (i 0) t) : BitVec 8)).toInt * rl ((Vals.w (F := Ideal) c (ix2 t (i 1)) : BitVec 8)).toInt := by
  have hi0 : (i 0).val < 4096 := (i 0).isLt
  have hi1 : (i 1).val < 2048 := (i 1).isLt
  have hd : (dO i).val = (i 1).val / 1024 := Nat.mod_eq_of_lt (by omega)
  have hk : (kO i).val = (i 0).val / 256 := Nat.mod_eq_of_lt (by omega)
  have hg : (gO i).val = (i 0).val / 128 % 2 := rfl
  have e : (Shape.reshapeEquiv (squeezes_S1x128x1024_S128x1024).numel_eq (locO i) : S1x128x1024.Idx) = ix3 (⟨0, Nat.one_pos⟩ : Fin 1) (locO i 0) (locO i 1) :=
    (congrArg (Shape.reshapeEquiv _) (eq_ix2 (locO i))).trans (reshapeEquiv_ix2_1ab _ _ _)
  have s0 : (segIx (kO i) (gO i) (locO i) 0).val = (kO i).val := by
    unfold segIx; rw [e]; show (kO i).val + 1 * 0 = _; omega
  have s1 : (segIx (kO i) (gO i) (locO i) 1).val = (i 0).val % 256 := by
    unfold segIx; rw [e]; show 128 * (gO i).val + 1 * ((i 0).val % 128) = _; omega
  have s2 : (segIx (kO i) (gO i) (locO i) 2).val = (i 1).val % 1024 := by
    unfold segIx; rw [e]; show 0 + 1 * ((i 1).val % 1024) = _; omega
  unfold part chunkV
  generalize segIx (kO i) (gO i) (locO i) = y at s0 s1 s2
  have ek : (⟨(y 0).val, (y 0).isLt⟩ : Fin 16) = kO i := Fin.ext s0
  rw [ek]
  have ey : (fun a => match a with | 0 => ⟨0, by decide⟩ | 1 => y 1 | 2 => y 2 : S1x256x1024.Idx) = ix3 (⟨0, Nat.one_pos⟩ : Fin 1) (y 1) (y 2) := by
    funext a
    match a with
    | 0 => rfl
    | 1 => rfl
    | 2 => rfl
  refine (congrArg (prodV (F := Ideal) c (dO i) (kO i)) ey).trans ?_
  refine (prod_at c (dO i) (kO i) ⟨0, Nat.one_pos⟩ (y 1) (y 2) (i 1) (by rw [s2, hd]; omega)).trans (Finset.sum_congr rfl fun t _ => ?_)
  have ex : xrow (kO i) (ix2 (y 1) t) = ix2 (i 0) t := by
    funext a
    match a with
    | 0 => exact Fin.ext (by show 256 * (kO i).val + 1 * (y 1).val = (i 0).val; rw [s1, hk]; omega)
    | 1 => exact Fin.ext (by show 0 + 1 * t.val = t.val; omega)
  rw [ex]
  rfl

end

/-! ### The reference -/

/-- An element of the whole product. -/
def whole (X : ReferenceIdeal.S4096x4096.Idx → BitVec 8) (W : S4096x2048.Idx → BitVec 8) (i : S4096x2048.Idx) : EReal :=
  ∑ k : Fin 4096, rl (X (ix2 (i 0) k)).toInt * rl (W (ix2 k (i 1))).toInt

theorem wide_at {s : Shape} (x : s.Idx → BitVec 8) (h) (j : s.Idx) : (sitofp (F := Ideal) .f32 (extsi 32 x h) j : EReal) = rl (x j).toInt :=
  congrArg rl (BitVec.toInt_signExtend_of_le (by decide))

theorem ref_at (X : ReferenceIdeal.S4096x4096.Idx → BitVec 8) (W : S4096x2048.Idx → BitVec 8) (A B : FVec Ideal S1 .f32) (i : S4096x2048.Idx) :
    (maximumf (F := Ideal) (mulf (Host.dotGeneral ReferenceIdeal.dot_S4096x4096_S4096x2048_S4096x2048_1_0_0_1_n_n (some .fp32)
        (sitofp .f32 (extsi 32 X ReferenceIdeal.Gen.natLt_8_32)) (sitofp .f32 (extsi 32 W ReferenceIdeal.Gen.natLt_8_32)))
      (broadcastInDim S4096x2048 ![0, 1] ReferenceIdeal.Gen.bcast_S1x1_S4096x2048_0_1 (broadcastInDim ReferenceIdeal.S1x1 ![1] ReferenceIdeal.Gen.bcast_S1_S1x1_1 (mulf A B))))
      (broadcastInDim S4096x2048 ![] ReferenceIdeal.Gen.bcast_S_S4096x2048 (constant S_ .f32 0x00000000#32)) i : EReal)
      = max (whole X W i * (A at0 * B at0 : EReal)) 0 := by
  have e1 : (Host.dotGeneral ReferenceIdeal.dot_S4096x4096_S4096x2048_S4096x2048_1_0_0_1_n_n (some .fp32)
        (sitofp (F := Ideal) .f32 (extsi 32 X ReferenceIdeal.Gen.natLt_8_32)) (sitofp .f32 (extsi 32 W ReferenceIdeal.Gen.natLt_8_32)) i : EReal) = whole X W i := by
    refine (congrArg _ (eq_ix2 i)).trans ((StackMember.dotGeneral_plain_apply (m := 4096) (n := 2048) (k := 4096) (some .fp32) _ _ (i 0) (i 1)).trans ?_)
    exact Finset.sum_congr rfl fun k _ => by rw [wide_at, wide_at]
  have e2 : (broadcastInDim S4096x2048 ![0, 1] ReferenceIdeal.Gen.bcast_S1x1_S4096x2048_0_1 (broadcastInDim ReferenceIdeal.S1x1 ![1] ReferenceIdeal.Gen.bcast_S1_S1x1_1 (mulf (F := Ideal) A B)) i : EReal)
      = (A at0 * B at0 : EReal) := by
    unfold broadcastInDim
    exact congrArg (mulf (F := Ideal) A B) (eq_at0 _)
  exact congrArg₂ max (congrArg₂ (fun a b : EReal => a * b) e1 e2) Ideal.ofBits_zero_f32

theorem sum_blocks (f : Fin 4096 → EReal) : ∑ k, f k = ∑ c : Fin 16, ∑ t : Fin 256, f ⟨t.val + 256 * c.val, by omega⟩ := by
  rw [← Fintype.sum_prod_type' (f := fun (c : Fin 16) (t : Fin 256) => f ⟨t.val + 256 * c.val, by omega⟩)]
  exact ((finProdFinEquiv (m := 16) (n := 256)).sum_comp f).symm

/-- The slices' products, summed over the devices. -/
theorem whole_blocks (X : ReferenceIdeal.S4096x4096.Idx → BitVec 8) (W : S4096x2048.Idx → BitVec 8) (i : S4096x2048.Idx) (hx) (hw) :
    whole X W i = ∑ c : Fin 16, ∑ t : Fin 256, rl (Layout.block S4096x256 ReferenceIdeal.S4096x4096 1 16 c X hx (ix2 (i 0) t)).toInt
      * rl (Layout.block S256x2048 S4096x2048 0 16 c W hw (ix2 t (i 1))).toInt := by
  unfold whole
  rw [sum_blocks]
  refine Finset.sum_congr rfl fun c _ => Finset.sum_congr rfl fun t _ => ?_
  have ex : hx.idx c (ix2 (i 0) t) = ix2 (i 0) (⟨t.val + 256 * c.val, by omega⟩ : Fin 4096) := by
    funext a; apply Fin.ext
    match a with
    | 0 => rfl
    | 1 => show c.val * 256 + t.val = t.val + 256 * c.val; omega
  have ew : hw.idx c (ix2 t (i 1)) = ix2 (⟨t.val + 256 * c.val, by omega⟩ : Fin 4096) (i 1) := by
    funext a; apply Fin.ext
    match a with
    | 0 => show c.val * 256 + t.val = t.val + 256 * c.val; omega
    | 1 => rfl
  rw [Layout.block_apply, Layout.block_apply, ex, ew]
  rfl

/-- At the reals both programs compute one result, whole on every device. -/
theorem values (m : (ℓ : Loc nD τ sig) → Buf (Elt Ideal) ℓ) (X : ReferenceIdeal.S4096x4096.Idx → BitVec 8) (W : S4096x2048.Idx → BitVec 8) (A B : FVec Ideal S1 .f32) (hx) (hw)
    (h : ∀ c : Dev nD, m ((c : Thread nD τ).loc main_arg0) = Layout.block S4096x256 ReferenceIdeal.S4096x4096 1 16 c X hx
      ∧ m ((c : Thread nD τ).loc main_arg1) = Layout.block S256x2048 S4096x2048 0 16 c W hw
      ∧ m ((c : Thread nD τ).loc main_arg2) = A ∧ m ((c : Thread nD τ).loc main_arg3) = B) (c : Dev nD) (i : S4096x2048.Idx) :
    (letI := valsOf m; (outT (F := Ideal) c i : EReal)) = max (whole X W i * (A at0 * B at0 : EReal)) 0 := by
  letI := valsOf m
  have hs : ∀ c : Dev nD, (Vals.sc (F := Ideal) c : EReal) = (A at0 * B at0 : EReal) := fun c => by
    show (mulf (F := Ideal) (s := S1) (φ := .f32) (m ((c : Thread nD τ).loc main_arg2)) (m ((c : Thread nD τ).loc main_arg3)) at0 : EReal) = _
    rw [(h c).2.2.1, (h c).2.2.2]
    rfl
  have hp : ∀ c : Dev nD, (part (F := Ideal) c (dO i) (kO i) (gO i) (locO i) : EReal)
      = ∑ t : Fin 256, rl (Layout.block S4096x256 ReferenceIdeal.S4096x4096 1 16 c X hx (ix2 (i 0) t)).toInt * rl (Layout.block S256x2048 S4096x2048 0 16 c W hw (ix2 t (i 1))).toInt := fun c => by
    rw [part_at]
    refine Finset.sum_congr rfl fun t _ => ?_
    have e0 : (Vals.x (F := Ideal) c : S4096x256.Idx → BitVec 8) = Layout.block S4096x256 ReferenceIdeal.S4096x4096 1 16 c X hx := (h c).1
    have e1 : (Vals.w (F := Ideal) c : S256x2048.Idx → BitVec 8) = Layout.block S256x2048 S4096x2048 0 16 c W hw := (h c).2.1
    exact congrArg₂ (fun (a b : BitVec 8) => rl a.toInt * rl b.toInt) (congrFun e0 _) (congrFun e1 _)
  show (outT (F := Ideal) c i : EReal) = _
  rw [outT_sum _ hs, whole_blocks X W i hx hw, Finset.sum_congr rfl fun c _ => hp c]

/-- The result of both programs. -/
def result (X : ReferenceIdeal.S4096x4096.Idx → BitVec 8) (W : S4096x2048.Idx → BitVec 8) (A B : FVec Ideal S1 .f32) : FVec Ideal S4096x2048 .f32 :=
  fun i => (max (whole X W i * (A at0 * B at0 : EReal)) 0 : EReal)

/-- The two runs end with one result. -/
theorem algebraic : Cert.algebraic_KernelIdeal_ReferenceIdeal (hKernelIdeal := Cert.KernelIdeal.Gen.facts) (hReferenceIdeal := ReferenceIdeal.Gen.facts) := by
  intro m g m' g' _ h
  refine ⟨result (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3)), ?_, ?_⟩
  · exact (θ_run Cert.KernelIdeal.defs _ _).mono (fun r hr c => ⟨(hr.1 c).2.trans (funext fun i => values m _ _ _ _ _ _ h c i), (hr.1 c).1⟩) (run_main m g)
  · exact (θ_run ReferenceIdeal.defs _ _).mono (fun r hr => ⟨(hr 0).1.trans (funext fun i => ref_at _ _ _ _ i), (hr 0).2⟩) (ReferenceIdeal.Value.run m' g')

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.Ki.Run
public import proofs.«01_k».proof.Proof.Ki.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Ring.run_main m g,
  fun m g _ => (θ_run Cert.KernelIdeal.defs _ _).mono (fun r h => ⟨fun c => (h.1 c).1, h.2⟩) (Cert.KernelIdeal.Ring.run_main m g),
  fun m g _ => (θ_run Cert.ReferenceIdeal.defs _ _).mono
    (fun r h => ⟨fun c => (h c).2, sem_eq_zero_of_no_sems (by decide) r.2⟩) (Cert.ReferenceIdeal.Value.run m g), trivial,
  Cert.KernelIdeal.Ring.algebraic⟩

end Cert.Proof

end
